-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Feed (m : (ℓ : Loc Cert.Feed.nD Cert.Feed.τ Cert.Feed.sig) → Buf (Elt Bits) ℓ) : Prop :=
  True

def Pre_FeedIdeal (m : (ℓ : Loc Cert.FeedIdeal.nD Cert.FeedIdeal.τ Cert.FeedIdeal.sig) → Buf (Elt Ideal) ℓ) : Prop :=
  True

def Pre_FeedReferenceIdeal (m : (ℓ : Loc Cert.FeedReferenceIdeal.nD Cert.FeedReferenceIdeal.τ Cert.FeedReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Feed [hFeed : Cert.Feed.Facts] : Prop :=
  ∀ (m : (ℓ : Loc Cert.Feed.nD Cert.Feed.τ Cert.Feed.sig) → Buf (Elt Bits) ℓ) (g : Dev Cert.Feed.nD → PrngReg), Pre_Feed m →
    θ_run (Cert.Feed.defs (F := Bits)) (onTc (τ := Cert.Feed.τ) (Cert.Feed.main (F := Bits))) ⟨m, fun _ => 0, g⟩ (fun r => (∀ c : Dev Cert.Feed.nD,
      r.2.mem ((c.tc : Thread Cert.Feed.nD Cert.Feed.τ).loc Cert.Feed.main_arg0) = m ((c.tc : Thread Cert.Feed.nD Cert.Feed.τ).loc Cert.Feed.main_arg0)
      ∧ r.2.mem ((c.tc : Thread Cert.Feed.nD Cert.Feed.τ).loc Cert.Feed.main_arg1) = m ((c.tc : Thread Cert.Feed.nD Cert.Feed.τ).loc Cert.Feed.main_arg1)
      ∧ r.2.mem ((c.tc : Thread Cert.Feed.nD Cert.Feed.τ).loc Cert.Feed.main_arg2) = m ((c.tc : Thread Cert.Feed.nD Cert.Feed.τ).loc Cert.Feed.main_arg2)
      ∧ r.2.mem ((c.tc : Thread Cert.Feed.nD Cert.Feed.τ).loc Cert.Feed.main_arg3) = m ((c.tc : Thread Cert.Feed.nD Cert.Feed.τ).loc Cert.Feed.main_arg3))
      ∧ r.2.sem = fun _ => 0)

def quiescent_FeedIdeal [hFeedIdeal : Cert.FeedIdeal.Facts] : Prop :=
  ∀ (m : (ℓ : Loc Cert.FeedIdeal.nD Cert.FeedIdeal.τ Cert.FeedIdeal.sig) → Buf (Elt Ideal) ℓ) (g : Dev Cert.FeedIdeal.nD → PrngReg), Pre_FeedIdeal m →
    θ_run (Cert.FeedIdeal.defs (F := Ideal)) (onTc (τ := Cert.FeedIdeal.τ) (Cert.FeedIdeal.main (F := Ideal))) ⟨m, fun _ => 0, g⟩ (fun r => (∀ c : Dev Cert.FeedIdeal.nD,
      r.2.mem ((c.tc : Thread Cert.FeedIdeal.nD Cert.FeedIdeal.τ).loc Cert.FeedIdeal.main_arg0) = m ((c.tc : Thread Cert.FeedIdeal.nD Cert.FeedIdeal.τ).loc Cert.FeedIdeal.main_arg0)
      ∧ r.2.mem ((c.tc : Thread Cert.FeedIdeal.nD Cert.FeedIdeal.τ).loc Cert.FeedIdeal.main_arg1) = m ((c.tc : Thread Cert.FeedIdeal.nD Cert.FeedIdeal.τ).loc Cert.FeedIdeal.main_arg1)
      ∧ r.2.mem ((c.tc : Thread Cert.FeedIdeal.nD Cert.FeedIdeal.τ).loc Cert.FeedIdeal.main_arg2) = m ((c.tc : Thread Cert.FeedIdeal.nD Cert.FeedIdeal.τ).loc Cert.FeedIdeal.main_arg2)
      ∧ r.2.mem ((c.tc : Thread Cert.FeedIdeal.nD Cert.FeedIdeal.τ).loc Cert.FeedIdeal.main_arg3) = m ((c.tc : Thread Cert.FeedIdeal.nD Cert.FeedIdeal.τ).loc Cert.FeedIdeal.main_arg3))
      ∧ r.2.sem = fun _ => 0)

def quiescent_FeedReferenceIdeal [hFeedReferenceIdeal : Cert.FeedReferenceIdeal.Facts] : Prop :=
  ∀ (m : (ℓ : Loc Cert.FeedReferenceIdeal.nD Cert.FeedReferenceIdeal.τ Cert.FeedReferenceIdeal.sig) → Buf (Elt Ideal) ℓ) (g : Dev Cert.FeedReferenceIdeal.nD → PrngReg), Pre_FeedReferenceIdeal m →
    θ_run (Cert.FeedReferenceIdeal.defs (F := Ideal)) (onTc (τ := Cert.FeedReferenceIdeal.τ) (Cert.FeedReferenceIdeal.main (F := Ideal))) ⟨m, fun _ => 0, g⟩ (fun r => (∀ c : Dev Cert.FeedReferenceIdeal.nD,
      r.2.mem ((c.tc : Thread Cert.FeedReferenceIdeal.nD Cert.FeedReferenceIdeal.τ).loc Cert.FeedReferenceIdeal.main_arg0) = m ((c.tc : Thread Cert.FeedReferenceIdeal.nD Cert.FeedReferenceIdeal.τ).loc Cert.FeedReferenceIdeal.main_arg0)
      ∧ r.2.mem ((c.tc : Thread Cert.FeedReferenceIdeal.nD Cert.FeedReferenceIdeal.τ).loc Cert.FeedReferenceIdeal.main_arg1) = m ((c.tc : Thread Cert.FeedReferenceIdeal.nD Cert.FeedReferenceIdeal.τ).loc Cert.FeedReferenceIdeal.main_arg1)
      ∧ r.2.mem ((c.tc : Thread Cert.FeedReferenceIdeal.nD Cert.FeedReferenceIdeal.τ).loc Cert.FeedReferenceIdeal.main_arg2) = m ((c.tc : Thread Cert.FeedReferenceIdeal.nD Cert.FeedReferenceIdeal.τ).loc Cert.FeedReferenceIdeal.main_arg2)
      ∧ r.2.mem ((c.tc : Thread Cert.FeedReferenceIdeal.nD Cert.FeedReferenceIdeal.τ).loc Cert.FeedReferenceIdeal.main_arg3) = m ((c.tc : Thread Cert.FeedReferenceIdeal.nD Cert.FeedReferenceIdeal.τ).loc Cert.FeedReferenceIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Feed_FeedIdeal : Prop :=
  True

def algebraic_FeedIdeal_FeedReferenceIdeal [hFeedIdeal : Cert.FeedIdeal.Facts] [hFeedReferenceIdeal : Cert.FeedReferenceIdeal.Facts] : Prop :=
  ∀ (m : (ℓ : Loc Cert.FeedIdeal.nD Cert.FeedIdeal.τ Cert.FeedIdeal.sig) → Buf (Elt Ideal) ℓ) (g : Dev Cert.FeedIdeal.nD → PrngReg)
    (m' : (ℓ : Loc Cert.FeedReferenceIdeal.nD Cert.FeedReferenceIdeal.τ Cert.FeedReferenceIdeal.sig) → Buf (Elt Ideal) ℓ) (g' : Dev Cert.FeedReferenceIdeal.nD → PrngReg), Pre_FeedIdeal m →
    (∀ c : Dev Cert.FeedIdeal.nD,
      m' ((c.tc : Thread Cert.FeedReferenceIdeal.nD Cert.FeedReferenceIdeal.τ).loc Cert.FeedReferenceIdeal.main_arg0) = m ((c.tc : Thread Cert.FeedIdeal.nD Cert.FeedIdeal.τ).loc Cert.FeedIdeal.main_arg0)
      ∧ m' ((c.tc : Thread Cert.FeedReferenceIdeal.nD Cert.FeedReferenceIdeal.τ).loc Cert.FeedReferenceIdeal.main_arg1) = m ((c.tc : Thread Cert.FeedIdeal.nD Cert.FeedIdeal.τ).loc Cert.FeedIdeal.main_arg1)
      ∧ m' ((c.tc : Thread Cert.FeedReferenceIdeal.nD Cert.FeedReferenceIdeal.τ).loc Cert.FeedReferenceIdeal.main_arg2) = m ((c.tc : Thread Cert.FeedIdeal.nD Cert.FeedIdeal.τ).loc Cert.FeedIdeal.main_arg2)
      ∧ m' ((c.tc : Thread Cert.FeedReferenceIdeal.nD Cert.FeedReferenceIdeal.τ).loc Cert.FeedReferenceIdeal.main_arg3) = m ((c.tc : Thread Cert.FeedIdeal.nD Cert.FeedIdeal.τ).loc Cert.FeedIdeal.main_arg3)) →
    ∃ (v0 : (c : Dev Cert.FeedIdeal.nD) → Buf (Elt Ideal) ((c.tc : Thread Cert.FeedIdeal.nD Cert.FeedIdeal.τ).loc Cert.FeedIdeal.main_v7)),
      θ_run (Cert.FeedIdeal.defs (F := Ideal)) (onTc (τ := Cert.FeedIdeal.τ) (Cert.FeedIdeal.main (F := Ideal))) ⟨m, fun _ => 0, g⟩ (fun r => ∀ c : Dev Cert.FeedIdeal.nD,
          r.2.mem ((c.tc : Thread Cert.FeedIdeal.nD Cert.FeedIdeal.τ).loc Cert.FeedIdeal.main_v7) = v0 c
          ∧ r.2.mem ((c.tc : Thread Cert.FeedIdeal.nD Cert.FeedIdeal.τ).loc Cert.FeedIdeal.main_arg0) = m ((c.tc : Thread Cert.FeedIdeal.nD Cert.FeedIdeal.τ).loc Cert.FeedIdeal.main_arg0)
          ∧ r.2.mem ((c.tc : Thread Cert.FeedIdeal.nD Cert.FeedIdeal.τ).loc Cert.FeedIdeal.main_arg1) = m ((c.tc : Thread Cert.FeedIdeal.nD Cert.FeedIdeal.τ).loc Cert.FeedIdeal.main_arg1)
          ∧ r.2.mem ((c.tc : Thread Cert.FeedIdeal.nD Cert.FeedIdeal.τ).loc Cert.FeedIdeal.main_arg2) = m ((c.tc : Thread Cert.FeedIdeal.nD Cert.FeedIdeal.τ).loc Cert.FeedIdeal.main_arg2)
          ∧ r.2.mem ((c.tc : Thread Cert.FeedIdeal.nD Cert.FeedIdeal.τ).loc Cert.FeedIdeal.main_arg3) = m ((c.tc : Thread Cert.FeedIdeal.nD Cert.FeedIdeal.τ).loc Cert.FeedIdeal.main_arg3))
      ∧ θ_run (Cert.FeedReferenceIdeal.defs (F := Ideal)) (onTc (τ := Cert.FeedReferenceIdeal.τ) (Cert.FeedReferenceIdeal.main (F := Ideal))) ⟨m', fun _ => 0, g'⟩ (fun r => ∀ c : Dev Cert.FeedReferenceIdeal.nD,
          r.2.mem ((c.tc : Thread Cert.FeedReferenceIdeal.nD Cert.FeedReferenceIdeal.τ).loc Cert.FeedReferenceIdeal.main_v11) = v0 c
          ∧ r.2.mem ((c.tc : Thread Cert.FeedReferenceIdeal.nD Cert.FeedReferenceIdeal.τ).loc Cert.FeedReferenceIdeal.main_arg0) = m' ((c.tc : Thread Cert.FeedReferenceIdeal.nD Cert.FeedReferenceIdeal.τ).loc Cert.FeedReferenceIdeal.main_arg0)
          ∧ r.2.mem ((c.tc : Thread Cert.FeedReferenceIdeal.nD Cert.FeedReferenceIdeal.τ).loc Cert.FeedReferenceIdeal.main_arg1) = m' ((c.tc : Thread Cert.FeedReferenceIdeal.nD Cert.FeedReferenceIdeal.τ).loc Cert.FeedReferenceIdeal.main_arg1)
          ∧ r.2.mem ((c.tc : Thread Cert.FeedReferenceIdeal.nD Cert.FeedReferenceIdeal.τ).loc Cert.FeedReferenceIdeal.main_arg2) = m' ((c.tc : Thread Cert.FeedReferenceIdeal.nD Cert.FeedReferenceIdeal.τ).loc Cert.FeedReferenceIdeal.main_arg2)
          ∧ r.2.mem ((c.tc : Thread Cert.FeedReferenceIdeal.nD Cert.FeedReferenceIdeal.τ).loc Cert.FeedReferenceIdeal.main_arg3) = m' ((c.tc : Thread Cert.FeedReferenceIdeal.nD Cert.FeedReferenceIdeal.τ).loc Cert.FeedReferenceIdeal.main_arg3))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v14)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v14) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v85) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v17)) (v1 : (c : Dev Cert.ProjIdeal.nD) → Buf (Elt Ideal) ((c.tc : Thread Cert.ProjIdeal.nD Cert.ProjIdeal.τ).loc Cert.ProjIdeal.main_v22)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v17) = v0 c
          ∧ r.2.mem ((c.tc : Thread Cert.ProjIdeal.nD Cert.ProjIdeal.τ).loc Cert.ProjIdeal.main_v22) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v19) = v0 c
          ∧ r.2.mem ((c.tc : Thread Cert.ProjReferenceIdeal.nD Cert.ProjReferenceIdeal.τ).loc Cert.ProjReferenceIdeal.main_v13) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def Claim : Prop :=
  ∃ (hKernel : Cert.Kernel.Facts) (hKernelIdeal : Cert.KernelIdeal.Facts) (hReferenceIdeal : Cert.ReferenceIdeal.Facts) (hFeed : Cert.Feed.Facts) (hFeedIdeal : Cert.FeedIdeal.Facts) (hFeedReferenceIdeal : Cert.FeedReferenceIdeal.Facts) (hMix : Cert.Mix.Facts) (hMixIdeal : Cert.MixIdeal.Facts) (hMixReferenceIdeal : Cert.MixReferenceIdeal.Facts) (hProj : Cert.Proj.Facts) (hProjIdeal : Cert.ProjIdeal.Facts) (hProjReferenceIdeal : Cert.ProjReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Feed (hFeed := hFeed)
    ∧ quiescent_FeedIdeal (hFeedIdeal := hFeedIdeal)
    ∧ quiescent_FeedReferenceIdeal (hFeedReferenceIdeal := hFeedReferenceIdeal)
    ∧ quiescent_Mix (hMix := hMix)
    ∧ quiescent_MixIdeal (hMixIdeal := hMixIdeal)
    ∧ quiescent_MixReferenceIdeal (hMixReferenceIdeal := hMixReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Feed_FeedIdeal
    ∧ algebraic_FeedIdeal_FeedReferenceIdeal (hFeedIdeal := hFeedIdeal) (hFeedReferenceIdeal := hFeedReferenceIdeal)
    ∧ preserves_Mix_MixIdeal
    ∧ algebraic_MixIdeal_MixReferenceIdeal (hMixIdeal := hMixIdeal) (hMixReferenceIdeal := hMixReferenceIdeal)
    ∧ preserves_Proj_ProjIdeal
    ∧ algebraic_ProjIdeal_ProjReferenceIdeal (hProjIdeal := hProjIdeal) (hProjReferenceIdeal := hProjReferenceIdeal)
-- ==== Pre_finite.lean ====
abbrev S16384x1024 : Shape := ⟨2, ![16384, 1024]⟩
abbrev S16384x256 : Shape := ⟨2, ![16384, 256]⟩
abbrev S_ : Shape := ⟨0, ![]⟩

class Facts : Prop where
  bcast_S_S16384x1024 : S_.BroadcastsInDim S16384x1024 (![] : Fin 0 → Fin S16384x1024.rank)
  bcast_S_S16384x256 : S_.BroadcastsInDim S16384x256 (![] : Fin 0 → Fin S16384x256.rank)

variable [Facts]

def fn {F : FTy → Type} [FloatOps F] (main_arg0 : FVec F S16384x1024 .f32) (main_arg1 : FVec F S16384x256 .f32) (main_arg2 : FVec F S16384x256 .f32) : IVec S16384x1024 1 × IVec S16384x256 1 × IVec S16384x256 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x256 .f32 := Host.absf main_arg1
  let main_cst_0 : FVec F S_ .f32 := constant S_ .f32 0x7F800000#32
  let main_v4 : FVec F S16384x256 .f32 := broadcastInDim S16384x256 ![] bcast_S_S16384x256 main_cst_0
  let main_v5 : IVec S16384x256 1 := cmpf .olt main_v3 main_v4
  let main_v6 : FVec F S16384x256 .f32 := Host.absf main_arg2
  let main_cst_1 : FVec F S_ .f32 := constant S_ .f32 0x7F800000#32
  let main_v7 : FVec F S16384x256 .f32 := broadcastInDim S16384x256 ![] bcast_S_S16384x256 main_cst_1
  let main_v8 : IVec S16384x256 1 := cmpf .olt main_v6 main_v7
  (main_v2, main_v5, main_v8)
-- ==== Kernel.lean ====
abbrev S16384x1024 : Shape := ⟨2, ![16384, 1024]⟩
abbrev S16384x256 : Shape := ⟨2, ![16384, 256]⟩
abbrev S_ : Shape := ⟨0, ![]⟩
abbrev S16384x128 : Shape := ⟨2, ![16384, 128]⟩
abbrev S16384x512 : Shape := ⟨2, ![16384, 512]⟩
abbrev S256x512 : Shape := ⟨2, ![256, 512]⟩
abbrev S4096x128 : Shape := ⟨2, ![4096, 128]⟩
abbrev S4096x256 : Shape := ⟨2, ![4096, 256]⟩
abbrev S2x4x256x2048 : Shape := ⟨4, ![2, 4, 256, 2048]⟩
abbrev S2x4x256x1 : Shape := ⟨4, ![2, 4, 256, 1]⟩
abbrev S4x256x256 : Shape := ⟨3, ![4, 256, 256]⟩
abbrev S256x128 : Shape := ⟨2, ![256, 128]⟩
abbrev S2048x128 : Shape := ⟨2, ![2048, 128]⟩
abbrev S256x2048 : Shape := ⟨2, ![256, 2048]⟩
abbrev S1x1x256x2048 : Shape := ⟨4, ![1, 1, 256, 2048]⟩
abbrev S256x1 : Shape := ⟨2, ![256, 1]⟩
abbrev S1x1x256x1 : Shape := ⟨4, ![1, 1, 256, 1]⟩
abbrev S256 : Shape := ⟨1, ![256]⟩
abbrev S2048x256 : Shape := ⟨2, ![2048, 256]⟩
abbrev S1x256x256 : Shape := ⟨3, ![1, 256, 256]⟩
abbrev S256x256 : Shape := ⟨2, ![256, 256]⟩

abbrev nBuf : Space → Nat
  | .hbm => 21
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .bf16⟩
  | .hbm, ⟨13, _⟩ => ⟨S16384x256, .bf16⟩
  | .hbm, ⟨14, _⟩ => ⟨S_, .bf16⟩
  | .hbm, ⟨15, _⟩ => ⟨S16384x128, .bf16⟩
  | .hbm, ⟨16, _⟩ => ⟨S16384x256, .bf16⟩
  | .hbm, ⟨17, _⟩ => ⟨S16384x128, .bf16⟩
  | .hbm, ⟨18, _⟩ => ⟨S16384x128, .bf16⟩
  | .hbm, ⟨19, _⟩ => ⟨S16384x512, .bf16⟩
  | .hbm, ⟨20, _⟩ => ⟨S16384x1024, .bf16⟩
  | .local _ .vmem, ⟨0, _⟩ => ⟨S256x512, .bf16⟩
  | .local _ .vmem, ⟨1, _⟩ => ⟨S256x512, .bf16⟩
  | .local _ .vmem, ⟨2, _⟩ => ⟨S4096x128, .bf16⟩
  | .local _ .vmem, ⟨3, _⟩ => ⟨S4096x128, .bf16⟩
  | .local _ .vmem, ⟨4, _⟩ => ⟨S4096x256, .bf16⟩
  | .local _ .vmem, ⟨5, _⟩ => ⟨S4096x256, .bf16⟩
  | .local _ .vmem, ⟨6, _⟩ => ⟨S256x512, .bf16⟩
  | .local _ .vmem, ⟨7, _⟩ => ⟨S256x512, .bf16⟩
  | .local _ .vmem, ⟨8, _⟩ => ⟨S2x4x256x2048, .f32⟩
  | .local _ .vmem, ⟨9, _⟩ => ⟨S2x4x256x2048, .bf16⟩
  | .local _ .vmem, ⟨10, _⟩ => ⟨S2x4x256x1, .f32⟩
  | .local _ .vmem, ⟨11, _⟩ => ⟨S2x4x256x1, .f32⟩
  | .local _ .vmem, ⟨12, _⟩ => ⟨S4x256x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 257], ![false, false]⟩

def k0_off1 (i : grid0.Coords) (c0_i32_29 : BitVec 32) : Fin 4 → Nat :=
  let c255_i32 : BitVec 32 := 255#32
  let c0_i32_31 : BitVec 32 := 0#32
  let arg1 : BitVec 32 := BitVec.ofNat 32 (i 1).val
  let c1_i32 : BitVec 32 := 1#32
  let v35 : BitVec 32 := Scalar.subi arg1 c1_i32
  let v36 : BitVec 32 := Scalar.addi v35 c0_i32_29
  let v40 : BitVec 32 := Scalar.maxsi c0_i32_31 v36
  let v41 : BitVec 32 := Scalar.minsi c255_i32 v40
  let c0_i32_32 : BitVec 32 := 0#32
  let v43 : BitVec 1 := Scalar.cmpi .sgt v41 c0_i32_32
  let v44 : BitVec 32 := Scalar.extui v43
  let c0_i32_33 : BitVec 32 := 0#32
  let v45 : BitVec 1 := Scalar.cmpi .slt v41 c0_i32_33
  let v46 : BitVec 32 := Scalar.extui v45
  let v47 : BitVec 32 := Scalar.subi v44 v46
  let c4_i32 : BitVec 32 := 4#32
  let c0_i32_34 : BitVec 32 := 0#32
  let v48 : BitVec 1 := Scalar.cmpi .sgt c4_i32 c0_i32_34
  let v49 : BitVec 32 := Scalar.extui v48
  let c0_i32_35 : BitVec 32 := 0#32
  let v50 : BitVec 1 := Scalar.cmpi .slt c4_i32 c0_i32_35
  let v51 : BitVec 32 := Scalar.extui v50
  let v52 : BitVec 32 := Scalar.subi v49 v51
  let v53 : BitVec 1 := Scalar.cmpi .ne v47 v52
  let v54 : BitVec 32 := Scalar.remsi v41 c4_i32
  let c0_i32_36 : BitVec 32 := 0#32
  let v55 : BitVec 1 := Scalar.cmpi .ne v54 c0_i32_36
  let v56 : BitVec 1 := Scalar.andi v53 v55
  let v42 : BitVec 32 := Scalar.divsi v41 c4_i32
  let c1_i32_37 : BitVec 32 := 1#32
  let v57 : BitVec 32 := Scalar.subi v42 c1_i32_37
  let v58 : BitVec 32 := Scalar.select v56 v57 v42
  let c2_i32 : BitVec 32 := 2#32
  let c0_i32_38 : BitVec 32 := 0#32
  let v59 : BitVec 1 := Scalar.cmpi .eq c2_i32 c0_i32_38
  let c1_i32_39 : BitVec 32 := 1#32
  let v60 : BitVec 32 := Scalar.select v59 c1_i32_39 c2_i32
  let v61 : BitVec 32 := Scalar.remsi v58 v60
  let c0_i32_41 : BitVec 32 := 0#32
  let v63 : BitVec 1 := Scalar.cmpi .slt v61 c0_i32_41
  let c0_i32_42 : BitVec 32 := 0#32
  let v64 : BitVec 1 := Scalar.cmpi .slt v60 c0_i32_42
  let v65 : BitVec 1 := Scalar.xori v63 v64
  let c0_i32_40 : BitVec 32 := 0#32
  let v62 : BitVec 1 := Scalar.cmpi .ne v61 c0_i32_40
  let v66 : BitVec 1 := Scalar.andi v65 v62
  let v67 : BitVec 32 := Scalar.addi v61 v60
  let v68 : BitVec 32 := Scalar.select v66 v67 v61
  let v74 : Index := Scalar.indexCast v68
  let c0_49 : Index := 0#32
  let c0_50 : Index := 0#32
  let c0_51 : Index := 0#32
  ![v74.toNat, 0, 0, 0]
def k0_off2 (i : grid0.Coords) (c0_i32_29 : BitVec 32) : Fin 4 → Nat :=
  let c255_i32 : BitVec 32 := 255#32
  let c0_i32_31 : BitVec 32 := 0#32
  let arg1 : BitVec 32 := BitVec.ofNat 32 (i 1).val
  let c1_i32 : BitVec 32 := 1#32
  let v35 : BitVec 32 := Scalar.subi arg1 c1_i32
  let v36 : BitVec 32 := Scalar.addi v35 c0_i32_29
  let v40 : BitVec 32 := Scalar.maxsi c0_i32_31 v36
  let v41 : BitVec 32 := Scalar.minsi c255_i32 v40
  let c0_i32_32 : BitVec 32 := 0#32
  let v43 : BitVec 1 := Scalar.cmpi .sgt v41 c0_i32_32
  let v44 : BitVec 32 := Scalar.extui v43
  let c0_i32_33 : BitVec 32 := 0#32
  let v45 : BitVec 1 := Scalar.cmpi .slt v41 c0_i32_33
  let v46 : BitVec 32 := Scalar.extui v45
  let v47 : BitVec 32 := Scalar.subi v44 v46
  let c4_i32 : BitVec 32 := 4#32
  let c0_i32_34 : BitVec 32 := 0#32
  let v48 : BitVec 1 := Scalar.cmpi .sgt c4_i32 c0_i32_34
  let v49 : BitVec 32 := Scalar.extui v48
  let c0_i32_35 : BitVec 32 := 0#32
  let v50 : BitVec 1 := Scalar.cmpi .slt c4_i32 c0_i32_35
  let v51 : BitVec 32 := Scalar.extui v50
  let v52 : BitVec 32 := Scalar.subi v49 v51
  let v53 : BitVec 1 := Scalar.cmpi .ne v47 v52
  let v54 : BitVec 32 := Scalar.remsi v41 c4_i32
  let c0_i32_36 : BitVec 32 := 0#32
  let v55 : BitVec 1 := Scalar.cmpi .ne v54 c0_i32_36
  let v56 : BitVec 1 := Scalar.andi v53 v55
  let v42 : BitVec 32 := Scalar.divsi v41 c4_i32
  let c1_i32_37 : BitVec 32 := 1#32
  let v57 : BitVec 32 := Scalar.subi v42 c1_i32_37
  let v58 : BitVec 32 := Scalar.select v56 v57 v42
  let c2_i32 : BitVec 32 := 2#32
  let c0_i32_38 : BitVec 32 := 0#32
  let v59 : BitVec 1 := Scalar.cmpi .eq c2_i32 c0_i32_38
  let c1_i32_39 : BitVec 32 := 1#32
  let v60 : BitVec 32 := Scalar.select v59 c1_i32_39 c2_i32
  let v61 : BitVec 32 := Scalar.remsi v58 v60
  let c0_i32_41 : BitVec 32 := 0#32
  let v63 : BitVec 1 := Scalar.cmpi .slt v61 c0_i32_41
  let c0_i32_42 : BitVec 32 := 0#32
  let v64 : BitVec 1 := Scalar.cmpi .slt v60 c0_i32_42
  let v65 : BitVec 1 := Scalar.xori v63 v64
  let c0_i32_40 : BitVec 32 := 0#32
  let v62 : BitVec 1 := Scalar.cmpi .ne v61 c0_i32_40
  let v66 : BitVec 1 := Scalar.andi v65 v62
  let v67 : BitVec 32 := Scalar.addi v61 v60
  let v68 : BitVec 32 := Scalar.select v66 v67 v61
  let v100 : Index := Scalar.indexCast v68
  let c1_68 : Index := 1#32
  let c0_69 : Index := 0#32
  let c0_70 : Index := 0#32
  ![v100.toNat, 1, 0, 0]
def k0_off3 (i : grid0.Coords) (c0_i32_29 : BitVec 32) : Fin 4 → Nat :=
  let c255_i32 : BitVec 32 := 255#32
  let c0_i32_31 : BitVec 32 := 0#32
  let arg1 : BitVec 32 := BitVec.ofNat 32 (i 1).val
  let c1_i32 : BitVec 32 := 1#32
  let v35 : BitVec 32 := Scalar.subi arg1 c1_i32
  let v36 : BitVec 32 := Scalar.addi v35 c0_i32_29
  let v40 : BitVec 32 := Scalar.maxsi c0_i32_31 v36
  let v41 : BitVec 32 := Scalar.minsi c255_i32 v40
  let c0_i32_32 : BitVec 32 := 0#32
  let v43 : BitVec 1 := Scalar.cmpi .sgt v41 c0_i32_32
  let v44 : BitVec 32 := Scalar.extui v43
  let c0_i32_33 : BitVec 32 := 0#32
  let v45 : BitVec 1 := Scalar.cmpi .slt v41 c0_i32_33
  let v46 : BitVec 32 := Scalar.extui v45
  let v47 : BitVec 32 := Scalar.subi v44 v46
  let c4_i32 : BitVec 32 := 4#32
  let c0_i32_34 : BitVec 32 := 0#32
  let v48 : BitVec 1 := Scalar.cmpi .sgt c4_i32 c0_i32_34
  let v49 : BitVec 32 := Scalar.extui v48
  let c0_i32_35 : BitVec 32 := 0#32
  let v50 : BitVec 1 := Scalar.cmpi .slt c4_i32 c0_i32_35
  let v51 : BitVec 32 := Scalar.extui v50
  let v52 : BitVec 32 := Scalar.subi v49 v51
  let v53 : BitVec 1 := Scalar.cmpi .ne v47 v52
  let v54 : BitVec 32 := Scalar.remsi v41 c4_i32
  let c0_i32_36 : BitVec 32 := 0#32
  let v55 : BitVec 1 := Scalar.cmpi .ne v54 c0_i32_36
  let v56 : BitVec 1 := Scalar.andi v53 v55
  let v42 : BitVec 32 := Scalar.divsi v41 c4_i32
  let c1_i32_37 : BitVec 32 := 1#32
  let v57 : BitVec 32 := Scalar.subi v42 c1_i32_37
  let v58 : BitVec 32 := Scalar.select v56 v57 v42
  let c2_i32 : BitVec 32 := 2#32
  let c0_i32_38 : BitVec 32 := 0#32
  let v59 : BitVec 1 := Scalar.cmpi .eq c2_i32 c0_i32_38
  let c1_i32_39 : BitVec 32 := 1#32
  let v60 : BitVec 32 := Scalar.select v59 c1_i32_39 c2_i32
  let v61 : BitVec 32 := Scalar.remsi v58 v60
  let c0_i32_41 : BitVec 32 := 0#32
  let v63 : BitVec 1 := Scalar.cmpi .slt v61 c0_i32_41
  let c0_i32_42 : BitVec 32 := 0#32
  let v64 : BitVec 1 := Scalar.cmpi .slt v60 c0_i32_42
  let v65 : BitVec 1 := Scalar.xori v63 v64
  let c0_i32_40 : BitVec 32 := 0#32
  let v62 : BitVec 1 := Scalar.cmpi .ne v61 c0_i32_40
  let v66 : BitVec 1 := Scalar.andi v65 v62
  let v67 : BitVec 32 := Scalar.addi v61 v60
  let v68 : BitVec 32 := Scalar.select v66 v67 v61
  let v126 : Index := Scalar.indexCast v68
  let c2_87 : Index := 2#32
  let c0_88 : Index := 0#32
  let c0_89 : Index := 0#32
  ![v126.toNat, 2, 0, 0]
def k0_off4 (i : grid0.Coords) (c0_i32_29 : BitVec 32) : Fin 4 → Nat :=
  let c255_i32 : BitVec 32 := 255#32
  let c0_i32_31 : BitVec 32 := 0#32
  let arg1 : BitVec 32 := BitVec.ofNat 32 (i 1).val
  let c1_i32 : BitVec 32 := 1#32
  let v35 : BitVec 32 := Scalar.subi arg1 c1_i32
  let v36 : BitVec 32 := Scalar.addi v35 c0_i32_29
  let v40 : BitVec 32 := Scalar.maxsi c0_i32_31 v36
  let v41 : BitVec 32 := Scalar.minsi c255_i32 v40
  let c0_i32_32 : BitVec 32 := 0#32
  let v43 : BitVec 1 := Scalar.cmpi .sgt v41 c0_i32_32
  let v44 : BitVec 32 := Scalar.extui v43
  let c0_i32_33 : BitVec 32 := 0#32
  let v45 : BitVec 1 := Scalar.cmpi .slt v41 c0_i32_33
  let v46 : BitVec 32 := Scalar.extui v45
  let v47 : BitVec 32 := Scalar.subi v44 v46
  let c4_i32 : BitVec 32 := 4#32
  let c0_i32_34 : BitVec 32 := 0#32
  let v48 : BitVec 1 := Scalar.cmpi .sgt c4_i32 c0_i32_34
  let v49 : BitVec 32 := Scalar.extui v48
  let c0_i32_35 : BitVec 32 := 0#32
  let v50 : BitVec 1 := Scalar.cmpi .slt c4_i32 c0_i32_35
  let v51 : BitVec 32 := Scalar.extui v50
  let v52 : BitVec 32 := Scalar.subi v49 v51
  let v53 : BitVec 1 := Scalar.cmpi .ne v47 v52
  let v54 : BitVec 32 := Scalar.remsi v41 c4_i32
  let c0_i32_36 : BitVec 32 := 0#32
  let v55 : BitVec 1 := Scalar.cmpi .ne v54 c0_i32_36
  let v56 : BitVec 1 := Scalar.andi v53 v55
  let v42 : BitVec 32 := Scalar.divsi v41 c4_i32
  let c1_i32_37 : BitVec 32 := 1#32
  let v57 : BitVec 32 := Scalar.subi v42 c1_i32_37
  let v58 : BitVec 32 := Scalar.select v56 v57 v42
  let c2_i32 : BitVec 32 := 2#32
  let c0_i32_38 : BitVec 32 := 0#32
  let v59 : BitVec 1 := Scalar.cmpi .eq c2_i32 c0_i32_38
  let c1_i32_39 : BitVec 32 := 1#32
  let v60 : BitVec 32 := Scalar.select v59 c1_i32_39 c2_i32
  let v61 : BitVec 32 := Scalar.remsi v58 v60
  let c0_i32_41 : BitVec 32 := 0#32
  let v63 : BitVec 1 := Scalar.cmpi .slt v61 c0_i32_41
  let c0_i32_42 : BitVec 32 := 0#32
  let v64 : BitVec 1 := Scalar.cmpi .slt v60 c0_i32_42
  let v65 : BitVec 1 := Scalar.xori v63 v64
  let c0_i32_40 : BitVec 32 := 0#32
  let v62 : BitVec 1 := Scalar.cmpi .ne v61 c0_i32_40
  let v66 : BitVec 1 := Scalar.andi v65 v62
  let v67 : BitVec 32 := Scalar.addi v61 v60
  let v68 : BitVec 32 := Scalar.select v66 v67 v61
  let v152 : Index := Scalar.indexCast v68
  let c3_106 : Index := 3#32
  let c0_107 : Index := 0#32
  let c0_108 : Index := 0#32
  ![v152.toNat, 3, 0, 0]
def k0_cond2 (i : grid0.Coords) : BitVec 1 :=
  let arg1 : BitVec 32 := BitVec.ofNat 32 (i 1).val
  let c1_i32_397 : BitVec 32 := 1#32
  let v490 : BitVec 1 := Scalar.cmpi .sge arg1 c1_i32_397
  let c256_i32_398 : BitVec 32 := 256#32
  let v491 : BitVec 1 := Scalar.cmpi .sle arg1 c256_i32_398
  let v492 : BitVec 1 := Scalar.andi v490 v491
  let c255_i32_390 : BitVec 32 := 255#32
  let c0_i32_389 : BitVec 32 := 0#32
  let c1_i32_388 : BitVec 32 := 1#32
  let v476 : BitVec 32 := Scalar.subi arg1 c1_i32_388
  let v477 : BitVec 32 := Scalar.maxsi c0_i32_389 v476
  let v478 : BitVec 32 := Scalar.minsi c255_i32_390 v477
  let c4_i32_391 : BitVec 32 := 4#32
  let c0_i32_392 : BitVec 32 := 0#32
  let v479 : BitVec 1 := Scalar.cmpi .eq c4_i32_391 c0_i32_392
  let c1_i32_393 : BitVec 32 := 1#32
  let v480 : BitVec 32 := Scalar.select v479 c1_i32_393 c4_i32_391
  let v481 : BitVec 32 := Scalar.remsi v478 v480
  let c0_i32_395 : BitVec 32 := 0#32
  let v483 : BitVec 1 := Scalar.cmpi .slt v481 c0_i32_395
  let c0_i32_396 : BitVec 32 := 0#32
  let v484 : BitVec 1 := Scalar.cmpi .slt v480 c0_i32_396
  let v485 : BitVec 1 := Scalar.xori v483 v484
  let c0_i32_394 : BitVec 32 := 0#32
  let v482 : BitVec 1 := Scalar.cmpi .ne v481 c0_i32_394
  let v486 : BitVec 1 := Scalar.andi v485 v482
  let v487 : BitVec 32 := Scalar.addi v481 v480
  let v488 : BitVec 32 := Scalar.select v486 v487 v481
  let c3_i32 : BitVec 32 := 3#32
  let v489 : BitVec 1 := Scalar.cmpi .eq v488 c3_i32
  let v493 : BitVec 1 := Scalar.andi v492 v489
  let v494 : BitVec 32 := Scalar.extui v493
  let c0_i32_399 : BitVec 32 := 0#32
  let v495 : BitVec 1 := Scalar.cmpi .ne v494 c0_i32_399
  v495

def cc0_transform_0 (i : grid0.Coords) : Fin 2 → Nat :=
  let arg0 : BitVec 32 := BitVec.ofNat 32 (i 0).val
  let arg1 : BitVec 32 := BitVec.ofNat 32 (i 1).val
  let c255_i32 : BitVec 32 := 255#32
  let v0 : BitVec 32 := Scalar.minsi arg1 c255_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 arg0
  let c0_i32_5 : BitVec 32 := 0#32
  ![v17.toNat, v18.toNat]

def cc0_transform_1 (i : grid0.Coords) : Fin 2 → Nat :=
  let arg0 : BitVec 32 := BitVec.ofNat 32 (i 0).val
  let arg1 : BitVec 32 := BitVec.ofNat 32 (i 1).val
  let c255_i32 : BitVec 32 := 255#32
  let v0 : BitVec 32 := Scalar.minsi arg1 c255_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 32 := Scalar.addi c0_i32_3 arg0
  let c0_i32_4 : BitVec 32 := 0#32
  ![v10.toNat, v11.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let v12 : BitVec 32 := Scalar.addi c0_i32_5 arg0
  let c0_i32_6 : BitVec 32 := 0#32
  ![v11.toNat, v12.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  ![v18.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x1024 : Shape := ⟨2, ![16384, 1024]⟩
abbrev S16384x256 : Shape := ⟨2, ![16384, 256]⟩
abbrev S1x16384x2x4x128 : Shape := ⟨5, ![1, 16384, 2, 4, 128]⟩
abbrev S1x16384x2x128 : Shape := ⟨4, ![1, 16384, 2, 128]⟩
abbrev S1x2x16384x16384x4 : Shape := ⟨5, ![1, 2, 16384, 16384, 4]⟩
abbrev S1x2x4x16384x16384 : Shape := ⟨5, ![1, 2, 4, 16384, 16384]⟩
abbrev S_ : Shape := ⟨0, ![]⟩
abbrev S1x2x4x16384 : Shape := ⟨4, ![1, 2, 4, 16384]⟩
abbrev S1x2x4x16384x1 : Shape := ⟨5, ![1, 2, 4, 16384, 1]⟩
abbrev S1x2x128x4x16384 : Shape := ⟨5, ![1, 2, 128, 4, 16384]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S1x16384x2x4x128, .f32⟩
  | .hbm, ⟨4, _⟩ => ⟨S1x16384x2x128, .f32⟩
  | .hbm, ⟨5, _⟩ => ⟨S1x16384x2x128, .f32⟩
  | .hbm, ⟨6, _⟩ => ⟨S1x2x16384x16384x4, .f32⟩
  | .hbm, ⟨7, _⟩ => ⟨S1x2x4x16384x16384, .f32⟩
  | .hbm, ⟨8, _⟩ => ⟨S_, .f32⟩
  | .hbm, ⟨9, _⟩ => ⟨S_, .f32⟩
  | .hbm, ⟨10, _⟩ => ⟨S1x2x4x16384x16384, .f32⟩
  | .hbm, ⟨11, _⟩ => ⟨S1x2x4x16384x16384, .f32⟩
  | .hbm, ⟨12, _⟩ => ⟨S_, .f32⟩
  | .hbm, ⟨13, _⟩ => ⟨S1x2x4x16384, .f32⟩
  | .hbm, ⟨14, _⟩ => ⟨S_, .f32⟩
  | .hbm, ⟨15, _⟩ => ⟨S1x2x4x16384, .f32⟩
  | .hbm, ⟨16, _⟩ => ⟨S1x2x4x16384, .f32⟩
  | .hbm, ⟨17, _⟩ => ⟨S1x2x4x16384x1, .f32⟩
  | .hbm, ⟨18, _⟩ => ⟨S1x2x4x16384x16384, .f32⟩
  | .hbm, ⟨19, _⟩ => ⟨S1x2x4x16384x16384, .f32⟩
  | .hbm, ⟨20, _⟩ => ⟨S1x2x4x16384x16384, .f32⟩
  | .hbm, ⟨21, _⟩ => ⟨S_, .f32⟩
  | .hbm, ⟨22, _⟩ => ⟨S1x2x4x16384, .f32⟩
  | .hbm, ⟨23, _⟩ => ⟨S1x2x4x16384x1, .f32⟩
  | .hbm, ⟨24, _⟩ => ⟨S1x2x4x16384x16384, .f32⟩
  | .hbm, ⟨25, _⟩ => ⟨S1x2x4x16384x16384, .f32⟩
  | .hbm, ⟨26, _⟩ => ⟨S1x2x128x4x16384, .f32⟩
  | .hbm, ⟨27, _⟩ => ⟨S1x16384x2x4x128, .f32⟩
  | .hbm, ⟨28, _⟩ => ⟨S16384x1024, .f32⟩
  | .hbm, ⟨29, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Feed.lean ====
abbrev S16384x4096 : Shape := ⟨2, ![16384, 4096]⟩
abbrev S4x4096x4096 : Shape := ⟨3, ![4, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩
abbrev S_ : Shape := ⟨0, ![]⟩
abbrev S4096 : Shape := ⟨1, ![4096]⟩
abbrev S1x4096 : Shape := ⟨2, ![1, 4096]⟩
abbrev S1x4096x1024 : Shape := ⟨3, ![1, 4096, 1024]⟩
abbrev S1x1024 : Shape := ⟨2, ![1, 1024]⟩
abbrev S1024x1024 : Shape := ⟨2, ![1024, 1024]⟩
abbrev S4096x1024 : Shape := ⟨2, ![4096, 1024]⟩

abbrev nBuf : Space → Nat
  | .hbm => 13
  | .vmem => 16
  | .smem => 0
  | _ => 0

abbrev bufTy : (tb : Table) → Fin (tcTables nBuf tb) → BufTy
  | .hbm, ⟨0, _⟩ => ⟨S16384x4096, .f32⟩
  | .hbm, ⟨1, _⟩ => ⟨S4x4096x4096, .f32⟩
  | .hbm, ⟨2, _⟩ => ⟨S4x4096x4096, .f32⟩
  | .hbm, ⟨3, _⟩ => ⟨S4x4096x4096, .f32⟩
  | .hbm, ⟨4, _⟩ => ⟨S16384x4096, .bf16⟩
  | .hbm, ⟨5, _⟩ => ⟨S4x4096x4096, .bf16⟩
  | .hbm, ⟨6, _⟩ => ⟨S4x4096x4096, .bf16⟩
  | .hbm, ⟨7, _⟩ => ⟨S16384x4096, .bf16⟩
  | .hbm, ⟨8, _⟩ => ⟨S4x4096x4096, .bf16⟩
  | .hbm, ⟨9, _⟩ => ⟨S_, .f32⟩
  | .hbm, ⟨10, _⟩ => ⟨S4096, .f32⟩
  | .hbm, ⟨11, _⟩ => ⟨S1x4096, .f32⟩
  | .hbm, ⟨12, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1024x512, .bf16⟩
  | .local _ .vmem, ⟨7, _⟩ => ⟨S1024x512, .bf16⟩
  | .local _ .vmem, ⟨8, _⟩ => ⟨S1024x4096, .bf16⟩
  | .local _ .vmem, ⟨9, _⟩ => ⟨S1024x4096, .bf16⟩
  | .local _ .vmem, ⟨10, _⟩ => ⟨S1x4096x1024, .bf16⟩
  | .local _ .vmem, ⟨11, _⟩ => ⟨S1x4096x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== FeedReferenceIdeal.lean ====
abbrev S16384x4096 : Shape := ⟨2, ![16384, 4096]⟩
abbrev S4x4096x4096 : Shape := ⟨3, ![4, 4096, 4096]⟩
abbrev S1x4096x4096 : Shape := ⟨3, ![1, 4096, 4096]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x4096x4096, .f32⟩
  | .hbm, ⟨2, _⟩ => ⟨S4x4096x4096, .f32⟩
  | .hbm, ⟨3, _⟩ => ⟨S4x4096x4096, .f32⟩
  | .hbm, ⟨4, _⟩ => ⟨S1x4096x4096, .f32⟩
  | .hbm, ⟨5, _⟩ => ⟨S4096x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S1x4096x4096, .f32⟩
  | .hbm, ⟨17, _⟩ => ⟨S4096x4096, .f32⟩
  | .hbm, ⟨18, _⟩ => ⟨S16384x4096, .f32⟩
  | .hbm, ⟨19, _⟩ => ⟨S16384x4096, .f32⟩
  | .hbm, ⟨20, _⟩ => ⟨S1x4096x4096, .f32⟩
  | .hbm, ⟨21, _⟩ => ⟨S4096x4096, .f32⟩
  | .hbm, ⟨22, _⟩ => ⟨S16384x4096, .f32⟩
  | .hbm, ⟨23, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Mix.lean ====
abbrev S16384x8192 : Shape := ⟨2, ![16384, 8192]⟩
abbrev S16384x1024 : Shape := ⟨2, ![16384, 1024]⟩
abbrev S4x4x512x4096 : Shape := ⟨4, ![4, 4, 512, 4096]⟩
abbrev S4x4x4096 : Shape := ⟨3, ![4, 4, 4096]⟩
abbrev S4x4x1024x4096 : Shape := ⟨4, ![4, 4, 1024, 4096]⟩
abbrev S4x4096x4096 : Shape := ⟨3, ![4, 4096, 4096]⟩
abbrev S1x4x4096 : Shape := ⟨3, ![1, 4, 4096]⟩
abbrev S4x4096 : Shape := ⟨2, ![4, 4096]⟩
abbrev S4x1x4096 : Shape := ⟨3, ![4, 1, 4096]⟩
abbrev S16384x4096 : Shape := ⟨2, ![16384, 4096]⟩
abbrev S512x512 : Shape := ⟨2, ![512, 512]⟩
abbrev S512x1024 : Shape := ⟨2, ![512, 1024]⟩
abbrev S1x4x512x1024 : Shape := ⟨4, ![1, 4, 512, 1024]⟩
abbrev S1x4x1024x1024 : Shape := ⟨4, ![1, 4, 1024, 1024]⟩
abbrev S4x1x1024 : Shape := ⟨3, ![4, 1, 1024]⟩
abbrev S1x1x512x1024 : Shape := ⟨4, ![1, 1, 512, 1024]⟩
abbrev S1x1x1024 : Shape := ⟨3, ![1, 1, 1024]⟩
abbrev S1x1024 : Shape := ⟨2, ![1, 1024]⟩
abbrev S1x1x1024x1024 : Shape := ⟨4, ![1, 1, 1024, 1024]⟩
abbrev S1024x1024 : Shape := ⟨2, ![1024, 1024]⟩
abbrev S_ : Shape := ⟨0, ![]⟩
abbrev S4096 : Shape := ⟨1, ![4096]⟩
abbrev S1x4096 : Shape := ⟨2, ![1, 4096]⟩
abbrev S1024x4096 : Shape := ⟨2, ![1024, 4096]⟩
abbrev S1x4096x1024 : Shape := ⟨3, ![1, 4096, 1024]⟩
abbrev S4096x1024 : Shape := ⟨2, ![4096, 1024]⟩

abbrev nBuf : Space → Nat
  | .hbm => 25
  | .vmem => 26
  | .smem => 0
  | _ => 0

abbrev bufTy : (tb : Table) → Fin (tcTables nBuf tb) → BufTy
  | .hbm, ⟨0, _⟩ => ⟨S16384x8192, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S4x4x512x4096, .f32⟩
  | .hbm, ⟨6, _⟩ => ⟨S4x4x4096, .f32⟩
  | .hbm, ⟨7, _⟩ => ⟨S4x4x1024x4096, .f32⟩
  | .hbm, ⟨8, _⟩ => ⟨S4x4096x4096, .f32⟩
  | .hbm, ⟨9, _⟩ => ⟨S16384x8192, .bf16⟩
  | .hbm, ⟨10, _⟩ => ⟨S16384x1024, .bf16⟩
  | .hbm, ⟨11, _⟩ => ⟨S16384x1024, .bf16⟩
  | .hbm, ⟨12, _⟩ => ⟨S16384x1024, .bf16⟩
  | .hbm, ⟨13, _⟩ => ⟨S16384x1024, .bf16⟩
  | .hbm, ⟨14, _⟩ => ⟨S4x4x512x4096, .bf16⟩
  | .hbm, ⟨15, _⟩ => ⟨S1x4x4096, .f32⟩
  | .hbm, ⟨16, _⟩ => ⟨S4x4096, .f32⟩
  | .hbm, ⟨17, _⟩ => ⟨S4x4x1024x4096, .bf16⟩
  | .hbm, ⟨18, _⟩ => ⟨S4x1x4096, .f32⟩
  | .hbm, ⟨19, _⟩ => ⟨S16384x4096, .bf16⟩
  | .hbm, ⟨20, _⟩ => ⟨S4x4096x4096, .bf16⟩
  | .hbm, ⟨21, _⟩ => ⟨S_, .f32⟩
  | .hbm, ⟨22, _⟩ => ⟨S4096, .f32⟩
  | .hbm, ⟨23, _⟩ => ⟨S1x4096, .f32⟩
  | .hbm, ⟨24, _⟩ => ⟨S16384x4096, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x4x512x1024, .bf16⟩
  | .local _ .vmem, ⟨11, _⟩ => ⟨S1x4x512x1024, .bf16⟩
  | .local _ .vmem, ⟨12, _⟩ => ⟨S1x4x1024x1024, .bf16⟩
  | .local _ .vmem, ⟨13, _⟩ => ⟨S1x4x1024x1024, .bf16⟩
  | .local _ .vmem, ⟨14, _⟩ => ⟨S4x1x1024, .f32⟩
  | .local _ .vmem, ⟨15, _⟩ => ⟨S4x1x1024, .f32⟩
  | .local _ .vmem, ⟨16, _⟩ => ⟨S512x1024, .bf16⟩
  | .local _ .vmem, ⟨17, _⟩ => ⟨S512x1024, .bf16⟩
  | .local _ .vmem, ⟨18, _⟩ => ⟨S1024x4096, .bf16⟩
  | .local _ .vmem, ⟨19, _⟩ => ⟨S1024x4096, .bf16⟩
  | .local _ .vmem, ⟨20, _⟩ => ⟨S1x4096x1024, .bf16⟩
  | .local _ .vmem, ⟨21, _⟩ => ⟨S1x4096x1024, .bf16⟩
  | .local _ .vmem, ⟨22, _⟩ => ⟨S1x1024, .f32⟩
  | .local _ .vmem, ⟨23, _⟩ => ⟨S1x1024, .f32⟩
  | .local _ .vmem, ⟨24, _⟩ => ⟨S1024x1024, .bf16⟩
  | .local _ .vmem, ⟨25, _⟩ => ⟨S1024x1024, .bf16⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x4x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== MixReferenceIdeal.lean ====
abbrev S16384x8192 : Shape := ⟨2, ![16384, 8192]⟩
abbrev S16384x1024 : Shape := ⟨2, ![16384, 1024]⟩
abbrev S4x4x512x4096 : Shape := ⟨4, ![4, 4, 512, 4096]⟩
abbrev S4x4x4096 : Shape := ⟨3, ![4, 4, 4096]⟩
abbrev S4x4x1024x4096 : Shape := ⟨4, ![4, 4, 1024, 4096]⟩
abbrev S4x4096x4096 : Shape := ⟨3, ![4, 4096, 4096]⟩
abbrev S16384x512 : Shape := ⟨2, ![16384, 512]⟩
abbrev S1x4x512x4096 : Shape := ⟨4, ![1, 4, 512, 4096]⟩
abbrev S4x512x4096 : Shape := ⟨3, ![4, 512, 4096]⟩
abbrev S1x4x4096 : Shape := ⟨3, ![1, 4, 4096]⟩
abbrev S4x4096 : Shape := ⟨2, ![4, 4096]⟩
abbrev S1x4x1024x4096 : Shape := ⟨4, ![1, 4, 1024, 4096]⟩
abbrev S4x1024x4096 : Shape := ⟨3, ![4, 1024, 4096]⟩
abbrev S1x4096x4096 : Shape := ⟨3, ![1, 4096, 4096]⟩
abbrev S4096x4096 : Shape := ⟨2, ![4096, 4096]⟩
abbrev S1x512x4096 : Shape := ⟨3, ![1, 512, 4096]⟩
abbrev S512x4096 : Shape := ⟨2, ![512, 4096]⟩
abbrev S16384x4096 : Shape := ⟨2, ![16384, 4096]⟩
abbrev S1x4096 : Shape := ⟨2, ![1, 4096]⟩
abbrev S4096 : Shape := ⟨1, ![4096]⟩
abbrev S_ : Shape := ⟨0, ![]⟩
abbrev S1x1024x4096 : Shape := ⟨3, ![1, 1024, 4096]⟩
abbrev S1024x4096 : Shape := ⟨2, ![1024, 4096]⟩

abbrev nBuf : Space → Nat
  | .hbm => 103
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S4x4x512x4096, .f32⟩
  | .hbm, ⟨6, _⟩ => ⟨S4x4x4096, .f32⟩
  | .hbm, ⟨7, _⟩ => ⟨S4x4x1024x4096, .f32⟩
  | .hbm, ⟨8, _⟩ => ⟨S4x4096x4096, .f32⟩
  | .hbm, ⟨9, _⟩ => ⟨S16384x512, .f32⟩
  | .hbm, ⟨10, _⟩ => ⟨S1x4x512x4096, .f32⟩
  | .hbm, ⟨11, _⟩ => ⟨S4x512x4096, .f32⟩
  | .hbm, ⟨12, _⟩ => ⟨S1x4x4096, .f32⟩
  | .hbm, ⟨13, _⟩ => ⟨S4x4096, .f32⟩
  | .hbm, ⟨14, _⟩ => ⟨S1x4x1024x4096, .f32⟩
  | .hbm, ⟨15, _⟩ => ⟨S4x1024x4096, .f32⟩
  | .hbm, ⟨16, _⟩ => ⟨S1x4096x4096, .f32⟩
  | .hbm, ⟨17, _⟩ => ⟨S4096x4096, .f32⟩
  | .hbm, ⟨18, _⟩ => ⟨S1x512x4096, .f32⟩
  | .hbm, ⟨19, _⟩ => ⟨S512x4096, .f32⟩
  | .hbm, ⟨20, _⟩ => ⟨S16384x4096, .f32⟩
  | .hbm, ⟨21, _⟩ => ⟨S1x4096, .f32⟩
  | .hbm, ⟨22, _⟩ => ⟨S4096, .f32⟩
  | .hbm, ⟨23, _⟩ => ⟨S1x4096, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S_, .f32⟩
  | .hbm, ⟨32, _⟩ => ⟨S16384x4096, .f32⟩
  | .hbm, ⟨33, _⟩ => ⟨S16384x4096, .f32⟩
  | .hbm, ⟨34, _⟩ => ⟨S1x1024x4096, .f32⟩
  | .hbm, ⟨35, _⟩ => ⟨S1024x4096, .f32⟩
  | .hbm, ⟨36, _⟩ => ⟨S16384x4096, .f32⟩
  | .hbm, ⟨37, _⟩ => ⟨S16384x4096, .f32⟩
  | .hbm, ⟨38, _⟩ => ⟨S1x512x4096, .f32⟩
  | .hbm, ⟨39, _⟩ => ⟨S512x4096, .f32⟩
  | .hbm, ⟨40, _⟩ => ⟨S16384x4096, .f32⟩
  | .hbm, ⟨41, _⟩ => ⟨S1x4096, .f32⟩
  | .hbm, ⟨42, _⟩ => ⟨S4096, .f32⟩
  | .hbm, ⟨43, _⟩ => ⟨S1x4096, .f32⟩
  | .hbm, ⟨44, _⟩ => ⟨S16384x4096, .f32⟩
  | .hbm, ⟨45, _⟩ => ⟨S16384x4096, .f32⟩
  | .hbm, ⟨46, _⟩ => ⟨S16384x4096, .f32⟩
  | .hbm, ⟨47, _⟩ => ⟨S16384x4096, .f32⟩
  | .hbm, ⟨48, _⟩ => ⟨S_, .f32⟩
  | .hbm, ⟨49, _⟩ => ⟨S16384x4096, .f32⟩
  | .hbm, ⟨50, _⟩ => ⟨S16384x4096, .f32⟩
  | .hbm, ⟨51, _⟩ => ⟨S_, .f32⟩
  | .hbm, ⟨52, _⟩ => ⟨S16384x4096, .f32⟩
  | .hbm, ⟨53, _⟩ => ⟨S16384x4096, .f32⟩
  | .hbm, ⟨54, _⟩ => ⟨S1x1024x4096, .f32⟩
  | .hbm, ⟨55, _⟩ => ⟨S1024x4096, .f32⟩
  | .hbm, ⟨56, _⟩ => ⟨S16384x4096, .f32⟩
  | .hbm, ⟨57, _⟩ => ⟨S16384x4096, .f32⟩
  | .hbm, ⟨58, _⟩ => ⟨S16384x4096, .f32⟩
  | .hbm, ⟨59, _⟩ => ⟨S1x512x4096, .f32⟩
  | .hbm, ⟨60, _⟩ => ⟨S512x4096, .f32⟩
  | .hbm, ⟨61, _⟩ => ⟨S16384x4096, .f32⟩
  | .hbm, ⟨62, _⟩ => ⟨S1x4096, .f32⟩
  | .hbm, ⟨63, _⟩ => ⟨S4096, .f32⟩
  | .hbm, ⟨64, _⟩ => ⟨S1x4096, .f32⟩
  | .hbm, ⟨65, _⟩ => ⟨S16384x4096, .f32⟩
  | .hbm, ⟨66, _⟩ => ⟨S16384x4096, .f32⟩
  | .hbm, ⟨67, _⟩ => ⟨S16384x4096, .f32⟩
  | .hbm, ⟨68, _⟩ => ⟨S16384x4096, .f32⟩
  | .hbm, ⟨69, _⟩ => ⟨S_, .f32⟩
  | .hbm, ⟨70, _⟩ => ⟨S16384x4096, .f32⟩
  | .hbm, ⟨71, _⟩ => ⟨S16384x4096, .f32⟩
  | .hbm, ⟨72, _⟩ => ⟨S_, .f32⟩
  | .hbm, ⟨73, _⟩ => ⟨S16384x4096, .f32⟩
  | .hbm, ⟨74, _⟩ => ⟨S16384x4096, .f32⟩
  | .hbm, ⟨75, _⟩ => ⟨S1x1024x4096, .f32⟩
  | .hbm, ⟨76, _⟩ => ⟨S1024x4096, .f32⟩
  | .hbm, ⟨77, _⟩ => ⟨S16384x4096, .f32⟩
  | .hbm, ⟨78, _⟩ => ⟨S16384x4096, .f32⟩
  | .hbm, ⟨79, _⟩ => ⟨S16384x4096, .f32⟩
  | .hbm, ⟨80, _⟩ => ⟨S1x512x4096, .f32⟩
  | .hbm, ⟨81, _⟩ => ⟨S512x4096, .f32⟩
  | .hbm, ⟨82, _⟩ => ⟨S16384x4096, .f32⟩
  | .hbm, ⟨83, _⟩ => ⟨S1x4096, .f32⟩
  | .hbm, ⟨84, _⟩ => ⟨S4096, .f32⟩
  | .hbm, ⟨85, _⟩ => ⟨S1x4096, .f32⟩
  | .hbm, ⟨86, _⟩ => ⟨S16384x4096, .f32⟩
  | .hbm, ⟨87, _⟩ => ⟨S16384x4096, .f32⟩
  | .hbm, ⟨88, _⟩ => ⟨S16384x4096, .f32⟩
  | .hbm, ⟨89, _⟩ => ⟨S16384x4096, .f32⟩
  | .hbm, ⟨90, _⟩ => ⟨S_, .f32⟩
  | .hbm, ⟨91, _⟩ => ⟨S16384x4096, .f32⟩
  | .hbm, ⟨92, _⟩ => ⟨S16384x4096, .f32⟩
  | .hbm, ⟨93, _⟩ => ⟨S_, .f32⟩
  | .hbm, ⟨94, _⟩ => ⟨S16384x4096, .f32⟩
  | .hbm, ⟨95, _⟩ => ⟨S16384x4096, .f32⟩
  | .hbm, ⟨96, _⟩ => ⟨S1x1024x4096, .f32⟩
  | .hbm, ⟨97, _⟩ => ⟨S1024x4096, .f32⟩
  | .hbm, ⟨98, _⟩ => ⟨S16384x4096, .f32⟩
  | .hbm, ⟨99, _⟩ => ⟨S16384x4096, .f32⟩
  | .hbm, ⟨100, _⟩ => ⟨S16384x4096, .f32⟩
  | .hbm, ⟨101, _⟩ => ⟨S16384x4096, .f32⟩
  | .hbm, ⟨102, _⟩ => ⟨S16384x4096, .bf16⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_1 : Ref sig .tc := ⟨.hbm, 48, rfl⟩
abbrev main_v37 : Ref sig .tc := ⟨.hbm, 49, rfl⟩
abbrev main_v38 : Ref sig .tc := ⟨.hbm, 50, rfl⟩
abbrev main_cst_2 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_3 : Ref sig .tc := ⟨.hbm, 69, rfl⟩
abbrev main_v56 : Ref sig .tc := ⟨.hbm, 70, rfl⟩
abbrev main_v57 : Ref sig .tc := ⟨.hbm, 71, rfl⟩
abbrev main_cst_4 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_5 : Ref sig .tc := ⟨.hbm, 90, rfl⟩
abbrev main_v75 : Ref sig .tc := ⟨.hbm, 91, rfl⟩
abbrev main_v76 : Ref sig .tc := ⟨.hbm, 92, rfl⟩
abbrev main_cst_6 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩

abbrev nD : Nat := 1
abbrev τ : Topo := Topo.v7x

variable {F : FTy → Type} [FloatOps F]
-- ==== Proj.lean ====
abbrev S16384x4096 : Shape := ⟨2, ![16384, 4096]⟩
abbrev S4x4096x11264 : Shape := ⟨3, ![4, 4096, 11264]⟩
abbrev S8192 : Shape := ⟨1, ![8192]⟩
abbrev S1x4096x11264 : Shape := ⟨3, ![1, 4096, 11264]⟩
abbrev S4096x11264 : Shape := ⟨2, ![4096, 11264]⟩
abbrev S4096x1024 : Shape := ⟨2, ![4096, 1024]⟩
abbrev S4096x512 : Shape := ⟨2, ![4096, 512]⟩
abbrev S4096x256 : Shape := ⟨2, ![4096, 256]⟩
abbrev S4096x8192 : Shape := ⟨2, ![4096, 8192]⟩
abbrev S1x8192 : Shape := ⟨2, ![1, 8192]⟩
abbrev S16384x8192 : Shape := ⟨2, ![16384, 8192]⟩
abbrev S1024x4096 : Shape := ⟨2, ![1024, 4096]⟩
abbrev S1x1024 : Shape := ⟨2, ![1, 1024]⟩
abbrev S1024x1024 : Shape := ⟨2, ![1024, 1024]⟩
abbrev S4096x3072 : Shape := ⟨2, ![4096, 3072]⟩
abbrev S_ : Shape := ⟨0, ![]⟩
abbrev S3072 : Shape := ⟨1, ![3072]⟩
abbrev S1x3072 : Shape := ⟨2, ![1, 3072]⟩
abbrev S16384x3072 : Shape := ⟨2, ![16384, 3072]⟩

abbrev nBuf : Space → Nat
  | .hbm => 27
  | .vmem => 16
  | .smem => 0
  | _ => 0

abbrev bufTy : (tb : Table) → Fin (tcTables nBuf tb) → BufTy
  | .hbm, ⟨0, _⟩ => ⟨S16384x4096, .f32⟩
  | .hbm, ⟨1, _⟩ => ⟨S4x4096x11264, .f32⟩
  | .hbm, ⟨2, _⟩ => ⟨S8192, .f32⟩
  | .hbm, ⟨3, _⟩ => ⟨S16384x4096, .bf16⟩
  | .hbm, ⟨4, _⟩ => ⟨S1x4096x11264, .f32⟩
  | .hbm, ⟨5, _⟩ => ⟨S4096x11264, .f32⟩
  | .hbm, ⟨6, _⟩ => ⟨S4096x1024, .f32⟩
  | .hbm, ⟨7, _⟩ => ⟨S4096x512, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x256, .f32⟩
  | .hbm, ⟨12, _⟩ => ⟨S4096x256, .f32⟩
  | .hbm, ⟨13, _⟩ => ⟨S4096x1024, .f32⟩
  | .hbm, ⟨14, _⟩ => ⟨S4096x1024, .f32⟩
  | .hbm, ⟨15, _⟩ => ⟨S4096x512, .f32⟩
  | .hbm, ⟨16, _⟩ => ⟨S4096x512, .f32⟩
  | .hbm, ⟨17, _⟩ => ⟨S4096x8192, .f32⟩
  | .hbm, ⟨18, _⟩ => ⟨S4096x8192, .bf16⟩
  | .hbm, ⟨19, _⟩ => ⟨S1x8192, .f32⟩
  | .hbm, ⟨20, _⟩ => ⟨S16384x8192, .bf16⟩
  | .hbm, ⟨21, _⟩ => ⟨S4096x3072, .f32⟩
  | .hbm, ⟨22, _⟩ => ⟨S4096x3072, .bf16⟩
  | .hbm, ⟨23, _⟩ => ⟨S_, .f32⟩
  | .hbm, ⟨24, _⟩ => ⟨S3072, .f32⟩
  | .hbm, ⟨25, _⟩ => ⟨S1x3072, .f32⟩
  | .hbm, ⟨26, _⟩ => ⟨S16384x3072, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x4096, .bf16⟩
  | .local _ .vmem, ⟨9, _⟩ => ⟨S1024x4096, .bf16⟩
  | .local _ .vmem, ⟨10, _⟩ => ⟨S4096x1024, .bf16⟩
  | .local _ .vmem, ⟨11, _⟩ => ⟨S4096x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![3, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ProjReferenceIdeal.lean ====
abbrev S16384x4096 : Shape := ⟨2, ![16384, 4096]⟩
abbrev S4x4096x11264 : Shape := ⟨3, ![4, 4096, 11264]⟩
abbrev S8192 : Shape := ⟨1, ![8192]⟩
abbrev S1x4096x11264 : Shape := ⟨3, ![1, 4096, 11264]⟩
abbrev S4096x11264 : Shape := ⟨2, ![4096, 11264]⟩
abbrev S16384x11264 : Shape := ⟨2, ![16384, 11264]⟩
abbrev S16384x1024 : Shape := ⟨2, ![16384, 1024]⟩
abbrev S16384x256 : Shape := ⟨2, ![16384, 256]⟩
abbrev S16384x512 : Shape := ⟨2, ![16384, 512]⟩
abbrev S16384x3072 : Shape := ⟨2, ![16384, 3072]⟩
abbrev S16384x8192 : Shape := ⟨2, ![16384, 8192]⟩
abbrev S1x8192 : Shape := ⟨2, ![1, 8192]⟩

abbrev nBuf : Space → Nat
  | .hbm => 23
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x4096x11264, .f32⟩
  | .hbm, ⟨2, _⟩ => ⟨S8192, .f32⟩
  | .hbm, ⟨3, _⟩ => ⟨S1x4096x11264, .f32⟩
  | .hbm, ⟨4, _⟩ => ⟨S4096x11264, .f32⟩
  | .hbm, ⟨5, _⟩ => ⟨S16384x11264, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x256, .f32⟩
  | .hbm, ⟨11, _⟩ => ⟨S16384x256, .f32⟩
  | .hbm, ⟨12, _⟩ => ⟨S16384x512, .f32⟩
  | .hbm, ⟨13, _⟩ => ⟨S16384x512, .f32⟩
  | .hbm, ⟨14, _⟩ => ⟨S16384x1024, .f32⟩
  | .hbm, ⟨15, _⟩ => ⟨S16384x1024, .f32⟩
  | .hbm, ⟨16, _⟩ => ⟨S16384x3072, .f32⟩
  | .hbm, ⟨17, _⟩ => ⟨S16384x512, .f32⟩
  | .hbm, ⟨18, _⟩ => ⟨S16384x8192, .f32⟩
  | .hbm, ⟨19, _⟩ => ⟨S1x8192, .f32⟩
  | .hbm, ⟨20, _⟩ => ⟨S16384x8192, .f32⟩
  | .hbm, ⟨21, _⟩ => ⟨S16384x8192, .f32⟩
  | .hbm, ⟨22, _⟩ => ⟨S16384x8192, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Proof.KI.Off.lean ====
/- The row of the running maxima that a step of the attention kernel reads and writes: the parity of the query block
   whose scores the step takes up. -/
module

public import proofs.«01_k».proof.Proof.Gen.KernelIdeal.Frame
public import proofs.«01_k».proof.Proof.Gen.KernelIdeal.Skeleton

@[expose] public section

set_option maxRecDepth 16384

noncomputable section

namespace Cert.KernelIdeal.Flash

open Idealize.ShloMosaic

/-- The row of step `n`, substep `s`: the parity of the query block of entry `n + s - 1`, held to the last entry. -/
def par (n s : Nat) : Nat := min 255 (n + s - 1) / 4 % 2

/-- The grid point of head 0 at step `n`: the offsets depend on the step alone. -/
def at0 (n : Fin 257) : grid0.Coords := fun a => match a with
  | ⟨0, _⟩ => (⟨0, by decide⟩ : Fin 2)
  | ⟨1, _⟩ => n

theorem off1_0 (i : grid0.Coords) : k0_off1 i 0#32 = ![par (i 1).val 0, 0, 0, 0] :=
  (by decide +kernel : ∀ n : Fin 257, k0_off1 (at0 n) 0#32 = ![par n.val 0, 0, 0, 0]) (i 1)
theorem off1_1 (i : grid0.Coords) : k0_off1 i 1#32 = ![par (i 1).val 1, 0, 0, 0] :=
  (by decide +kernel : ∀ n : Fin 257, k0_off1 (at0 n) 1#32 = ![par n.val 1, 0, 0, 0]) (i 1)
theorem off2_0 (i : grid0.Coords) : k0_off2 i 0#32 = ![par (i 1).val 0, 1, 0, 0] :=
  (by decide +kernel : ∀ n : Fin 257, k0_off2 (at0 n) 0#32 = ![par n.val 0, 1, 0, 0]) (i 1)
theorem off2_1 (i : grid0.Coords) : k0_off2 i 1#32 = ![par (i 1).val 1, 1, 0, 0] :=
  (by decide +kernel : ∀ n : Fin 257, k0_off2 (at0 n) 1#32 = ![par n.val 1, 1, 0, 0]) (i 1)
theorem off3_0 (i : grid0.Coords) : k0_off3 i 0#32 = ![par (i 1).val 0, 2, 0, 0] :=
  (by decide +kernel : ∀ n : Fin 257, k0_off3 (at0 n) 0#32 = ![par n.val 0, 2, 0, 0]) (i 1)
theorem off3_1 (i : grid0.Coords) : k0_off3 i 1#32 = ![par (i 1).val 1, 2, 0, 0] :=
  (by decide +kernel : ∀ n : Fin 257, k0_off3 (at0 n) 1#32 = ![par n.val 1, 2, 0, 0]) (i 1)
theorem off4_0 (i : grid0.Coords) : k0_off4 i 0#32 = ![par (i 1).val 0, 3, 0, 0] :=
  (by decide +kernel : ∀ n : Fin 257, k0_off4 (at0 n) 0#32 = ![par n.val 0, 3, 0, 0]) (i 1)
theorem off4_1 (i : grid0.Coords) : k0_off4 i 1#32 = ![par (i 1).val 1, 3, 0, 0] :=
  (by decide +kernel : ∀ n : Fin 257, k0_off4 (at0 n) 1#32 = ![par n.val 1, 3, 0, 0]) (i 1)

instance (i : grid0.Coords) : ClosedOff (k0_off1 i 0#32) := ⟨_, off1_0 i⟩
instance (i : grid0.Coords) : ClosedOff (k0_off1 i 1#32) := ⟨_, off1_1 i⟩
instance (i : grid0.Coords) : ClosedOff (k0_off2 i 0#32) := ⟨_, off2_0 i⟩
instance (i : grid0.Coords) : ClosedOff (k0_off2 i 1#32) := ⟨_, off2_1 i⟩
instance (i : grid0.Coords) : ClosedOff (k0_off3 i 0#32) := ⟨_, off3_0 i⟩
instance (i : grid0.Coords) : ClosedOff (k0_off3 i 1#32) := ⟨_, off3_1 i⟩
instance (i : grid0.Coords) : ClosedOff (k0_off4 i 0#32) := ⟨_, off4_0 i⟩
instance (i : grid0.Coords) : ClosedOff (k0_off4 i 1#32) := ⟨_, off4_1 i⟩

end Cert.KernelIdeal.Flash

end
-- ==== Proof.KI.Rest.lean ====
/- The body of the attention kernel, its first step's set-up apart: the set-up, the rest, and the body as the one
   before the other. -/
module

public import proofs.«01_k».proof.Proof.Gen.KernelIdeal.Frame
public import proofs.«01_k».proof.Proof.Gen.KernelIdeal.Skeleton

@[expose] public section

set_option maxRecDepth 65536

noncomputable section

namespace Cert.KernelIdeal.Flash

open Idealize.ShloMosaic Idealize.ShloMosaic.TcCoe Idealize.SL.Sem Cert.KernelIdeal.Gen

variable {F : FTy → Type} [FloatOps F] [Named F]

/-- What the body does at a head's first step before anything else: the scratch set to its first values. -/
noncomputable def initBody (i : grid0.Coords) (arg2 : Memref sig .tc .vmem S256x512 .bf16) (harg2 : arg2.IsWhole) (arg3 : Memref sig .tc .vmem S4096x128 .bf16) (harg3 : arg3.IsWhole) (arg4 : Memref sig .tc .vmem S4096x256 .bf16) (harg4 : arg4.IsWhole) (arg5 : Memref sig .tc .vmem S256x512 .bf16) (harg5 : arg5.IsWhole) (arg6 : Memref sig .tc .vmem S2x4x256x2048 .f32) (harg6 : arg6.IsWhole) (arg7 : Memref sig .tc .vmem S2x4x256x2048 .bf16) (harg7 : arg7.IsWhole) (arg8 : Memref sig .tc .vmem S2x4x256x1 .f32) (harg8 : arg8.IsWhole) (arg9 : Memref sig .tc .vmem S2x4x256x1 .f32) (harg9 : arg9.IsWhole) (arg10 : Memref sig .tc .vmem S4x256x256 .f32) (harg10 : arg10.IsWhole) :
    Prog (TpuEff nD τ sig (Elt F) Λ₀ .tc) PUnit := do
  let v497 : Vec F S2x4x256x2048 .f32 ← Prog.lift (.load arg6 (Rect.unit (s := S2x4x256x2048) ![0, 0, 0, 0] S2x4x256x2048.size inb_S2x4x256x2048_S2x4x256x2048_0_0_0_0).toLoadRect (View.loadsAt_vmem h_S2x4x256x2048))
  Prog.lift (.store arg6 (Rect.unit (s := S2x4x256x2048) ![0, 0, 0, 0] S2x4x256x2048.size inb_S2x4x256x2048_S2x4x256x2048_0_0_0_0) (k0_pay5 (F := F)) Finset.univ (View.stores_vmem_bits_univ h_S2x4x256x2048 rfl) (.inl rfl))
  let v501 : Vec F S2x4x256x2048 .bf16 ← Prog.lift (.load arg7 (Rect.unit (s := S2x4x256x2048) ![0, 0, 0, 0] S2x4x256x2048.size inb_S2x4x256x2048_S2x4x256x2048_0_0_0_0).toLoadRect (View.loadsAt_vmem h_S2x4x256x2048))
  Prog.lift (.store arg7 (Rect.unit (s := S2x4x256x2048) ![0, 0, 0, 0] S2x4x256x2048.size inb_S2x4x256x2048_S2x4x256x2048_0_0_0_0) (k0_pay6 (F := F)) Finset.univ (View.stores_vmem h_S2x4x256x2048 (harg7.storeExact_slice rfl _ packedbf16_S2x4x256x2048_S2x4x256x2048_0_0_0_0) (fun _ => rfl)) (.inl rfl))
  let v505 : Vec F S2x4x256x1 .f32 ← Prog.lift (.load arg8 (Rect.unit (s := S2x4x256x1) ![0, 0, 0, 0] S2x4x256x1.size inb_S2x4x256x1_S2x4x256x1_0_0_0_0).toLoadRect (View.loadsAt_vmem h_S2x4x256x1))
  Prog.lift (.store arg8 (Rect.unit (s := S2x4x256x1) ![0, 0, 0, 0] S2x4x256x1.size inb_S2x4x256x1_S2x4x256x1_0_0_0_0) (k0_pay7 (F := F)) Finset.univ (View.stores_vmem_bits_univ h_S2x4x256x1 rfl) (.inl rfl))
  let v509 : Vec F S2x4x256x1 .f32 ← Prog.lift (.load arg9 (Rect.unit (s := S2x4x256x1) ![0, 0, 0, 0] S2x4x256x1.size inb_S2x4x256x1_S2x4x256x1_0_0_0_0).toLoadRect (View.loadsAt_vmem h_S2x4x256x1))
  Prog.lift (.store arg9 (Rect.unit (s := S2x4x256x1) ![0, 0, 0, 0] S2x4x256x1.size inb_S2x4x256x1_S2x4x256x1_0_0_0_0) (k0_pay8 (F := F)) Finset.univ (View.stores_vmem_bits_univ h_S2x4x256x1 rfl) (.inl rfl))
  let v513 : Vec F S4x256x256 .f32 ← Prog.lift (.load arg10 (Rect.unit (s := S4x256x256) ![0, 0, 0] S4x256x256.size inb_S4x256x256_S4x256x256_0_0_0).toLoadRect (View.loadsAt_vmem h_S4x256x256))
  Prog.lift (.store arg10 (Rect.unit (s := S4x256x256) ![0, 0, 0] S4x256x256.size inb_S4x256x256_S4x256x256_0_0_0) (k0_pay9 (F := F)) Finset.univ (View.stores_vmem_bits_univ h_S4x256x256 rfl) (.inl rfl))
  pure ⟨⟩

/-- The first part without the set-up. -/
noncomputable def rest1 (i : grid0.Coords) (arg2 : Memref sig .tc .vmem S256x512 .bf16) (harg2 : arg2.IsWhole) (arg3 : Memref sig .tc .vmem S4096x128 .bf16) (harg3 : arg3.IsWhole) (arg4 : Memref sig .tc .vmem S4096x256 .bf16) (harg4 : arg4.IsWhole) (arg5 : Memref sig .tc .vmem S256x512 .bf16) (harg5 : arg5.IsWhole) (arg6 : Memref sig .tc .vmem S2x4x256x2048 .f32) (harg6 : arg6.IsWhole) (arg7 : Memref sig .tc .vmem S2x4x256x2048 .bf16) (harg7 : arg7.IsWhole) (arg8 : Memref sig .tc .vmem S2x4x256x1 .f32) (harg8 : arg8.IsWhole) (arg9 : Memref sig .tc .vmem S2x4x256x1 .f32) (harg9 : arg9.IsWhole) (arg10 : Memref sig .tc .vmem S4x256x256 .f32) (harg10 : arg10.IsWhole) :
    Prog (TpuEff nD τ sig (Elt F) Λ₀ .tc) (Σ' (arg1 : BitVec 32), FVec F S256x2048 .f32) := do
  let arg1 : BitVec 32 := BitVec.ofNat 32 (i 1).val
  let v3 : Vec F S256x128 .bf16 ← Prog.lift (.load arg2 (Rect.unit (s := S256x512) ![0, 0] S256x128.size inb_S256x512_S256x128_0_0).toLoadRect (View.loadsAt_vmem h_S256x128))
  let v5 : Vec F S2048x128 .bf16 ← Prog.lift (.load arg3 (Rect.unit (s := S4096x128) ![0, 0] S2048x128.size inb_S4096x128_S2048x128_0_0).toLoadRect (View.loadsAt_vmem h_S2048x128))
  let v8 : Vec F S1x1x256x2048 .f32 ← Prog.lift (.load arg6 (Rect.unit (s := S2x4x256x2048) ![0, 0, 0, 0] S1x1x256x2048.size inb_S2x4x256x2048_S1x1x256x2048_0_0_0_0).toLoadRect (View.loadsAt_vmem h_S1x1x256x2048))
  Prog.lift (.store arg6 (Rect.unit (s := S2x4x256x2048) ![0, 0, 0, 0] S1x1x256x2048.size inb_S2x4x256x2048_S1x1x256x2048_0_0_0_0) (k0_pay10 v3 v5) Finset.univ (View.stores_vmem_bits_univ h_S1x1x256x2048 rfl) (.inl rfl))
  let v11 : Vec F S256x128 .bf16 ← Prog.lift (.load arg2 (Rect.unit (s := S256x512) ![0, 128] S256x128.size inb_S256x512_S256x128_0_128).toLoadRect (View.loadsAt_vmem h_S256x128))
  let v13 : Vec F S2048x128 .bf16 ← Prog.lift (.load arg3 (Rect.unit (s := S4096x128) ![0, 0] S2048x128.size inb_S4096x128_S2048x128_0_0).toLoadRect (View.loadsAt_vmem h_S2048x128))
  let v16 : Vec F S1x1x256x2048 .f32 ← Prog.lift (.load arg6 (Rect.unit (s := S2x4x256x2048) ![0, 1, 0, 0] S1x1x256x2048.size inb_S2x4x256x2048_S1x1x256x2048_0_1_0_0).toLoadRect (View.loadsAt_vmem h_S1x1x256x2048))
  Prog.lift (.store arg6 (Rect.unit (s := S2x4x256x2048) ![0, 1, 0, 0] S1x1x256x2048.size inb_S2x4x256x2048_S1x1x256x2048_0_1_0_0) (k0_pay11 v11 v13) Finset.univ (View.stores_vmem_bits_univ h_S1x1x256x2048 rfl) (.inl rfl))
  let v19 : Vec F S256x128 .bf16 ← Prog.lift (.load arg2 (Rect.unit (s := S256x512) ![0, 256] S256x128.size inb_S256x512_S256x128_0_256).toLoadRect (View.loadsAt_vmem h_S256x128))
  let v21 : Vec F S2048x128 .bf16 ← Prog.lift (.load arg3 (Rect.unit (s := S4096x128) ![0, 0] S2048x128.size inb_S4096x128_S2048x128_0_0).toLoadRect (View.loadsAt_vmem h_S2048x128))
  let v24 : Vec F S1x1x256x2048 .f32 ← Prog.lift (.load arg6 (Rect.unit (s := S2x4x256x2048) ![0, 2, 0, 0] S1x1x256x2048.size inb_S2x4x256x2048_S1x1x256x2048_0_2_0_0).toLoadRect (View.loadsAt_vmem h_S1x1x256x2048))
  pure ⟨arg1, k0_pay12 v19 v21⟩

/-- The parts in order, the first without the set-up. -/
noncomputable def rest16 (i : grid0.Coords) (arg2 : Memref sig .tc .vmem S256x512 .bf16) (harg2 : arg2.IsWhole) (arg3 : Memref sig .tc .vmem S4096x128 .bf16) (harg3 : arg3.IsWhole) (arg4 : Memref sig .tc .vmem S4096x256 .bf16) (harg4 : arg4.IsWhole) (arg5 : Memref sig .tc .vmem S256x512 .bf16) (harg5 : arg5.IsWhole) (arg6 : Memref sig .tc .vmem S2x4x256x2048 .f32) (harg6 : arg6.IsWhole) (arg7 : Memref sig .tc .vmem S2x4x256x2048 .bf16) (harg7 : arg7.IsWhole) (arg8 : Memref sig .tc .vmem S2x4x256x1 .f32) (harg8 : arg8.IsWhole) (arg9 : Memref sig .tc .vmem S2x4x256x1 .f32) (harg9 : arg9.IsWhole) (arg10 : Memref sig .tc .vmem S4x256x256 .f32) (harg10 : arg10.IsWhole) :
    Prog (TpuEff nD τ sig (Elt F) Λ₀ .tc) (Σ' (arg1 : BitVec 32) (v488 : BitVec 32), BitVec 32) := do
  let ⟨arg1, v23⟩ : Σ' (arg1 : BitVec 32), FVec F S256x2048 .f32 ← rest1 i arg2 harg2 arg3 harg3 arg4 harg4 arg5 harg5 arg6 harg6 arg7 harg7 arg8 harg8 arg9 harg9 arg10 harg10
  let ⟨v39, v58, c2_i32, v59⟩ : Σ' (v39 : BitVec 1) (v58 : BitVec 32) (c2_i32 : BitVec 32), BitVec 1 ← k0_part2 i arg2 harg2 arg3 harg3 arg4 harg4 arg5 harg5 arg6 harg6 arg7 harg7 arg8 harg8 arg9 harg9 arg10 harg10 arg1 v23
  let ⟨v68, v71, v94⟩ : Σ' (v68 : BitVec 32) (v71 : FVec F S256x1 .f32), FVec F S256x2048 .bf16 ← k0_part3 i arg2 harg2 arg3 harg3 arg4 harg4 arg5 harg5 arg6 harg6 arg7 harg7 arg8 harg8 arg9 harg9 arg10 harg10 v39 v58 c2_i32 v59
  let v125 : FVec F S256x2048 .f32 ← k0_part4 i arg2 harg2 arg3 harg3 arg4 harg4 arg5 harg5 arg6 harg6 arg7 harg7 arg8 harg8 arg9 harg9 arg10 harg10 v68 v71 v94
  let ⟨v151, v158, v159⟩ : Σ' (v151 : FVec F S256x2048 .f32) (v158 : FVec F S256x1 .f32), FVec F S256x1 .f32 ← k0_part5 i arg2 harg2 arg3 harg3 arg4 harg4 arg5 harg5 arg6 harg6 arg7 harg7 arg8 harg8 arg9 harg9 arg10 harg10 v68 v71 v125
  let ⟨v177, v187, v188⟩ : Σ' (v177 : FVec F S2048x256 .bf16) (v187 : FVec F S256x256 .f32), Vec F S1x256x256 .f32 ← k0_part6 i arg2 harg2 arg3 harg3 arg4 harg4 arg5 harg5 arg6 harg6 arg7 harg7 arg8 harg8 arg9 harg9 arg10 harg10 v68 v71 v151 v158 v159
  let v216 : FVec F S1x256x256 .f32 ← k0_part7 i arg2 harg2 arg3 harg3 arg4 harg4 arg5 harg5 arg6 harg6 arg7 harg7 arg8 harg8 arg9 harg9 arg10 harg10 v177 v187 v188
  let v242 : FVec F S256x2048 .f32 ← k0_part8 i arg2 harg2 arg3 harg3 arg4 harg4 arg5 harg5 arg6 harg6 arg7 harg7 arg8 harg8 arg9 harg9 arg10 harg10 v177 v216
  let ⟨v266, v268, c4_i32_224, v269, v271⟩ : Σ' (v266 : BitVec 1) (v268 : BitVec 32) (c4_i32_224 : BitVec 32) (v269 : BitVec 32), BitVec 32 ← k0_part9 i arg2 harg2 arg3 harg3 arg4 harg4 arg5 harg5 arg6 harg6 arg7 harg7 arg8 harg8 arg9 harg9 arg10 harg10 arg1 v242
  let ⟨v296, v306, v309⟩ : Σ' (v296 : BitVec 1) (v306 : BitVec 32), FVec F S256x1 .f32 ← k0_part10 i arg2 harg2 arg3 harg3 arg4 harg4 arg5 harg5 arg6 harg6 arg7 harg7 arg8 harg8 arg9 harg9 arg10 harg10 v266 v268 c4_i32_224 v269 v271
  let ⟨v339, v341⟩ : Σ' (v339 : FVec F S256x2048 .f32), Vec F S1x1x256x1 .f32 ← k0_part11 i arg2 harg2 arg3 harg3 arg4 harg4 arg5 harg5 arg6 harg6 arg7 harg7 arg8 harg8 arg9 harg9 arg10 harg10 v296 v306 v309
  let ⟨v367, v372, v376⟩ : Σ' (v367 : FVec F S256x2048 .f32) (v372 : FVec F S256x1 .f32), FVec F S256x1 .f32 ← k0_part12 i arg2 harg2 arg3 harg3 arg4 harg4 arg5 harg5 arg6 harg6 arg7 harg7 arg8 harg8 arg9 harg9 arg10 harg10 v296 v306 v309 v339 v341
  let ⟨v404, v406, v410⟩ : Σ' (v404 : FVec F S256x1 .f32) (v406 : FVec F S256x1 .f32), FVec F S256x2048 .f32 ← k0_part13 i arg2 harg2 arg3 harg3 arg4 harg4 arg5 harg5 arg6 harg6 arg7 harg7 arg8 harg8 arg9 harg9 arg10 harg10 v296 v306 v309 v367 v372 v376
  let ⟨v423, v437⟩ : Σ' (v423 : FVec F S2048x256 .bf16), Vec F S1x1x256x1 .f32 ← k0_part14 i arg2 harg2 arg3 harg3 arg4 harg4 arg5 harg5 arg6 harg6 arg7 harg7 arg8 harg8 arg9 harg9 arg10 harg10 v404 v406 v410
  let v464 : FVec F S256x1 .f32 ← k0_part15 i arg2 harg2 arg3 harg3 arg4 harg4 arg5 harg5 arg6 harg6 arg7 harg7 arg8 harg8 arg9 harg9 arg10 harg10 v423 v437
  let v465 : Vec F S1x256x256 .f32 ← Prog.lift (.load arg10 (Rect.unit (s := S4x256x256) ![3, 0, 0] S1x256x256.size inb_S4x256x256_S1x256x256_3_0_0).toLoadRect (View.loadsAt_vmem h_S1x256x256))
  let v469 : Vec F S1x1x256x2048 .bf16 ← Prog.lift (.load arg7 (Rect.unit (s := S2x4x256x2048) ![1, 3, 0, 0] S1x1x256x2048.size inb_S2x4x256x2048_S1x1x256x2048_1_3_0_0).toLoadRect (View.loadsAt_vmem h_S1x1x256x2048))
  let v473 : Vec F S1x256x256 .f32 ← Prog.lift (.load arg10 (Rect.unit (s := S4x256x256) ![3, 0, 0] S1x256x256.size inb_S4x256x256_S1x256x256_3_0_0).toLoadRect (View.loadsAt_vmem h_S1x256x256))
  Prog.lift (.store arg10 (Rect.unit (s := S4x256x256) ![3, 0, 0] S1x256x256.size inb_S4x256x256_S1x256x256_3_0_0) (k0_pay85 v423 v464 v465 v469) Finset.univ (View.stores_vmem_bits_univ h_S1x256x256 rfl) (.inl rfl))
  let v476 : BitVec 32 := Scalar.subi arg1 1#32
  let v477 : BitVec 32 := Scalar.maxsi 0#32 v476
  let v478 : BitVec 32 := Scalar.minsi 255#32 v477
  let v479 : BitVec 1 := Scalar.cmpi .eq 4#32 0#32
  let v480 : BitVec 32 := Scalar.select v479 1#32 4#32
  let v481 : BitVec 32 := Scalar.remsi v478 v480
  let v482 : BitVec 1 := Scalar.cmpi .ne v481 0#32
  let v483 : BitVec 1 := Scalar.cmpi .slt v481 0#32
  let v484 : BitVec 1 := Scalar.cmpi .slt v480 0#32
  let v485 : BitVec 1 := Scalar.xori v483 v484
  let v486 : BitVec 1 := Scalar.andi v485 v482
  let v487 : BitVec 32 := Scalar.addi v481 v480
  let v488 : BitVec 32 := Scalar.select v486 v487 v481
  pure ⟨arg1, v488, 3#32⟩

/-- The body without the set-up. -/
noncomputable def restBody (i : grid0.Coords) (arg2 : Memref sig .tc .vmem S256x512 .bf16) (harg2 : arg2.IsWhole) (arg3 : Memref sig .tc .vmem S4096x128 .bf16) (harg3 : arg3.IsWhole) (arg4 : Memref sig .tc .vmem S4096x256 .bf16) (harg4 : arg4.IsWhole) (arg5 : Memref sig .tc .vmem S256x512 .bf16) (harg5 : arg5.IsWhole) (arg6 : Memref sig .tc .vmem S2x4x256x2048 .f32) (harg6 : arg6.IsWhole) (arg7 : Memref sig .tc .vmem S2x4x256x2048 .bf16) (harg7 : arg7.IsWhole) (arg8 : Memref sig .tc .vmem S2x4x256x1 .f32) (harg8 : arg8.IsWhole) (arg9 : Memref sig .tc .vmem S2x4x256x1 .f32) (harg9 : arg9.IsWhole) (arg10 : Memref sig .tc .vmem S4x256x256 .f32) (harg10 : arg10.IsWhole) :
    Prog (TpuEff nD τ sig (Elt F) Λ₀ .tc) PUnit := do
  let ⟨arg1, v488, c3_i32⟩ : Σ' (arg1 : BitVec 32) (v488 : BitVec 32), BitVec 32 ← rest16 i arg2 harg2 arg3 harg3 arg4 harg4 arg5 harg5 arg6 harg6 arg7 harg7 arg8 harg8 arg9 harg9 arg10 harg10
  if k0_h2 : k0_cond2 i = 1#1 then do
    let v496 : Vec F S1x256x256 .f32 ← Prog.lift (.load arg10 (Rect.unit (s := S4x256x256) ![0, 0, 0] S1x256x256.size inb_S4x256x256_S1x256x256_0_0_0).toLoadRect (View.loadsAt_vmem h_S1x256x256))
    let v502 : Vec F S256x128 .bf16 ← Prog.lift (.load arg5 (Rect.unit (s := S256x512) ![0, 0] S256x128.size inb_S256x512_S256x128_0_0).toLoadRect (View.loadsAt_vmem h_S256x128))
    Prog.lift (.store arg5 (Rect.unit (s := S256x512) ![0, 0] S256x128.size inb_S256x512_S256x128_0_0) (k0_pay1 v496) Finset.univ (View.stores_vmem h_S256x128 (harg5.storeExact_slice rfl _ packedbf16_S256x512_S256x128_0_0) (fun _ => rfl)) (.inl rfl))
    let v503 : Vec F S1x256x256 .f32 ← Prog.lift (.load arg10 (Rect.unit (s := S4x256x256) ![1, 0, 0] S1x256x256.size inb_S4x256x256_S1x256x256_1_0_0).toLoadRect (View.loadsAt_vmem h_S1x256x256))
    let v509 : Vec F S256x128 .bf16 ← Prog.lift (.load arg5 (Rect.unit (s := S256x512) ![0, 128] S256x128.size inb_S256x512_S256x128_0_128).toLoadRect (View.loadsAt_vmem h_S256x128))
    Prog.lift (.store arg5 (Rect.unit (s := S256x512) ![0, 128] S256x128.size inb_S256x512_S256x128_0_128) (k0_pay2 v503) Finset.univ (View.stores_vmem h_S256x128 (harg5.storeExact_slice rfl _ packedbf16_S256x512_S256x128_0_128) (fun _ => rfl)) (.inl rfl))
    let v510 : Vec F S1x256x256 .f32 ← Prog.lift (.load arg10 (Rect.unit (s := S4x256x256) ![2, 0, 0] S1x256x256.size inb_S4x256x256_S1x256x256_2_0_0).toLoadRect (View.loadsAt_vmem h_S1x256x256))
    let v516 : Vec F S256x128 .bf16 ← Prog.lift (.load arg5 (Rect.unit (s := S256x512) ![0, 256] S256x128.size inb_S256x512_S256x128_0_256).toLoadRect (View.loadsAt_vmem h_S256x128))
    Prog.lift (.store arg5 (Rect.unit (s := S256x512) ![0, 256] S256x128.size inb_S256x512_S256x128_0_256) (k0_pay3 v510) Finset.univ (View.stores_vmem h_S256x128 (harg5.storeExact_slice rfl _ packedbf16_S256x512_S256x128_0_256) (fun _ => rfl)) (.inl rfl))
    let v517 : Vec F S1x256x256 .f32 ← Prog.lift (.load arg10 (Rect.unit (s := S4x256x256) ![3, 0, 0] S1x256x256.size inb_S4x256x256_S1x256x256_3_0_0).toLoadRect (View.loadsAt_vmem h_S1x256x256))
    let v523 : Vec F S256x128 .bf16 ← Prog.lift (.load arg5 (Rect.unit (s := S256x512) ![0, 384] S256x128.size inb_S256x512_S256x128_0_384).toLoadRect (View.loadsAt_vmem h_S256x128))
    Prog.lift (.store arg5 (Rect.unit (s := S256x512) ![0, 384] S256x128.size inb_S256x512_S256x128_0_384) (k0_pay4 v517) Finset.univ (View.stores_vmem h_S256x128 (harg5.storeExact_slice rfl _ packedbf16_S256x512_S256x128_0_384) (fun _ => rfl)) (.inl rfl))
    pure ⟨⟩
  else do
    pure ⟨⟩
  pure ⟨⟩

theorem body_first (i : grid0.Coords) (arg2 : Memref sig .tc .vmem S256x512 .bf16) (harg2 : arg2.IsWhole) (arg3 : Memref sig .tc .vmem S4096x128 .bf16) (harg3 : arg3.IsWhole) (arg4 : Memref sig .tc .vmem S4096x256 .bf16) (harg4 : arg4.IsWhole) (arg5 : Memref sig .tc .vmem S256x512 .bf16) (harg5 : arg5.IsWhole) (arg6 : Memref sig .tc .vmem S2x4x256x2048 .f32) (harg6 : arg6.IsWhole) (arg7 : Memref sig .tc .vmem S2x4x256x2048 .bf16) (harg7 : arg7.IsWhole) (arg8 : Memref sig .tc .vmem S2x4x256x1 .f32) (harg8 : arg8.IsWhole) (arg9 : Memref sig .tc .vmem S2x4x256x1 .f32) (harg9 : arg9.IsWhole) (arg10 : Memref sig .tc .vmem S4x256x256 .f32) (harg10 : arg10.IsWhole)
    (hc0 : (Scalar.cmpi .ne (Scalar.extui (Scalar.cmpi .eq (BitVec.ofNat 32 (i 1).val) 0#32)) 0#32) = 1#1) :
    cc0_gqa_attention (F := F) i arg2 harg2 arg3 harg3 arg4 harg4 arg5 harg5 arg6 harg6 arg7 harg7 arg8 harg8 arg9 harg9 arg10 harg10 = (do initBody i arg2 harg2 arg3 harg3 arg4 harg4 arg5 harg5 arg6 harg6 arg7 harg7 arg8 harg8 arg9 harg9 arg10 harg10; restBody i arg2 harg2 arg3 harg3 arg4 harg4 arg5 harg5 arg6 harg6 arg7 harg7 arg8 harg8 arg9 harg9 arg10 harg10) := by
  rw [cc0_gqa_attention_eq_skeleton]; unfold cc0_gqa_attention_skel
  rw [k0_part16_eq_skeleton]; unfold k0_part16_skel
  rw [k0_part1_eq_skeleton]; unfold k0_part1_skel
  dsimp only
  rw [dif_pos hc0]
  rfl

theorem body_later (i : grid0.Coords) (arg2 : Memref sig .tc .vmem S256x512 .bf16) (harg2 : arg2.IsWhole) (arg3 : Memref sig .tc .vmem S4096x128 .bf16) (harg3 : arg3.IsWhole) (arg4 : Memref sig .tc .vmem S4096x256 .bf16) (harg4 : arg4.IsWhole) (arg5 : Memref sig .tc .vmem S256x512 .bf16) (harg5 : arg5.IsWhole) (arg6 : Memref sig .tc .vmem S2x4x256x2048 .f32) (harg6 : arg6.IsWhole) (arg7 : Memref sig .tc .vmem S2x4x256x2048 .bf16) (harg7 : arg7.IsWhole) (arg8 : Memref sig .tc .vmem S2x4x256x1 .f32) (harg8 : arg8.IsWhole) (arg9 : Memref sig .tc .vmem S2x4x256x1 .f32) (harg9 : arg9.IsWhole) (arg10 : Memref sig .tc .vmem S4x256x256 .f32) (harg10 : arg10.IsWhole)
    (hc0 : ¬(Scalar.cmpi .ne (Scalar.extui (Scalar.cmpi .eq (BitVec.ofNat 32 (i 1).val) 0#32)) 0#32) = 1#1) :
    cc0_gqa_attention (F := F) i arg2 harg2 arg3 harg3 arg4 harg4 arg5 harg5 arg6 harg6 arg7 harg7 arg8 harg8 arg9 harg9 arg10 harg10 = restBody i arg2 harg2 arg3 harg3 arg4 harg4 arg5 harg5 arg6 harg6 arg7 harg7 arg8 harg8 arg9 harg9 arg10 harg10 := by
  rw [cc0_gqa_attention_eq_skeleton]; unfold cc0_gqa_attention_skel
  rw [k0_part16_eq_skeleton]; unfold k0_part16_skel
  rw [k0_part1_eq_skeleton]; unfold k0_part1_skel
  dsimp only
  rw [dif_neg hc0]
  rfl

end Cert.KernelIdeal.Flash

end
-- ==== Proof.KI.RunA.lean ====
/- The body of the attention kernel run once, case by case. -/
module

public import proofs.«01_k».proof.Proof.Gen.KernelIdeal.Frame
public import proofs.«01_k».proof.Proof.Gen.KernelIdeal.Skeleton
public import proofs.«01_k».proof.Proof.KI.Off
public import proofs.«01_k».proof.Proof.KI.Rest

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A buffer held at some contents, as a memref's own. -/
theorem any_of {s : Shape} {e : EltTy} (c : Dev nD) (a : Memref sig .tc .vmem s e) {f : Buf (Elt F) (a.view.loc (c : Thread nD τ))} :
    (a.view.loc (c : Thread nD τ) ↦[a.view.set]{fullShare} f : sProp 𝕄) ⊢ iprop(∃ d, owns (c : Thread nD τ) a fullShare d) := by
  iintro H
  iexists a.view.read (Elt F) f
  unfold owns; iexists f; isplitr
  · ipureintro; exact rfl
  iexact H

/-- The set-up leaves the scratch at some contents. -/
theorem initRun (c : Dev nD) (i : grid0.Coords) (arg2 : Memref sig .tc .vmem S256x512 .bf16) (harg2 : arg2.IsWhole) (arg3 : Memref sig .tc .vmem S4096x128 .bf16) (harg3 : arg3.IsWhole) (arg4 : Memref sig .tc .vmem S4096x256 .bf16) (harg4 : arg4.IsWhole) (arg5 : Memref sig .tc .vmem S256x512 .bf16) (harg5 : arg5.IsWhole) (arg6 : Memref sig .tc .vmem S2x4x256x2048 .f32) (harg6 : arg6.IsWhole) (arg7 : Memref sig .tc .vmem S2x4x256x2048 .bf16) (harg7 : arg7.IsWhole) (arg8 : Memref sig .tc .vmem S2x4x256x1 .f32) (harg8 : arg8.IsWhole) (arg9 : Memref sig .tc .vmem S2x4x256x1 .f32) (harg9 : arg9.IsWhole) (arg10 : Memref sig .tc .vmem S4x256x256 .f32) (harg10 : arg10.IsWhole) (E : Set ℕ) (K : PUnit → sProp 𝕄) :
    iprop(((∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) ∗ (iprop((∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (initBody i arg2 harg2 arg3 harg3 arg4 harg4 arg5 harg5 arg6 harg6 arg7 harg7 arg8 harg8 arg9 harg9 arg10 harg10) K := by
  unfold initBody owns
  simp only [Prog.lift, Prog.bind_op, Prog.bind_ret]
  iintro ⟨⟨⟨%d0, %g0, %hg0, S0⟩, ⟨%d1, %g1, %hg1, S1⟩, ⟨%d2, %g2, %hg2, S2⟩, ⟨%d3, %g3, %hg3, S3⟩, ⟨%d4, %g4, %hg4, S4⟩⟩, Hk⟩
  sl_steps
  iapply Hk
  isplitl [S0]
  · iapply any_of c arg6; iexact S0
  isplitl [S1]
  · iapply any_of c arg7; iexact S1
  isplitl [S2]
  · iapply any_of c arg8; iexact S2
  isplitl [S3]
  · iapply any_of c arg9; iexact S3
  iapply any_of c arg10; iexact S4

end Cert.KernelIdeal.Flash

end
-- ==== Proof.KI.RunB.lean ====
/- The body of the attention kernel run once, case by case. -/
module

public import proofs.«01_k».proof.Proof.Gen.KernelIdeal.Frame
public import proofs.«01_k».proof.Proof.Gen.KernelIdeal.Skeleton
public import proofs.«01_k».proof.Proof.KI.Off
public import proofs.«01_k».proof.Proof.KI.Rest

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runB (c : Dev nD) (i : grid0.Coords) (arg2 : Memref sig .tc .vmem S256x512 .bf16) (harg2 : arg2.IsWhole) (arg3 : Memref sig .tc .vmem S4096x128 .bf16) (harg3 : arg3.IsWhole) (arg4 : Memref sig .tc .vmem S4096x256 .bf16) (harg4 : arg4.IsWhole) (arg5 : Memref sig .tc .vmem S256x512 .bf16) (harg5 : arg5.IsWhole) (arg6 : Memref sig .tc .vmem S2x4x256x2048 .f32) (harg6 : arg6.IsWhole) (arg7 : Memref sig .tc .vmem S2x4x256x2048 .bf16) (harg7 : arg7.IsWhole) (arg8 : Memref sig .tc .vmem S2x4x256x1 .f32) (harg8 : arg8.IsWhole) (arg9 : Memref sig .tc .vmem S2x4x256x1 .f32) (harg9 : arg9.IsWhole) (arg10 : Memref sig .tc .vmem S4x256x256 .f32) (harg10 : arg10.IsWhole)
    (hc1 : ¬k0_cond2 i = 1#1)
    (x0 : Vec F S256x512 .bf16) (x1 : Vec F S4096x128 .bf16) (x2 : Vec F S4096x256 .bf16) (xo : Vec F S256x512 .bf16) (s0 : Vec F S2x4x256x2048 .f32) (s1 : Vec F S2x4x256x2048 .bf16) (s2 : Vec F S2x4x256x1 .f32) (s3 : Vec F S2x4x256x1 .f32) (s4 : Vec F S4x256x256 .f32) :
    { L : List (View.Piece (Elt F) S2x4x256x2048 .f32) × List (View.Piece (Elt F) S2x4x256x2048 .bf16) × List (View.Piece (Elt F) S2x4x256x1 .f32) × List (View.Piece (Elt F) S2x4x256x1 .f32) × List (View.Piece (Elt F) S4x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ owns (c : Thread nD τ) arg6 fullShare s0 ∗ owns (c : Thread nD τ) arg7 fullShare s1 ∗ owns (c : Thread nD τ) arg8 fullShare s2 ∗ owns (c : Thread nD τ) arg9 fullShare s3 ∗ owns (c : Thread nD τ) arg10 fullShare s4
            ∗ (iprop(owns (c : Thread nD τ) arg2 fullShare x0 ∗ owns (c : Thread nD τ) arg3 fullShare x1 ∗ owns (c : Thread nD τ) arg4 fullShare x2 ∗ owns (c : Thread nD τ) arg5 fullShare xo
            ∗ (∃ f, arg6.view.loc (c : Thread nD τ) ↦[arg6.view.set]{fullShare} arg6.view.writes (Elt F) f L.1) ∗ (∃ f, arg7.view.loc (c : Thread nD τ) ↦[arg7.view.set]{fullShare} arg7.view.writes (Elt F) f L.2.1) ∗ (∃ f, arg8.view.loc (c : Thread nD τ) ↦[arg8.view.set]{fullShare} arg8.view.writes (Elt F) f L.2.2.1) ∗ (arg9.view.loc (c : Thread nD τ) ↦[arg9.view.set]{fullShare} arg9.view.writes (Elt F) (harg9.unread s3) L.2.2.2.1) ∗ (∃ f, arg10.view.loc (c : Thread nD τ) ↦[arg10.view.set]{fullShare} arg10.view.writes (Elt F) f L.2.2.2.2)) -∗ K ⟨⟩))
          ⊢ wp frame (wpE (defs₀ (F := F)) Variants.none c none) E (restBody i arg2 harg2 arg3 harg3 arg4 harg4 arg5 harg5 arg6 harg6 arg7 harg7 arg8 harg8 arg9 harg9 arg10 harg10) K } := by
  refine ⟨⟨?_, ?_, ?_, ?_, ?_⟩, fun E K => ?run⟩
  case run =>
    unfold restBody rest16 rest1
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%fo, %hfo, HO⟩, ⟨%g0, %hg0, S0⟩, ⟨%g1, %hg1, S1⟩, ⟨%g2, %hg2, S2⟩, ⟨%g3, %hg3, S3⟩, ⟨%g4, %hg4, S4⟩, Hk⟩
    obtain rfl := harg2.eq_unread hf0; obtain rfl := harg3.eq_unread hf1; obtain rfl := harg4.eq_unread hf2; obtain rfl := harg5.eq_unread hfo
    obtain rfl := harg6.eq_unread hg0; obtain rfl := harg7.eq_unread hg1; obtain rfl := harg8.eq_unread hg2; obtain rfl := harg9.eq_unread hg3; obtain rfl := harg10.eq_unread hg4
    sl_exec (disch := sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    isplitl [S0]; · iexists _; iexact S0
    isplitl [S1]; · iexists _; iexact S1
    isplitl [S2]; · iexists _; iexact S2
    isplitl [S3]; · iexact S3
    iexists _; iexact S4

end Cert.KernelIdeal.Flash

end
-- ==== Proof.KI.RunC.lean ====
/- The body of the attention kernel run once, case by case. -/
module

public import proofs.«01_k».proof.Proof.Gen.KernelIdeal.Frame
public import proofs.«01_k».proof.Proof.Gen.KernelIdeal.Skeleton
public import proofs.«01_k».proof.Proof.KI.Off
public import proofs.«01_k».proof.Proof.KI.Rest

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runC (c : Dev nD) (i : grid0.Coords) (arg2 : Memref sig .tc .vmem S256x512 .bf16) (harg2 : arg2.IsWhole) (arg3 : Memref sig .tc .vmem S4096x128 .bf16) (harg3 : arg3.IsWhole) (arg4 : Memref sig .tc .vmem S4096x256 .bf16) (harg4 : arg4.IsWhole) (arg5 : Memref sig .tc .vmem S256x512 .bf16) (harg5 : arg5.IsWhole) (arg6 : Memref sig .tc .vmem S2x4x256x2048 .f32) (harg6 : arg6.IsWhole) (arg7 : Memref sig .tc .vmem S2x4x256x2048 .bf16) (harg7 : arg7.IsWhole) (arg8 : Memref sig .tc .vmem S2x4x256x1 .f32) (harg8 : arg8.IsWhole) (arg9 : Memref sig .tc .vmem S2x4x256x1 .f32) (harg9 : arg9.IsWhole) (arg10 : Memref sig .tc .vmem S4x256x256 .f32) (harg10 : arg10.IsWhole)
    (hc1 : k0_cond2 i = 1#1)
    (x0 : Vec F S256x512 .bf16) (x1 : Vec F S4096x128 .bf16) (x2 : Vec F S4096x256 .bf16) (xo : Vec F S256x512 .bf16) (s0 : Vec F S2x4x256x2048 .f32) (s1 : Vec F S2x4x256x2048 .bf16) (s2 : Vec F S2x4x256x1 .f32) (s3 : Vec F S2x4x256x1 .f32) (s4 : Vec F S4x256x256 .f32) :
    { L : List (View.Piece (Elt F) S256x512 .bf16) × List (View.Piece (Elt F) S2x4x256x2048 .f32) × List (View.Piece (Elt F) S2x4x256x2048 .bf16) × List (View.Piece (Elt F) S2x4x256x1 .f32) × List (View.Piece (Elt F) S2x4x256x1 .f32) × List (View.Piece (Elt F) S4x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ owns (c : Thread nD τ) arg6 fullShare s0 ∗ owns (c : Thread nD τ) arg7 fullShare s1 ∗ owns (c : Thread nD τ) arg8 fullShare s2 ∗ owns (c : Thread nD τ) arg9 fullShare s3 ∗ owns (c : Thread nD τ) arg10 fullShare s4
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L.1)
            ∗ (∃ f, arg6.view.loc (c : Thread nD τ) ↦[arg6.view.set]{fullShare} arg6.view.writes (Elt F) f L.2.1) ∗ (∃ f, arg7.view.loc (c : Thread nD τ) ↦[arg7.view.set]{fullShare} arg7.view.writes (Elt F) f L.2.2.1) ∗ (∃ f, arg8.view.loc (c : Thread nD τ) ↦[arg8.view.set]{fullShare} arg8.view.writes (Elt F) f L.2.2.2.1) ∗ (arg9.view.loc (c : Thread nD τ) ↦[arg9.view.set]{fullShare} arg9.view.writes (Elt F) (harg9.unread s3) L.2.2.2.2.1) ∗ (∃ f, arg10.view.loc (c : Thread nD τ) ↦[arg10.view.set]{fullShare} arg10.view.writes (Elt F) f L.2.2.2.2.2)) -∗ K ⟨⟩))
          ⊢ wp frame (wpE (defs₀ (F := F)) Variants.none c none) E (restBody i arg2 harg2 arg3 harg3 arg4 harg4 arg5 harg5 arg6 harg6 arg7 harg7 arg8 harg8 arg9 harg9 arg10 harg10) K } := by
  refine ⟨⟨?_, ?_, ?_, ?_, ?_, ?_⟩, fun E K => ?run⟩
  case run =>
    unfold restBody rest16 rest1
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%fo, %hfo, HO⟩, ⟨%g0, %hg0, S0⟩, ⟨%g1, %hg1, S1⟩, ⟨%g2, %hg2, S2⟩, ⟨%g3, %hg3, S3⟩, ⟨%g4, %hg4, S4⟩, Hk⟩
    obtain rfl := harg2.eq_unread hf0; obtain rfl := harg3.eq_unread hf1; obtain rfl := harg4.eq_unread hf2; obtain rfl := harg5.eq_unread hfo
    obtain rfl := harg6.eq_unread hg0; obtain rfl := harg7.eq_unread hg1; obtain rfl := harg8.eq_unread hg2; obtain rfl := harg9.eq_unread hg3; obtain rfl := harg10.eq_unread hg4
    sl_exec (disch := sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; iexact HO
    isplitl [S0]; · iexists _; iexact S0
    isplitl [S1]; · iexists _; iexact S1
    isplitl [S2]; · iexists _; iexact S2
    isplitl [S3]; · iexact S3
    iexists _; iexact S4

end Cert.KernelIdeal.Flash

end
-- ==== Proof.KI.Any.lean ====
/- The attention kernel's frame: every execution ends, with the arguments as they were; what the output holds is not stated here. -/
module

public import proofs.«01_k».proof.Proof.KI.RunA
public import proofs.«01_k».proof.Proof.KI.RunB
public import proofs.«01_k».proof.Proof.KI.RunC
public import Idealize.ShloMosaic.Lib.Claim

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The step after the set-up, from any scratch contents. -/
theorem restAny (c : Dev nD) (i : grid0.Coords) (arg2 : Memref sig .tc .vmem S256x512 .bf16) (harg2 : arg2.IsWhole) (arg3 : Memref sig .tc .vmem S4096x128 .bf16) (harg3 : arg3.IsWhole) (arg4 : Memref sig .tc .vmem S4096x256 .bf16) (harg4 : arg4.IsWhole) (arg5 : Memref sig .tc .vmem S256x512 .bf16) (harg5 : arg5.IsWhole) (arg6 : Memref sig .tc .vmem S2x4x256x2048 .f32) (harg6 : arg6.IsWhole) (arg7 : Memref sig .tc .vmem S2x4x256x2048 .bf16) (harg7 : arg7.IsWhole) (arg8 : Memref sig .tc .vmem S2x4x256x1 .f32) (harg8 : arg8.IsWhole) (arg9 : Memref sig .tc .vmem S2x4x256x1 .f32) (harg9 : arg9.IsWhole) (arg10 : Memref sig .tc .vmem S4x256x256 .f32) (harg10 : arg10.IsWhole) (x0 : Vec F S256x512 .bf16) (x1 : Vec F S4096x128 .bf16) (x2 : Vec F S4096x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (restBody i arg2 harg2 arg3 harg3 arg4 harg4 arg5 harg5 arg6 harg6 arg7 harg7 arg8 harg8 arg9 harg9 arg10 harg10) K := by
  iintro ⟨H0, H1, H2, ⟨%xo, Ho⟩, ⟨%s0, S0⟩, ⟨%s1, S1⟩, ⟨%s2, S2⟩, ⟨%s3, S3⟩, ⟨%s4, S4⟩, Hk⟩
  by_cases h : k0_cond2 i = 1#1
  · iapply ((runC c i arg2 harg2 arg3 harg3 arg4 harg4 arg5 harg5 arg6 harg6 arg7 harg7 arg8 harg8 arg9 harg9 arg10 harg10 h x0 x1 x2 xo s0 s1 s2 s3 s4).2 E K)
    isplitl [H0]; · iexact H0
    isplitl [H1]; · iexact H1
    isplitl [H2]; · iexact H2
    isplitl [Ho]; · iexact Ho
    isplitl [S0]; · iexact S0
    isplitl [S1]; · iexact S1
    isplitl [S2]; · iexact S2
    isplitl [S3]; · iexact S3
    isplitl [S4]; · iexact S4
    iintro ⟨H0, H1, H2, ⟨%f5, Ho⟩, ⟨%f6, S0⟩, ⟨%f7, S1⟩, ⟨%f8, S2⟩, S3, ⟨%f10, S4⟩⟩
    iapply Hk
    isplitl [H0]; · iexact H0
    isplitl [H1]; · iexact H1
    isplitl [H2]; · iexact H2
    isplitl [Ho]; · iapply any_of c arg5; iexact Ho
    isplitl [S0]; · iapply any_of c arg6; iexact S0
    isplitl [S1]; · iapply any_of c arg7; iexact S1
    isplitl [S2]; · iapply any_of c arg8; iexact S2
    isplitl [S3]; · iapply any_of c arg9; iexact S3
    iapply any_of c arg10; iexact S4
  · iapply ((runB c i arg2 harg2 arg3 harg3 arg4 harg4 arg5 harg5 arg6 harg6 arg7 harg7 arg8 harg8 arg9 harg9 arg10 harg10 h x0 x1 x2 xo s0 s1 s2 s3 s4).2 E K)
    isplitl [H0]; · iexact H0
    isplitl [H1]; · iexact H1
    isplitl [H2]; · iexact H2
    isplitl [Ho]; · iexact Ho
    isplitl [S0]; · iexact S0
    isplitl [S1]; · iexact S1
    isplitl [S2]; · iexact S2
    isplitl [S3]; · iexact S3
    isplitl [S4]; · iexact S4
    iintro ⟨H0, H1, H2, Ho, ⟨%f6, S0⟩, ⟨%f7, S1⟩, ⟨%f8, S2⟩, S3, ⟨%f10, S4⟩⟩
    iapply Hk
    isplitl [H0]; · iexact H0
    isplitl [H1]; · iexact H1
    isplitl [H2]; · iexact H2
    isplitl [Ho]; · iexists xo; iexact Ho
    isplitl [S0]; · iapply any_of c arg6; iexact S0
    isplitl [S1]; · iapply any_of c arg7; iexact S1
    isplitl [S2]; · iapply any_of c arg8; iexact S2
    isplitl [S3]; · iapply any_of c arg9; iexact S3
    iapply any_of c arg10; iexact S4

/-- The whole step, from any scratch contents. -/
theorem stepAny (c : Dev nD) (i : grid0.Coords) (arg2 : Memref sig .tc .vmem S256x512 .bf16) (harg2 : arg2.IsWhole) (arg3 : Memref sig .tc .vmem S4096x128 .bf16) (harg3 : arg3.IsWhole) (arg4 : Memref sig .tc .vmem S4096x256 .bf16) (harg4 : arg4.IsWhole) (arg5 : Memref sig .tc .vmem S256x512 .bf16) (harg5 : arg5.IsWhole) (arg6 : Memref sig .tc .vmem S2x4x256x2048 .f32) (harg6 : arg6.IsWhole) (arg7 : Memref sig .tc .vmem S2x4x256x2048 .bf16) (harg7 : arg7.IsWhole) (arg8 : Memref sig .tc .vmem S2x4x256x1 .f32) (harg8 : arg8.IsWhole) (arg9 : Memref sig .tc .vmem S2x4x256x1 .f32) (harg9 : arg9.IsWhole) (arg10 : Memref sig .tc .vmem S4x256x256 .f32) (harg10 : arg10.IsWhole) (x0 : Vec F S256x512 .bf16) (x1 : Vec F S4096x128 .bf16) (x2 : Vec F S4096x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_gqa_attention (F := F) i arg2 harg2 arg3 harg3 arg4 harg4 arg5 harg5 arg6 harg6 arg7 harg7 arg8 harg8 arg9 harg9 arg10 harg10) K := by
  by_cases hc0 : (Scalar.cmpi .ne (Scalar.extui (Scalar.cmpi .eq (BitVec.ofNat 32 (i 1).val) 0#32)) 0#32) = 1#1
  · rw [body_first i arg2 harg2 arg3 harg3 arg4 harg4 arg5 harg5 arg6 harg6 arg7 harg7 arg8 harg8 arg9 harg9 arg10 harg10 hc0]
    rw [wp_bind]
    iintro ⟨H0, H1, H2, Ho, S0, S1, S2, S3, S4, Hk⟩
    iapply (initRun c i arg2 harg2 arg3 harg3 arg4 harg4 arg5 harg5 arg6 harg6 arg7 harg7 arg8 harg8 arg9 harg9 arg10 harg10 E _)
    isplitl [S0 S1 S2 S3 S4]
    · isplitl [S0]; · iexact S0
      isplitl [S1]; · iexact S1
      isplitl [S2]; · iexact S2
      isplitl [S3]; · iexact S3
      iexact S4
    iintro ⟨S0, S1, S2, S3, S4⟩
    iapply (restAny c i arg2 harg2 arg3 harg3 arg4 harg4 arg5 harg5 arg6 harg6 arg7 harg7 arg8 harg8 arg9 harg9 arg10 harg10 x0 x1 x2 E K)
    isplitl [H0]; · iexact H0
    isplitl [H1]; · iexact H1
    isplitl [H2]; · iexact H2
    isplitl [Ho]; · iexact Ho
    isplitl [S0]; · iexact S0
    isplitl [S1]; · iexact S1
    isplitl [S2]; · iexact S2
    isplitl [S3]; · iexact S3
    isplitl [S4]; · iexact S4
    iexact Hk
  · rw [body_later i arg2 harg2 arg3 harg3 arg4 harg4 arg5 harg5 arg6 harg6 arg7 harg7 arg8 harg8 arg9 harg9 arg10 harg10 hc0]
    exact restAny c i arg2 harg2 arg3 harg3 arg4 harg4 arg5 harg5 arg6 harg6 arg7 harg7 arg8 harg8 arg9 harg9 arg10 harg10 x0 x1 x2 E K

/-- A point's staging buffers. -/
abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
/-- The scratch buffers. -/
abbrev sm0 : Memref sig .tc .vmem S2x4x256x2048 .f32 := Memref.whole cc0_scratch0
abbrev sm1 : Memref sig .tc .vmem S2x4x256x2048 .bf16 := Memref.whole cc0_scratch1
abbrev sm2 : Memref sig .tc .vmem S2x4x256x1 .f32 := Memref.whole cc0_scratch2
abbrev sm3 : Memref sig .tc .vmem S2x4x256x1 .f32 := Memref.whole cc0_scratch3
abbrev sm4 : Memref sig .tc .vmem S4x256x256 .f32 := Memref.whole cc0_scratch4

/-- What the launch hands the region: the scratch at anything and the generator register. -/
theorem PhiA_eq (c : Dev nD) :
    (Pipeline.ΦA spec0 c : sProp 𝕄)
      = iprop(((∃ d, owns (c : Thread nD τ) sm0 fullShare d) ∗ (∃ d, owns (c : Thread nD τ) sm1 fullShare d) ∗ (∃ d, owns (c : Thread nD τ) sm2 fullShare d) ∗ (∃ d, owns (c : Thread nD τ) sm3 fullShare d) ∗ (∃ d, owns (c : Thread nD τ) sm4 fullShare d)) ∗ (∃ r, prngReg c r)) := by
  unfold Pipeline.ΦA; rw [scopedRest0_eq]; simp only [sm0, sm1, sm2, sm3, sm4, owns_whole]; try rfl

/-- The window whose contents are not stated. -/
def forgets0 : Fin 4 → Bool := fun w => w.val == 3

/-- The proof data: the inputs at their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare d))
/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ (∃ d, owns (c : Thread nD τ) (ms3 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2,
    show (dats m 0 c).Φ t.castSucc = Pipeline.ΦA spec0 c from rfl, show (dats m 0 c).Φ t.succ = Pipeline.ΦA spec0 c from rfl, PhiA_eq]
  iintro ⟨⟨⟨S0, S1, S2, S3, S4⟩, Hg⟩, Ho, ⟨%d0, H0⟩, ⟨%d1, H1⟩, ⟨%d2, H2⟩, H3⟩
  iapply (stepAny c (grid0.coords t) _ _ _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexact H3
  isplitl [S0]; · iexact S0
  isplitl [S1]; · iexact S1
  isplitl [S2]; · iexact S2
  isplitl [S3]; · iexact S3
  isplitl [S4]; · iexact S4
  iintro ⟨H0, H1, H2, H3, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _
theorem hout (c : Dev nD) : (dats m 0 c).Φ (Fin.last cfg0.N) ⊢ Pipeline.ΦA spec0 c := Idealize.SL.BI.Entails.refl _

set_option backward.isDefEq.respectTransparency.types false in
/-- The launch. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c w => by unfold Dat.share; split <;> rfl)
    (howed := fun _ _ => rfl) (V := V m) (hmain := hmain m Variants.none) (hA := A_eq m) (hin := hin m) (hout := hout m)

/-- Every execution ends, the arguments unchanged and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main_quiescent m ρ)

end Cert.KernelIdeal.Flash

end
-- ==== Proof.KI.Read.lean ====
/- A list of stores into the scratch read at one element, newest store first. -/
module

public import proofs.«01_k».proof.Proof.KI.Off
public import Idealize.ShloMosaic.Lib.Pointwise
public import Idealize.ShloMosaic.Lib.WritesUnit

@[expose] public section

set_option maxRecDepth 16384

namespace Cert.KernelIdeal.Flash

open Idealize.ShloMosaic

section
variable {sig : RefSig} {κ : Kind} {sp : Space} {Val : EltTy → Type} {e : EltTy} {n0 n1 n2 n3 p q A R : Nat}

/-- A piece that fills row `(A, R)`, read at `(a, r, i, j)`. -/
theorem rd4 (v : View sig κ sp ⟨4, ![n0, n1, p, q]⟩ e) (f : v.ty.Contents Val)
    {off : Fin 4 → Nat} (hoff : off = ![A, R, 0, 0]) (inb : ∀ a, off a + (![1, 1, p, q] : Fin 4 → Nat) a ≤ (![n0, n1, p, q] : Fin 4 → Nat) a)
    (w : (⟨4, ![1, 1, p, q]⟩ : Shape).Idx → Val e) (L : List (View.Piece Val ⟨4, ![n0, n1, p, q]⟩ e))
    (a : Fin n0) (r : Fin n1) (i : Fin p) (j : Fin q) :
    v.read Val (v.writes Val f ((⟨Rect.unit (s := ⟨4, ![n0, n1, p, q]⟩) off ![1, 1, p, q] inb, w⟩ : View.Piece Val ⟨4, ![n0, n1, p, q]⟩ e) :: L)) (ix4 a r i j)
      = if a.val = A ∧ r.val = R then w (ix4 (0 : Fin 1) (0 : Fin 1) i j) else v.read Val (v.writes Val f L) (ix4 a r i j) := by
  split
  · rename_i h
    refine View.read_writes_cons_unit_of_mem v f inb w L _ _ hoff ?_
    intro k; fin_cases k <;> simp [h.1, h.2]
  · rename_i h
    rw [not_and_or] at h
    rcases h with h | h
    · refine View.read_writes_cons_unit_of_not_mem v f inb w L _ hoff 0 ?_
      simp; omega
    · refine View.read_writes_cons_unit_of_not_mem v f inb w L _ hoff 1 ?_
      simp; omega

/-- A piece that fills row `A`, read at `(a, i, j)`. -/
theorem rd3 (v : View sig κ sp ⟨3, ![n0, p, q]⟩ e) (f : v.ty.Contents Val)
    (inb : ∀ a, (![A, 0, 0] : Fin 3 → Nat) a + (![1, p, q] : Fin 3 → Nat) a ≤ (![n0, p, q] : Fin 3 → Nat) a)
    (w : (⟨3, ![1, p, q]⟩ : Shape).Idx → Val e) (L : List (View.Piece Val ⟨3, ![n0, p, q]⟩ e))
    (a : Fin n0) (i : Fin p) (j : Fin q) :
    v.read Val (v.writes Val f ((⟨Rect.unit (s := ⟨3, ![n0, p, q]⟩) ![A, 0, 0] ![1, p, q] inb, w⟩ : View.Piece Val ⟨3, ![n0, p, q]⟩ e) :: L)) (ix3 a i j)
      = if a.val = A then w (ix3 (0 : Fin 1) i j) else v.read Val (v.writes Val f L) (ix3 a i j) := by
  split
  · rename_i h
    refine View.read_writes_cons_unit_of_mem v f inb w L _ _ rfl ?_
    intro k; fin_cases k <;> simp [h]
  · rename_i h
    refine View.read_writes_cons_unit_of_not_mem v f inb w L _ rfl 0 ?_
    simp; omega

/-- A load of row `(A, R)`, read at `(i, j)`. -/
theorem at4 (v : View sig κ sp ⟨4, ![n0, n1, p, q]⟩ e) (f : v.ty.Contents Val)
    {off : Fin 4 → Nat} (hoff : off = ![A, R, 0, 0]) (inb : ∀ a, off a + (![1, 1, p, q] : Fin 4 → Nat) a ≤ (![n0, n1, p, q] : Fin 4 → Nat) a)
    (hA : A < n0) (hR : R < n1) (i : Fin p) (j : Fin q) :
    v.readAt Val (Rect.unit (s := ⟨4, ![n0, n1, p, q]⟩) off ![1, 1, p, q] inb).toLoadRect f (ix4 (0 : Fin 1) (0 : Fin 1) i j)
      = v.read Val f (ix4 (⟨A, hA⟩ : Fin n0) (⟨R, hR⟩ : Fin n1) i j) := by
  subst hoff
  rw [View.readAt_apply]
  congr 1
  funext k
  apply Fin.ext
  rw [LoadRect.idx_eq_norm]
  fin_cases k <;> simp [Shape.Idx.norm]

/-- A load of row `A`, read at `(i, j)`. -/
theorem at3 (v : View sig κ sp ⟨3, ![n0, p, q]⟩ e) (f : v.ty.Contents Val)
    (inb : ∀ a, (![A, 0, 0] : Fin 3 → Nat) a + (![1, p, q] : Fin 3 → Nat) a ≤ (![n0, p, q] : Fin 3 → Nat) a)
    (hA : A < n0) (i : Fin p) (j : Fin q) :
    v.readAt Val (Rect.unit (s := ⟨3, ![n0, p, q]⟩) ![A, 0, 0] ![1, p, q] inb).toLoadRect f (ix3 (0 : Fin 1) i j)
      = v.read Val f (ix3 (⟨A, hA⟩ : Fin n0) i j) := by
  rw [View.readAt_apply]
  congr 1
  funext k
  apply Fin.ext
  rw [LoadRect.idx_eq_norm]
  fin_cases k <;> simp [Shape.Idx.norm]

/-- A load of a block of a matrix, read at `(i, j)`. -/
theorem at2 (v : View sig κ sp ⟨2, ![n0, n1]⟩ e) (f : v.ty.Contents Val)
    (inb : ∀ a, (![A, R] : Fin 2 → Nat) a + (![p, q] : Fin 2 → Nat) a ≤ (![n0, n1] : Fin 2 → Nat) a) (i : Fin p) (j : Fin q) :
    v.readAt Val (Rect.unit (s := ⟨2, ![n0, n1]⟩) ![A, R] ![p, q] inb).toLoadRect f (ix2 i j)
      = v.read Val f (ix2 (⟨A + i.val, by have := inb 0; simp at this; omega⟩ : Fin n0) (⟨R + j.val, by have := inb 1; simp at this; omega⟩ : Fin n1)) := by
  rw [View.readAt_apply]
  congr 1
  funext k
  apply Fin.ext
  rw [LoadRect.idx_eq_norm]
  fin_cases k <;> simp [Shape.Idx.norm]
end

end Cert.KernelIdeal.Flash
-- ==== Proof.KI.Read2.lean ====
/- The readings of Read.lean at the kernel's own shapes and offsets. -/
module

public import proofs.«01_k».proof.Proof.KI.Read

@[expose] public section

set_option maxRecDepth 16384

namespace Cert.KernelIdeal.Flash

open Idealize.ShloMosaic

/-! ## The same at the kernel's shapes -/

section
variable {κ : Kind} {sp : Space} {Val : EltTy → Type} {e : EltTy} {A R : Nat}

theorem par_lt (n s : Nat) : par n s < 2 := Nat.mod_lt _ (by decide)

theorem rd4k (v : View sig κ sp S2x4x256x2048 e) (f : v.ty.Contents Val) (inb) (w : (Rect.unit (s := S2x4x256x2048) ![A, R, 0, 0] S1x1x256x2048.size inb).shape.Idx → Val e) (L : List (View.Piece Val S2x4x256x2048 e))
    (a : Fin 2) (r : Fin 4) (i : Fin 256) (j : Fin 2048) :
    v.read Val (v.writes Val f ((⟨Rect.unit (s := S2x4x256x2048) ![A, R, 0, 0] S1x1x256x2048.size inb, w⟩ : View.Piece Val S2x4x256x2048 e) :: L)) (ix4 a r i j)
      = if a.val = A ∧ r.val = R then w (ix4 (0 : Fin 1) (0 : Fin 1) i j) else v.read Val (v.writes Val f L) (ix4 a r i j) :=
  rd4 v f rfl inb w L a r i j
theorem at4k (v : View sig κ sp S2x4x256x2048 e) (f : v.ty.Contents Val) (inb : ∀ a, (![A, R, 0, 0] : Fin 4 → Nat) a + S1x1x256x2048.size a ≤ S2x4x256x2048.size a) (i : Fin 256) (j : Fin 2048) :
    v.readAt Val (Rect.unit (s := S2x4x256x2048) ![A, R, 0, 0] S1x1x256x2048.size inb).toLoadRect f (ix4 (0 : Fin 1) (0 : Fin 1) i j)
      = v.read Val f (ix4 (⟨A, by have := inb 0; simp at this; omega⟩ : Fin 2) (⟨R, by have := inb 1; simp at this; omega⟩ : Fin 4) i j) :=
  at4 v f rfl inb _ _ i j
theorem rd4u (v : View sig κ sp S2x4x256x1 e) (f : v.ty.Contents Val) (inb) (w : (Rect.unit (s := S2x4x256x1) ![A, R, 0, 0] S1x1x256x1.size inb).shape.Idx → Val e) (L : List (View.Piece Val S2x4x256x1 e))
    (a : Fin 2) (r : Fin 4) (i : Fin 256) (j : Fin 1) :
    v.read Val (v.writes Val f ((⟨Rect.unit (s := S2x4x256x1) ![A, R, 0, 0] S1x1x256x1.size inb, w⟩ : View.Piece Val S2x4x256x1 e) :: L)) (ix4 a r i j)
      = if a.val = A ∧ r.val = R then w (ix4 (0 : Fin 1) (0 : Fin 1) i j) else v.read Val (v.writes Val f L) (ix4 a r i j) :=
  rd4 v f rfl inb w L a r i j
theorem at4u (v : View sig κ sp S2x4x256x1 e) (f : v.ty.Contents Val) (inb : ∀ a, (![A, R, 0, 0] : Fin 4 → Nat) a + S1x1x256x1.size a ≤ S2x4x256x1.size a) (i : Fin 256) (j : Fin 1) :
    v.readAt Val (Rect.unit (s := S2x4x256x1) ![A, R, 0, 0] S1x1x256x1.size inb).toLoadRect f (ix4 (0 : Fin 1) (0 : Fin 1) i j)
      = v.read Val f (ix4 (⟨A, by have := inb 0; simp at this; omega⟩ : Fin 2) (⟨R, by have := inb 1; simp at this; omega⟩ : Fin 4) i j) :=
  at4 v f rfl inb _ _ i j
theorem rdm10 (c : grid0.Coords) (v : View sig κ sp S2x4x256x1 e) (f : v.ty.Contents Val) (inb) (w : (Rect.unit (s := S2x4x256x1) (k0_off1 c 0#32) S1x1x256x1.size inb).shape.Idx → Val e) (L : List (View.Piece Val S2x4x256x1 e))
    (a : Fin 2) (r : Fin 4) (i : Fin 256) (j : Fin 1) :
    v.read Val (v.writes Val f ((⟨Rect.unit (s := S2x4x256x1) (k0_off1 c 0#32) S1x1x256x1.size inb, w⟩ : View.Piece Val S2x4x256x1 e) :: L)) (ix4 a r i j)
      = if a.val = par (c 1).val 0 ∧ r.val = 0 then w (ix4 (0 : Fin 1) (0 : Fin 1) i j) else v.read Val (v.writes Val f L) (ix4 a r i j) :=
  rd4 v f (off1_0 c) inb w L a r i j
theorem atm10 (c : grid0.Coords) (v : View sig κ sp S2x4x256x1 e) (f : v.ty.Contents Val) (inb) (i : Fin 256) (j : Fin 1) :
    v.readAt Val (Rect.unit (s := S2x4x256x1) (k0_off1 c 0#32) S1x1x256x1.size inb).toLoadRect f (ix4 (0 : Fin 1) (0 : Fin 1) i j)
      = v.read Val f (ix4 (⟨par (c 1).val 0, par_lt _ _⟩ : Fin 2) (0 : Fin 4) i j) :=
  at4 v f (off1_0 c) inb _ (by decide) i j
theorem rdm11 (c : grid0.Coords) (v : View sig κ sp S2x4x256x1 e) (f : v.ty.Contents Val) (inb) (w : (Rect.unit (s := S2x4x256x1) (k0_off1 c 1#32) S1x1x256x1.size inb).shape.Idx → Val e) (L : List (View.Piece Val S2x4x256x1 e))
    (a : Fin 2) (r : Fin 4) (i : Fin 256) (j : Fin 1) :
    v.read Val (v.writes Val f ((⟨Rect.unit (s := S2x4x256x1) (k0_off1 c 1#32) S1x1x256x1.size inb, w⟩ : View.Piece Val S2x4x256x1 e) :: L)) (ix4 a r i j)
      = if a.val = par (c 1).val 1 ∧ r.val = 0 then w (ix4 (0 : Fin 1) (0 : Fin 1) i j) else v.read Val (v.writes Val f L) (ix4 a r i j) :=
  rd4 v f (off1_1 c) inb w L a r i j
theorem atm11 (c : grid0.Coords) (v : View sig κ sp S2x4x256x1 e) (f : v.ty.Contents Val) (inb) (i : Fin 256) (j : Fin 1) :
    v.readAt Val (Rect.unit (s := S2x4x256x1) (k0_off1 c 1#32) S1x1x256x1.size inb).toLoadRect f (ix4 (0 : Fin 1) (0 : Fin 1) i j)
      = v.read Val f (ix4 (⟨par (c 1).val 1, par_lt _ _⟩ : Fin 2) (0 : Fin 4) i j) :=
  at4 v f (off1_1 c) inb _ (by decide) i j
theorem rdm20 (c : grid0.Coords) (v : View sig κ sp S2x4x256x1 e) (f : v.ty.Contents Val) (inb) (w : (Rect.unit (s := S2x4x256x1) (k0_off2 c 0#32) S1x1x256x1.size inb).shape.Idx → Val e) (L : List (View.Piece Val S2x4x256x1 e))
    (a : Fin 2) (r : Fin 4) (i : Fin 256) (j : Fin 1) :
    v.read Val (v.writes Val f ((⟨Rect.unit (s := S2x4x256x1) (k0_off2 c 0#32) S1x1x256x1.size inb, w⟩ : View.Piece Val S2x4x256x1 e) :: L)) (ix4 a r i j)
      = if a.val = par (c 1).val 0 ∧ r.val = 1 then w (ix4 (0 : Fin 1) (0 : Fin 1) i j) else v.read Val (v.writes Val f L) (ix4 a r i j) :=
  rd4 v f (off2_0 c) inb w L a r i j
theorem atm20 (c : grid0.Coords) (v : View sig κ sp S2x4x256x1 e) (f : v.ty.Contents Val) (inb) (i : Fin 256) (j : Fin 1) :
    v.readAt Val (Rect.unit (s := S2x4x256x1) (k0_off2 c 0#32) S1x1x256x1.size inb).toLoadRect f (ix4 (0 : Fin 1) (0 : Fin 1) i j)
      = v.read Val f (ix4 (⟨par (c 1).val 0, par_lt _ _⟩ : Fin 2) (1 : Fin 4) i j) :=
  at4 v f (off2_0 c) inb _ (by decide) i j
theorem rdm21 (c : grid0.Coords) (v : View sig κ sp S2x4x256x1 e) (f : v.ty.Contents Val) (inb) (w : (Rect.unit (s := S2x4x256x1) (k0_off2 c 1#32) S1x1x256x1.size inb).shape.Idx → Val e) (L : List (View.Piece Val S2x4x256x1 e))
    (a : Fin 2) (r : Fin 4) (i : Fin 256) (j : Fin 1) :
    v.read Val (v.writes Val f ((⟨Rect.unit (s := S2x4x256x1) (k0_off2 c 1#32) S1x1x256x1.size inb, w⟩ : View.Piece Val S2x4x256x1 e) :: L)) (ix4 a r i j)
      = if a.val = par (c 1).val 1 ∧ r.val = 1 then w (ix4 (0 : Fin 1) (0 : Fin 1) i j) else v.read Val (v.writes Val f L) (ix4 a r i j) :=
  rd4 v f (off2_1 c) inb w L a r i j
theorem atm21 (c : grid0.Coords) (v : View sig κ sp S2x4x256x1 e) (f : v.ty.Contents Val) (inb) (i : Fin 256) (j : Fin 1) :
    v.readAt Val (Rect.unit (s := S2x4x256x1) (k0_off2 c 1#32) S1x1x256x1.size inb).toLoadRect f (ix4 (0 : Fin 1) (0 : Fin 1) i j)
      = v.read Val f (ix4 (⟨par (c 1).val 1, par_lt _ _⟩ : Fin 2) (1 : Fin 4) i j) :=
  at4 v f (off2_1 c) inb _ (by decide) i j
theorem rdm30 (c : grid0.Coords) (v : View sig κ sp S2x4x256x1 e) (f : v.ty.Contents Val) (inb) (w : (Rect.unit (s := S2x4x256x1) (k0_off3 c 0#32) S1x1x256x1.size inb).shape.Idx → Val e) (L : List (View.Piece Val S2x4x256x1 e))
    (a : Fin 2) (r : Fin 4) (i : Fin 256) (j : Fin 1) :
    v.read Val (v.writes Val f ((⟨Rect.unit (s := S2x4x256x1) (k0_off3 c 0#32) S1x1x256x1.size inb, w⟩ : View.Piece Val S2x4x256x1 e) :: L)) (ix4 a r i j)
      = if a.val = par (c 1).val 0 ∧ r.val = 2 then w (ix4 (0 : Fin 1) (0 : Fin 1) i j) else v.read Val (v.writes Val f L) (ix4 a r i j) :=
  rd4 v f (off3_0 c) inb w L a r i j
theorem atm30 (c : grid0.Coords) (v : View sig κ sp S2x4x256x1 e) (f : v.ty.Contents Val) (inb) (i : Fin 256) (j : Fin 1) :
    v.readAt Val (Rect.unit (s := S2x4x256x1) (k0_off3 c 0#32) S1x1x256x1.size inb).toLoadRect f (ix4 (0 : Fin 1) (0 : Fin 1) i j)
      = v.read Val f (ix4 (⟨par (c 1).val 0, par_lt _ _⟩ : Fin 2) (2 : Fin 4) i j) :=
  at4 v f (off3_0 c) inb _ (by decide) i j
theorem rdm31 (c : grid0.Coords) (v : View sig κ sp S2x4x256x1 e) (f : v.ty.Contents Val) (inb) (w : (Rect.unit (s := S2x4x256x1) (k0_off3 c 1#32) S1x1x256x1.size inb).shape.Idx → Val e) (L : List (View.Piece Val S2x4x256x1 e))
    (a : Fin 2) (r : Fin 4) (i : Fin 256) (j : Fin 1) :
    v.read Val (v.writes Val f ((⟨Rect.unit (s := S2x4x256x1) (k0_off3 c 1#32) S1x1x256x1.size inb, w⟩ : View.Piece Val S2x4x256x1 e) :: L)) (ix4 a r i j)
      = if a.val = par (c 1).val 1 ∧ r.val = 2 then w (ix4 (0 : Fin 1) (0 : Fin 1) i j) else v.read Val (v.writes Val f L) (ix4 a r i j) :=
  rd4 v f (off3_1 c) inb w L a r i j
theorem atm31 (c : grid0.Coords) (v : View sig κ sp S2x4x256x1 e) (f : v.ty.Contents Val) (inb) (i : Fin 256) (j : Fin 1) :
    v.readAt Val (Rect.unit (s := S2x4x256x1) (k0_off3 c 1#32) S1x1x256x1.size inb).toLoadRect f (ix4 (0 : Fin 1) (0 : Fin 1) i j)
      = v.read Val f (ix4 (⟨par (c 1).val 1, par_lt _ _⟩ : Fin 2) (2 : Fin 4) i j) :=
  at4 v f (off3_1 c) inb _ (by decide) i j
theorem rdm40 (c : grid0.Coords) (v : View sig κ sp S2x4x256x1 e) (f : v.ty.Contents Val) (inb) (w : (Rect.unit (s := S2x4x256x1) (k0_off4 c 0#32) S1x1x256x1.size inb).shape.Idx → Val e) (L : List (View.Piece Val S2x4x256x1 e))
    (a : Fin 2) (r : Fin 4) (i : Fin 256) (j : Fin 1) :
    v.read Val (v.writes Val f ((⟨Rect.unit (s := S2x4x256x1) (k0_off4 c 0#32) S1x1x256x1.size inb, w⟩ : View.Piece Val S2x4x256x1 e) :: L)) (ix4 a r i j)
      = if a.val = par (c 1).val 0 ∧ r.val = 3 then w (ix4 (0 : Fin 1) (0 : Fin 1) i j) else v.read Val (v.writes Val f L) (ix4 a r i j) :=
  rd4 v f (off4_0 c) inb w L a r i j
theorem atm40 (c : grid0.Coords) (v : View sig κ sp S2x4x256x1 e) (f : v.ty.Contents Val) (inb) (i : Fin 256) (j : Fin 1) :
    v.readAt Val (Rect.unit (s := S2x4x256x1) (k0_off4 c 0#32) S1x1x256x1.size inb).toLoadRect f (ix4 (0 : Fin 1) (0 : Fin 1) i j)
      = v.read Val f (ix4 (⟨par (c 1).val 0, par_lt _ _⟩ : Fin 2) (3 : Fin 4) i j) :=
  at4 v f (off4_0 c) inb _ (by decide) i j
theorem rdm41 (c : grid0.Coords) (v : View sig κ sp S2x4x256x1 e) (f : v.ty.Contents Val) (inb) (w : (Rect.unit (s := S2x4x256x1) (k0_off4 c 1#32) S1x1x256x1.size inb).shape.Idx → Val e) (L : List (View.Piece Val S2x4x256x1 e))
    (a : Fin 2) (r : Fin 4) (i : Fin 256) (j : Fin 1) :
    v.read Val (v.writes Val f ((⟨Rect.unit (s := S2x4x256x1) (k0_off4 c 1#32) S1x1x256x1.size inb, w⟩ : View.Piece Val S2x4x256x1 e) :: L)) (ix4 a r i j)
      = if a.val = par (c 1).val 1 ∧ r.val = 3 then w (ix4 (0 : Fin 1) (0 : Fin 1) i j) else v.read Val (v.writes Val f L) (ix4 a r i j) :=
  rd4 v f (off4_1 c) inb w L a r i j
theorem atm41 (c : grid0.Coords) (v : View sig κ sp S2x4x256x1 e) (f : v.ty.Contents Val) (inb) (i : Fin 256) (j : Fin 1) :
    v.readAt Val (Rect.unit (s := S2x4x256x1) (k0_off4 c 1#32) S1x1x256x1.size inb).toLoadRect f (ix4 (0 : Fin 1) (0 : Fin 1) i j)
      = v.read Val f (ix4 (⟨par (c 1).val 1, par_lt _ _⟩ : Fin 2) (3 : Fin 4) i j) :=
  at4 v f (off4_1 c) inb _ (by decide) i j
theorem rd3k (v : View sig κ sp S4x256x256 e) (f : v.ty.Contents Val) (inb) (w : (Rect.unit (s := S4x256x256) ![A, 0, 0] S1x256x256.size inb).shape.Idx → Val e) (L : List (View.Piece Val S4x256x256 e))
    (a : Fin 4) (i : Fin 256) (j : Fin 256) :
    v.read Val (v.writes Val f ((⟨Rect.unit (s := S4x256x256) ![A, 0, 0] S1x256x256.size inb, w⟩ : View.Piece Val S4x256x256 e) :: L)) (ix3 a i j)
      = if a.val = A then w (ix3 (0 : Fin 1) i j) else v.read Val (v.writes Val f L) (ix3 a i j) :=
  rd3 v f inb w L a i j
theorem at3k (v : View sig κ sp S4x256x256 e) (f : v.ty.Contents Val) (inb : ∀ a, (![A, 0, 0] : Fin 3 → Nat) a + S1x256x256.size a ≤ S4x256x256.size a) (i : Fin 256) (j : Fin 256) :
    v.readAt Val (Rect.unit (s := S4x256x256) ![A, 0, 0] S1x256x256.size inb).toLoadRect f (ix3 (0 : Fin 1) i j)
      = v.read Val f (ix3 (⟨A, by have := inb 0; simp at this; omega⟩ : Fin 4) i j) :=
  at3 v f inb _ i j
theorem at2q (v : View sig κ sp S256x512 e) (f : v.ty.Contents Val) (inb : ∀ a, (![A, R] : Fin 2 → Nat) a + S256x128.size a ≤ S256x512.size a) (i : Fin 256) (j : Fin 128) :
    v.readAt Val (Rect.unit (s := S256x512) ![A, R] S256x128.size inb).toLoadRect f (ix2 i j)
      = v.read Val f (ix2 (⟨A + i.val, by have := inb 0; simp at this; omega⟩ : Fin 256) (⟨R + j.val, by have := inb 1; simp at this; omega⟩ : Fin 512)) :=
  at2 v f inb i j
theorem at2k (v : View sig κ sp S4096x128 e) (f : v.ty.Contents Val) (inb : ∀ a, (![A, R] : Fin 2 → Nat) a + S2048x128.size a ≤ S4096x128.size a) (i : Fin 2048) (j : Fin 128) :
    v.readAt Val (Rect.unit (s := S4096x128) ![A, R] S2048x128.size inb).toLoadRect f (ix2 i j)
      = v.read Val f (ix2 (⟨A + i.val, by have := inb 0; simp at this; omega⟩ : Fin 4096) (⟨R + j.val, by have := inb 1; simp at this; omega⟩ : Fin 128)) :=
  at2 v f inb i j
theorem at2v (v : View sig κ sp S4096x256 e) (f : v.ty.Contents Val) (inb : ∀ a, (![A, R] : Fin 2 → Nat) a + S2048x256.size a ≤ S4096x256.size a) (i : Fin 2048) (j : Fin 256) :
    v.readAt Val (Rect.unit (s := S4096x256) ![A, R] S2048x256.size inb).toLoadRect f (ix2 i j)
      = v.read Val f (ix2 (⟨A + i.val, by have := inb 0; simp at this; omega⟩ : Fin 4096) (⟨R + j.val, by have := inb 1; simp at this; omega⟩ : Fin 256)) :=
  at2 v f inb i j
theorem cov4 [∀ e, Nonempty (Val e)] {s : Shape} (v : View sig κ sp s e) (L : List (View.Piece Val s e)) (B : LoadRect s) :
    v.readCov L B = v.readAt Val B (v.writes Val v.junk L) := rfl
end

end Cert.KernelIdeal.Flash
-- ==== Proof.KI.Pay.lean ====
/- What each stored value is at one element, over the extended reals: scores, running maximum, rescaling factor,
   weight, accumulator and output. -/
module

public import proofs.«01_k».proof.Proof.KI.Read

@[expose] public section

set_option maxRecDepth 16384

noncomputable section

namespace Cert.KernelIdeal.Flash

open Idealize.ShloMosaic Cert.KernelIdeal.Gen

/-- The constant a step adds to its scores: zero on a step that has scores, minus infinity on one that has none. -/
def cst (b : BitVec 1) : EReal := Scalar.select b 0 ⊥
/-- The running maximum after scores `s`, shifted by `c`, from `m`. -/
def mx (m : EReal) (s : Fin 2048 → EReal) (c : EReal) : EReal := max m (Finset.fold max ⊥ s Finset.univ + c)
/-- The running maximum a block starts from: `⊥` at the first pair. -/
def st (b : BitVec 1) (m : EReal) : EReal := Scalar.select b ⊥ m

theorem negInf : Ideal.ofBits FTy.f32 4286578688#32 = ⊥ := by
  simp [Ideal.ofBits]
  decide
theorem masked : (Named.named (F := Ideal) κ "mask" (φ := .f32) 4048155338#32 : Ideal .f32) = ⊥ :=
  IdealRules.named_const.ideal_named_scalar _ _ _ _ rfl

/-- The product of a query block and a key half, transposed. -/
def scr (v : Vec Ideal S256x128 .bf16) (w : Vec Ideal S2048x128 .bf16) (i : Fin 256) (j : Fin 2048) : EReal :=
  ∑ d : Fin 128, v (ix2 i d) * w (ix2 j d)

end Cert.KernelIdeal.Flash

end
-- ==== Proof.KI.PayS.lean ====
/- What each stored value is at one element, over the extended reals: scores, running maximum, rescaling factor,
   weight, accumulator and output. -/
module

public import proofs.«01_k».proof.Proof.KI.Pay

@[expose] public section

set_option maxRecDepth 16384

noncomputable section

namespace Cert.KernelIdeal.Flash

open Idealize.ShloMosaic Cert.KernelIdeal.Gen

theorem at_pay10 (v : Vec Ideal S256x128 .bf16) (w : Vec Ideal S2048x128 .bf16) (i : Fin 256) (j : Fin 2048) :
    k0_pay10 v w (ix4 (0 : Fin 1) (0 : Fin 1) i j) = scr v w i j := by
  unfold scr
  pointwise [k0_pay10]

theorem at_pay11 (v : Vec Ideal S256x128 .bf16) (w : Vec Ideal S2048x128 .bf16) (i : Fin 256) (j : Fin 2048) :
    k0_pay11 v w (ix4 (0 : Fin 1) (0 : Fin 1) i j) = scr v w i j := by
  unfold scr
  pointwise [k0_pay11]

theorem at_pay14 (v : Vec Ideal S256x128 .bf16) (w : Vec Ideal S2048x128 .bf16) (i : Fin 256) (j : Fin 2048) :
    k0_pay14 v w (ix4 (0 : Fin 1) (0 : Fin 1) i j) = scr v w i j := by
  unfold scr
  pointwise [k0_pay14]

theorem at_pay48 (v : Vec Ideal S256x128 .bf16) (w : Vec Ideal S2048x128 .bf16) (i : Fin 256) (j : Fin 2048) :
    k0_pay48 v w (ix4 (0 : Fin 1) (0 : Fin 1) i j) = scr v w i j := by
  unfold scr
  pointwise [k0_pay48]

theorem at_pay51 (v : Vec Ideal S256x128 .bf16) (w : Vec Ideal S2048x128 .bf16) (i : Fin 256) (j : Fin 2048) :
    k0_pay51 v w (ix4 (0 : Fin 1) (0 : Fin 1) i j) = scr v w i j := by
  unfold scr
  pointwise [k0_pay51]

theorem at_pay52 (v : Vec Ideal S256x128 .bf16) (w : Vec Ideal S2048x128 .bf16) (i : Fin 256) (j : Fin 2048) :
    k0_pay52 v w (ix4 (0 : Fin 1) (0 : Fin 1) i j) = scr v w i j := by
  unfold scr
  pointwise [k0_pay52]

theorem at_pay13 (v : Vec Ideal S256x128 .bf16) (w : Vec Ideal S2048x128 .bf16) (i : Fin 256) (j : Fin 2048) :
    k0_pay13 (k0_pay12 v w) (ix4 (0 : Fin 1) (0 : Fin 1) i j) = scr v w i j := by
  unfold scr
  pointwise [k0_pay13, k0_pay12]

theorem at_pay50 (v : Vec Ideal S256x128 .bf16) (w : Vec Ideal S2048x128 .bf16) (i : Fin 256) (j : Fin 2048) :
    k0_pay50 (k0_pay49 v w) (ix4 (0 : Fin 1) (0 : Fin 1) i j) = scr v w i j := by
  unfold scr
  pointwise [k0_pay50, k0_pay49]

theorem at_pay15 (b : BitVec 1) (i : Fin 256) :
    k0_pay15 (F := Ideal) b (ix2 i (0 : Fin 1)) = cst b := by
  pointwise [k0_pay15]
  simp only [negInf, cst]

theorem at_pay53 (b : BitVec 1) (i : Fin 256) :
    k0_pay53 (F := Ideal) b (ix2 i (0 : Fin 1)) = cst b := by
  pointwise [k0_pay53]
  simp only [negInf, cst]

end Cert.KernelIdeal.Flash

end
-- ==== Proof.KI.PayM00.lean ====
/- What each stored value is at one element, over the extended reals: scores, running maximum, rescaling factor,
   weight, accumulator and output. -/
module

public import proofs.«01_k».proof.Proof.KI.Pay

@[expose] public section

set_option maxRecDepth 16384

noncomputable section

namespace Cert.KernelIdeal.Flash

open Idealize.ShloMosaic Cert.KernelIdeal.Gen

theorem at_m00 (b : BitVec 1) (s : Vec Ideal S1x1x256x2048 .f32) (m : Vec Ideal S1x1x256x1 .f32) (i : Fin 256) :
    k0_pay19 b s m (ix4 (0 : Fin 1) (0 : Fin 1) i (0 : Fin 1)) = (mx (m (ix4 (0 : Fin 1) (0 : Fin 1) i (0 : Fin 1))) (fun j => s (ix4 (0 : Fin 1) (0 : Fin 1) i j)) (cst b)) := by
  pointwise [k0_pay22, k0_pay21, k0_pay20, k0_pay19, k0_pay18, k0_pay17, k0_pay16, k0_pay15]
  simp only [negInf, masked, cst, mx, st]

theorem at_al00 (b : BitVec 1) (s : Vec Ideal S1x1x256x2048 .f32) (m : Vec Ideal S1x1x256x1 .f32) (i : Fin 256) :
    k0_pay20 b s m (ix4 (0 : Fin 1) (0 : Fin 1) i (0 : Fin 1)) = Ideal.exp2 ((m (ix4 (0 : Fin 1) (0 : Fin 1) i (0 : Fin 1))) - (mx (m (ix4 (0 : Fin 1) (0 : Fin 1) i (0 : Fin 1))) (fun j => s (ix4 (0 : Fin 1) (0 : Fin 1) i j)) (cst b))) := by
  pointwise [k0_pay22, k0_pay21, k0_pay20, k0_pay19, k0_pay18, k0_pay17, k0_pay16, k0_pay15]
  simp only [negInf, masked, cst, mx, st]
  try rfl

theorem at_p00 (b : BitVec 1) (s : Vec Ideal S1x1x256x2048 .f32) (m : Vec Ideal S1x1x256x1 .f32) (i : Fin 256) (j : Fin 2048) :
    k0_pay22 (k0_pay21 b s m) (ix4 (0 : Fin 1) (0 : Fin 1) i j) = Ideal.exp2 (s (ix4 (0 : Fin 1) (0 : Fin 1) i j) - ((mx (m (ix4 (0 : Fin 1) (0 : Fin 1) i (0 : Fin 1))) (fun j => s (ix4 (0 : Fin 1) (0 : Fin 1) i j)) (cst b)) - (cst b))) := by
  pointwise [k0_pay22, k0_pay21, k0_pay20, k0_pay19, k0_pay18, k0_pay17, k0_pay16, k0_pay15]
  simp only [negInf, masked, cst, mx, st]
  try rfl

end Cert.KernelIdeal.Flash

end
-- ==== Proof.KI.PayM01.lean ====
/- What each stored value is at one element, over the extended reals: scores, running maximum, rescaling factor,
   weight, accumulator and output. -/
module

public import proofs.«01_k».proof.Proof.KI.Pay

@[expose] public section

set_option maxRecDepth 16384

noncomputable section

namespace Cert.KernelIdeal.Flash

open Idealize.ShloMosaic Cert.KernelIdeal.Gen

theorem at_m01 (c : FVec Ideal S256x1 .f32) (s : Vec Ideal S1x1x256x2048 .f32) (m : Vec Ideal S1x1x256x1 .f32) (i : Fin 256) :
    k0_pay26 c s m (ix4 (0 : Fin 1) (0 : Fin 1) i (0 : Fin 1)) = (mx (m (ix4 (0 : Fin 1) (0 : Fin 1) i (0 : Fin 1))) (fun j => s (ix4 (0 : Fin 1) (0 : Fin 1) i j)) (c (ix2 i (0 : Fin 1)))) := by
  pointwise [k0_pay28, k0_pay27, k0_pay26, k0_pay25, k0_pay24, k0_pay23]
  simp only [negInf, masked, cst, mx, st]

theorem at_al01 (c : FVec Ideal S256x1 .f32) (s : Vec Ideal S1x1x256x2048 .f32) (m : Vec Ideal S1x1x256x1 .f32) (i : Fin 256) :
    k0_pay27 c s m (ix4 (0 : Fin 1) (0 : Fin 1) i (0 : Fin 1)) = Ideal.exp2 ((m (ix4 (0 : Fin 1) (0 : Fin 1) i (0 : Fin 1))) - (mx (m (ix4 (0 : Fin 1) (0 : Fin 1) i (0 : Fin 1))) (fun j => s (ix4 (0 : Fin 1) (0 : Fin 1) i j)) (c (ix2 i (0 : Fin 1))))) := by
  pointwise [k0_pay28, k0_pay27, k0_pay26, k0_pay25, k0_pay24, k0_pay23]
  simp only [negInf, masked, cst, mx, st]
  try rfl

theorem at_p01 (c : FVec Ideal S256x1 .f32) (s : Vec Ideal S1x1x256x2048 .f32) (m : Vec Ideal S1x1x256x1 .f32) (i : Fin 256) (j : Fin 2048) :
    k0_pay28 c s m (ix4 (0 : Fin 1) (0 : Fin 1) i j) = Ideal.exp2 (s (ix4 (0 : Fin 1) (0 : Fin 1) i j) - ((mx (m (ix4 (0 : Fin 1) (0 : Fin 1) i (0 : Fin 1))) (fun j => s (ix4 (0 : Fin 1) (0 : Fin 1) i j)) (c (ix2 i (0 : Fin 1)))) - (c (ix2 i (0 : Fin 1))))) := by
  pointwise [k0_pay28, k0_pay27, k0_pay26, k0_pay25, k0_pay24, k0_pay23]
  simp only [negInf, masked, cst, mx, st]
  try rfl

end Cert.KernelIdeal.Flash

end
-- ==== Proof.KI.PayM02.lean ====
/- What each stored value is at one element, over the extended reals: scores, running maximum, rescaling factor,
   weight, accumulator and output. -/
module

public import proofs.«01_k».proof.Proof.KI.Pay

@[expose] public section

set_option maxRecDepth 16384

noncomputable section

namespace Cert.KernelIdeal.Flash

open Idealize.ShloMosaic Cert.KernelIdeal.Gen

theorem at_m02 (c : FVec Ideal S256x1 .f32) (s : Vec Ideal S1x1x256x2048 .f32) (m : Vec Ideal S1x1x256x1 .f32) (i : Fin 256) :
    k0_pay32 c (k0_pay29 s) m (ix4 (0 : Fin 1) (0 : Fin 1) i (0 : Fin 1)) = (mx (m (ix4 (0 : Fin 1) (0 : Fin 1) i (0 : Fin 1))) (fun j => s (ix4 (0 : Fin 1) (0 : Fin 1) i j)) (c (ix2 i (0 : Fin 1)))) := by
  pointwise [k0_pay34, k0_pay33, k0_pay32, k0_pay31, k0_pay30, k0_pay29]
  simp only [negInf, masked, cst, mx, st]

theorem at_al02 (c : FVec Ideal S256x1 .f32) (s : Vec Ideal S1x1x256x2048 .f32) (m : Vec Ideal S1x1x256x1 .f32) (i : Fin 256) :
    k0_pay33 c (k0_pay29 s) m (ix4 (0 : Fin 1) (0 : Fin 1) i (0 : Fin 1)) = Ideal.exp2 ((m (ix4 (0 : Fin 1) (0 : Fin 1) i (0 : Fin 1))) - (mx (m (ix4 (0 : Fin 1) (0 : Fin 1) i (0 : Fin 1))) (fun j => s (ix4 (0 : Fin 1) (0 : Fin 1) i j)) (c (ix2 i (0 : Fin 1))))) := by
  pointwise [k0_pay34, k0_pay33, k0_pay32, k0_pay31, k0_pay30, k0_pay29]
  simp only [negInf, masked, cst, mx, st]
  try rfl

theorem at_p02 (c : FVec Ideal S256x1 .f32) (s : Vec Ideal S1x1x256x2048 .f32) (m : Vec Ideal S1x1x256x1 .f32) (i : Fin 256) (j : Fin 2048) :
    k0_pay34 c (k0_pay29 s) m (ix4 (0 : Fin 1) (0 : Fin 1) i j) = Ideal.exp2 (s (ix4 (0 : Fin 1) (0 : Fin 1) i j) - ((mx (m (ix4 (0 : Fin 1) (0 : Fin 1) i (0 : Fin 1))) (fun j => s (ix4 (0 : Fin 1) (0 : Fin 1) i j)) (c (ix2 i (0 : Fin 1)))) - (c (ix2 i (0 : Fin 1))))) := by
  pointwise [k0_pay34, k0_pay33, k0_pay32, k0_pay31, k0_pay30, k0_pay29]
  simp only [negInf, masked, cst, mx, st]
  try rfl

end Cert.KernelIdeal.Flash

end
-- ==== Proof.KI.PayM03.lean ====
/- What each stored value is at one element, over the extended reals: scores, running maximum, rescaling factor,
   weight, accumulator and output. -/
module

public import proofs.«01_k».proof.Proof.KI.Pay

@[expose] public section

set_option maxRecDepth 16384

noncomputable section

namespace Cert.KernelIdeal.Flash

open Idealize.ShloMosaic Cert.KernelIdeal.Gen

theorem at_m03 (c : FVec Ideal S256x1 .f32) (s : Vec Ideal S1x1x256x2048 .f32) (m : Vec Ideal S1x1x256x1 .f32) (i : Fin 256) :
    k0_pay39 (k0_pay37 c s m) (ix4 (0 : Fin 1) (0 : Fin 1) i (0 : Fin 1)) = (mx (m (ix4 (0 : Fin 1) (0 : Fin 1) i (0 : Fin 1))) (fun j => s (ix4 (0 : Fin 1) (0 : Fin 1) i j)) (c (ix2 i (0 : Fin 1)))) := by
  pointwise [k0_pay41, k0_pay40, k0_pay39, k0_pay38, k0_pay37, k0_pay36, k0_pay35]
  simp only [negInf, masked, cst, mx, st]

theorem at_al03 (c : FVec Ideal S256x1 .f32) (s : Vec Ideal S1x1x256x2048 .f32) (m : Vec Ideal S1x1x256x1 .f32) (i : Fin 256) :
    k0_pay40 (k0_pay38 c s m) (ix4 (0 : Fin 1) (0 : Fin 1) i (0 : Fin 1)) = Ideal.exp2 ((m (ix4 (0 : Fin 1) (0 : Fin 1) i (0 : Fin 1))) - (mx (m (ix4 (0 : Fin 1) (0 : Fin 1) i (0 : Fin 1))) (fun j => s (ix4 (0 : Fin 1) (0 : Fin 1) i j)) (c (ix2 i (0 : Fin 1))))) := by
  pointwise [k0_pay41, k0_pay40, k0_pay39, k0_pay38, k0_pay37, k0_pay36, k0_pay35]
  simp only [negInf, masked, cst, mx, st]
  try rfl

theorem at_p03 (c : FVec Ideal S256x1 .f32) (s : Vec Ideal S1x1x256x2048 .f32) (m : Vec Ideal S1x1x256x1 .f32) (i : Fin 256) (j : Fin 2048) :
    k0_pay41 c (k0_pay35 s) (k0_pay37 c s m) (ix4 (0 : Fin 1) (0 : Fin 1) i j) = Ideal.exp2 (s (ix4 (0 : Fin 1) (0 : Fin 1) i j) - ((mx (m (ix4 (0 : Fin 1) (0 : Fin 1) i (0 : Fin 1))) (fun j => s (ix4 (0 : Fin 1) (0 : Fin 1) i j)) (c (ix2 i (0 : Fin 1)))) - (c (ix2 i (0 : Fin 1))))) := by
  pointwise [k0_pay41, k0_pay40, k0_pay39, k0_pay38, k0_pay37, k0_pay36, k0_pay35]
  simp only [negInf, masked, cst, mx, st]
  try rfl

end Cert.KernelIdeal.Flash

end
-- ==== Proof.KI.PayM10.lean ====
/- What each stored value is at one element, over the extended reals: scores, running maximum, rescaling factor,
   weight, accumulator and output. -/
module

public import proofs.«01_k».proof.Proof.KI.Pay

@[expose] public section

set_option maxRecDepth 16384

noncomputable section

namespace Cert.KernelIdeal.Flash

open Idealize.ShloMosaic Cert.KernelIdeal.Gen

theorem at_m10 (b : BitVec 1) (c : FVec Ideal S256x1 .f32) (s : Vec Ideal S1x1x256x2048 .f32) (m : Vec Ideal S1x1x256x1 .f32) (i : Fin 256) :
    k0_pay57 b c s m (ix4 (0 : Fin 1) (0 : Fin 1) i (0 : Fin 1)) = (mx (st b (m (ix4 (0 : Fin 1) (0 : Fin 1) i (0 : Fin 1)))) (fun j => s (ix4 (0 : Fin 1) (0 : Fin 1) i j)) (c (ix2 i (0 : Fin 1)))) := by
  pointwise [k0_pay59, k0_pay58, k0_pay57, k0_pay56, k0_pay55, k0_pay54]
  simp only [negInf, masked, cst, mx, st]

theorem at_al10 (b : BitVec 1) (c : FVec Ideal S256x1 .f32) (s : Vec Ideal S1x1x256x2048 .f32) (m : Vec Ideal S1x1x256x1 .f32) (i : Fin 256) :
    k0_pay58 b c s m (ix4 (0 : Fin 1) (0 : Fin 1) i (0 : Fin 1)) = Ideal.exp2 ((st b (m (ix4 (0 : Fin 1) (0 : Fin 1) i (0 : Fin 1)))) - (mx (st b (m (ix4 (0 : Fin 1) (0 : Fin 1) i (0 : Fin 1)))) (fun j => s (ix4 (0 : Fin 1) (0 : Fin 1) i j)) (c (ix2 i (0 : Fin 1))))) := by
  pointwise [k0_pay59, k0_pay58, k0_pay57, k0_pay56, k0_pay55, k0_pay54]
  simp only [negInf, masked, cst, mx, st]
  try rfl

theorem at_p10 (b : BitVec 1) (c : FVec Ideal S256x1 .f32) (s : Vec Ideal S1x1x256x2048 .f32) (m : Vec Ideal S1x1x256x1 .f32) (i : Fin 256) (j : Fin 2048) :
    k0_pay59 b c s m (ix4 (0 : Fin 1) (0 : Fin 1) i j) = Ideal.exp2 (s (ix4 (0 : Fin 1) (0 : Fin 1) i j) - ((mx (st b (m (ix4 (0 : Fin 1) (0 : Fin 1) i (0 : Fin 1)))) (fun j => s (ix4 (0 : Fin 1) (0 : Fin 1) i j)) (c (ix2 i (0 : Fin 1)))) - (c (ix2 i (0 : Fin 1))))) := by
  pointwise [k0_pay59, k0_pay58, k0_pay57, k0_pay56, k0_pay55, k0_pay54]
  simp only [negInf, masked, cst, mx, st]
  try rfl

end Cert.KernelIdeal.Flash

end
-- ==== Proof.KI.PayM11.lean ====
/- What each stored value is at one element, over the extended reals: scores, running maximum, rescaling factor,
   weight, accumulator and output. -/
module

public import proofs.«01_k».proof.Proof.KI.Pay

@[expose] public section

set_option maxRecDepth 16384

noncomputable section

namespace Cert.KernelIdeal.Flash

open Idealize.ShloMosaic Cert.KernelIdeal.Gen

theorem at_m11 (b : BitVec 1) (c : FVec Ideal S256x1 .f32) (s : Vec Ideal S1x1x256x2048 .f32) (m : Vec Ideal S1x1x256x1 .f32) (i : Fin 256) :
    k0_pay63 b c (k0_pay60 s) m (ix4 (0 : Fin 1) (0 : Fin 1) i (0 : Fin 1)) = (mx (st b (m (ix4 (0 : Fin 1) (0 : Fin 1) i (0 : Fin 1)))) (fun j => s (ix4 (0 : Fin 1) (0 : Fin 1) i j)) (c (ix2 i (0 : Fin 1)))) := by
  pointwise [k0_pay65, k0_pay64, k0_pay63, k0_pay62, k0_pay61, k0_pay60]
  simp only [negInf, masked, cst, mx, st]

theorem at_al11 (b : BitVec 1) (c : FVec Ideal S256x1 .f32) (s : Vec Ideal S1x1x256x2048 .f32) (m : Vec Ideal S1x1x256x1 .f32) (i : Fin 256) :
    k0_pay64 b c (k0_pay60 s) m (ix4 (0 : Fin 1) (0 : Fin 1) i (0 : Fin 1)) = Ideal.exp2 ((st b (m (ix4 (0 : Fin 1) (0 : Fin 1) i (0 : Fin 1)))) - (mx (st b (m (ix4 (0 : Fin 1) (0 : Fin 1) i (0 : Fin 1)))) (fun j => s (ix4 (0 : Fin 1) (0 : Fin 1) i j)) (c (ix2 i (0 : Fin 1))))) := by
  pointwise [k0_pay65, k0_pay64, k0_pay63, k0_pay62, k0_pay61, k0_pay60]
  simp only [negInf, masked, cst, mx, st]
  try rfl

theorem at_p11 (b : BitVec 1) (c : FVec Ideal S256x1 .f32) (s : Vec Ideal S1x1x256x2048 .f32) (m : Vec Ideal S1x1x256x1 .f32) (i : Fin 256) (j : Fin 2048) :
    k0_pay65 b c (k0_pay60 s) m (ix4 (0 : Fin 1) (0 : Fin 1) i j) = Ideal.exp2 (s (ix4 (0 : Fin 1) (0 : Fin 1) i j) - ((mx (st b (m (ix4 (0 : Fin 1) (0 : Fin 1) i (0 : Fin 1)))) (fun j => s (ix4 (0 : Fin 1) (0 : Fin 1) i j)) (c (ix2 i (0 : Fin 1)))) - (c (ix2 i (0 : Fin 1))))) := by
  pointwise [k0_pay65, k0_pay64, k0_pay63, k0_pay62, k0_pay61, k0_pay60]
  simp only [negInf, masked, cst, mx, st]
  try rfl

end Cert.KernelIdeal.Flash

end
-- ==== Proof.KI.PayM12.lean ====
/- What each stored value is at one element, over the extended reals: scores, running maximum, rescaling factor,
   weight, accumulator and output. -/
module

public import proofs.«01_k».proof.Proof.KI.Pay

@[expose] public section

set_option maxRecDepth 16384

noncomputable section

namespace Cert.KernelIdeal.Flash

open Idealize.ShloMosaic Cert.KernelIdeal.Gen

theorem at_m12 (b : BitVec 1) (c : FVec Ideal S256x1 .f32) (s : Vec Ideal S1x1x256x2048 .f32) (m : Vec Ideal S1x1x256x1 .f32) (i : Fin 256) :
    k0_pay69 (k0_pay68 b c s m) (ix4 (0 : Fin 1) (0 : Fin 1) i (0 : Fin 1)) = (mx (st b (m (ix4 (0 : Fin 1) (0 : Fin 1) i (0 : Fin 1)))) (fun j => s (ix4 (0 : Fin 1) (0 : Fin 1) i j)) (c (ix2 i (0 : Fin 1)))) := by
  pointwise [k0_pay71, k0_pay70, k0_pay69, k0_pay68, k0_pay67, k0_pay66]
  simp only [negInf, masked, cst, mx, st]

theorem at_al12 (b : BitVec 1) (c : FVec Ideal S256x1 .f32) (s : Vec Ideal S1x1x256x2048 .f32) (m : Vec Ideal S1x1x256x1 .f32) (i : Fin 256) :
    k0_pay70 (k0_pay67 b m) (k0_pay68 b c s m) (ix4 (0 : Fin 1) (0 : Fin 1) i (0 : Fin 1)) = Ideal.exp2 ((st b (m (ix4 (0 : Fin 1) (0 : Fin 1) i (0 : Fin 1)))) - (mx (st b (m (ix4 (0 : Fin 1) (0 : Fin 1) i (0 : Fin 1)))) (fun j => s (ix4 (0 : Fin 1) (0 : Fin 1) i j)) (c (ix2 i (0 : Fin 1))))) := by
  pointwise [k0_pay71, k0_pay70, k0_pay69, k0_pay68, k0_pay67, k0_pay66]
  simp only [negInf, masked, cst, mx, st]
  try rfl

theorem at_p12 (b : BitVec 1) (c : FVec Ideal S256x1 .f32) (s : Vec Ideal S1x1x256x2048 .f32) (m : Vec Ideal S1x1x256x1 .f32) (i : Fin 256) (j : Fin 2048) :
    k0_pay71 c (k0_pay66 s) (k0_pay68 b c s m) (ix4 (0 : Fin 1) (0 : Fin 1) i j) = Ideal.exp2 (s (ix4 (0 : Fin 1) (0 : Fin 1) i j) - ((mx (st b (m (ix4 (0 : Fin 1) (0 : Fin 1) i (0 : Fin 1)))) (fun j => s (ix4 (0 : Fin 1) (0 : Fin 1) i j)) (c (ix2 i (0 : Fin 1)))) - (c (ix2 i (0 : Fin 1))))) := by
  pointwise [k0_pay71, k0_pay70, k0_pay69, k0_pay68, k0_pay67, k0_pay66]
  simp only [negInf, masked, cst, mx, st]
  try rfl

end Cert.KernelIdeal.Flash

end
-- ==== Proof.KI.PayM13.lean ====
/- What each stored value is at one element, over the extended reals: scores, running maximum, rescaling factor,
   weight, accumulator and output. -/
module

public import proofs.«01_k».proof.Proof.KI.Pay

@[expose] public section

set_option maxRecDepth 16384

noncomputable section

namespace Cert.KernelIdeal.Flash

open Idealize.ShloMosaic Cert.KernelIdeal.Gen

theorem at_m13 (b : BitVec 1) (c : FVec Ideal S256x1 .f32) (s : Vec Ideal S1x1x256x2048 .f32) (m : Vec Ideal S1x1x256x1 .f32) (i : Fin 256) :
    k0_pay77 (k0_pay74 b c s m) (ix4 (0 : Fin 1) (0 : Fin 1) i (0 : Fin 1)) = (mx (st b (m (ix4 (0 : Fin 1) (0 : Fin 1) i (0 : Fin 1)))) (fun j => s (ix4 (0 : Fin 1) (0 : Fin 1) i j)) (c (ix2 i (0 : Fin 1)))) := by
  pointwise [k0_pay79, k0_pay78, k0_pay77, k0_pay76, k0_pay75, k0_pay74, k0_pay73, k0_pay72]
  simp only [negInf, masked, cst, mx, st]

theorem at_al13 (b : BitVec 1) (c : FVec Ideal S256x1 .f32) (s : Vec Ideal S1x1x256x2048 .f32) (m : Vec Ideal S1x1x256x1 .f32) (i : Fin 256) :
    k0_pay78 (k0_pay75 b c s m) (ix4 (0 : Fin 1) (0 : Fin 1) i (0 : Fin 1)) = Ideal.exp2 ((st b (m (ix4 (0 : Fin 1) (0 : Fin 1) i (0 : Fin 1)))) - (mx (st b (m (ix4 (0 : Fin 1) (0 : Fin 1) i (0 : Fin 1)))) (fun j => s (ix4 (0 : Fin 1) (0 : Fin 1) i j)) (c (ix2 i (0 : Fin 1))))) := by
  pointwise [k0_pay79, k0_pay78, k0_pay77, k0_pay76, k0_pay75, k0_pay74, k0_pay73, k0_pay72]
  simp only [negInf, masked, cst, mx, st]
  try rfl

theorem at_p13 (b : BitVec 1) (c : FVec Ideal S256x1 .f32) (s : Vec Ideal S1x1x256x2048 .f32) (m : Vec Ideal S1x1x256x1 .f32) (i : Fin 256) (j : Fin 2048) :
    k0_pay79 (k0_pay76 b c s m) (ix4 (0 : Fin 1) (0 : Fin 1) i j) = Ideal.exp2 (s (ix4 (0 : Fin 1) (0 : Fin 1) i j) - ((mx (st b (m (ix4 (0 : Fin 1) (0 : Fin 1) i (0 : Fin 1)))) (fun j => s (ix4 (0 : Fin 1) (0 : Fin 1) i j)) (c (ix2 i (0 : Fin 1)))) - (c (ix2 i (0 : Fin 1))))) := by
  pointwise [k0_pay79, k0_pay78, k0_pay77, k0_pay76, k0_pay75, k0_pay74, k0_pay73, k0_pay72]
  simp only [negInf, masked, cst, mx, st]
  try rfl

end Cert.KernelIdeal.Flash

end
-- ==== Proof.KI.Fact0.lean ====
/- The parts of one step of the attention kernel at one element: the switches, the loads, the scores and the first half of the running maximum. -/
module

public import proofs.«01_k».proof.Proof.KI.RunB
public import proofs.«01_k».proof.Proof.KI.RunC
public import proofs.«01_k».proof.Proof.KI.Read2
public import proofs.«01_k».proof.Proof.KI.PayS
public import proofs.«01_k».proof.Proof.KI.PayM00
public import proofs.«01_k».proof.Proof.KI.PayM01
public import proofs.«01_k».proof.Proof.KI.PayM02
public import proofs.«01_k».proof.Proof.KI.PayM03
public import proofs.«01_k».proof.Proof.KI.PayM10
public import proofs.«01_k».proof.Proof.KI.PayM11
public import proofs.«01_k».proof.Proof.KI.PayM12
public import proofs.«01_k».proof.Proof.KI.PayM13

@[expose] public section

set_option maxRecDepth 16384

noncomputable section

namespace Cert.KernelIdeal.Flash

open Idealize.ShloMosaic Cert.KernelIdeal.Gen

/-- The scores: query row `i` of map `r` against key `j` of half `a`. -/
def Sc (x0 : Vec Ideal S256x512 .bf16) (x1 : Vec Ideal S4096x128 .bf16) (a r : ℕ) (ha : a < 2) (hr : r < 4) (i : Fin 256) (j : Fin 2048) : EReal :=
  ∑ d : Fin 128, x0 (ix2 i (⟨128 * r + d.val, by have := d.isLt; omega⟩ : Fin 512)) * x1 (ix2 (⟨2048 * a + j.val, by have := j.isLt; omega⟩ : Fin 4096) d)
/-- What the first half adds to its scores. -/
def c0 (n : ℕ) : EReal := if n = 0 then ⊥ else 0
/-- What the second half adds to its scores. -/
def c1 (n : ℕ) : EReal := if n = 256 then ⊥ else 0
/-- The running maximum the second half starts from. -/
def st1 (n : ℕ) (m : EReal) : EReal := if min 255 n % 4 = 0 then ⊥ else m
/-- The running maximum of map `r`, row `q`, after the first half. -/
def M0 (n : ℕ) (s0 : Vec Ideal S2x4x256x2048 .f32) (s3 : Vec Ideal S2x4x256x1 .f32) (r : ℕ) (hr : r < 4) (q : Fin 256) : EReal :=
  mx (s3 (ix4 (⟨par n 0, par_lt _ _⟩ : Fin 2) (⟨r, hr⟩ : Fin 4) q (0 : Fin 1))) (fun j => s0 (ix4 (1 : Fin 2) (⟨r, hr⟩ : Fin 4) q j)) (c0 n)
/-- The running maximum of map `r`, row `q`, after the second half. -/
def M1 (n : ℕ) (x0 : Vec Ideal S256x512 .bf16) (x1 : Vec Ideal S4096x128 .bf16) (s0 : Vec Ideal S2x4x256x2048 .f32) (s3 : Vec Ideal S2x4x256x1 .f32) (r : ℕ) (hr : r < 4) (q : Fin 256) : EReal :=
  mx (st1 n (if par n 1 = par n 0 then M0 n s0 s3 r hr q else s3 (ix4 (⟨par n 1, par_lt _ _⟩ : Fin 2) (⟨r, hr⟩ : Fin 4) q (0 : Fin 1)))) (fun j => Sc x0 x1 0 r (by decide) hr q j) (c1 n)

/-- The second half's switch on the grid. -/
theorem bit1 : ∀ n : Fin 257, Scalar.select (Scalar.andi (Scalar.cmpi .sge (Scalar.addi (Scalar.subi (BitVec.ofNat 32 n.val) 1#32) 1#32) 0#32) (Scalar.cmpi .slt (Scalar.addi (Scalar.subi (BitVec.ofNat 32 n.val) 1#32) 1#32) 256#32)) true false = decide (n.val ≠ 256) := by decide +kernel
theorem bit0 : ∀ n : Fin 257, Scalar.select (Scalar.andi (Scalar.cmpi .sge (Scalar.addi (Scalar.subi (BitVec.ofNat 32 n.val) 1#32) 0#32) 0#32) (Scalar.cmpi .slt (Scalar.addi (Scalar.subi (BitVec.ofNat 32 n.val) 1#32) 0#32) 256#32)) true false = decide (n.val ≠ 0) := by decide +kernel
theorem sel_of {α : Type} (b : BitVec 1) (p : Prop) [Decidable p] (h : Scalar.select b true false = decide p) (x y : α) : Scalar.select b x y = if p then x else y := by
  rcases (by decide : ∀ b : BitVec 1, b = 0#1 ∨ b = 1#1) b with rfl | rfl
  · have : ¬p := by simpa [Scalar.select] using h
    simp [Scalar.select, this]
  · have : p := by simpa [Scalar.select] using h
    simp [Scalar.select, this]

variable (c : Dev nD) (i : grid0.Coords) (arg2 : Memref sig .tc .vmem S256x512 .bf16) (harg2 : arg2.IsWhole) (arg3 : Memref sig .tc .vmem S4096x128 .bf16) (harg3 : arg3.IsWhole) (arg4 : Memref sig .tc .vmem S4096x256 .bf16) (harg4 : arg4.IsWhole) (arg5 : Memref sig .tc .vmem S256x512 .bf16) (harg5 : arg5.IsWhole) (arg6 : Memref sig .tc .vmem S2x4x256x2048 .f32) (harg6 : arg6.IsWhole) (arg7 : Memref sig .tc .vmem S2x4x256x2048 .bf16) (harg7 : arg7.IsWhole) (arg8 : Memref sig .tc .vmem S2x4x256x1 .f32) (harg8 : arg8.IsWhole) (arg9 : Memref sig .tc .vmem S2x4x256x1 .f32) (harg9 : arg9.IsWhole) (arg10 : Memref sig .tc .vmem S4x256x256 .f32) (harg10 : arg10.IsWhole) (x0 : Vec Ideal S256x512 .bf16) (x1 : Vec Ideal S4096x128 .bf16) (x2 : Vec Ideal S4096x256 .bf16) (xo : Vec Ideal S256x512 .bf16) (s0 : Vec Ideal S2x4x256x2048 .f32) (s1 : Vec Ideal S2x4x256x2048 .bf16) (s2 : Vec Ideal S2x4x256x1 .f32) (s3 : Vec Ideal S2x4x256x1 .f32) (s4 : Vec Ideal S4x256x256 .f32)

theorem cst0 : cst (runC.sl.v39 (F := Ideal) c i arg2 harg2 arg3 harg3 x0 x1) = c0 (i 1).val := by
  have := sel_of _ _ (bit0 (i 1)) (0 : EReal) ⊥
  refine Eq.trans this ?_
  unfold c0; by_cases h : (i 1).val = 0 <;> simp [h]
theorem cst1 : cst (runC.sl.v266 i) = c1 (i 1).val := by
  have := sel_of _ _ (bit1 (i 1)) (0 : EReal) ⊥
  refine Eq.trans this ?_
  unfold c1; by_cases h : (i 1).val = 256 <;> simp [h]
/-- The switch of a block's first pair, on the step number. -/
def fstBit (x : BitVec 32) : BitVec 1 := Scalar.cmpi CmpIPredicate.eq (Scalar.select (Scalar.andi (Scalar.xori (Scalar.cmpi CmpIPredicate.slt (Scalar.remsi (Scalar.minsi (255#32) (Scalar.maxsi (0#32) (Scalar.addi (Scalar.subi (x) 1#32) 1#32))) 4#32) 0#32) 0#1) (Scalar.cmpi CmpIPredicate.ne (Scalar.remsi (Scalar.minsi (255#32) (Scalar.maxsi (0#32) (Scalar.addi (Scalar.subi (x) 1#32) 1#32))) 4#32) 0#32)) (Scalar.addi (Scalar.remsi (Scalar.minsi (255#32) (Scalar.maxsi (0#32) (Scalar.addi (Scalar.subi (x) 1#32) 1#32))) 4#32) 4#32) (Scalar.remsi (Scalar.minsi (255#32) (Scalar.maxsi (0#32) (Scalar.addi (Scalar.subi (x) 1#32) 1#32))) 4#32)) 0#32
theorem bitf : ∀ n : Fin 257, Scalar.select (fstBit (BitVec.ofNat 32 n.val)) true false = decide (min 255 n.val % 4 = 0) := by decide +kernel
theorem stf (m : EReal) : st (runC.sl.v296 i) m = st1 (i 1).val m := by
  have := sel_of _ _ (bitf (i 1)) (⊥ : EReal) m
  exact this
theorem at_r (q : Fin 256) : (runC.sl.r (F := Ideal) c i arg2 harg2 arg3 harg3 x0 x1) (ix2 q (0 : Fin 1)) = c0 (i 1).val := by
  unfold runC.sl.r; rw [at_pay15, cst0]
theorem at_r11 (q : Fin 256) : (runC.sl.r_11 (F := Ideal) i) (ix2 q (0 : Fin 1)) = c1 (i 1).val := by
  unfold runC.sl.r_11; rw [at_pay53, cst1]
theorem at_v72 (q : Fin 256) (j : Fin 2048) : (runC.sl.v72 (F := Ideal) c arg6 harg6 s0) (ix4 (0 : Fin 1) (0 : Fin 1) q j) = s0 (ix4 (1 : Fin 2) (⟨0, by decide⟩ : Fin 4) q j) := by
  unfold runC.sl.v72
  simp only [↓rd4k, ↓rd4u, ↓rd3k, ↓at4k, ↓at4u, ↓at3k, ↓at2q, ↓at2k, ↓at2v, ↓cov4, ↓rdm10, ↓atm10, ↓rdm11, ↓atm11, ↓rdm20, ↓atm20, ↓rdm21, ↓atm21, ↓rdm30, ↓atm30, ↓rdm31, ↓atm31, ↓rdm40, ↓atm40, ↓rdm41, ↓atm41, ↓reduceIte, Fin.coe_ofNat_eq_mod, Nat.reduceMod, Nat.reduceEqDiff, reduceCtorEq, and_true, true_and, and_false, false_and, and_self, Memref.IsWhole.read_unread]
  try rfl

theorem at_v98 (q : Fin 256) (j : Fin 2048) : (runC.sl.v98 (F := Ideal) c arg6 harg6 s0) (ix4 (0 : Fin 1) (0 : Fin 1) q j) = s0 (ix4 (1 : Fin 2) (⟨1, by decide⟩ : Fin 4) q j) := by
  unfold runC.sl.v98
  simp only [↓rd4k, ↓rd4u, ↓rd3k, ↓at4k, ↓at4u, ↓at3k, ↓at2q, ↓at2k, ↓at2v, ↓cov4, ↓rdm10, ↓atm10, ↓rdm11, ↓atm11, ↓rdm20, ↓atm20, ↓rdm21, ↓atm21, ↓rdm30, ↓atm30, ↓rdm31, ↓atm31, ↓rdm40, ↓atm40, ↓rdm41, ↓atm41, ↓reduceIte, Fin.coe_ofNat_eq_mod, Nat.reduceMod, Nat.reduceEqDiff, reduceCtorEq, and_true, true_and, and_false, false_and, and_self, Memref.IsWhole.read_unread]
  try rfl

theorem at_v124 (q : Fin 256) (j : Fin 2048) : (runC.sl.v124 (F := Ideal) c arg6 harg6 s0) (ix4 (0 : Fin 1) (0 : Fin 1) q j) = s0 (ix4 (1 : Fin 2) (⟨2, by decide⟩ : Fin 4) q j) := by
  unfold runC.sl.v124
  simp only [↓rd4k, ↓rd4u, ↓rd3k, ↓at4k, ↓at4u, ↓at3k, ↓at2q, ↓at2k, ↓at2v, ↓cov4, ↓rdm10, ↓atm10, ↓rdm11, ↓atm11, ↓rdm20, ↓atm20, ↓rdm21, ↓atm21, ↓rdm30, ↓atm30, ↓rdm31, ↓atm31, ↓rdm40, ↓atm40, ↓rdm41, ↓atm41, ↓reduceIte, Fin.coe_ofNat_eq_mod, Nat.reduceMod, Nat.reduceEqDiff, reduceCtorEq, and_true, true_and, and_false, false_and, and_self, Memref.IsWhole.read_unread]
  try rfl

theorem at_v150 (q : Fin 256) (j : Fin 2048) : (runC.sl.v150 (F := Ideal) c arg6 harg6 s0) (ix4 (0 : Fin 1) (0 : Fin 1) q j) = s0 (ix4 (1 : Fin 2) (⟨3, by decide⟩ : Fin 4) q j) := by
  unfold runC.sl.v150
  simp only [↓rd4k, ↓rd4u, ↓rd3k, ↓at4k, ↓at4u, ↓at3k, ↓at2q, ↓at2k, ↓at2v, ↓cov4, ↓rdm10, ↓atm10, ↓rdm11, ↓atm11, ↓rdm20, ↓atm20, ↓rdm21, ↓atm21, ↓rdm30, ↓atm30, ↓rdm31, ↓atm31, ↓rdm40, ↓atm40, ↓rdm41, ↓atm41, ↓reduceIte, Fin.coe_ofNat_eq_mod, Nat.reduceMod, Nat.reduceEqDiff, reduceCtorEq, and_true, true_and, and_false, false_and, and_self, Memref.IsWhole.read_unread]
  try rfl

theorem at_v101 (q : Fin 256) : (runC.sl.v101 (F := Ideal) c i arg9 harg9 s3) (ix4 (0 : Fin 1) (0 : Fin 1) q (0 : Fin 1)) = s3 (ix4 (⟨par (i 1).val 0, par_lt _ _⟩ : Fin 2) (⟨1, by decide⟩ : Fin 4) q (0 : Fin 1)) := by
  unfold runC.sl.v101
  simp only [↓rd4k, ↓rd4u, ↓rd3k, ↓at4k, ↓at4u, ↓at3k, ↓at2q, ↓at2k, ↓at2v, ↓cov4, ↓rdm10, ↓atm10, ↓rdm11, ↓atm11, ↓rdm20, ↓atm20, ↓rdm21, ↓atm21, ↓rdm30, ↓atm30, ↓rdm31, ↓atm31, ↓rdm40, ↓atm40, ↓rdm41, ↓atm41, ↓reduceIte, Fin.coe_ofNat_eq_mod, Nat.reduceMod, Nat.reduceEqDiff, reduceCtorEq, and_true, true_and, and_false, false_and, and_self, Memref.IsWhole.read_unread]
  try rfl

theorem at_v127 (q : Fin 256) : (runC.sl.v127 (F := Ideal) c i arg9 harg9 s3) (ix4 (0 : Fin 1) (0 : Fin 1) q (0 : Fin 1)) = s3 (ix4 (⟨par (i 1).val 0, par_lt _ _⟩ : Fin 2) (⟨2, by decide⟩ : Fin 4) q (0 : Fin 1)) := by
  unfold runC.sl.v127
  simp only [↓rd4k, ↓rd4u, ↓rd3k, ↓at4k, ↓at4u, ↓at3k, ↓at2q, ↓at2k, ↓at2v, ↓cov4, ↓rdm10, ↓atm10, ↓rdm11, ↓atm11, ↓rdm20, ↓atm20, ↓rdm21, ↓atm21, ↓rdm30, ↓atm30, ↓rdm31, ↓atm31, ↓rdm40, ↓atm40, ↓rdm41, ↓atm41, ↓reduceIte, Fin.coe_ofNat_eq_mod, Nat.reduceMod, Nat.reduceEqDiff, reduceCtorEq, and_true, true_and, and_false, false_and, and_self, Memref.IsWhole.read_unread]
  try rfl

theorem at_v153 (q : Fin 256) : (runC.sl.v153 (F := Ideal) c i arg9 harg9 s3) (ix4 (0 : Fin 1) (0 : Fin 1) q (0 : Fin 1)) = s3 (ix4 (⟨par (i 1).val 0, par_lt _ _⟩ : Fin 2) (⟨3, by decide⟩ : Fin 4) q (0 : Fin 1)) := by
  unfold runC.sl.v153
  simp only [↓rd4k, ↓rd4u, ↓rd3k, ↓at4k, ↓at4u, ↓at3k, ↓at2q, ↓at2k, ↓at2v, ↓cov4, ↓rdm10, ↓atm10, ↓rdm11, ↓atm11, ↓rdm20, ↓atm20, ↓rdm21, ↓atm21, ↓rdm30, ↓atm30, ↓rdm31, ↓atm31, ↓rdm40, ↓atm40, ↓rdm41, ↓atm41, ↓reduceIte, Fin.coe_ofNat_eq_mod, Nat.reduceMod, Nat.reduceEqDiff, reduceCtorEq, and_true, true_and, and_false, false_and, and_self, Memref.IsWhole.read_unread]
  try rfl

theorem at_v178 (q : Fin 256) : (runC.sl.v178 (F := Ideal) c arg8 harg8 s2) (ix4 (0 : Fin 1) (0 : Fin 1) q (0 : Fin 1)) = s2 (ix4 (0 : Fin 2) (⟨0, by decide⟩ : Fin 4) q (0 : Fin 1)) := by
  unfold runC.sl.v178
  simp only [↓rd4k, ↓rd4u, ↓rd3k, ↓at4k, ↓at4u, ↓at3k, ↓at2q, ↓at2k, ↓at2v, ↓cov4, ↓rdm10, ↓atm10, ↓rdm11, ↓atm11, ↓rdm20, ↓atm20, ↓rdm21, ↓atm21, ↓rdm30, ↓atm30, ↓rdm31, ↓atm31, ↓rdm40, ↓atm40, ↓rdm41, ↓atm41, ↓reduceIte, Fin.coe_ofNat_eq_mod, Nat.reduceMod, Nat.reduceEqDiff, reduceCtorEq, and_true, true_and, and_false, false_and, and_self, Memref.IsWhole.read_unread]
  try rfl

theorem at_v191 (q : Fin 256) : (runC.sl.v191 (F := Ideal) c arg8 harg8 s2) (ix4 (0 : Fin 1) (0 : Fin 1) q (0 : Fin 1)) = s2 (ix4 (0 : Fin 2) (⟨1, by decide⟩ : Fin 4) q (0 : Fin 1)) := by
  unfold runC.sl.v191
  simp only [↓rd4k, ↓rd4u, ↓rd3k, ↓at4k, ↓at4u, ↓at3k, ↓at2q, ↓at2k, ↓at2v, ↓cov4, ↓rdm10, ↓atm10, ↓rdm11, ↓atm11, ↓rdm20, ↓atm20, ↓rdm21, ↓atm21, ↓rdm30, ↓atm30, ↓rdm31, ↓atm31, ↓rdm40, ↓atm40, ↓rdm41, ↓atm41, ↓reduceIte, Fin.coe_ofNat_eq_mod, Nat.reduceMod, Nat.reduceEqDiff, reduceCtorEq, and_true, true_and, and_false, false_and, and_self, Memref.IsWhole.read_unread]
  try rfl

theorem at_v204 (q : Fin 256) : (runC.sl.v204 (F := Ideal) c arg8 harg8 s2) (ix4 (0 : Fin 1) (0 : Fin 1) q (0 : Fin 1)) = s2 (ix4 (0 : Fin 2) (⟨2, by decide⟩ : Fin 4) q (0 : Fin 1)) := by
  unfold runC.sl.v204
  simp only [↓rd4k, ↓rd4u, ↓rd3k, ↓at4k, ↓at4u, ↓at3k, ↓at2q, ↓at2k, ↓at2v, ↓cov4, ↓rdm10, ↓atm10, ↓rdm11, ↓atm11, ↓rdm20, ↓atm20, ↓rdm21, ↓atm21, ↓rdm30, ↓atm30, ↓rdm31, ↓atm31, ↓rdm40, ↓atm40, ↓rdm41, ↓atm41, ↓reduceIte, Fin.coe_ofNat_eq_mod, Nat.reduceMod, Nat.reduceEqDiff, reduceCtorEq, and_true, true_and, and_false, false_and, and_self, Memref.IsWhole.read_unread]
  try rfl

theorem at_v217 (q : Fin 256) : (runC.sl.v217 (F := Ideal) c arg8 harg8 s2) (ix4 (0 : Fin 1) (0 : Fin 1) q (0 : Fin 1)) = s2 (ix4 (0 : Fin 2) (⟨3, by decide⟩ : Fin 4) q (0 : Fin 1)) := by
  unfold runC.sl.v217
  simp only [↓rd4k, ↓rd4u, ↓rd3k, ↓at4k, ↓at4u, ↓at3k, ↓at2q, ↓at2k, ↓at2v, ↓cov4, ↓rdm10, ↓atm10, ↓rdm11, ↓atm11, ↓rdm20, ↓atm20, ↓rdm21, ↓atm21, ↓rdm30, ↓atm30, ↓rdm31, ↓atm31, ↓rdm40, ↓atm40, ↓rdm41, ↓atm41, ↓reduceIte, Fin.coe_ofNat_eq_mod, Nat.reduceMod, Nat.reduceEqDiff, reduceCtorEq, and_true, true_and, and_false, false_and, and_self, Memref.IsWhole.read_unread]
  try rfl

theorem at_v184 (q : Fin 256) (j : Fin 2048) : (runC.sl.v184 (F := Ideal) c arg7 harg7 s1) (ix4 (0 : Fin 1) (0 : Fin 1) q j) = s1 (ix4 (0 : Fin 2) (⟨0, by decide⟩ : Fin 4) q j) := by
  unfold runC.sl.v184
  simp only [↓rd4k, ↓rd4u, ↓rd3k, ↓at4k, ↓at4u, ↓at3k, ↓at2q, ↓at2k, ↓at2v, ↓cov4, ↓rdm10, ↓atm10, ↓rdm11, ↓atm11, ↓rdm20, ↓atm20, ↓rdm21, ↓atm21, ↓rdm30, ↓atm30, ↓rdm31, ↓atm31, ↓rdm40, ↓atm40, ↓rdm41, ↓atm41, ↓reduceIte, Fin.coe_ofNat_eq_mod, Nat.reduceMod, Nat.reduceEqDiff, reduceCtorEq, and_true, true_and, and_false, false_and, and_self, Memref.IsWhole.read_unread]
  try rfl

theorem at_v197 (q : Fin 256) (j : Fin 2048) : (runC.sl.v197 (F := Ideal) c arg7 harg7 s1) (ix4 (0 : Fin 1) (0 : Fin 1) q j) = s1 (ix4 (0 : Fin 2) (⟨1, by decide⟩ : Fin 4) q j) := by
  unfold runC.sl.v197
  simp only [↓rd4k, ↓rd4u, ↓rd3k, ↓at4k, ↓at4u, ↓at3k, ↓at2q, ↓at2k, ↓at2v, ↓cov4, ↓rdm10, ↓atm10, ↓rdm11, ↓atm11, ↓rdm20, ↓atm20, ↓rdm21, ↓atm21, ↓rdm30, ↓atm30, ↓rdm31, ↓atm31, ↓rdm40, ↓atm40, ↓rdm41, ↓atm41, ↓reduceIte, Fin.coe_ofNat_eq_mod, Nat.reduceMod, Nat.reduceEqDiff, reduceCtorEq, and_true, true_and, and_false, false_and, and_self, Memref.IsWhole.read_unread]
  try rfl

theorem at_v210 (q : Fin 256) (j : Fin 2048) : (runC.sl.v210 (F := Ideal) c arg7 harg7 s1) (ix4 (0 : Fin 1) (0 : Fin 1) q j) = s1 (ix4 (0 : Fin 2) (⟨2, by decide⟩ : Fin 4) q j) := by
  unfold runC.sl.v210
  simp only [↓rd4k, ↓rd4u, ↓rd3k, ↓at4k, ↓at4u, ↓at3k, ↓at2q, ↓at2k, ↓at2v, ↓cov4, ↓rdm10, ↓atm10, ↓rdm11, ↓atm11, ↓rdm20, ↓atm20, ↓rdm21, ↓atm21, ↓rdm30, ↓atm30, ↓rdm31, ↓atm31, ↓rdm40, ↓atm40, ↓rdm41, ↓atm41, ↓reduceIte, Fin.coe_ofNat_eq_mod, Nat.reduceMod, Nat.reduceEqDiff, reduceCtorEq, and_true, true_and, and_false, false_and, and_self, Memref.IsWhole.read_unread]
  try rfl

theorem at_v223 (q : Fin 256) (j : Fin 2048) : (runC.sl.v223 (F := Ideal) c arg7 harg7 s1) (ix4 (0 : Fin 1) (0 : Fin 1) q j) = s1 (ix4 (0 : Fin 2) (⟨3, by decide⟩ : Fin 4) q j) := by
  unfold runC.sl.v223
  simp only [↓rd4k, ↓rd4u, ↓rd3k, ↓at4k, ↓at4u, ↓at3k, ↓at2q, ↓at2k, ↓at2v, ↓cov4, ↓rdm10, ↓atm10, ↓rdm11, ↓atm11, ↓rdm20, ↓atm20, ↓rdm21, ↓atm21, ↓rdm30, ↓atm30, ↓rdm31, ↓atm31, ↓rdm40, ↓atm40, ↓rdm41, ↓atm41, ↓reduceIte, Fin.coe_ofNat_eq_mod, Nat.reduceMod, Nat.reduceEqDiff, reduceCtorEq, and_true, true_and, and_false, false_and, and_self, Memref.IsWhole.read_unread]
  try rfl

theorem at_v193 (q : Fin 256) (j : Fin 256) : (runC.sl.v193 (F := Ideal) c arg10 harg10 s4) (ix3 (0 : Fin 1) q j) = s4 (ix3 (⟨1, by decide⟩ : Fin 4) q j) := by
  unfold runC.sl.v193
  simp only [↓rd4k, ↓rd4u, ↓rd3k, ↓at4k, ↓at4u, ↓at3k, ↓at2q, ↓at2k, ↓at2v, ↓cov4, ↓rdm10, ↓atm10, ↓rdm11, ↓atm11, ↓rdm20, ↓atm20, ↓rdm21, ↓atm21, ↓rdm30, ↓atm30, ↓rdm31, ↓atm31, ↓rdm40, ↓atm40, ↓rdm41, ↓atm41, ↓reduceIte, Fin.coe_ofNat_eq_mod, Nat.reduceMod, Nat.reduceEqDiff, reduceCtorEq, and_true, true_and, and_false, false_and, and_self, Memref.IsWhole.read_unread]
  try rfl

theorem at_v206 (q : Fin 256) (j : Fin 256) : (runC.sl.v206 (F := Ideal) c arg10 harg10 s4) (ix3 (0 : Fin 1) q j) = s4 (ix3 (⟨2, by decide⟩ : Fin 4) q j) := by
  unfold runC.sl.v206
  simp only [↓rd4k, ↓rd4u, ↓rd3k, ↓at4k, ↓at4u, ↓at3k, ↓at2q, ↓at2k, ↓at2v, ↓cov4, ↓rdm10, ↓atm10, ↓rdm11, ↓atm11, ↓rdm20, ↓atm20, ↓rdm21, ↓atm21, ↓rdm30, ↓atm30, ↓rdm31, ↓atm31, ↓rdm40, ↓atm40, ↓rdm41, ↓atm41, ↓reduceIte, Fin.coe_ofNat_eq_mod, Nat.reduceMod, Nat.reduceEqDiff, reduceCtorEq, and_true, true_and, and_false, false_and, and_self, Memref.IsWhole.read_unread]
  try rfl

theorem at_v219 (q : Fin 256) (j : Fin 256) : (runC.sl.v219 (F := Ideal) c arg10 harg10 s4) (ix3 (0 : Fin 1) q j) = s4 (ix3 (⟨3, by decide⟩ : Fin 4) q j) := by
  unfold runC.sl.v219
  simp only [↓rd4k, ↓rd4u, ↓rd3k, ↓at4k, ↓at4u, ↓at3k, ↓at2q, ↓at2k, ↓at2v, ↓cov4, ↓rdm10, ↓atm10, ↓rdm11, ↓atm11, ↓rdm20, ↓atm20, ↓rdm21, ↓atm21, ↓rdm30, ↓atm30, ↓rdm31, ↓atm31, ↓rdm40, ↓atm40, ↓rdm41, ↓atm41, ↓reduceIte, Fin.coe_ofNat_eq_mod, Nat.reduceMod, Nat.reduceEqDiff, reduceCtorEq, and_true, true_and, and_false, false_and, and_self, Memref.IsWhole.read_unread]
  try rfl

theorem ld_q (A R r : ℕ) (hA : A = 0) (hR : R = 128 * r) (hr : r < 4) (inb) (q : Fin 256) (d : Fin 128) :
    arg2.view.readAt (Elt Ideal) (Rect.unit (s := S256x512) ![A, R] S256x128.size inb).toLoadRect (harg2.unread x0) (ix2 q d)
      = x0 (ix2 q (⟨128 * r + d.val, by have := d.isLt; omega⟩ : Fin 512)) := by
  subst hA hR
  exact (at2q ..).trans ((congrFun (harg2.read_unread x0) _).trans (congrArg x0 (congrArg₂ ix2 (Fin.ext (Nat.zero_add _)) rfl)))
theorem ld_k (A R a : ℕ) (hA : A = 2048 * a) (hR : R = 0) (ha : a < 2) (inb) (j : Fin 2048) (d : Fin 128) :
    arg3.view.readAt (Elt Ideal) (Rect.unit (s := S4096x128) ![A, R] S2048x128.size inb).toLoadRect (harg3.unread x1) (ix2 j d)
      = x1 (ix2 (⟨2048 * a + j.val, by have := j.isLt; omega⟩ : Fin 4096) d) := by
  subst hA hR
  exact (at2k ..).trans ((congrFun (harg3.read_unread x1) _).trans (congrArg x1 (congrArg₂ ix2 rfl (Fin.ext (Nat.zero_add _)))))
theorem ld_v (A R a : ℕ) (hA : A = 2048 * a) (hR : R = 0) (ha : a < 2) (inb) (j : Fin 2048) (d : Fin 256) :
    arg4.view.readAt (Elt Ideal) (Rect.unit (s := S4096x256) ![A, R] S2048x256.size inb).toLoadRect (harg4.unread x2) (ix2 j d)
      = x2 (ix2 (⟨2048 * a + j.val, by have := j.isLt; omega⟩ : Fin 4096) d) := by
  subst hA hR
  exact (at2v ..).trans ((congrFun (harg4.read_unread x2) _).trans (congrArg x2 (congrArg₂ ix2 rfl (Fin.ext (Nat.zero_add _)))))
theorem sc00 (f) (q : Fin 256) (j : Fin 2048) : arg6.view.read (Elt Ideal) (arg6.view.writes (Elt Ideal) f (runC.sl.S0_8 (F := Ideal) c i arg2 harg2 arg3 harg3 x0 x1)) (ix4 (⟨0, by decide⟩ : Fin 2) (⟨0, by decide⟩ : Fin 4) q j) = Sc x0 x1 0 0 (by decide) (by decide) q j := by
  unfold runC.sl.S0_8
  refine (rd4k ..).trans ((if_neg (by decide)).trans ?_)
  refine (rd4k ..).trans ((if_neg (by decide)).trans ?_)
  refine (rd4k ..).trans ((if_neg (by decide)).trans ?_)
  refine (rd4k ..).trans ((if_neg (by decide)).trans ?_)
  refine (rd4k ..).trans ((if_neg (by decide)).trans ?_)
  refine (rd4k ..).trans ((if_neg (by decide)).trans ?_)
  refine (rd4k ..).trans ((if_neg (by decide)).trans ?_)
  refine (rd4k ..).trans ((if_pos (by decide)).trans ?_)
  refine (at_pay10 ..).trans ?_
  exact Finset.sum_congr rfl fun d _ => congrArg₂ (· * ·) (ld_q arg2 harg2 x0 _ _ 0 rfl rfl (by decide) _ q d) (ld_k arg3 harg3 x1 _ _ 0 rfl rfl (by decide) _ j d)
theorem sc01 (f) (q : Fin 256) (j : Fin 2048) : arg6.view.read (Elt Ideal) (arg6.view.writes (Elt Ideal) f (runC.sl.S0_8 (F := Ideal) c i arg2 harg2 arg3 harg3 x0 x1)) (ix4 (⟨0, by decide⟩ : Fin 2) (⟨1, by decide⟩ : Fin 4) q j) = Sc x0 x1 0 1 (by decide) (by decide) q j := by
  unfold runC.sl.S0_8
  refine (rd4k ..).trans ((if_neg (by decide)).trans ?_)
  refine (rd4k ..).trans ((if_neg (by decide)).trans ?_)
  refine (rd4k ..).trans ((if_neg (by decide)).trans ?_)
  refine (rd4k ..).trans ((if_neg (by decide)).trans ?_)
  refine (rd4k ..).trans ((if_neg (by decide)).trans ?_)
  refine (rd4k ..).trans ((if_neg (by decide)).trans ?_)
  refine (rd4k ..).trans ((if_pos (by decide)).trans ?_)
  refine (at_pay11 ..).trans ?_
  exact Finset.sum_congr rfl fun d _ => congrArg₂ (· * ·) (ld_q arg2 harg2 x0 _ _ 1 rfl rfl (by decide) _ q d) (ld_k arg3 harg3 x1 _ _ 0 rfl rfl (by decide) _ j d)
theorem sc02 (f) (q : Fin 256) (j : Fin 2048) : arg6.view.read (Elt Ideal) (arg6.view.writes (Elt Ideal) f (runC.sl.S0_8 (F := Ideal) c i arg2 harg2 arg3 harg3 x0 x1)) (ix4 (⟨0, by decide⟩ : Fin 2) (⟨2, by decide⟩ : Fin 4) q j) = Sc x0 x1 0 2 (by decide) (by decide) q j := by
  unfold runC.sl.S0_8
  refine (rd4k ..).trans ((if_neg (by decide)).trans ?_)
  refine (rd4k ..).trans ((if_neg (by decide)).trans ?_)
  refine (rd4k ..).trans ((if_neg (by decide)).trans ?_)
  refine (rd4k ..).trans ((if_neg (by decide)).trans ?_)
  refine (rd4k ..).trans ((if_neg (by decide)).trans ?_)
  refine (rd4k ..).trans ((if_pos (by decide)).trans ?_)
  refine (at_pay13 ..).trans ?_
  exact Finset.sum_congr rfl fun d _ => congrArg₂ (· * ·) (ld_q arg2 harg2 x0 _ _ 2 rfl rfl (by decide) _ q d) (ld_k arg3 harg3 x1 _ _ 0 rfl rfl (by decide) _ j d)
theorem sc03 (f) (q : Fin 256) (j : Fin 2048) : arg6.view.read (Elt Ideal) (arg6.view.writes (Elt Ideal) f (runC.sl.S0_8 (F := Ideal) c i arg2 harg2 arg3 harg3 x0 x1)) (ix4 (⟨0, by decide⟩ : Fin 2) (⟨3, by decide⟩ : Fin 4) q j) = Sc x0 x1 0 3 (by decide) (by decide) q j := by
  unfold runC.sl.S0_8
  refine (rd4k ..).trans ((if_neg (by decide)).trans ?_)
  refine (rd4k ..).trans ((if_neg (by decide)).trans ?_)
  refine (rd4k ..).trans ((if_neg (by decide)).trans ?_)
  refine (rd4k ..).trans ((if_neg (by decide)).trans ?_)
  refine (rd4k ..).trans ((if_pos (by decide)).trans ?_)
  refine (at_pay14 ..).trans ?_
  exact Finset.sum_congr rfl fun d _ => congrArg₂ (· * ·) (ld_q arg2 harg2 x0 _ _ 3 rfl rfl (by decide) _ q d) (ld_k arg3 harg3 x1 _ _ 0 rfl rfl (by decide) _ j d)
theorem sc10 (f) (q : Fin 256) (j : Fin 2048) : arg6.view.read (Elt Ideal) (arg6.view.writes (Elt Ideal) f (runC.sl.S0_8 (F := Ideal) c i arg2 harg2 arg3 harg3 x0 x1)) (ix4 (⟨1, by decide⟩ : Fin 2) (⟨0, by decide⟩ : Fin 4) q j) = Sc x0 x1 1 0 (by decide) (by decide) q j := by
  unfold runC.sl.S0_8
  refine (rd4k ..).trans ((if_neg (by decide)).trans ?_)
  refine (rd4k ..).trans ((if_neg (by decide)).trans ?_)
  refine (rd4k ..).trans ((if_neg (by decide)).trans ?_)
  refine (rd4k ..).trans ((if_pos (by decide)).trans ?_)
  refine (at_pay48 ..).trans ?_
  exact Finset.sum_congr rfl fun d _ => congrArg₂ (· * ·) (ld_q arg2 harg2 x0 _ _ 0 rfl rfl (by decide) _ q d) (ld_k arg3 harg3 x1 _ _ 1 rfl rfl (by decide) _ j d)
theorem sc11 (f) (q : Fin 256) (j : Fin 2048) : arg6.view.read (Elt Ideal) (arg6.view.writes (Elt Ideal) f (runC.sl.S0_8 (F := Ideal) c i arg2 harg2 arg3 harg3 x0 x1)) (ix4 (⟨1, by decide⟩ : Fin 2) (⟨1, by decide⟩ : Fin 4) q j) = Sc x0 x1 1 1 (by decide) (by decide) q j := by
  unfold runC.sl.S0_8
  refine (rd4k ..).trans ((if_neg (by decide)).trans ?_)
  refine (rd4k ..).trans ((if_neg (by decide)).trans ?_)
  refine (rd4k ..).trans ((if_pos (by decide)).trans ?_)
  unfold runC.sl.r_10
  refine (at_pay50 ..).trans ?_
  exact Finset.sum_congr rfl fun d _ => congrArg₂ (· * ·) (ld_q arg2 harg2 x0 _ _ 1 rfl rfl (by decide) _ q d) (ld_k arg3 harg3 x1 _ _ 1 rfl rfl (by decide) _ j d)
theorem sc12 (f) (q : Fin 256) (j : Fin 2048) : arg6.view.read (Elt Ideal) (arg6.view.writes (Elt Ideal) f (runC.sl.S0_8 (F := Ideal) c i arg2 harg2 arg3 harg3 x0 x1)) (ix4 (⟨1, by decide⟩ : Fin 2) (⟨2, by decide⟩ : Fin 4) q j) = Sc x0 x1 1 2 (by decide) (by decide) q j := by
  unfold runC.sl.S0_8
  refine (rd4k ..).trans ((if_neg (by decide)).trans ?_)
  refine (rd4k ..).trans ((if_pos (by decide)).trans ?_)
  refine (at_pay51 ..).trans ?_
  exact Finset.sum_congr rfl fun d _ => congrArg₂ (· * ·) (ld_q arg2 harg2 x0 _ _ 2 rfl rfl (by decide) _ q d) (ld_k arg3 harg3 x1 _ _ 1 rfl rfl (by decide) _ j d)
theorem sc13 (f) (q : Fin 256) (j : Fin 2048) : arg6.view.read (Elt Ideal) (arg6.view.writes (Elt Ideal) f (runC.sl.S0_8 (F := Ideal) c i arg2 harg2 arg3 harg3 x0 x1)) (ix4 (⟨1, by decide⟩ : Fin 2) (⟨3, by decide⟩ : Fin 4) q j) = Sc x0 x1 1 3 (by decide) (by decide) q j := by
  unfold runC.sl.S0_8
  refine (rd4k ..).trans ((if_pos (by decide)).trans ?_)
  refine (at_pay52 ..).trans ?_
  exact Finset.sum_congr rfl fun d _ => congrArg₂ (· * ·) (ld_q arg2 harg2 x0 _ _ 3 rfl rfl (by decide) _ q d) (ld_k arg3 harg3 x1 _ _ 1 rfl rfl (by decide) _ j d)
theorem at_v310 (q : Fin 256) (j : Fin 2048) : (runC.sl.v310 (F := Ideal) c i arg2 harg2 arg3 harg3 arg6 x0 x1) (ix4 (0 : Fin 1) (0 : Fin 1) q j) = Sc x0 x1 0 0 (by decide) (by decide) q j := by
  unfold runC.sl.v310
  rw [cov4]
  refine (at4k ..).trans ?_
  exact sc00 ..
theorem at_v338 (q : Fin 256) (j : Fin 2048) : (runC.sl.v338 (F := Ideal) c i arg2 harg2 arg3 harg3 arg6 x0 x1) (ix4 (0 : Fin 1) (0 : Fin 1) q j) = Sc x0 x1 0 1 (by decide) (by decide) q j := by
  unfold runC.sl.v338
  rw [cov4]
  refine (at4k ..).trans ?_
  exact sc01 ..
theorem at_v366 (q : Fin 256) (j : Fin 2048) : (runC.sl.v366 (F := Ideal) c i arg2 harg2 arg3 harg3 arg6 x0 x1) (ix4 (0 : Fin 1) (0 : Fin 1) q j) = Sc x0 x1 0 2 (by decide) (by decide) q j := by
  unfold runC.sl.v366
  rw [cov4]
  refine (at4k ..).trans ?_
  exact sc02 ..
theorem at_v394 (q : Fin 256) (j : Fin 2048) : (runC.sl.v394 (F := Ideal) c i arg2 harg2 arg3 harg3 arg6 x0 x1) (ix4 (0 : Fin 1) (0 : Fin 1) q j) = Sc x0 x1 0 3 (by decide) (by decide) q j := by
  unfold runC.sl.v394
  rw [cov4]
  refine (at4k ..).trans ?_
  exact sc03 ..

end Cert.KernelIdeal.Flash

end
-- ==== Proof.KI.PayO.lean ====
/- What each stored value is at one element, over the extended reals: scores, running maximum, rescaling factor,
   weight, accumulator and output. -/
module

public import proofs.«01_k».proof.Proof.KI.Pay

@[expose] public section

set_option maxRecDepth 16384

noncomputable section

namespace Cert.KernelIdeal.Flash

open Idealize.ShloMosaic Cert.KernelIdeal.Gen

theorem at_ac00 (vv : Vec Ideal S2048x256 .bf16) (a : Vec Ideal S1x1x256x1 .f32) (ac : Vec Ideal S1x256x256 .f32) (p : Vec Ideal S1x1x256x2048 .bf16) (i : Fin 256) (j : Fin 256) :
    k0_pay44 (k0_pay43 vv a ac p) (ix3 (0 : Fin 1) i j) = a (ix4 (0 : Fin 1) (0 : Fin 1) i (0 : Fin 1)) * ac (ix3 (0 : Fin 1) i j) + ∑ x : Fin 2048, p (ix4 (0 : Fin 1) (0 : Fin 1) i x) * vv (ix2 x j) := by
  pointwise [k0_pay44, k0_pay43, k0_pay42]

theorem at_ac01 (vv : Vec Ideal S2048x256 .bf16) (a : Vec Ideal S1x1x256x1 .f32) (ac : Vec Ideal S1x256x256 .f32) (p : Vec Ideal S1x1x256x2048 .bf16) (i : Fin 256) (j : Fin 256) :
    k0_pay45 (k0_pay42 vv) a ac p (ix3 (0 : Fin 1) i j) = a (ix4 (0 : Fin 1) (0 : Fin 1) i (0 : Fin 1)) * ac (ix3 (0 : Fin 1) i j) + ∑ x : Fin 2048, p (ix4 (0 : Fin 1) (0 : Fin 1) i x) * vv (ix2 x j) := by
  pointwise [k0_pay45, k0_pay42]

theorem at_ac02 (vv : Vec Ideal S2048x256 .bf16) (a : Vec Ideal S1x1x256x1 .f32) (ac : Vec Ideal S1x256x256 .f32) (p : Vec Ideal S1x1x256x2048 .bf16) (i : Fin 256) (j : Fin 256) :
    k0_pay46 (k0_pay42 vv) a ac p (ix3 (0 : Fin 1) i j) = a (ix4 (0 : Fin 1) (0 : Fin 1) i (0 : Fin 1)) * ac (ix3 (0 : Fin 1) i j) + ∑ x : Fin 2048, p (ix4 (0 : Fin 1) (0 : Fin 1) i x) * vv (ix2 x j) := by
  pointwise [k0_pay46, k0_pay42]

theorem at_ac03 (vv : Vec Ideal S2048x256 .bf16) (a : Vec Ideal S1x1x256x1 .f32) (ac : Vec Ideal S1x256x256 .f32) (p : Vec Ideal S1x1x256x2048 .bf16) (i : Fin 256) (j : Fin 256) :
    k0_pay47 (k0_pay42 vv) a ac p (ix3 (0 : Fin 1) i j) = a (ix4 (0 : Fin 1) (0 : Fin 1) i (0 : Fin 1)) * ac (ix3 (0 : Fin 1) i j) + ∑ x : Fin 2048, p (ix4 (0 : Fin 1) (0 : Fin 1) i x) * vv (ix2 x j) := by
  pointwise [k0_pay47, k0_pay42]

theorem at_o1 (ac : Vec Ideal S1x256x256 .f32) (i : Fin 256) (j : Fin 128) :
    k0_pay1 ac (ix2 i j) = Ideal.div (ac (ix3 (0 : Fin 1) i (⟨j.val, by omega⟩ : Fin 256))) (ac (ix3 (0 : Fin 1) i (⟨128 + j.val, by omega⟩ : Fin 256))) := by
  pointwise [k0_pay1]

theorem at_o2 (ac : Vec Ideal S1x256x256 .f32) (i : Fin 256) (j : Fin 128) :
    k0_pay2 ac (ix2 i j) = Ideal.div (ac (ix3 (0 : Fin 1) i (⟨j.val, by omega⟩ : Fin 256))) (ac (ix3 (0 : Fin 1) i (⟨128 + j.val, by omega⟩ : Fin 256))) := by
  pointwise [k0_pay2]

theorem at_o3 (ac : Vec Ideal S1x256x256 .f32) (i : Fin 256) (j : Fin 128) :
    k0_pay3 ac (ix2 i j) = Ideal.div (ac (ix3 (0 : Fin 1) i (⟨j.val, by omega⟩ : Fin 256))) (ac (ix3 (0 : Fin 1) i (⟨128 + j.val, by omega⟩ : Fin 256))) := by
  pointwise [k0_pay3]

theorem at_o4 (ac : Vec Ideal S1x256x256 .f32) (i : Fin 256) (j : Fin 128) :
    k0_pay4 ac (ix2 i j) = Ideal.div (ac (ix3 (0 : Fin 1) i (⟨j.val, by omega⟩ : Fin 256))) (ac (ix3 (0 : Fin 1) i (⟨128 + j.val, by omega⟩ : Fin 256))) := by
  pointwise [k0_pay4]

end Cert.KernelIdeal.Flash

end
-- ==== Proof.KI.PayC.lean ====
/- What each stored value is at one element, over the extended reals: scores, running maximum, rescaling factor,
   weight, accumulator and output. -/
module

public import proofs.«01_k».proof.Proof.KI.Pay

@[expose] public section

set_option maxRecDepth 16384

noncomputable section

namespace Cert.KernelIdeal.Flash

open Idealize.ShloMosaic Cert.KernelIdeal.Gen

theorem at_ac10 (vv : Vec Ideal S2048x256 .bf16) (a : Vec Ideal S1x1x256x1 .f32) (ac : Vec Ideal S1x256x256 .f32) (p : Vec Ideal S1x1x256x2048 .bf16) (i : Fin 256) (j : Fin 256) :
    k0_pay81 vv a ac p (ix3 (0 : Fin 1) i j) = a (ix4 (0 : Fin 1) (0 : Fin 1) i (0 : Fin 1)) * ac (ix3 (0 : Fin 1) i j) + ∑ x : Fin 2048, p (ix4 (0 : Fin 1) (0 : Fin 1) i x) * vv (ix2 x j) := by
  pointwise [k0_pay81, k0_pay80]

theorem at_ac11 (vv : Vec Ideal S2048x256 .bf16) (a : Vec Ideal S1x1x256x1 .f32) (ac : Vec Ideal S1x256x256 .f32) (p : Vec Ideal S1x1x256x2048 .bf16) (i : Fin 256) (j : Fin 256) :
    k0_pay82 (k0_pay80 vv) a ac p (ix3 (0 : Fin 1) i j) = a (ix4 (0 : Fin 1) (0 : Fin 1) i (0 : Fin 1)) * ac (ix3 (0 : Fin 1) i j) + ∑ x : Fin 2048, p (ix4 (0 : Fin 1) (0 : Fin 1) i x) * vv (ix2 x j) := by
  pointwise [k0_pay82, k0_pay80]

theorem at_ac12 (vv : Vec Ideal S2048x256 .bf16) (a : Vec Ideal S1x1x256x1 .f32) (ac : Vec Ideal S1x256x256 .f32) (p : Vec Ideal S1x1x256x2048 .bf16) (i : Fin 256) (j : Fin 256) :
    k0_pay83 (k0_pay80 vv) a ac p (ix3 (0 : Fin 1) i j) = a (ix4 (0 : Fin 1) (0 : Fin 1) i (0 : Fin 1)) * ac (ix3 (0 : Fin 1) i j) + ∑ x : Fin 2048, p (ix4 (0 : Fin 1) (0 : Fin 1) i x) * vv (ix2 x j) := by
  pointwise [k0_pay83, k0_pay80]

theorem at_ac13 (vv : Vec Ideal S2048x256 .bf16) (a : Vec Ideal S1x1x256x1 .f32) (ac : Vec Ideal S1x256x256 .f32) (p : Vec Ideal S1x1x256x2048 .bf16) (i : Fin 256) (j : Fin 256) :
    k0_pay85 (k0_pay80 vv) (k0_pay84 a) ac p (ix3 (0 : Fin 1) i j) = a (ix4 (0 : Fin 1) (0 : Fin 1) i (0 : Fin 1)) * ac (ix3 (0 : Fin 1) i j) + ∑ x : Fin 2048, p (ix4 (0 : Fin 1) (0 : Fin 1) i x) * vv (ix2 x j) := by
  pointwise [k0_pay85, k0_pay84, k0_pay80]

end Cert.KernelIdeal.Flash

end
-- ==== Proof.KI.Fact1.lean ====
/- One step of the attention kernel at one element: running maximum, weights, rescaling factors, accumulators and output. -/
module

public import proofs.«01_k».proof.Proof.KI.Fact0
public import proofs.«01_k».proof.Proof.KI.PayO
public import proofs.«01_k».proof.Proof.KI.PayC

@[expose] public section

set_option maxRecDepth 16384

noncomputable section

namespace Cert.KernelIdeal.Flash

open Idealize.ShloMosaic Cert.KernelIdeal.Gen

/-- Writing a block of columns, read back on it. -/
theorem rd2_hit {κ : Kind} {sp : Space} {Val : EltTy → Type} {e : EltTy} {C : ℕ} (v : View sig κ sp S256x512 e) (f : v.ty.Contents Val) (inb) (w : (Rect.unit (s := S256x512) ![0, C] S256x128.size inb).shape.Idx → Val e) (L : List (View.Piece Val S256x512 e))
    (i : Fin 256) (d : Fin 128) (k : Fin 512) (hk : k.val = C + d.val) :
    v.read Val (v.writes Val f ((⟨Rect.unit (s := S256x512) ![0, C] S256x128.size inb, w⟩ : View.Piece Val S256x512 e) :: L)) (ix2 i k) = w (ix2 i d) := by
  refine View.read_writes_cons_unit_of_mem v f inb w L _ _ rfl ?_
  intro a; fin_cases a
  · show i.val = 0 + i.val; omega
  · exact hk
/-- Writing a block of columns, read back beside it. -/
theorem rd2_miss {κ : Kind} {sp : Space} {Val : EltTy → Type} {e : EltTy} {C : ℕ} (v : View sig κ sp S256x512 e) (f : v.ty.Contents Val) (inb) (w : (Rect.unit (s := S256x512) ![0, C] S256x128.size inb).shape.Idx → Val e) (L : List (View.Piece Val S256x512 e))
    (i : Fin 256) (k : Fin 512) (hk : k.val < C ∨ C + 128 ≤ k.val) :
    v.read Val (v.writes Val f ((⟨Rect.unit (s := S256x512) ![0, C] S256x128.size inb, w⟩ : View.Piece Val S256x512 e) :: L)) (ix2 i k) = v.read Val (v.writes Val f L) (ix2 i k) := by
  refine View.read_writes_cons_unit_of_not_mem v f inb w L _ rfl 1 ?_
  exact hk

/-- What the second half's running maximum of map `r` continues from. -/
def mid (n : ℕ) (s0 : Vec Ideal S2x4x256x2048 .f32) (s3 : Vec Ideal S2x4x256x1 .f32) (r : ℕ) (hr : r < 4) (q : Fin 256) : EReal :=
  if par n 1 = par n 0 then M0 n s0 s3 r hr q else s3 (ix4 (⟨par n 1, par_lt _ _⟩ : Fin 2) (⟨r, hr⟩ : Fin 4) q (0 : Fin 1))
/-- The weights of the first half. -/
def P0 (n : ℕ) (s0 : Vec Ideal S2x4x256x2048 .f32) (s3 : Vec Ideal S2x4x256x1 .f32) (r : ℕ) (hr : r < 4) (q : Fin 256) (j : Fin 2048) : EReal :=
  Ideal.exp2 (s0 (ix4 (1 : Fin 2) (⟨r, hr⟩ : Fin 4) q j) - (M0 n s0 s3 r hr q - c0 n))
/-- The rescaling of the first half. -/
def A0 (n : ℕ) (s0 : Vec Ideal S2x4x256x2048 .f32) (s3 : Vec Ideal S2x4x256x1 .f32) (r : ℕ) (hr : r < 4) (q : Fin 256) : EReal :=
  Ideal.exp2 (s3 (ix4 (⟨par n 0, par_lt _ _⟩ : Fin 2) (⟨r, hr⟩ : Fin 4) q (0 : Fin 1)) - M0 n s0 s3 r hr q)
/-- The weights of the second half. -/
def P1 (n : ℕ) (x0 : Vec Ideal S256x512 .bf16) (x1 : Vec Ideal S4096x128 .bf16) (s0 : Vec Ideal S2x4x256x2048 .f32) (s3 : Vec Ideal S2x4x256x1 .f32) (r : ℕ) (hr : r < 4) (q : Fin 256) (j : Fin 2048) : EReal :=
  Ideal.exp2 (Sc x0 x1 0 r (by decide) hr q j - (M1 n x0 x1 s0 s3 r hr q - c1 n))
/-- The rescaling of the second half. -/
def A1 (n : ℕ) (x0 : Vec Ideal S256x512 .bf16) (x1 : Vec Ideal S4096x128 .bf16) (s0 : Vec Ideal S2x4x256x2048 .f32) (s3 : Vec Ideal S2x4x256x1 .f32) (r : ℕ) (hr : r < 4) (q : Fin 256) : EReal :=
  Ideal.exp2 (st1 n (mid n s0 s3 r hr q) - M1 n x0 x1 s0 s3 r hr q)
/-- The accumulator after the first half. -/
def B0 (x2 : Vec Ideal S4096x256 .bf16) (s1 : Vec Ideal S2x4x256x2048 .bf16) (s2 : Vec Ideal S2x4x256x1 .f32) (s4 : Vec Ideal S4x256x256 .f32) (r : ℕ) (hr : r < 4) (q j : Fin 256) : EReal :=
  s2 (ix4 (0 : Fin 2) (⟨r, hr⟩ : Fin 4) q (0 : Fin 1)) * s4 (ix3 (⟨r, hr⟩ : Fin 4) q j) + ∑ x : Fin 2048, s1 (ix4 (0 : Fin 2) (⟨r, hr⟩ : Fin 4) q x) * x2 (ix2 (⟨2048 * 0 + x.val, by have := x.isLt; omega⟩ : Fin 4096) j)
/-- The accumulator after the second half. -/
def B1 (n : ℕ) (x2 : Vec Ideal S4096x256 .bf16) (s0 : Vec Ideal S2x4x256x2048 .f32) (s1 : Vec Ideal S2x4x256x2048 .bf16) (s2 : Vec Ideal S2x4x256x1 .f32) (s3 : Vec Ideal S2x4x256x1 .f32) (s4 : Vec Ideal S4x256x256 .f32) (r : ℕ) (hr : r < 4) (q j : Fin 256) : EReal :=
  A0 n s0 s3 r hr q * B0 x2 s1 s2 s4 r hr q j + ∑ x : Fin 2048, P0 n s0 s3 r hr q x * x2 (ix2 (⟨2048 * 1 + x.val, by have := x.isLt; omega⟩ : Fin 4096) j)

variable (c : Dev nD) (i : grid0.Coords) (arg2 : Memref sig .tc .vmem S256x512 .bf16) (harg2 : arg2.IsWhole) (arg3 : Memref sig .tc .vmem S4096x128 .bf16) (harg3 : arg3.IsWhole) (arg4 : Memref sig .tc .vmem S4096x256 .bf16) (harg4 : arg4.IsWhole) (arg5 : Memref sig .tc .vmem S256x512 .bf16) (harg5 : arg5.IsWhole) (arg6 : Memref sig .tc .vmem S2x4x256x2048 .f32) (harg6 : arg6.IsWhole) (arg7 : Memref sig .tc .vmem S2x4x256x2048 .bf16) (harg7 : arg7.IsWhole) (arg8 : Memref sig .tc .vmem S2x4x256x1 .f32) (harg8 : arg8.IsWhole) (arg9 : Memref sig .tc .vmem S2x4x256x1 .f32) (harg9 : arg9.IsWhole) (arg10 : Memref sig .tc .vmem S4x256x256 .f32) (harg10 : arg10.IsWhole) (x0 : Vec Ideal S256x512 .bf16) (x1 : Vec Ideal S4096x128 .bf16) (x2 : Vec Ideal S4096x256 .bf16) (xo : Vec Ideal S256x512 .bf16) (s0 : Vec Ideal S2x4x256x2048 .f32) (s1 : Vec Ideal S2x4x256x2048 .bf16) (s2 : Vec Ideal S2x4x256x1 .f32) (s3 : Vec Ideal S2x4x256x1 .f32) (s4 : Vec Ideal S4x256x256 .f32)

theorem ldm0 (inb) (q : Fin 256) : arg9.view.readAt (Elt Ideal) (Rect.unit (s := S2x4x256x1) (k0_off1 i 0#32) S1x1x256x1.size inb).toLoadRect (harg9.unread s3) (ix4 (0 : Fin 1) (0 : Fin 1) q (0 : Fin 1)) = s3 (ix4 (⟨par (i 1).val 0, par_lt _ _⟩ : Fin 2) (⟨0, by decide⟩ : Fin 4) q (0 : Fin 1)) := (atm10 ..).trans (congrFun (harg9.read_unread s3) _)
theorem ldm1_0 (inb) (q : Fin 256) : arg9.view.readAt (Elt Ideal) (Rect.unit (s := S2x4x256x1) (k0_off1 i 1#32) S1x1x256x1.size inb).toLoadRect (arg9.view.writes (Elt Ideal) (harg9.unread s3) (runC.sl.S3_4 (F := Ideal) c i arg2 harg2 arg3 harg3 arg6 harg6 arg9 harg9 x0 x1 s0 s3)) (ix4 (0 : Fin 1) (0 : Fin 1) q (0 : Fin 1)) = mid (i 1).val s0 s3 0 (by decide) q := by
  refine (atm11 ..).trans ?_
  unfold runC.sl.S3_4
  refine (rdm40 ..).trans ((if_neg fun h => absurd h.2 (by decide)).trans ?_)
  refine (rdm30 ..).trans ((if_neg fun h => absurd h.2 (by decide)).trans ?_)
  refine (rdm20 ..).trans ((if_neg fun h => absurd h.2 (by decide)).trans ?_)
  refine (rdm10 ..).trans ?_
  unfold mid; by_cases h : par (i 1).val 1 = par (i 1).val 0
  · rw [if_pos ⟨h, rfl⟩, if_pos h]
    refine (at_m00 ..).trans ?_
    rw [cst0, ldm0]; simp only [at_v72]
    rfl
  · rw [if_neg fun h' => h h'.1, if_neg h]
    exact congrFun (harg9.read_unread s3) _
theorem ldm1_1 (inb) (q : Fin 256) : arg9.view.readAt (Elt Ideal) (Rect.unit (s := S2x4x256x1) (k0_off2 i 1#32) S1x1x256x1.size inb).toLoadRect (arg9.view.writes (Elt Ideal) (harg9.unread s3) (runC.sl.S3_5 (F := Ideal) c i arg2 harg2 arg3 harg3 arg6 harg6 arg9 harg9 x0 x1 s0 s3)) (ix4 (0 : Fin 1) (0 : Fin 1) q (0 : Fin 1)) = mid (i 1).val s0 s3 1 (by decide) q := by
  refine (atm21 ..).trans ?_
  unfold runC.sl.S3_5
  refine (rdm11 ..).trans ((if_neg fun h => absurd h.2 (by decide)).trans ?_)
  unfold runC.sl.S3_4
  refine (rdm40 ..).trans ((if_neg fun h => absurd h.2 (by decide)).trans ?_)
  refine (rdm30 ..).trans ((if_neg fun h => absurd h.2 (by decide)).trans ?_)
  refine (rdm20 ..).trans ?_
  unfold mid; by_cases h : par (i 1).val 1 = par (i 1).val 0
  · rw [if_pos ⟨h, rfl⟩, if_pos h]
    refine (at_m01 ..).trans ?_
    simp only [at_r, at_v98, at_v101]
    rfl
  · rw [if_neg fun h' => h h'.1, if_neg h]
    refine (rdm10 ..).trans ((if_neg fun h => absurd h.2 (by decide)).trans ?_)
    exact congrFun (harg9.read_unread s3) _
theorem ldm1_2 (inb) (q : Fin 256) : arg9.view.readAt (Elt Ideal) (Rect.unit (s := S2x4x256x1) (k0_off3 i 1#32) S1x1x256x1.size inb).toLoadRect (arg9.view.writes (Elt Ideal) (harg9.unread s3) (runC.sl.S3_6 (F := Ideal) c i arg2 harg2 arg3 harg3 arg6 harg6 arg9 harg9 x0 x1 s0 s3)) (ix4 (0 : Fin 1) (0 : Fin 1) q (0 : Fin 1)) = mid (i 1).val s0 s3 2 (by decide) q := by
  refine (atm31 ..).trans ?_
  unfold runC.sl.S3_6
  refine (rdm21 ..).trans ((if_neg fun h => absurd h.2 (by decide)).trans ?_)
  unfold runC.sl.S3_5
  refine (rdm11 ..).trans ((if_neg fun h => absurd h.2 (by decide)).trans ?_)
  unfold runC.sl.S3_4
  refine (rdm40 ..).trans ((if_neg fun h => absurd h.2 (by decide)).trans ?_)
  refine (rdm30 ..).trans ?_
  unfold mid; by_cases h : par (i 1).val 1 = par (i 1).val 0
  · rw [if_pos ⟨h, rfl⟩, if_pos h]
    unfold runC.sl.r_2
    refine (at_m02 ..).trans ?_
    simp only [at_r, at_v124, at_v127]
    rfl
  · rw [if_neg fun h' => h h'.1, if_neg h]
    refine (rdm20 ..).trans ((if_neg fun h => absurd h.2 (by decide)).trans ?_)
    refine (rdm10 ..).trans ((if_neg fun h => absurd h.2 (by decide)).trans ?_)
    exact congrFun (harg9.read_unread s3) _
theorem ldm1_3 (inb) (q : Fin 256) : arg9.view.readAt (Elt Ideal) (Rect.unit (s := S2x4x256x1) (k0_off4 i 1#32) S1x1x256x1.size inb).toLoadRect (arg9.view.writes (Elt Ideal) (harg9.unread s3) (runC.sl.S3_7 (F := Ideal) c i arg2 harg2 arg3 harg3 arg6 harg6 arg9 harg9 x0 x1 s0 s3)) (ix4 (0 : Fin 1) (0 : Fin 1) q (0 : Fin 1)) = mid (i 1).val s0 s3 3 (by decide) q := by
  refine (atm41 ..).trans ?_
  unfold runC.sl.S3_7
  refine (rdm31 ..).trans ((if_neg fun h => absurd h.2 (by decide)).trans ?_)
  unfold runC.sl.S3_6
  refine (rdm21 ..).trans ((if_neg fun h => absurd h.2 (by decide)).trans ?_)
  unfold runC.sl.S3_5
  refine (rdm11 ..).trans ((if_neg fun h => absurd h.2 (by decide)).trans ?_)
  unfold runC.sl.S3_4
  refine (rdm40 ..).trans ?_
  unfold mid; by_cases h : par (i 1).val 1 = par (i 1).val 0
  · rw [if_pos ⟨h, rfl⟩, if_pos h]
    unfold runC.sl.r_4
    refine (at_m03 ..).trans ?_
    simp only [at_r, at_v150, at_v153]
    rfl
  · rw [if_neg fun h' => h h'.1, if_neg h]
    refine (rdm30 ..).trans ((if_neg fun h => absurd h.2 (by decide)).trans ?_)
    refine (rdm20 ..).trans ((if_neg fun h => absurd h.2 (by decide)).trans ?_)
    refine (rdm10 ..).trans ((if_neg fun h => absurd h.2 (by decide)).trans ?_)
    exact congrFun (harg9.read_unread s3) _
theorem fin3_0 (inb) (f) (q : Fin 256) : arg9.view.read (Elt Ideal) (arg9.view.writes (Elt Ideal) f ((⟨Rect.unit (s := S2x4x256x1) (k0_off4 i 1#32) S1x1x256x1.size inb, k0_pay77 (F := Ideal) (runC.sl.r_17 (F := Ideal) c i arg2 harg2 arg3 harg3 arg6 harg6 arg9 harg9 x0 x1 s0 s3)⟩ : View.Piece (Elt Ideal) S2x4x256x1 .f32) :: (runC.sl.S3_7 (F := Ideal) c i arg2 harg2 arg3 harg3 arg6 harg6 arg9 harg9 x0 x1 s0 s3))) (ix4 (⟨par (i 1).val 1, par_lt _ _⟩ : Fin 2) (⟨0, by decide⟩ : Fin 4) q (0 : Fin 1)) = M1 (i 1).val x0 x1 s0 s3 0 (by decide) q := by
  refine (rdm41 ..).trans ((if_neg fun h => absurd h.2 (by decide)).trans ?_)
  unfold runC.sl.S3_7
  refine (rdm31 ..).trans ((if_neg fun h => absurd h.2 (by decide)).trans ?_)
  unfold runC.sl.S3_6
  refine (rdm21 ..).trans ((if_neg fun h => absurd h.2 (by decide)).trans ?_)
  unfold runC.sl.S3_5
  refine (rdm11 ..).trans ((if_pos ⟨rfl, rfl⟩).trans ?_)
  refine (at_m10 ..).trans ?_
  rw [stf, at_r11, ldm1_0]; simp only [at_v310]
  rfl
theorem fin3_1 (inb) (f) (q : Fin 256) : arg9.view.read (Elt Ideal) (arg9.view.writes (Elt Ideal) f ((⟨Rect.unit (s := S2x4x256x1) (k0_off4 i 1#32) S1x1x256x1.size inb, k0_pay77 (F := Ideal) (runC.sl.r_17 (F := Ideal) c i arg2 harg2 arg3 harg3 arg6 harg6 arg9 harg9 x0 x1 s0 s3)⟩ : View.Piece (Elt Ideal) S2x4x256x1 .f32) :: (runC.sl.S3_7 (F := Ideal) c i arg2 harg2 arg3 harg3 arg6 harg6 arg9 harg9 x0 x1 s0 s3))) (ix4 (⟨par (i 1).val 1, par_lt _ _⟩ : Fin 2) (⟨1, by decide⟩ : Fin 4) q (0 : Fin 1)) = M1 (i 1).val x0 x1 s0 s3 1 (by decide) q := by
  refine (rdm41 ..).trans ((if_neg fun h => absurd h.2 (by decide)).trans ?_)
  unfold runC.sl.S3_7
  refine (rdm31 ..).trans ((if_neg fun h => absurd h.2 (by decide)).trans ?_)
  unfold runC.sl.S3_6
  refine (rdm21 ..).trans ((if_pos ⟨rfl, rfl⟩).trans ?_)
  unfold runC.sl.r_12 runC.sl.r_13
  refine (at_m11 ..).trans ?_
  rw [stf, at_r11, ldm1_1]; simp only [at_v338]
  rfl
theorem fin3_2 (inb) (f) (q : Fin 256) : arg9.view.read (Elt Ideal) (arg9.view.writes (Elt Ideal) f ((⟨Rect.unit (s := S2x4x256x1) (k0_off4 i 1#32) S1x1x256x1.size inb, k0_pay77 (F := Ideal) (runC.sl.r_17 (F := Ideal) c i arg2 harg2 arg3 harg3 arg6 harg6 arg9 harg9 x0 x1 s0 s3)⟩ : View.Piece (Elt Ideal) S2x4x256x1 .f32) :: (runC.sl.S3_7 (F := Ideal) c i arg2 harg2 arg3 harg3 arg6 harg6 arg9 harg9 x0 x1 s0 s3))) (ix4 (⟨par (i 1).val 1, par_lt _ _⟩ : Fin 2) (⟨2, by decide⟩ : Fin 4) q (0 : Fin 1)) = M1 (i 1).val x0 x1 s0 s3 2 (by decide) q := by
  refine (rdm41 ..).trans ((if_neg fun h => absurd h.2 (by decide)).trans ?_)
  unfold runC.sl.S3_7
  refine (rdm31 ..).trans ((if_pos ⟨rfl, rfl⟩).trans ?_)
  unfold runC.sl.r_16
  refine (at_m12 ..).trans ?_
  rw [stf, at_r11, ldm1_2]; simp only [at_v366]
  rfl
theorem fin3_3 (inb) (f) (q : Fin 256) : arg9.view.read (Elt Ideal) (arg9.view.writes (Elt Ideal) f ((⟨Rect.unit (s := S2x4x256x1) (k0_off4 i 1#32) S1x1x256x1.size inb, k0_pay77 (F := Ideal) (runC.sl.r_17 (F := Ideal) c i arg2 harg2 arg3 harg3 arg6 harg6 arg9 harg9 x0 x1 s0 s3)⟩ : View.Piece (Elt Ideal) S2x4x256x1 .f32) :: (runC.sl.S3_7 (F := Ideal) c i arg2 harg2 arg3 harg3 arg6 harg6 arg9 harg9 x0 x1 s0 s3))) (ix4 (⟨par (i 1).val 1, par_lt _ _⟩ : Fin 2) (⟨3, by decide⟩ : Fin 4) q (0 : Fin 1)) = M1 (i 1).val x0 x1 s0 s3 3 (by decide) q := by
  refine (rdm41 ..).trans ((if_pos ⟨rfl, rfl⟩).trans ?_)
  unfold runC.sl.r_17
  refine (at_m13 ..).trans ?_
  rw [stf, at_r11, ldm1_3]; simp only [at_v394]
  rfl
theorem fin1_00 (f) (q : Fin 256) (j : Fin 2048) : arg7.view.read (Elt Ideal) (arg7.view.writes (Elt Ideal) f (runC.sl.S1_8 (F := Ideal) c i arg2 harg2 arg3 harg3 arg6 harg6 arg9 harg9 x0 x1 s0 s3)) (ix4 (⟨0, by decide⟩ : Fin 2) (⟨0, by decide⟩ : Fin 4) q j) = P1 (i 1).val x0 x1 s0 s3 0 (by decide) q j := by
  unfold runC.sl.S1_8
  refine (rd4k ..).trans ((if_neg (by decide)).trans ?_)
  refine (rd4k ..).trans ((if_neg (by decide)).trans ?_)
  refine (rd4k ..).trans ((if_neg (by decide)).trans ?_)
  refine (rd4k ..).trans ((if_pos (by decide)).trans ?_)
  refine (at_p10 ..).trans ?_
  rw [stf, at_r11, ldm1_0]; simp only [at_v310]
  rfl
theorem fin1_01 (f) (q : Fin 256) (j : Fin 2048) : arg7.view.read (Elt Ideal) (arg7.view.writes (Elt Ideal) f (runC.sl.S1_8 (F := Ideal) c i arg2 harg2 arg3 harg3 arg6 harg6 arg9 harg9 x0 x1 s0 s3)) (ix4 (⟨0, by decide⟩ : Fin 2) (⟨1, by decide⟩ : Fin 4) q j) = P1 (i 1).val x0 x1 s0 s3 1 (by decide) q j := by
  unfold runC.sl.S1_8
  refine (rd4k ..).trans ((if_neg (by decide)).trans ?_)
  refine (rd4k ..).trans ((if_neg (by decide)).trans ?_)
  refine (rd4k ..).trans ((if_pos (by decide)).trans ?_)
  unfold runC.sl.r_12 runC.sl.r_13
  refine (at_p11 ..).trans ?_
  rw [stf, at_r11, ldm1_1]; simp only [at_v338]
  rfl
theorem fin1_02 (f) (q : Fin 256) (j : Fin 2048) : arg7.view.read (Elt Ideal) (arg7.view.writes (Elt Ideal) f (runC.sl.S1_8 (F := Ideal) c i arg2 harg2 arg3 harg3 arg6 harg6 arg9 harg9 x0 x1 s0 s3)) (ix4 (⟨0, by decide⟩ : Fin 2) (⟨2, by decide⟩ : Fin 4) q j) = P1 (i 1).val x0 x1 s0 s3 2 (by decide) q j := by
  unfold runC.sl.S1_8
  refine (rd4k ..).trans ((if_neg (by decide)).trans ?_)
  refine (rd4k ..).trans ((if_pos (by decide)).trans ?_)
  unfold runC.sl.r_14 runC.sl.r_16
  refine (at_p12 ..).trans ?_
  rw [stf, at_r11, ldm1_2]; simp only [at_v366]
  rfl
theorem fin1_03 (f) (q : Fin 256) (j : Fin 2048) : arg7.view.read (Elt Ideal) (arg7.view.writes (Elt Ideal) f (runC.sl.S1_8 (F := Ideal) c i arg2 harg2 arg3 harg3 arg6 harg6 arg9 harg9 x0 x1 s0 s3)) (ix4 (⟨0, by decide⟩ : Fin 2) (⟨3, by decide⟩ : Fin 4) q j) = P1 (i 1).val x0 x1 s0 s3 3 (by decide) q j := by
  unfold runC.sl.S1_8
  refine (rd4k ..).trans ((if_pos (by decide)).trans ?_)
  unfold runC.sl.r_19
  refine (at_p13 ..).trans ?_
  rw [stf, at_r11, ldm1_3]; simp only [at_v394]
  rfl
theorem fin1_10 (f) (q : Fin 256) (j : Fin 2048) : arg7.view.read (Elt Ideal) (arg7.view.writes (Elt Ideal) f (runC.sl.S1_8 (F := Ideal) c i arg2 harg2 arg3 harg3 arg6 harg6 arg9 harg9 x0 x1 s0 s3)) (ix4 (⟨1, by decide⟩ : Fin 2) (⟨0, by decide⟩ : Fin 4) q j) = P0 (i 1).val s0 s3 0 (by decide) q j := by
  unfold runC.sl.S1_8
  refine (rd4k ..).trans ((if_neg (by decide)).trans ?_)
  refine (rd4k ..).trans ((if_neg (by decide)).trans ?_)
  refine (rd4k ..).trans ((if_neg (by decide)).trans ?_)
  refine (rd4k ..).trans ((if_neg (by decide)).trans ?_)
  refine (rd4k ..).trans ((if_neg (by decide)).trans ?_)
  refine (rd4k ..).trans ((if_neg (by decide)).trans ?_)
  refine (rd4k ..).trans ((if_neg (by decide)).trans ?_)
  refine (rd4k ..).trans ((if_pos (by decide)).trans ?_)
  unfold runC.sl.r_1
  refine (at_p00 ..).trans ?_
  rw [cst0, ldm0]; simp only [at_v72]
  rfl
theorem fin1_11 (f) (q : Fin 256) (j : Fin 2048) : arg7.view.read (Elt Ideal) (arg7.view.writes (Elt Ideal) f (runC.sl.S1_8 (F := Ideal) c i arg2 harg2 arg3 harg3 arg6 harg6 arg9 harg9 x0 x1 s0 s3)) (ix4 (⟨1, by decide⟩ : Fin 2) (⟨1, by decide⟩ : Fin 4) q j) = P0 (i 1).val s0 s3 1 (by decide) q j := by
  unfold runC.sl.S1_8
  refine (rd4k ..).trans ((if_neg (by decide)).trans ?_)
  refine (rd4k ..).trans ((if_neg (by decide)).trans ?_)
  refine (rd4k ..).trans ((if_neg (by decide)).trans ?_)
  refine (rd4k ..).trans ((if_neg (by decide)).trans ?_)
  refine (rd4k ..).trans ((if_neg (by decide)).trans ?_)
  refine (rd4k ..).trans ((if_neg (by decide)).trans ?_)
  refine (rd4k ..).trans ((if_pos (by decide)).trans ?_)
  refine (at_p01 ..).trans ?_
  simp only [at_r, at_v98, at_v101]
  rfl
theorem fin1_12 (f) (q : Fin 256) (j : Fin 2048) : arg7.view.read (Elt Ideal) (arg7.view.writes (Elt Ideal) f (runC.sl.S1_8 (F := Ideal) c i arg2 harg2 arg3 harg3 arg6 harg6 arg9 harg9 x0 x1 s0 s3)) (ix4 (⟨1, by decide⟩ : Fin 2) (⟨2, by decide⟩ : Fin 4) q j) = P0 (i 1).val s0 s3 2 (by decide) q j := by
  unfold runC.sl.S1_8
  refine (rd4k ..).trans ((if_neg (by decide)).trans ?_)
  refine (rd4k ..).trans ((if_neg (by decide)).trans ?_)
  refine (rd4k ..).trans ((if_neg (by decide)).trans ?_)
  refine (rd4k ..).trans ((if_neg (by decide)).trans ?_)
  refine (rd4k ..).trans ((if_neg (by decide)).trans ?_)
  refine (rd4k ..).trans ((if_pos (by decide)).trans ?_)
  unfold runC.sl.r_2
  refine (at_p02 ..).trans ?_
  simp only [at_r, at_v124, at_v127]
  rfl
theorem fin1_13 (f) (q : Fin 256) (j : Fin 2048) : arg7.view.read (Elt Ideal) (arg7.view.writes (Elt Ideal) f (runC.sl.S1_8 (F := Ideal) c i arg2 harg2 arg3 harg3 arg6 harg6 arg9 harg9 x0 x1 s0 s3)) (ix4 (⟨1, by decide⟩ : Fin 2) (⟨3, by decide⟩ : Fin 4) q j) = P0 (i 1).val s0 s3 3 (by decide) q j := by
  unfold runC.sl.S1_8
  refine (rd4k ..).trans ((if_neg (by decide)).trans ?_)
  refine (rd4k ..).trans ((if_neg (by decide)).trans ?_)
  refine (rd4k ..).trans ((if_neg (by decide)).trans ?_)
  refine (rd4k ..).trans ((if_neg (by decide)).trans ?_)
  refine (rd4k ..).trans ((if_pos (by decide)).trans ?_)
  unfold runC.sl.r_3 runC.sl.r_4
  refine (at_p03 ..).trans ?_
  simp only [at_r, at_v150, at_v153]
  rfl
theorem fin2_00 (f) (q : Fin 256) : arg8.view.read (Elt Ideal) (arg8.view.writes (Elt Ideal) f (runC.sl.S2_8 (F := Ideal) c i arg2 harg2 arg3 harg3 arg6 harg6 arg9 harg9 x0 x1 s0 s3)) (ix4 (⟨0, by decide⟩ : Fin 2) (⟨0, by decide⟩ : Fin 4) q (0 : Fin 1)) = A1 (i 1).val x0 x1 s0 s3 0 (by decide) q := by
  unfold runC.sl.S2_8
  refine (rd4u ..).trans ((if_neg (by decide)).trans ?_)
  refine (rd4u ..).trans ((if_neg (by decide)).trans ?_)
  refine (rd4u ..).trans ((if_neg (by decide)).trans ?_)
  refine (rd4u ..).trans ((if_pos (by decide)).trans ?_)
  refine (at_al10 ..).trans ?_
  rw [stf, at_r11, ldm1_0]; simp only [at_v310]
  rfl
theorem fin2_01 (f) (q : Fin 256) : arg8.view.read (Elt Ideal) (arg8.view.writes (Elt Ideal) f (runC.sl.S2_8 (F := Ideal) c i arg2 harg2 arg3 harg3 arg6 harg6 arg9 harg9 x0 x1 s0 s3)) (ix4 (⟨0, by decide⟩ : Fin 2) (⟨1, by decide⟩ : Fin 4) q (0 : Fin 1)) = A1 (i 1).val x0 x1 s0 s3 1 (by decide) q := by
  unfold runC.sl.S2_8
  refine (rd4u ..).trans ((if_neg (by decide)).trans ?_)
  refine (rd4u ..).trans ((if_neg (by decide)).trans ?_)
  refine (rd4u ..).trans ((if_pos (by decide)).trans ?_)
  unfold runC.sl.r_12 runC.sl.r_13
  refine (at_al11 ..).trans ?_
  rw [stf, at_r11, ldm1_1]; simp only [at_v338]
  rfl
theorem fin2_02 (f) (q : Fin 256) : arg8.view.read (Elt Ideal) (arg8.view.writes (Elt Ideal) f (runC.sl.S2_8 (F := Ideal) c i arg2 harg2 arg3 harg3 arg6 harg6 arg9 harg9 x0 x1 s0 s3)) (ix4 (⟨0, by decide⟩ : Fin 2) (⟨2, by decide⟩ : Fin 4) q (0 : Fin 1)) = A1 (i 1).val x0 x1 s0 s3 2 (by decide) q := by
  unfold runC.sl.S2_8
  refine (rd4u ..).trans ((if_neg (by decide)).trans ?_)
  refine (rd4u ..).trans ((if_pos (by decide)).trans ?_)
  unfold runC.sl.r_15 runC.sl.r_16
  refine (at_al12 ..).trans ?_
  rw [stf, at_r11, ldm1_2]; simp only [at_v366]
  rfl
theorem fin2_03 (f) (q : Fin 256) : arg8.view.read (Elt Ideal) (arg8.view.writes (Elt Ideal) f (runC.sl.S2_8 (F := Ideal) c i arg2 harg2 arg3 harg3 arg6 harg6 arg9 harg9 x0 x1 s0 s3)) (ix4 (⟨0, by decide⟩ : Fin 2) (⟨3, by decide⟩ : Fin 4) q (0 : Fin 1)) = A1 (i 1).val x0 x1 s0 s3 3 (by decide) q := by
  unfold runC.sl.S2_8
  refine (rd4u ..).trans ((if_pos (by decide)).trans ?_)
  unfold runC.sl.r_18
  refine (at_al13 ..).trans ?_
  rw [stf, at_r11, ldm1_3]; simp only [at_v394]
  rfl
theorem fin2_10 (f) (q : Fin 256) : arg8.view.read (Elt Ideal) (arg8.view.writes (Elt Ideal) f (runC.sl.S2_8 (F := Ideal) c i arg2 harg2 arg3 harg3 arg6 harg6 arg9 harg9 x0 x1 s0 s3)) (ix4 (⟨1, by decide⟩ : Fin 2) (⟨0, by decide⟩ : Fin 4) q (0 : Fin 1)) = A0 (i 1).val s0 s3 0 (by decide) q := by
  unfold runC.sl.S2_8
  refine (rd4u ..).trans ((if_neg (by decide)).trans ?_)
  refine (rd4u ..).trans ((if_neg (by decide)).trans ?_)
  refine (rd4u ..).trans ((if_neg (by decide)).trans ?_)
  refine (rd4u ..).trans ((if_neg (by decide)).trans ?_)
  refine (rd4u ..).trans ((if_neg (by decide)).trans ?_)
  refine (rd4u ..).trans ((if_neg (by decide)).trans ?_)
  refine (rd4u ..).trans ((if_neg (by decide)).trans ?_)
  refine (rd4u ..).trans ((if_pos (by decide)).trans ?_)
  refine (at_al00 ..).trans ?_
  rw [cst0, ldm0]; simp only [at_v72]
  rfl
theorem fin2_11 (f) (q : Fin 256) : arg8.view.read (Elt Ideal) (arg8.view.writes (Elt Ideal) f (runC.sl.S2_8 (F := Ideal) c i arg2 harg2 arg3 harg3 arg6 harg6 arg9 harg9 x0 x1 s0 s3)) (ix4 (⟨1, by decide⟩ : Fin 2) (⟨1, by decide⟩ : Fin 4) q (0 : Fin 1)) = A0 (i 1).val s0 s3 1 (by decide) q := by
  unfold runC.sl.S2_8
  refine (rd4u ..).trans ((if_neg (by decide)).trans ?_)
  refine (rd4u ..).trans ((if_neg (by decide)).trans ?_)
  refine (rd4u ..).trans ((if_neg (by decide)).trans ?_)
  refine (rd4u ..).trans ((if_neg (by decide)).trans ?_)
  refine (rd4u ..).trans ((if_neg (by decide)).trans ?_)
  refine (rd4u ..).trans ((if_neg (by decide)).trans ?_)
  refine (rd4u ..).trans ((if_pos (by decide)).trans ?_)
  refine (at_al01 ..).trans ?_
  simp only [at_r, at_v98, at_v101]
  rfl
theorem fin2_12 (f) (q : Fin 256) : arg8.view.read (Elt Ideal) (arg8.view.writes (Elt Ideal) f (runC.sl.S2_8 (F := Ideal) c i arg2 harg2 arg3 harg3 arg6 harg6 arg9 harg9 x0 x1 s0 s3)) (ix4 (⟨1, by decide⟩ : Fin 2) (⟨2, by decide⟩ : Fin 4) q (0 : Fin 1)) = A0 (i 1).val s0 s3 2 (by decide) q := by
  unfold runC.sl.S2_8
  refine (rd4u ..).trans ((if_neg (by decide)).trans ?_)
  refine (rd4u ..).trans ((if_neg (by decide)).trans ?_)
  refine (rd4u ..).trans ((if_neg (by decide)).trans ?_)
  refine (rd4u ..).trans ((if_neg (by decide)).trans ?_)
  refine (rd4u ..).trans ((if_neg (by decide)).trans ?_)
  refine (rd4u ..).trans ((if_pos (by decide)).trans ?_)
  unfold runC.sl.r_2
  refine (at_al02 ..).trans ?_
  simp only [at_r, at_v124, at_v127]
  rfl
theorem fin2_13 (f) (q : Fin 256) : arg8.view.read (Elt Ideal) (arg8.view.writes (Elt Ideal) f (runC.sl.S2_8 (F := Ideal) c i arg2 harg2 arg3 harg3 arg6 harg6 arg9 harg9 x0 x1 s0 s3)) (ix4 (⟨1, by decide⟩ : Fin 2) (⟨3, by decide⟩ : Fin 4) q (0 : Fin 1)) = A0 (i 1).val s0 s3 3 (by decide) q := by
  unfold runC.sl.S2_8
  refine (rd4u ..).trans ((if_neg (by decide)).trans ?_)
  refine (rd4u ..).trans ((if_neg (by decide)).trans ?_)
  refine (rd4u ..).trans ((if_neg (by decide)).trans ?_)
  refine (rd4u ..).trans ((if_neg (by decide)).trans ?_)
  refine (rd4u ..).trans ((if_pos (by decide)).trans ?_)
  unfold runC.sl.r_5
  refine (at_al03 ..).trans ?_
  simp only [at_r, at_v150, at_v153]
  rfl
theorem ld2_0 (q : Fin 256) : (runC.sl.v424 (F := Ideal) c i arg2 harg2 arg3 harg3 arg6 harg6 arg8 arg9 harg9 x0 x1 s0 s3) (ix4 (0 : Fin 1) (0 : Fin 1) q (0 : Fin 1)) = A0 (i 1).val s0 s3 0 (by decide) q := by
  unfold runC.sl.v424
  rw [cov4]
  refine (at4u ..).trans ?_
  exact fin2_10 ..
theorem ld1_0 (q : Fin 256) (j : Fin 2048) : (runC.sl.v430 (F := Ideal) c i arg2 harg2 arg3 harg3 arg6 harg6 arg7 arg9 harg9 x0 x1 s0 s3) (ix4 (0 : Fin 1) (0 : Fin 1) q j) = P0 (i 1).val s0 s3 0 (by decide) q j := by
  unfold runC.sl.v430
  rw [cov4]
  refine (at4k ..).trans ?_
  exact fin1_10 ..
theorem ld2_1 (q : Fin 256) : (runC.sl.v437 (F := Ideal) c i arg2 harg2 arg3 harg3 arg6 harg6 arg8 arg9 harg9 x0 x1 s0 s3) (ix4 (0 : Fin 1) (0 : Fin 1) q (0 : Fin 1)) = A0 (i 1).val s0 s3 1 (by decide) q := by
  unfold runC.sl.v437
  rw [cov4]
  refine (at4u ..).trans ?_
  exact fin2_11 ..
theorem ld1_1 (q : Fin 256) (j : Fin 2048) : (runC.sl.v443 (F := Ideal) c i arg2 harg2 arg3 harg3 arg6 harg6 arg7 arg9 harg9 x0 x1 s0 s3) (ix4 (0 : Fin 1) (0 : Fin 1) q j) = P0 (i 1).val s0 s3 1 (by decide) q j := by
  unfold runC.sl.v443
  rw [cov4]
  refine (at4k ..).trans ?_
  exact fin1_11 ..
theorem ld2_2 (q : Fin 256) : (runC.sl.v450 (F := Ideal) c i arg2 harg2 arg3 harg3 arg6 harg6 arg8 arg9 harg9 x0 x1 s0 s3) (ix4 (0 : Fin 1) (0 : Fin 1) q (0 : Fin 1)) = A0 (i 1).val s0 s3 2 (by decide) q := by
  unfold runC.sl.v450
  rw [cov4]
  refine (at4u ..).trans ?_
  exact fin2_12 ..
theorem ld1_2 (q : Fin 256) (j : Fin 2048) : (runC.sl.v456 (F := Ideal) c i arg2 harg2 arg3 harg3 arg6 harg6 arg7 arg9 harg9 x0 x1 s0 s3) (ix4 (0 : Fin 1) (0 : Fin 1) q j) = P0 (i 1).val s0 s3 2 (by decide) q j := by
  unfold runC.sl.v456
  rw [cov4]
  refine (at4k ..).trans ?_
  exact fin1_12 ..
theorem ld2_3 (q : Fin 256) : (runC.sl.v463 (F := Ideal) c i arg2 harg2 arg3 harg3 arg6 harg6 arg8 arg9 harg9 x0 x1 s0 s3) (ix4 (0 : Fin 1) (0 : Fin 1) q (0 : Fin 1)) = A0 (i 1).val s0 s3 3 (by decide) q := by
  unfold runC.sl.v463
  rw [cov4]
  refine (at4u ..).trans ?_
  exact fin2_13 ..
theorem ld1_3 (q : Fin 256) (j : Fin 2048) : (runC.sl.v469 (F := Ideal) c i arg2 harg2 arg3 harg3 arg6 harg6 arg7 arg9 harg9 x0 x1 s0 s3) (ix4 (0 : Fin 1) (0 : Fin 1) q j) = P0 (i 1).val s0 s3 3 (by decide) q j := by
  unfold runC.sl.v469
  rw [cov4]
  refine (at4k ..).trans ?_
  exact fin1_13 ..
theorem ldA_0 (q : Fin 256) (j : Fin 256) : (runC.sl.v426 (F := Ideal) c arg4 harg4 arg7 harg7 arg8 harg8 arg10 harg10 x2 s1 s2 s4) (ix3 (0 : Fin 1) q j) = B0 x2 s1 s2 s4 0 (by decide) q j := by
  unfold runC.sl.v426
  rw [cov4]
  refine (at3k ..).trans ?_
  unfold runC.sl.S4_4
  refine (rd3k ..).trans ((if_neg (by decide)).trans ?_)
  refine (rd3k ..).trans ((if_neg (by decide)).trans ?_)
  refine (rd3k ..).trans ((if_neg (by decide)).trans ?_)
  refine (rd3k ..).trans ((if_pos (by decide)).trans ?_)
  unfold runC.sl.r_7
  refine (at_ac00 ..).trans ?_
  rw [show View.readAt (Elt Ideal) arg10.view (Rect.unit (s := S4x256x256) ![0, 0, 0] S1x256x256.size inb_S4x256x256_S1x256x256_0_0_0).toLoadRect (harg10.unread s4) (ix3 (0 : Fin 1) q j) = s4 (ix3 (⟨0, by decide⟩ : Fin 4) q j) from (at3k ..).trans (congrFun (harg10.read_unread s4) _), at_v178]; simp only [at_v184]
  exact congrArg₂ (· + ·) rfl (Finset.sum_congr rfl fun x _ => congrArg₂ (· * ·) rfl (ld_v arg4 harg4 x2 _ _ 0 rfl rfl (by decide) _ x j))
theorem ldA_1 (q : Fin 256) (j : Fin 256) : (runC.sl.v439 (F := Ideal) c i arg2 harg2 arg3 harg3 arg4 harg4 arg6 harg6 arg7 harg7 arg8 harg8 arg9 harg9 arg10 harg10 x0 x1 x2 s0 s1 s2 s3 s4) (ix3 (0 : Fin 1) q j) = B0 x2 s1 s2 s4 1 (by decide) q j := by
  unfold runC.sl.v439
  rw [cov4]
  refine (at3k ..).trans ?_
  unfold runC.sl.S4_5
  refine (rd3k ..).trans ((if_neg (by decide)).trans ?_)
  unfold runC.sl.S4_4
  refine (rd3k ..).trans ((if_neg (by decide)).trans ?_)
  refine (rd3k ..).trans ((if_neg (by decide)).trans ?_)
  refine (rd3k ..).trans ((if_pos (by decide)).trans ?_)
  unfold runC.sl.r_6
  refine (at_ac01 ..).trans ?_
  rw [at_v191, at_v193]; simp only [at_v197]
  exact congrArg₂ (· + ·) rfl (Finset.sum_congr rfl fun x _ => congrArg₂ (· * ·) rfl (ld_v arg4 harg4 x2 _ _ 0 rfl rfl (by decide) _ x j))
theorem ldA_2 (q : Fin 256) (j : Fin 256) : (runC.sl.v452 (F := Ideal) c i arg2 harg2 arg3 harg3 arg4 harg4 arg6 harg6 arg7 harg7 arg8 harg8 arg9 harg9 arg10 harg10 x0 x1 x2 s0 s1 s2 s3 s4) (ix3 (0 : Fin 1) q j) = B0 x2 s1 s2 s4 2 (by decide) q j := by
  unfold runC.sl.v452
  rw [cov4]
  refine (at3k ..).trans ?_
  unfold runC.sl.S4_6
  refine (rd3k ..).trans ((if_neg (by decide)).trans ?_)
  unfold runC.sl.S4_5
  refine (rd3k ..).trans ((if_neg (by decide)).trans ?_)
  unfold runC.sl.S4_4
  refine (rd3k ..).trans ((if_neg (by decide)).trans ?_)
  refine (rd3k ..).trans ((if_pos (by decide)).trans ?_)
  unfold runC.sl.r_9 runC.sl.r_6
  refine (at_ac02 ..).trans ?_
  rw [at_v204, at_v206]; simp only [at_v210]
  exact congrArg₂ (· + ·) rfl (Finset.sum_congr rfl fun x _ => congrArg₂ (· * ·) rfl (ld_v arg4 harg4 x2 _ _ 0 rfl rfl (by decide) _ x j))
theorem ldA_3 (q : Fin 256) (j : Fin 256) : (runC.sl.v465 (F := Ideal) c i arg2 harg2 arg3 harg3 arg4 harg4 arg6 harg6 arg7 harg7 arg8 harg8 arg9 harg9 arg10 harg10 x0 x1 x2 s0 s1 s2 s3 s4) (ix3 (0 : Fin 1) q j) = B0 x2 s1 s2 s4 3 (by decide) q j := by
  unfold runC.sl.v465
  rw [cov4]
  refine (at3k ..).trans ?_
  unfold runC.sl.S4_7
  refine (rd3k ..).trans ((if_neg (by decide)).trans ?_)
  unfold runC.sl.S4_6
  refine (rd3k ..).trans ((if_neg (by decide)).trans ?_)
  unfold runC.sl.S4_5
  refine (rd3k ..).trans ((if_neg (by decide)).trans ?_)
  unfold runC.sl.S4_4
  refine (rd3k ..).trans ((if_pos (by decide)).trans ?_)
  unfold runC.sl.r_6
  refine (at_ac03 ..).trans ?_
  rw [at_v217, at_v219]; simp only [at_v223]
  exact congrArg₂ (· + ·) rfl (Finset.sum_congr rfl fun x _ => congrArg₂ (· * ·) rfl (ld_v arg4 harg4 x2 _ _ 0 rfl rfl (by decide) _ x j))
theorem fin4_0 (f) (q : Fin 256) (j : Fin 256) : arg10.view.read (Elt Ideal) (arg10.view.writes (Elt Ideal) f (runC.sl.S4_8 (F := Ideal) c i arg2 harg2 arg3 harg3 arg4 harg4 arg6 harg6 arg7 harg7 arg8 harg8 arg9 harg9 arg10 harg10 x0 x1 x2 s0 s1 s2 s3 s4)) (ix3 (⟨0, by decide⟩ : Fin 4) q j) = B1 (i 1).val x2 s0 s1 s2 s3 s4 0 (by decide) q j := by
  unfold runC.sl.S4_8
  refine (rd3k ..).trans ((if_neg (by decide)).trans ?_)
  unfold runC.sl.S4_7
  refine (rd3k ..).trans ((if_neg (by decide)).trans ?_)
  unfold runC.sl.S4_6
  refine (rd3k ..).trans ((if_neg (by decide)).trans ?_)
  unfold runC.sl.S4_5
  refine (rd3k ..).trans ((if_pos (by decide)).trans ?_)
  refine (at_ac10 ..).trans ?_
  rw [ld2_0, ldA_0]; simp only [ld1_0]
  exact congrArg₂ (· + ·) rfl (Finset.sum_congr rfl fun x _ => congrArg₂ (· * ·) rfl (ld_v arg4 harg4 x2 _ _ 1 rfl rfl (by decide) _ x j))
theorem fin4_1 (f) (q : Fin 256) (j : Fin 256) : arg10.view.read (Elt Ideal) (arg10.view.writes (Elt Ideal) f (runC.sl.S4_8 (F := Ideal) c i arg2 harg2 arg3 harg3 arg4 harg4 arg6 harg6 arg7 harg7 arg8 harg8 arg9 harg9 arg10 harg10 x0 x1 x2 s0 s1 s2 s3 s4)) (ix3 (⟨1, by decide⟩ : Fin 4) q j) = B1 (i 1).val x2 s0 s1 s2 s3 s4 1 (by decide) q j := by
  unfold runC.sl.S4_8
  refine (rd3k ..).trans ((if_neg (by decide)).trans ?_)
  unfold runC.sl.S4_7
  refine (rd3k ..).trans ((if_neg (by decide)).trans ?_)
  unfold runC.sl.S4_6
  refine (rd3k ..).trans ((if_pos (by decide)).trans ?_)
  unfold runC.sl.r_20
  refine (at_ac11 ..).trans ?_
  rw [ld2_1, ldA_1]; simp only [ld1_1]
  exact congrArg₂ (· + ·) rfl (Finset.sum_congr rfl fun x _ => congrArg₂ (· * ·) rfl (ld_v arg4 harg4 x2 _ _ 1 rfl rfl (by decide) _ x j))
theorem fin4_2 (f) (q : Fin 256) (j : Fin 256) : arg10.view.read (Elt Ideal) (arg10.view.writes (Elt Ideal) f (runC.sl.S4_8 (F := Ideal) c i arg2 harg2 arg3 harg3 arg4 harg4 arg6 harg6 arg7 harg7 arg8 harg8 arg9 harg9 arg10 harg10 x0 x1 x2 s0 s1 s2 s3 s4)) (ix3 (⟨2, by decide⟩ : Fin 4) q j) = B1 (i 1).val x2 s0 s1 s2 s3 s4 2 (by decide) q j := by
  unfold runC.sl.S4_8
  refine (rd3k ..).trans ((if_neg (by decide)).trans ?_)
  unfold runC.sl.S4_7
  refine (rd3k ..).trans ((if_pos (by decide)).trans ?_)
  unfold runC.sl.r_20
  refine (at_ac12 ..).trans ?_
  rw [ld2_2, ldA_2]; simp only [ld1_2]
  exact congrArg₂ (· + ·) rfl (Finset.sum_congr rfl fun x _ => congrArg₂ (· * ·) rfl (ld_v arg4 harg4 x2 _ _ 1 rfl rfl (by decide) _ x j))
theorem fin4_3 (f) (q : Fin 256) (j : Fin 256) : arg10.view.read (Elt Ideal) (arg10.view.writes (Elt Ideal) f (runC.sl.S4_8 (F := Ideal) c i arg2 harg2 arg3 harg3 arg4 harg4 arg6 harg6 arg7 harg7 arg8 harg8 arg9 harg9 arg10 harg10 x0 x1 x2 s0 s1 s2 s3 s4)) (ix3 (⟨3, by decide⟩ : Fin 4) q j) = B1 (i 1).val x2 s0 s1 s2 s3 s4 3 (by decide) q j := by
  unfold runC.sl.S4_8
  refine (rd3k ..).trans ((if_pos (by decide)).trans ?_)
  unfold runC.sl.r_20 runC.sl.r_21
  refine (at_ac13 ..).trans ?_
  rw [ld2_3, ldA_3]; simp only [ld1_3]
  exact congrArg₂ (· + ·) rfl (Finset.sum_congr rfl fun x _ => congrArg₂ (· * ·) rfl (ld_v arg4 harg4 x2 _ _ 1 rfl rfl (by decide) _ x j))
theorem ldO_0 (q : Fin 256) (j : Fin 256) : (runC.sl.v496 (F := Ideal) c i arg2 harg2 arg3 harg3 arg4 harg4 arg6 harg6 arg7 harg7 arg8 harg8 arg9 harg9 arg10 harg10 x0 x1 x2 s0 s1 s2 s3 s4) (ix3 (0 : Fin 1) q j) = B1 (i 1).val x2 s0 s1 s2 s3 s4 0 (by decide) q j := by
  unfold runC.sl.v496
  rw [cov4]
  refine (at3k ..).trans ?_
  exact fin4_0 ..
theorem finO_0 (f) (q : Fin 256) (d : Fin 128) : arg5.view.read (Elt Ideal) (arg5.view.writes (Elt Ideal) f [(⟨Rect.unit (s := S256x512) ![0, 384] S256x128.size inb_S256x512_S256x128_0_384, k0_pay4 (F := Ideal) (runC.sl.v517 (F := Ideal) c i arg2 harg2 arg3 harg3 arg4 harg4 arg6 harg6 arg7 harg7 arg8 harg8 arg9 harg9 arg10 harg10 x0 x1 x2 s0 s1 s2 s3 s4)⟩ : View.Piece (Elt Ideal) S256x512 .bf16), (⟨Rect.unit (s := S256x512) ![0, 256] S256x128.size inb_S256x512_S256x128_0_256, k0_pay3 (F := Ideal) (runC.sl.v510 (F := Ideal) c i arg2 harg2 arg3 harg3 arg4 harg4 arg6 harg6 arg7 harg7 arg8 harg8 arg9 harg9 arg10 harg10 x0 x1 x2 s0 s1 s2 s3 s4)⟩ : View.Piece (Elt Ideal) S256x512 .bf16), (⟨Rect.unit (s := S256x512) ![0, 128] S256x128.size inb_S256x512_S256x128_0_128, k0_pay2 (F := Ideal) (runC.sl.v503 (F := Ideal) c i arg2 harg2 arg3 harg3 arg4 harg4 arg6 harg6 arg7 harg7 arg8 harg8 arg9 harg9 arg10 harg10 x0 x1 x2 s0 s1 s2 s3 s4)⟩ : View.Piece (Elt Ideal) S256x512 .bf16), (⟨Rect.unit (s := S256x512) ![0, 0] S256x128.size inb_S256x512_S256x128_0_0, k0_pay1 (F := Ideal) (runC.sl.v496 (F := Ideal) c i arg2 harg2 arg3 harg3 arg4 harg4 arg6 harg6 arg7 harg7 arg8 harg8 arg9 harg9 arg10 harg10 x0 x1 x2 s0 s1 s2 s3 s4)⟩ : View.Piece (Elt Ideal) S256x512 .bf16)]) (ix2 q (⟨0 + d.val, by have := d.isLt; omega⟩ : Fin 512)) = Ideal.div (B1 (i 1).val x2 s0 s1 s2 s3 s4 0 (by decide) q (⟨d.val, by have := d.isLt; omega⟩ : Fin 256)) (B1 (i 1).val x2 s0 s1 s2 s3 s4 0 (by decide) q (⟨128 + d.val, by have := d.isLt; omega⟩ : Fin 256)) := by
  refine (rd2_miss _ _ _ _ _ _ _ (Or.inl (by have := d.isLt; show 0 + d.val < 384; omega))).trans ?_
  refine (rd2_miss _ _ _ _ _ _ _ (Or.inl (by have := d.isLt; show 0 + d.val < 256; omega))).trans ?_
  refine (rd2_miss _ _ _ _ _ _ _ (Or.inl (by have := d.isLt; show 0 + d.val < 128; omega))).trans ?_
  refine (rd2_hit _ _ _ _ _ q d _ rfl).trans ?_
  refine (at_o1 ..).trans ?_
  rw [ldO_0, ldO_0]
theorem ldO_1 (q : Fin 256) (j : Fin 256) : (runC.sl.v503 (F := Ideal) c i arg2 harg2 arg3 harg3 arg4 harg4 arg6 harg6 arg7 harg7 arg8 harg8 arg9 harg9 arg10 harg10 x0 x1 x2 s0 s1 s2 s3 s4) (ix3 (0 : Fin 1) q j) = B1 (i 1).val x2 s0 s1 s2 s3 s4 1 (by decide) q j := by
  unfold runC.sl.v503
  rw [cov4]
  refine (at3k ..).trans ?_
  exact fin4_1 ..
theorem finO_1 (f) (q : Fin 256) (d : Fin 128) : arg5.view.read (Elt Ideal) (arg5.view.writes (Elt Ideal) f [(⟨Rect.unit (s := S256x512) ![0, 384] S256x128.size inb_S256x512_S256x128_0_384, k0_pay4 (F := Ideal) (runC.sl.v517 (F := Ideal) c i arg2 harg2 arg3 harg3 arg4 harg4 arg6 harg6 arg7 harg7 arg8 harg8 arg9 harg9 arg10 harg10 x0 x1 x2 s0 s1 s2 s3 s4)⟩ : View.Piece (Elt Ideal) S256x512 .bf16), (⟨Rect.unit (s := S256x512) ![0, 256] S256x128.size inb_S256x512_S256x128_0_256, k0_pay3 (F := Ideal) (runC.sl.v510 (F := Ideal) c i arg2 harg2 arg3 harg3 arg4 harg4 arg6 harg6 arg7 harg7 arg8 harg8 arg9 harg9 arg10 harg10 x0 x1 x2 s0 s1 s2 s3 s4)⟩ : View.Piece (Elt Ideal) S256x512 .bf16), (⟨Rect.unit (s := S256x512) ![0, 128] S256x128.size inb_S256x512_S256x128_0_128, k0_pay2 (F := Ideal) (runC.sl.v503 (F := Ideal) c i arg2 harg2 arg3 harg3 arg4 harg4 arg6 harg6 arg7 harg7 arg8 harg8 arg9 harg9 arg10 harg10 x0 x1 x2 s0 s1 s2 s3 s4)⟩ : View.Piece (Elt Ideal) S256x512 .bf16), (⟨Rect.unit (s := S256x512) ![0, 0] S256x128.size inb_S256x512_S256x128_0_0, k0_pay1 (F := Ideal) (runC.sl.v496 (F := Ideal) c i arg2 harg2 arg3 harg3 arg4 harg4 arg6 harg6 arg7 harg7 arg8 harg8 arg9 harg9 arg10 harg10 x0 x1 x2 s0 s1 s2 s3 s4)⟩ : View.Piece (Elt Ideal) S256x512 .bf16)]) (ix2 q (⟨128 + d.val, by have := d.isLt; omega⟩ : Fin 512)) = Ideal.div (B1 (i 1).val x2 s0 s1 s2 s3 s4 1 (by decide) q (⟨d.val, by have := d.isLt; omega⟩ : Fin 256)) (B1 (i 1).val x2 s0 s1 s2 s3 s4 1 (by decide) q (⟨128 + d.val, by have := d.isLt; omega⟩ : Fin 256)) := by
  refine (rd2_miss _ _ _ _ _ _ _ (Or.inl (by have := d.isLt; show 128 + d.val < 384; omega))).trans ?_
  refine (rd2_miss _ _ _ _ _ _ _ (Or.inl (by have := d.isLt; show 128 + d.val < 256; omega))).trans ?_
  refine (rd2_hit _ _ _ _ _ q d _ rfl).trans ?_
  refine (at_o2 ..).trans ?_
  rw [ldO_1, ldO_1]
theorem ldO_2 (q : Fin 256) (j : Fin 256) : (runC.sl.v510 (F := Ideal) c i arg2 harg2 arg3 harg3 arg4 harg4 arg6 harg6 arg7 harg7 arg8 harg8 arg9 harg9 arg10 harg10 x0 x1 x2 s0 s1 s2 s3 s4) (ix3 (0 : Fin 1) q j) = B1 (i 1).val x2 s0 s1 s2 s3 s4 2 (by decide) q j := by
  unfold runC.sl.v510
  rw [cov4]
  refine (at3k ..).trans ?_
  exact fin4_2 ..
theorem finO_2 (f) (q : Fin 256) (d : Fin 128) : arg5.view.read (Elt Ideal) (arg5.view.writes (Elt Ideal) f [(⟨Rect.unit (s := S256x512) ![0, 384] S256x128.size inb_S256x512_S256x128_0_384, k0_pay4 (F := Ideal) (runC.sl.v517 (F := Ideal) c i arg2 harg2 arg3 harg3 arg4 harg4 arg6 harg6 arg7 harg7 arg8 harg8 arg9 harg9 arg10 harg10 x0 x1 x2 s0 s1 s2 s3 s4)⟩ : View.Piece (Elt Ideal) S256x512 .bf16), (⟨Rect.unit (s := S256x512) ![0, 256] S256x128.size inb_S256x512_S256x128_0_256, k0_pay3 (F := Ideal) (runC.sl.v510 (F := Ideal) c i arg2 harg2 arg3 harg3 arg4 harg4 arg6 harg6 arg7 harg7 arg8 harg8 arg9 harg9 arg10 harg10 x0 x1 x2 s0 s1 s2 s3 s4)⟩ : View.Piece (Elt Ideal) S256x512 .bf16), (⟨Rect.unit (s := S256x512) ![0, 128] S256x128.size inb_S256x512_S256x128_0_128, k0_pay2 (F := Ideal) (runC.sl.v503 (F := Ideal) c i arg2 harg2 arg3 harg3 arg4 harg4 arg6 harg6 arg7 harg7 arg8 harg8 arg9 harg9 arg10 harg10 x0 x1 x2 s0 s1 s2 s3 s4)⟩ : View.Piece (Elt Ideal) S256x512 .bf16), (⟨Rect.unit (s := S256x512) ![0, 0] S256x128.size inb_S256x512_S256x128_0_0, k0_pay1 (F := Ideal) (runC.sl.v496 (F := Ideal) c i arg2 harg2 arg3 harg3 arg4 harg4 arg6 harg6 arg7 harg7 arg8 harg8 arg9 harg9 arg10 harg10 x0 x1 x2 s0 s1 s2 s3 s4)⟩ : View.Piece (Elt Ideal) S256x512 .bf16)]) (ix2 q (⟨256 + d.val, by have := d.isLt; omega⟩ : Fin 512)) = Ideal.div (B1 (i 1).val x2 s0 s1 s2 s3 s4 2 (by decide) q (⟨d.val, by have := d.isLt; omega⟩ : Fin 256)) (B1 (i 1).val x2 s0 s1 s2 s3 s4 2 (by decide) q (⟨128 + d.val, by have := d.isLt; omega⟩ : Fin 256)) := by
  refine (rd2_miss _ _ _ _ _ _ _ (Or.inl (by have := d.isLt; show 256 + d.val < 384; omega))).trans ?_
  refine (rd2_hit _ _ _ _ _ q d _ rfl).trans ?_
  refine (at_o3 ..).trans ?_
  rw [ldO_2, ldO_2]
theorem ldO_3 (q : Fin 256) (j : Fin 256) : (runC.sl.v517 (F := Ideal) c i arg2 harg2 arg3 harg3 arg4 harg4 arg6 harg6 arg7 harg7 arg8 harg8 arg9 harg9 arg10 harg10 x0 x1 x2 s0 s1 s2 s3 s4) (ix3 (0 : Fin 1) q j) = B1 (i 1).val x2 s0 s1 s2 s3 s4 3 (by decide) q j := by
  unfold runC.sl.v517
  rw [cov4]
  refine (at3k ..).trans ?_
  exact fin4_3 ..
theorem finO_3 (f) (q : Fin 256) (d : Fin 128) : arg5.view.read (Elt Ideal) (arg5.view.writes (Elt Ideal) f [(⟨Rect.unit (s := S256x512) ![0, 384] S256x128.size inb_S256x512_S256x128_0_384, k0_pay4 (F := Ideal) (runC.sl.v517 (F := Ideal) c i arg2 harg2 arg3 harg3 arg4 harg4 arg6 harg6 arg7 harg7 arg8 harg8 arg9 harg9 arg10 harg10 x0 x1 x2 s0 s1 s2 s3 s4)⟩ : View.Piece (Elt Ideal) S256x512 .bf16), (⟨Rect.unit (s := S256x512) ![0, 256] S256x128.size inb_S256x512_S256x128_0_256, k0_pay3 (F := Ideal) (runC.sl.v510 (F := Ideal) c i arg2 harg2 arg3 harg3 arg4 harg4 arg6 harg6 arg7 harg7 arg8 harg8 arg9 harg9 arg10 harg10 x0 x1 x2 s0 s1 s2 s3 s4)⟩ : View.Piece (Elt Ideal) S256x512 .bf16), (⟨Rect.unit (s := S256x512) ![0, 128] S256x128.size inb_S256x512_S256x128_0_128, k0_pay2 (F := Ideal) (runC.sl.v503 (F := Ideal) c i arg2 harg2 arg3 harg3 arg4 harg4 arg6 harg6 arg7 harg7 arg8 harg8 arg9 harg9 arg10 harg10 x0 x1 x2 s0 s1 s2 s3 s4)⟩ : View.Piece (Elt Ideal) S256x512 .bf16), (⟨Rect.unit (s := S256x512) ![0, 0] S256x128.size inb_S256x512_S256x128_0_0, k0_pay1 (F := Ideal) (runC.sl.v496 (F := Ideal) c i arg2 harg2 arg3 harg3 arg4 harg4 arg6 harg6 arg7 harg7 arg8 harg8 arg9 harg9 arg10 harg10 x0 x1 x2 s0 s1 s2 s3 s4)⟩ : View.Piece (Elt Ideal) S256x512 .bf16)]) (ix2 q (⟨384 + d.val, by have := d.isLt; omega⟩ : Fin 512)) = Ideal.div (B1 (i 1).val x2 s0 s1 s2 s3 s4 3 (by decide) q (⟨d.val, by have := d.isLt; omega⟩ : Fin 256)) (B1 (i 1).val x2 s0 s1 s2 s3 s4 3 (by decide) q (⟨128 + d.val, by have := d.isLt; omega⟩ : Fin 256)) := by
  refine (rd2_hit _ _ _ _ _ q d _ rfl).trans ?_
  refine (at_o4 ..).trans ?_
  rw [ldO_3, ldO_3]

end Cert.KernelIdeal.Flash

end
-- ==== Proof.KI.Step.lean ====
/- One step of the attention kernel as a relation between what its scratch held and what it holds. -/
module

public import proofs.«01_k».proof.Proof.KI.Fact1

@[expose] public section

set_option maxRecDepth 16384

noncomputable section

namespace Cert.KernelIdeal.Flash

open Idealize.ShloMosaic Cert.KernelIdeal.Gen

/-- What a step needs known of the scratch it leaves: the scores of the second half, the weights and rescaling of the first half of its own entry,
    the running maximum, and the accumulator. -/
structure Stp (n : ℕ) (x0 : Vec Ideal S256x512 .bf16) (x1 : Vec Ideal S4096x128 .bf16) (x2 : Vec Ideal S4096x256 .bf16) (s0 : Vec Ideal S2x4x256x2048 .f32) (s1 : Vec Ideal S2x4x256x2048 .bf16) (s2 : Vec Ideal S2x4x256x1 .f32) (s3 : Vec Ideal S2x4x256x1 .f32) (s4 : Vec Ideal S4x256x256 .f32)
    (t0 : Vec Ideal S2x4x256x2048 .f32) (t1 : Vec Ideal S2x4x256x2048 .bf16) (t2 : Vec Ideal S2x4x256x1 .f32) (t3 : Vec Ideal S2x4x256x1 .f32) (t4 : Vec Ideal S4x256x256 .f32) : Prop where
  h0 : ∀ (r : Fin 4) (q : Fin 256) (j : Fin 2048), t0 (ix4 (1 : Fin 2) r q j) = Sc x0 x1 1 r.val (by decide) r.isLt q j
  h1 : ∀ (r : Fin 4) (q : Fin 256) (j : Fin 2048), t1 (ix4 (0 : Fin 2) r q j) = P1 n x0 x1 s0 s3 r.val r.isLt q j
  h2 : ∀ (r : Fin 4) (q : Fin 256), t2 (ix4 (0 : Fin 2) r q (0 : Fin 1)) = A1 n x0 x1 s0 s3 r.val r.isLt q
  h3 : ∀ (r : Fin 4) (q : Fin 256), t3 (ix4 (⟨par n 1, par_lt _ _⟩ : Fin 2) r q (0 : Fin 1)) = M1 n x0 x1 s0 s3 r.val r.isLt q
  h4 : ∀ (r : Fin 4) (q j : Fin 256), t4 (ix3 r q j) = B1 n x2 s0 s1 s2 s3 s4 r.val r.isLt q j

theorem of4 {p : Fin 4 → Prop} (h0 : p ⟨0, by decide⟩) (h1 : p ⟨1, by decide⟩) (h2 : p ⟨2, by decide⟩) (h3 : p ⟨3, by decide⟩) (r : Fin 4) : p r := by
  rcases r with ⟨_ | _ | _ | _ | r, hr⟩
  · exact h0
  · exact h1
  · exact h2
  · exact h3
  · omega

variable (c : Dev nD) (i : grid0.Coords) (arg2 : Memref sig .tc .vmem S256x512 .bf16) (harg2 : arg2.IsWhole) (arg3 : Memref sig .tc .vmem S4096x128 .bf16) (harg3 : arg3.IsWhole) (arg4 : Memref sig .tc .vmem S4096x256 .bf16) (harg4 : arg4.IsWhole) (arg5 : Memref sig .tc .vmem S256x512 .bf16) (harg5 : arg5.IsWhole) (arg6 : Memref sig .tc .vmem S2x4x256x2048 .f32) (harg6 : arg6.IsWhole) (arg7 : Memref sig .tc .vmem S2x4x256x2048 .bf16) (harg7 : arg7.IsWhole) (arg8 : Memref sig .tc .vmem S2x4x256x1 .f32) (harg8 : arg8.IsWhole) (arg9 : Memref sig .tc .vmem S2x4x256x1 .f32) (harg9 : arg9.IsWhole) (arg10 : Memref sig .tc .vmem S4x256x256 .f32) (harg10 : arg10.IsWhole) (x0 : Vec Ideal S256x512 .bf16) (x1 : Vec Ideal S4096x128 .bf16) (x2 : Vec Ideal S4096x256 .bf16) (xo : Vec Ideal S256x512 .bf16) (s0 : Vec Ideal S2x4x256x2048 .f32) (s1 : Vec Ideal S2x4x256x2048 .bf16) (s2 : Vec Ideal S2x4x256x1 .f32) (s3 : Vec Ideal S2x4x256x1 .f32) (s4 : Vec Ideal S4x256x256 .f32)

theorem stepC (hc : k0_cond2 i = 1#1) (f0 f1 f2 f4) : Stp (i 1).val x0 x1 x2 s0 s1 s2 s3 s4 (arg6.view.read (Elt Ideal) (arg6.view.writes (Elt Ideal) f0 (runC (F := Ideal) c i arg2 harg2 arg3 harg3 arg4 harg4 arg5 harg5 arg6 harg6 arg7 harg7 arg8 harg8 arg9 harg9 arg10 harg10 hc x0 x1 x2 xo s0 s1 s2 s3 s4).1.2.1)) (arg7.view.read (Elt Ideal) (arg7.view.writes (Elt Ideal) f1 (runC (F := Ideal) c i arg2 harg2 arg3 harg3 arg4 harg4 arg5 harg5 arg6 harg6 arg7 harg7 arg8 harg8 arg9 harg9 arg10 harg10 hc x0 x1 x2 xo s0 s1 s2 s3 s4).1.2.2.1)) (arg8.view.read (Elt Ideal) (arg8.view.writes (Elt Ideal) f2 (runC (F := Ideal) c i arg2 harg2 arg3 harg3 arg4 harg4 arg5 harg5 arg6 harg6 arg7 harg7 arg8 harg8 arg9 harg9 arg10 harg10 hc x0 x1 x2 xo s0 s1 s2 s3 s4).1.2.2.2.1)) (arg9.view.read (Elt Ideal) (arg9.view.writes (Elt Ideal) (harg9.unread s3) (runC (F := Ideal) c i arg2 harg2 arg3 harg3 arg4 harg4 arg5 harg5 arg6 harg6 arg7 harg7 arg8 harg8 arg9 harg9 arg10 harg10 hc x0 x1 x2 xo s0 s1 s2 s3 s4).1.2.2.2.2.1)) (arg10.view.read (Elt Ideal) (arg10.view.writes (Elt Ideal) f4 (runC (F := Ideal) c i arg2 harg2 arg3 harg3 arg4 harg4 arg5 harg5 arg6 harg6 arg7 harg7 arg8 harg8 arg9 harg9 arg10 harg10 hc x0 x1 x2 xo s0 s1 s2 s3 s4).1.2.2.2.2.2)) where
  h0 := of4 (sc10 c i arg2 harg2 arg3 harg3 arg6 x0 x1 f0) (sc11 c i arg2 harg2 arg3 harg3 arg6 x0 x1 f0) (sc12 c i arg2 harg2 arg3 harg3 arg6 x0 x1 f0) (sc13 c i arg2 harg2 arg3 harg3 arg6 x0 x1 f0)
  h1 := of4 (fun q j => fin1_00 (f := f1) (q := q) (j := j) ..) (fun q j => fin1_01 (f := f1) (q := q) (j := j) ..) (fun q j => fin1_02 (f := f1) (q := q) (j := j) ..) (fun q j => fin1_03 (f := f1) (q := q) (j := j) ..)
  h2 := of4 (fun q => fin2_00 (f := f2) (q := q) ..) (fun q => fin2_01 (f := f2) (q := q) ..) (fun q => fin2_02 (f := f2) (q := q) ..) (fun q => fin2_03 (f := f2) (q := q) ..)
  h3 := of4 (fun q => fin3_0 (f := harg9.unread s3) (q := q) ..) (fun q => fin3_1 (f := harg9.unread s3) (q := q) ..) (fun q => fin3_2 (f := harg9.unread s3) (q := q) ..) (fun q => fin3_3 (f := harg9.unread s3) (q := q) ..)
  h4 := of4 (fun q j => fin4_0 (f := f4) (q := q) (j := j) ..) (fun q j => fin4_1 (f := f4) (q := q) (j := j) ..) (fun q j => fin4_2 (f := f4) (q := q) (j := j) ..) (fun q j => fin4_3 (f := f4) (q := q) (j := j) ..)
theorem runs_eq (hc : k0_cond2 i = 1#1) (hb : ¬k0_cond2 i = 1#1) : (runB (F := Ideal) c i arg2 harg2 arg3 harg3 arg4 harg4 arg5 harg5 arg6 harg6 arg7 harg7 arg8 harg8 arg9 harg9 arg10 harg10 hb x0 x1 x2 xo s0 s1 s2 s3 s4).1 = (runC (F := Ideal) c i arg2 harg2 arg3 harg3 arg4 harg4 arg5 harg5 arg6 harg6 arg7 harg7 arg8 harg8 arg9 harg9 arg10 harg10 hc x0 x1 x2 xo s0 s1 s2 s3 s4).1.2 := rfl
theorem stepB (hc : ¬k0_cond2 i = 1#1) (f0 f1 f2 f4) : Stp (i 1).val x0 x1 x2 s0 s1 s2 s3 s4 (arg6.view.read (Elt Ideal) (arg6.view.writes (Elt Ideal) f0 (runB (F := Ideal) c i arg2 harg2 arg3 harg3 arg4 harg4 arg5 harg5 arg6 harg6 arg7 harg7 arg8 harg8 arg9 harg9 arg10 harg10 hc x0 x1 x2 xo s0 s1 s2 s3 s4).1.1)) (arg7.view.read (Elt Ideal) (arg7.view.writes (Elt Ideal) f1 (runB (F := Ideal) c i arg2 harg2 arg3 harg3 arg4 harg4 arg5 harg5 arg6 harg6 arg7 harg7 arg8 harg8 arg9 harg9 arg10 harg10 hc x0 x1 x2 xo s0 s1 s2 s3 s4).1.2.1)) (arg8.view.read (Elt Ideal) (arg8.view.writes (Elt Ideal) f2 (runB (F := Ideal) c i arg2 harg2 arg3 harg3 arg4 harg4 arg5 harg5 arg6 harg6 arg7 harg7 arg8 harg8 arg9 harg9 arg10 harg10 hc x0 x1 x2 xo s0 s1 s2 s3 s4).1.2.2.1)) (arg9.view.read (Elt Ideal) (arg9.view.writes (Elt Ideal) (harg9.unread s3) (runB (F := Ideal) c i arg2 harg2 arg3 harg3 arg4 harg4 arg5 harg5 arg6 harg6 arg7 harg7 arg8 harg8 arg9 harg9 arg10 harg10 hc x0 x1 x2 xo s0 s1 s2 s3 s4).1.2.2.2.1)) (arg10.view.read (Elt Ideal) (arg10.view.writes (Elt Ideal) f4 (runB (F := Ideal) c i arg2 harg2 arg3 harg3 arg4 harg4 arg5 harg5 arg6 harg6 arg7 harg7 arg8 harg8 arg9 harg9 arg10 harg10 hc x0 x1 x2 xo s0 s1 s2 s3 s4).1.2.2.2.2)) where
  h0 := of4 (sc10 c i arg2 harg2 arg3 harg3 arg6 x0 x1 f0) (sc11 c i arg2 harg2 arg3 harg3 arg6 x0 x1 f0) (sc12 c i arg2 harg2 arg3 harg3 arg6 x0 x1 f0) (sc13 c i arg2 harg2 arg3 harg3 arg6 x0 x1 f0)
  h1 := of4 (fun q j => fin1_00 (f := f1) (q := q) (j := j) ..) (fun q j => fin1_01 (f := f1) (q := q) (j := j) ..) (fun q j => fin1_02 (f := f1) (q := q) (j := j) ..) (fun q j => fin1_03 (f := f1) (q := q) (j := j) ..)
  h2 := of4 (fun q => fin2_00 (f := f2) (q := q) ..) (fun q => fin2_01 (f := f2) (q := q) ..) (fun q => fin2_02 (f := f2) (q := q) ..) (fun q => fin2_03 (f := f2) (q := q) ..)
  h3 := of4 (fun q => fin3_0 (f := harg9.unread s3) (q := q) ..) (fun q => fin3_1 (f := harg9.unread s3) (q := q) ..) (fun q => fin3_2 (f := harg9.unread s3) (q := q) ..) (fun q => fin3_3 (f := harg9.unread s3) (q := q) ..)
  h4 := of4 (fun q j => fin4_0 (f := f4) (q := q) (j := j) ..) (fun q j => fin4_1 (f := f4) (q := q) (j := j) ..) (fun q j => fin4_2 (f := f4) (q := q) (j := j) ..) (fun q j => fin4_3 (f := f4) (q := q) (j := j) ..)
theorem outC (hc : k0_cond2 i = 1#1) (f) (r : Fin 4) (q : Fin 256) (d : Fin 128) :
    arg5.view.read (Elt Ideal) (arg5.view.writes (Elt Ideal) f (runC (F := Ideal) c i arg2 harg2 arg3 harg3 arg4 harg4 arg5 harg5 arg6 harg6 arg7 harg7 arg8 harg8 arg9 harg9 arg10 harg10 hc x0 x1 x2 xo s0 s1 s2 s3 s4).1.1) (ix2 q (⟨128 * r.val + d.val, by have := d.isLt; have := r.isLt; omega⟩ : Fin 512))
      = Ideal.div (B1 (i 1).val x2 s0 s1 s2 s3 s4 r.val r.isLt q (⟨d.val, by have := d.isLt; omega⟩ : Fin 256)) (B1 (i 1).val x2 s0 s1 s2 s3 s4 r.val r.isLt q (⟨128 + d.val, by have := d.isLt; omega⟩ : Fin 256)) := by
  revert r
  exact of4 (finO_0 (f := f) (q := q) (d := d) ..) (finO_1 (f := f) (q := q) (d := d) ..) (finO_2 (f := f) (q := q) (d := d) ..) (finO_3 (f := f) (q := q) (d := d) ..)

end Cert.KernelIdeal.Flash

end
-- ==== Proof.KI.Pure.lean ====
/- The blockwise softmax as a recurrence: what a row's scratch holds before a step, and that a step keeps it. -/
module

public import proofs.«01_k».proof.Proof.KI.Step

@[expose] public section

set_option maxRecDepth 16384

noncomputable section

namespace Cert.KernelIdeal.Flash

open Idealize.ShloMosaic Cert.KernelIdeal.Gen

/-- Two to a real power. -/
def E (x : ℝ) : ℝ := Real.rpow 2 x
theorem E_add (x y : ℝ) : E x * E y = E (x + y) := (Real.rpow_add (by norm_num) x y).symm
theorem E_pos (x : ℝ) : 0 < E x := Real.rpow_pos_of_pos (by norm_num) x
theorem exp2_sub (x y : ℝ) : Ideal.exp2 ((x : EReal) - (y : EReal)) = ((E (x - y) : ℝ) : EReal) := by
  rw [← EReal.coe_sub]; rfl

/-- The running maximum of the scores `σ` over the first `k` blocks of 2048 keys. -/
def Mx (σ : ℕ → ℝ) : ℕ → EReal
  | 0 => ⊥
  | k + 1 => max (Mx σ k) (Finset.fold max ⊥ (fun j : Fin 2048 => ((σ (2048 * k + j.val) : ℝ) : EReal)) Finset.univ)
/-- The same as a real number; of no blocks it is not used. -/
def mr (σ : ℕ → ℝ) (k : ℕ) : ℝ := (Mx σ k).toReal

theorem fold_real {ι : Type} (s : Finset ι) (f : ι → ℝ) : Finset.fold max ⊥ (fun j => ((f j : ℝ) : EReal)) s ≠ ⊤ := by
  classical
  induction s using Finset.induction_on with
  | empty => simp
  | insert a s ha ih =>
    rw [Finset.fold_insert ha]
    rcases max_choice ((f a : ℝ) : EReal) (Finset.fold max ⊥ (fun j => ((f j : ℝ) : EReal)) s) with h | h <;> rw [h]
    · exact EReal.coe_ne_top _
    · exact ih
theorem fold_ge {ι : Type} (s : Finset ι) (f : ι → ℝ) (a : ι) (ha : a ∈ s) : ((f a : ℝ) : EReal) ≤ Finset.fold max ⊥ (fun j => ((f j : ℝ) : EReal)) s :=
  Finset.le_fold_max (s := s) (f := fun j => ((f j : ℝ) : EReal)) (b := ⊥) (c := ((f a : ℝ) : EReal)) |>.mpr (Or.inr ⟨a, ha, le_rfl⟩)

theorem Mx_ne_top (σ : ℕ → ℝ) (k : ℕ) : Mx σ k ≠ ⊤ := by
  induction k with
  | zero => simp [Mx]
  | succ k ih =>
    show max (Mx σ k) _ ≠ ⊤
    rcases max_choice (Mx σ k) (Finset.fold max ⊥ (fun j : Fin 2048 => ((σ (2048 * k + j.val) : ℝ) : EReal)) Finset.univ) with h | h <;> rw [h]
    · exact ih
    · exact fold_real _ _
theorem Mx_ne_bot (σ : ℕ → ℝ) (k : ℕ) : Mx σ (k + 1) ≠ ⊥ := by
  have h : ((σ (2048 * k + (0 : Fin 2048).val) : ℝ) : EReal) ≤ Mx σ (k + 1) :=
    (fold_ge Finset.univ (fun j : Fin 2048 => σ (2048 * k + j.val)) 0 (Finset.mem_univ _)).trans (le_max_right _ _)
  intro hb; rw [hb] at h; exact EReal.coe_ne_bot _ (le_bot_iff.mp h)
theorem Mx_succ (σ : ℕ → ℝ) (k : ℕ) : ((mr σ (k + 1) : ℝ) : EReal) = Mx σ (k + 1) :=
  EReal.coe_toReal (Mx_ne_top σ _) (Mx_ne_bot σ _)
/-- One more block. -/
theorem mx_step (σ : ℕ → ℝ) (k : ℕ) (m : EReal) (s : Fin 2048 → EReal) (hm : m = Mx σ k) (hs : ∀ j, s j = ((σ (2048 * k + j.val) : ℝ) : EReal)) : mx m s 0 = ((mr σ (k + 1) : ℝ) : EReal) := by
  rw [Mx_succ, hm, funext hs]; unfold mx; rw [add_zero]; rfl

/-- The weighted sum over the first `k` blocks, scaled by their maximum. -/
def Acc (σ v : ℕ → ℝ) (k : ℕ) : ℝ := ∑ i ∈ Finset.range (2048 * k), E (σ i - mr σ k) * v i
theorem Acc_succ (σ v : ℕ → ℝ) (k : ℕ) :
    E (mr σ k - mr σ (k + 1)) * Acc σ v k + ∑ j : Fin 2048, E (σ (2048 * k + j.val) - mr σ (k + 1)) * v (2048 * k + j.val) = Acc σ v (k + 1) := by
  unfold Acc
  rw [show 2048 * (k + 1) = 2048 * k + 2048 by ring, Finset.sum_range_add, Finset.mul_sum, ← Fin.sum_univ_eq_sum_range (fun j => E (σ (2048 * k + j) - mr σ (k + 1)) * v (2048 * k + j))]
  congr 1
  refine Finset.sum_congr rfl fun i _ => ?_
  rw [← mul_assoc, E_add]; congr 2; ring
theorem Acc_one (σ v : ℕ → ℝ) : ∑ j : Fin 2048, E (σ (2048 * 0 + j.val) - mr σ 1) * v (2048 * 0 + j.val) = Acc σ v 1 := by
  have h := Acc_succ σ v 0
  rw [show Acc σ v 0 = 0 by simp [Acc], mul_zero, zero_add] at h
  exact h

/-- What the scratch holds once entry `e` has been scored: `σ` the scores by row, map and key, `v` the values by key and column. -/
structure Inv (e : ℕ) (σ : ℕ → ℕ → ℕ → ℝ) (v : ℕ → ℕ → ℝ) (s0 : Vec Ideal S2x4x256x2048 .f32) (s1 : Vec Ideal S2x4x256x2048 .bf16) (s2 : Vec Ideal S2x4x256x1 .f32) (s3 : Vec Ideal S2x4x256x1 .f32) (s4 : Vec Ideal S4x256x256 .f32) : Prop where
  i0 : ∀ (r : Fin 4) (q : Fin 256) (j : Fin 2048), s0 (ix4 (1 : Fin 2) r q j) = ((σ (256 * (e / 4) + q.val) r.val (4096 * (e % 4) + 2048 + j.val) : ℝ) : EReal)
  i1 : ∀ (r : Fin 4) (q : Fin 256) (j : Fin 2048), s1 (ix4 (0 : Fin 2) r q j) = ((E (σ (256 * (e / 4) + q.val) r.val (4096 * (e % 4) + j.val) - mr (σ (256 * (e / 4) + q.val) r.val) (2 * (e % 4) + 1)) : ℝ) : EReal)
  i2 : ∀ (r : Fin 4) (q : Fin 256), s2 (ix4 (0 : Fin 2) r q (0 : Fin 1)) = (((if e % 4 = 0 then 0 else E (mr (σ (256 * (e / 4) + q.val) r.val) (2 * (e % 4)) - mr (σ (256 * (e / 4) + q.val) r.val) (2 * (e % 4) + 1))) : ℝ) : EReal)
  i3 : ∀ (r : Fin 4) (q : Fin 256), s3 (ix4 (⟨par (e + 1) 0, par_lt _ _⟩ : Fin 2) r q (0 : Fin 1)) = ((mr (σ (256 * (e / 4) + q.val) r.val) (2 * (e % 4) + 1) : ℝ) : EReal)
  i4 : e % 4 ≠ 0 → ∀ (r : Fin 4) (q j : Fin 256), s4 (ix3 r q j) = ((Acc (σ (256 * (e / 4) + q.val) r.val) (fun k => v k j.val) (2 * (e % 4)) : ℝ) : EReal)

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

section half
variable {e : ℕ} {σ : ℕ → ℕ → ℕ → ℝ} {v : ℕ → ℕ → ℝ} {s0 : Vec Ideal S2x4x256x2048 .f32} {s1 : Vec Ideal S2x4x256x2048 .bf16} {s2 : Vec Ideal S2x4x256x1 .f32} {s3 : Vec Ideal S2x4x256x1 .f32} {s4 : Vec Ideal S4x256x256 .f32} (h : Inv e σ v s0 s1 s2 s3 s4)
include h

theorem M0_eq (r : ℕ) (hr : r < 4) (q : Fin 256) : M0 (e + 1) s0 s3 r hr q = ((mr (σ (256 * (e / 4) + q.val) r) (2 * (e % 4) + 1 + 1) : ℝ) : EReal) := by
  unfold M0 c0; rw [if_neg (by omega)]
  refine mx_step _ (2 * (e % 4) + 1) _ _ ?_ fun j => ?_
  · exact (h.i3 ⟨r, hr⟩ q).trans (Mx_succ _ _)
  · refine (h.i0 ⟨r, hr⟩ q j).trans ?_
    rw [show 4096 * (e % 4) + 2048 + j.val = 2048 * (2 * (e % 4) + 1) + j.val by ring]
theorem P0_eq (r : ℕ) (hr : r < 4) (q : Fin 256) (j : Fin 2048) : P0 (e + 1) s0 s3 r hr q j
    = ((E (σ (256 * (e / 4) + q.val) r (2048 * (2 * (e % 4) + 1) + j.val) - mr (σ (256 * (e / 4) + q.val) r) (2 * (e % 4) + 1 + 1)) : ℝ) : EReal) := by
  unfold P0; rw [M0_eq h, c0, if_neg (by omega), sub_zero, h.i0 ⟨r, hr⟩ q j, exp2_sub]
  rw [show 4096 * (e % 4) + 2048 + j.val = 2048 * (2 * (e % 4) + 1) + j.val by ring]
theorem A0_eq (r : ℕ) (hr : r < 4) (q : Fin 256) : A0 (e + 1) s0 s3 r hr q
    = ((E (mr (σ (256 * (e / 4) + q.val) r) (2 * (e % 4) + 1) - mr (σ (256 * (e / 4) + q.val) r) (2 * (e % 4) + 1 + 1)) : ℝ) : EReal) := by
  unfold A0; rw [M0_eq h, h.i3 ⟨r, hr⟩ q, exp2_sub]
theorem B0_eq (x2 : Vec Ideal S4096x256 .bf16) (hV : ∀ (k : Fin 4096) (j : Fin 256), x2 (ix2 k j) = ((v (4096 * (e % 4) + k.val) j.val : ℝ) : EReal)) (r : ℕ) (hr : r < 4) (q j : Fin 256) :
    B0 x2 s1 s2 s4 r hr q j = ((Acc (σ (256 * (e / 4) + q.val) r) (fun k => v k j.val) (2 * (e % 4) + 1) : ℝ) : EReal) := by
  have hs : ∑ x : Fin 2048, s1 (ix4 (0 : Fin 2) (⟨r, hr⟩ : Fin 4) q x) * x2 (ix2 (⟨2048 * 0 + x.val, by have := x.isLt; omega⟩ : Fin 4096) j)
      = ((∑ x : Fin 2048, E (σ (256 * (e / 4) + q.val) r (2048 * (2 * (e % 4)) + x.val) - mr (σ (256 * (e / 4) + q.val) r) (2 * (e % 4) + 1)) * v (2048 * (2 * (e % 4)) + x.val) j.val : ℝ) : EReal) := by
    rw [← coe_sum]
    refine Finset.sum_congr rfl fun x _ => ?_
    rw [h.i1 ⟨r, hr⟩ q x, hV, ← EReal.coe_mul]
    rw [show 4096 * (e % 4) + (2048 * 0 + x.val) = 2048 * (2 * (e % 4)) + x.val by ring, show 4096 * (e % 4) + x.val = 2048 * (2 * (e % 4)) + x.val by ring]
  unfold B0; rw [hs, h.i2 ⟨r, hr⟩ q]
  by_cases h0 : e % 4 = 0
  · rw [if_pos h0, EReal.coe_zero, zero_mul, zero_add]
    rw [h0]
    exact congrArg _ (Acc_one (σ (256 * (e / 4) + q.val) r) (fun k => v k j.val))
  · rw [if_neg h0, h.i4 h0 ⟨r, hr⟩ q j, ← EReal.coe_mul, ← EReal.coe_add]
    exact congrArg _ <| Acc_succ (σ (256 * (e / 4) + q.val) r) (fun k => v k j.val) (2 * (e % 4))
/-- The accumulator a step leaves. -/
theorem B1_eq (x2 : Vec Ideal S4096x256 .bf16) (hV : ∀ (k : Fin 4096) (j : Fin 256), x2 (ix2 k j) = ((v (4096 * (e % 4) + k.val) j.val : ℝ) : EReal)) (r : ℕ) (hr : r < 4) (q j : Fin 256) :
    B1 (e + 1) x2 s0 s1 s2 s3 s4 r hr q j = ((Acc (σ (256 * (e / 4) + q.val) r) (fun k => v k j.val) (2 * (e % 4) + 1 + 1) : ℝ) : EReal) := by
  have hs : ∑ x : Fin 2048, P0 (e + 1) s0 s3 r hr q x * x2 (ix2 (⟨2048 * 1 + x.val, by have := x.isLt; omega⟩ : Fin 4096) j)
      = ((∑ x : Fin 2048, E (σ (256 * (e / 4) + q.val) r (2048 * (2 * (e % 4) + 1) + x.val) - mr (σ (256 * (e / 4) + q.val) r) (2 * (e % 4) + 1 + 1)) * v (2048 * (2 * (e % 4) + 1) + x.val) j.val : ℝ) : EReal) := by
    rw [← coe_sum]
    refine Finset.sum_congr rfl fun x _ => ?_
    rw [P0_eq h, hV, ← EReal.coe_mul]
    rw [show 4096 * (e % 4) + (2048 * 1 + x.val) = 2048 * (2 * (e % 4) + 1) + x.val by ring]
  unfold B1; rw [hs, A0_eq h, B0_eq h x2 hV, ← EReal.coe_mul, ← EReal.coe_add]
  exact congrArg _ <| Acc_succ (σ (256 * (e / 4) + q.val) r) (fun k => v k j.val) (2 * (e % 4) + 1)
end half

/-- A step before the last keeps the invariant. -/
theorem Inv.step {n : ℕ} (hn : n < 256) {σ : ℕ → ℕ → ℕ → ℝ} {v : ℕ → ℕ → ℝ} {x0 : Vec Ideal S256x512 .bf16} {x1 : Vec Ideal S4096x128 .bf16} {x2 : Vec Ideal S4096x256 .bf16} {s0 : Vec Ideal S2x4x256x2048 .f32} {s1 : Vec Ideal S2x4x256x2048 .bf16} {s2 : Vec Ideal S2x4x256x1 .f32} {s3 : Vec Ideal S2x4x256x1 .f32} {s4 : Vec Ideal S4x256x256 .f32}
    {t0 : Vec Ideal S2x4x256x2048 .f32} {t1 : Vec Ideal S2x4x256x2048 .bf16} {t2 : Vec Ideal S2x4x256x1 .f32} {t3 : Vec Ideal S2x4x256x1 .f32} {t4 : Vec Ideal S4x256x256 .f32}
    (hS : ∀ (a r : ℕ) (ha : a < 2) (hr : r < 4) (q : Fin 256) (j : Fin 2048), Sc x0 x1 a r ha hr q j = ((σ (256 * (n / 4) + q.val) r (4096 * (n % 4) + 2048 * a + j.val) : ℝ) : EReal))
    (hV : ∀ (k : Fin 4096) (j : Fin 256), x2 (ix2 k j) = ((v (4096 * ((n - 1) % 4) + k.val) j.val : ℝ) : EReal))
    (h : n ≠ 0 → Inv (n - 1) σ v s0 s1 s2 s3 s4) (hst : Stp n x0 x1 x2 s0 s1 s2 s3 s4 t0 t1 t2 t3 t4) : Inv n σ v t0 t1 t2 t3 t4 := by
  have hc : c1 n = 0 := if_neg (by omega)
  have hmin : min 255 n = n := by omega
  have hMx : ∀ (r : ℕ) (hr : r < 4) (q : Fin 256), st1 n (mid n s0 s3 r hr q) = Mx (σ (256 * (n / 4) + q.val) r) (2 * (n % 4)) := by
    intro r hr q
    unfold st1; rw [hmin]
    by_cases h0 : n % 4 = 0
    · rw [if_pos h0, h0]; rfl
    · rw [if_neg h0]
      obtain ⟨e, rfl⟩ : ∃ e, n = e + 1 := ⟨n - 1, by omega⟩
      have hp : par (e + 1) 1 = par (e + 1) 0 := by unfold par; omega
      unfold mid; have hi : Inv e σ v s0 s1 s2 s3 s4 := h (by omega)
      rw [if_pos hp, M0_eq hi]
      rw [show 2 * ((e + 1) % 4) = 2 * (e % 4) + 1 + 1 by omega, show 256 * ((e + 1) / 4) = 256 * (e / 4) by omega, ← Mx_succ]
  have hM1 : ∀ (r : ℕ) (hr : r < 4) (q : Fin 256), M1 n x0 x1 s0 s3 r hr q = ((mr (σ (256 * (n / 4) + q.val) r) (2 * (n % 4) + 1) : ℝ) : EReal) := by
    intro r hr q
    unfold M1; rw [hc]
    refine mx_step _ _ _ _ (hMx r hr q) fun j => (hS 0 r (by decide) hr q j).trans ?_
    rw [show 4096 * (n % 4) + 2048 * 0 + j.val = 2048 * (2 * (n % 4)) + j.val by ring]
  constructor
  · intro r q j; rw [hst.h0, hS]
  · intro r q j; rw [hst.h1]; unfold P1
    rw [hM1, hc, sub_zero, hS, exp2_sub, mul_zero, add_zero]
  · intro r q; rw [hst.h2]; unfold A1
    rw [hM1, hMx]
    by_cases h0 : n % 4 = 0
    · rw [if_pos h0, h0]
      show Ideal.exp2 (⊥ - _) = _
      rw [EReal.bot_sub, Ideal.exp2_bot, EReal.coe_zero]
    · rw [if_neg h0, ← exp2_sub]
      obtain ⟨k, hk⟩ : ∃ k, 2 * (n % 4) = k + 1 := ⟨2 * (n % 4) - 1, by omega⟩
      rw [hk, Mx_succ, Mx_succ]
  · intro r q
    refine Eq.trans (congrArg t3 ?_) ((hst.h3 r q).trans (hM1 _ _ _))
    congr 2
  · intro h0 r q j
    obtain ⟨e, rfl⟩ : ∃ e, n = e + 1 := ⟨n - 1, by omega⟩
    have hi : Inv e σ v s0 s1 s2 s3 s4 := h (by omega)
    rw [hst.h4, B1_eq hi x2 hV]
    rw [show 2 * ((e + 1) % 4) = 2 * (e % 4) + 1 + 1 by omega, show 256 * ((e + 1) / 4) = 256 * (e / 4) by omega]

end Cert.KernelIdeal.Flash

end
-- ==== Proof.KI.Grid.lean ====
/- The attention kernel's grid in closed form: which blocks a point reads and writes, and when the output is written. -/
module

public import proofs.«01_k».proof.Proof.Gen.KernelIdeal.Frame

@[expose] public section

set_option maxRecDepth 16384

noncomputable section

namespace Cert.KernelIdeal.Flash

open Idealize.ShloMosaic Cert.KernelIdeal.Gen

/-- A point's coordinates: the head and the step. -/
theorem coords : ∀ t : Fin grid0.N, (grid0.coords t 0).val = t.val / 257 ∧ (grid0.coords t 1).val = t.val % 257 := by decide +kernel
/-- The blocks of the four windows. -/
theorem idx0 : ∀ t : Fin grid0.N, win0_0.index t 0 = min 255 (t.val % 257) / 4 ∧ win0_0.index t 1 = t.val / 257 := by decide +kernel
theorem idx1 : ∀ t : Fin grid0.N, win0_1.index t 0 = min 255 (t.val % 257) % 4 ∧ win0_1.index t 1 = t.val / 257 := by decide +kernel
theorem idx2 : ∀ t : Fin grid0.N, win0_2.index t 0 = (t.val % 257 - 1) % 4 ∧ win0_2.index t 1 = t.val / 257 := by decide +kernel
theorem idx3 : ∀ t : Fin grid0.N, win0_3.index t 0 = (t.val % 257 - 1) / 4 ∧ win0_3.index t 1 = t.val / 257 := by decide +kernel
/-- When the output is computed. -/
theorem live : ∀ t : Fin grid0.N, k0_cond2 (grid0.coords t) = 1#1 ↔ t.val % 257 ≠ 0 ∧ t.val % 257 % 4 = 0 := by decide +kernel
/-- When it is written back. -/
theorem flush3 : ∀ t : Fin grid0.N, win0_3.flush t = true ↔ t.val % 257 ≠ 0 ∧ t.val % 257 % 4 = 0 := by decide +kernel
/-- The set-up runs at a head's first step. -/
theorem first : ∀ t : Fin grid0.N, (Scalar.cmpi .ne (Scalar.extui (Scalar.cmpi .eq (BitVec.ofNat 32 (grid0.coords t 1).val) 0#32)) 0#32) = 1#1 ↔ t.val % 257 = 0 := by decide +kernel

end Cert.KernelIdeal.Flash

end
-- ==== Proof.KI.Vrun.lean ====
/- The attention kernel's run with its values: the scratch keeps the blockwise softmax's invariant, and the output is written with its quotient. -/
module

public import proofs.«01_k».proof.Proof.KI.Any
public import proofs.«01_k».proof.Proof.KI.Pure
public import proofs.«01_k».proof.Proof.KI.Grid
public import Idealize.ShloMosaic.Lib.Pipeline.Value

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

/-- A buffer read whole. -/
theorem own_of {s : Shape} {e : EltTy} (c : Dev nD) (a : Memref sig .tc .vmem s e) {f : Buf (Elt Ideal) (a.view.loc (c : Thread nD τ))} :
    (a.view.loc (c : Thread nD τ) ↦[a.view.set]{fullShare} f : sProp 𝕄) ⊢ owns (c : Thread nD τ) a fullShare (a.view.read (Elt Ideal) f) := by
  iintro H
  unfold owns; iexists f; isplitr
  · ipureintro; exact rfl
  iexact H

/-- A step that writes no output, past the set-up. -/
theorem restIdle (c : Dev nD) (i : grid0.Coords) (arg2 : Memref sig .tc .vmem S256x512 .bf16) (harg2 : arg2.IsWhole) (arg3 : Memref sig .tc .vmem S4096x128 .bf16) (harg3 : arg3.IsWhole) (arg4 : Memref sig .tc .vmem S4096x256 .bf16) (harg4 : arg4.IsWhole) (arg5 : Memref sig .tc .vmem S256x512 .bf16) (harg5 : arg5.IsWhole) (arg6 : Memref sig .tc .vmem S2x4x256x2048 .f32) (harg6 : arg6.IsWhole) (arg7 : Memref sig .tc .vmem S2x4x256x2048 .bf16) (harg7 : arg7.IsWhole) (arg8 : Memref sig .tc .vmem S2x4x256x1 .f32) (harg8 : arg8.IsWhole) (arg9 : Memref sig .tc .vmem S2x4x256x1 .f32) (harg9 : arg9.IsWhole) (arg10 : Memref sig .tc .vmem S4x256x256 .f32) (harg10 : arg10.IsWhole) (x0 : Vec Ideal S256x512 .bf16) (x1 : Vec Ideal S4096x128 .bf16) (x2 : Vec Ideal S4096x256 .bf16) (xo : Vec Ideal S256x512 .bf16) (s0 : Vec Ideal S2x4x256x2048 .f32) (s1 : Vec Ideal S2x4x256x2048 .bf16) (s2 : Vec Ideal S2x4x256x1 .f32) (s3 : Vec Ideal S2x4x256x1 .f32) (s4 : Vec Ideal S4x256x256 .f32) (h : ¬k0_cond2 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare s0 ∗ owns (c : Thread nD τ) arg7 fullShare s1 ∗ owns (c : Thread nD τ) arg8 fullShare s2 ∗ owns (c : Thread nD τ) arg9 fullShare s3 ∗ owns (c : Thread nD τ) arg10 fullShare s4 ∗ (iprop(owns (c : Thread nD τ) arg2 fullShare x0 ∗ owns (c : Thread nD τ) arg3 fullShare x1 ∗ owns (c : Thread nD τ) arg4 fullShare x2 ∗ owns (c : Thread nD τ) arg5 fullShare xo ∗ (∃ (t0 : Vec Ideal S2x4x256x2048 .f32) (t1 : Vec Ideal S2x4x256x2048 .bf16) (t2 : Vec Ideal S2x4x256x1 .f32) (t3 : Vec Ideal S2x4x256x1 .f32) (t4 : Vec Ideal S4x256x256 .f32), ⌜Stp (i 1).val x0 x1 x2 s0 s1 s2 s3 s4 t0 t1 t2 t3 t4⌝ ∗ owns (c : Thread nD τ) arg6 fullShare t0 ∗ owns (c : Thread nD τ) arg7 fullShare t1 ∗ owns (c : Thread nD τ) arg8 fullShare t2 ∗ owns (c : Thread nD τ) arg9 fullShare t3 ∗ owns (c : Thread nD τ) arg10 fullShare t4)) -∗ K ⟨⟩))
      ⊢ wp frame (wpE (defs₀ (F := Ideal)) Variants.none c none) E (restBody i arg2 harg2 arg3 harg3 arg4 harg4 arg5 harg5 arg6 harg6 arg7 harg7 arg8 harg8 arg9 harg9 arg10 harg10) K := by
  iintro ⟨H0, H1, H2, Ho, S0, S1, S2, S3, S4, Hk⟩
  iapply ((runB c i arg2 harg2 arg3 harg3 arg4 harg4 arg5 harg5 arg6 harg6 arg7 harg7 arg8 harg8 arg9 harg9 arg10 harg10 h x0 x1 x2 xo s0 s1 s2 s3 s4).2 E K)
  isplitl [H0]; · iexact H0
  isplitl [H1]; · iexact H1
  isplitl [H2]; · iexact H2
  isplitl [Ho]; · iexact Ho
  isplitl [S0]; · iexact S0
  isplitl [S1]; · iexact S1
  isplitl [S2]; · iexact S2
  isplitl [S3]; · iexact S3
  isplitl [S4]; · iexact S4
  iintro ⟨H0, H1, H2, Ho, ⟨%f6, S0⟩, ⟨%f7, S1⟩, ⟨%f8, S2⟩, S3, ⟨%f10, S4⟩⟩
  iapply Hk
  isplitl [H0]; · iexact H0
  isplitl [H1]; · iexact H1
  isplitl [H2]; · iexact H2
  isplitl [Ho]; · iexact Ho
  iexists (arg6.view.read (Elt Ideal) (arg6.view.writes (Elt Ideal) f6 (runB c i arg2 harg2 arg3 harg3 arg4 harg4 arg5 harg5 arg6 harg6 arg7 harg7 arg8 harg8 arg9 harg9 arg10 harg10 h x0 x1 x2 xo s0 s1 s2 s3 s4).1.1)), (arg7.view.read (Elt Ideal) (arg7.view.writes (Elt Ideal) f7 (runB c i arg2 harg2 arg3 harg3 arg4 harg4 arg5 harg5 arg6 harg6 arg7 harg7 arg8 harg8 arg9 harg9 arg10 harg10 h x0 x1 x2 xo s0 s1 s2 s3 s4).1.2.1)), (arg8.view.read (Elt Ideal) (arg8.view.writes (Elt Ideal) f8 (runB c i arg2 harg2 arg3 harg3 arg4 harg4 arg5 harg5 arg6 harg6 arg7 harg7 arg8 harg8 arg9 harg9 arg10 harg10 h x0 x1 x2 xo s0 s1 s2 s3 s4).1.2.2.1)), (arg9.view.read (Elt Ideal) (arg9.view.writes (Elt Ideal) (harg9.unread s3) (runB c i arg2 harg2 arg3 harg3 arg4 harg4 arg5 harg5 arg6 harg6 arg7 harg7 arg8 harg8 arg9 harg9 arg10 harg10 h x0 x1 x2 xo s0 s1 s2 s3 s4).1.2.2.2.1)), (arg10.view.read (Elt Ideal) (arg10.view.writes (Elt Ideal) f10 (runB c i arg2 harg2 arg3 harg3 arg4 harg4 arg5 harg5 arg6 harg6 arg7 harg7 arg8 harg8 arg9 harg9 arg10 harg10 h x0 x1 x2 xo s0 s1 s2 s3 s4).1.2.2.2.2))
  isplitr; · ipureintro; exact stepB c i arg2 harg2 arg3 harg3 arg4 harg4 arg5 harg5 arg6 harg6 arg7 harg7 arg8 harg8 arg9 harg9 arg10 harg10 x0 x1 x2 xo s0 s1 s2 s3 s4 h f6 f7 f8 f10
  isplitl [S0]; · iapply own_of c arg6; iexact S0
  isplitl [S1]; · iapply own_of c arg7; iexact S1
  isplitl [S2]; · iapply own_of c arg8; iexact S2
  isplitl [S3]; · iapply own_of c arg9; iexact S3
  iapply own_of c arg10; iexact S4

/-- A step that writes the output. -/
theorem restLive (c : Dev nD) (i : grid0.Coords) (arg2 : Memref sig .tc .vmem S256x512 .bf16) (harg2 : arg2.IsWhole) (arg3 : Memref sig .tc .vmem S4096x128 .bf16) (harg3 : arg3.IsWhole) (arg4 : Memref sig .tc .vmem S4096x256 .bf16) (harg4 : arg4.IsWhole) (arg5 : Memref sig .tc .vmem S256x512 .bf16) (harg5 : arg5.IsWhole) (arg6 : Memref sig .tc .vmem S2x4x256x2048 .f32) (harg6 : arg6.IsWhole) (arg7 : Memref sig .tc .vmem S2x4x256x2048 .bf16) (harg7 : arg7.IsWhole) (arg8 : Memref sig .tc .vmem S2x4x256x1 .f32) (harg8 : arg8.IsWhole) (arg9 : Memref sig .tc .vmem S2x4x256x1 .f32) (harg9 : arg9.IsWhole) (arg10 : Memref sig .tc .vmem S4x256x256 .f32) (harg10 : arg10.IsWhole) (x0 : Vec Ideal S256x512 .bf16) (x1 : Vec Ideal S4096x128 .bf16) (x2 : Vec Ideal S4096x256 .bf16) (xo : Vec Ideal S256x512 .bf16) (s0 : Vec Ideal S2x4x256x2048 .f32) (s1 : Vec Ideal S2x4x256x2048 .bf16) (s2 : Vec Ideal S2x4x256x1 .f32) (s3 : Vec Ideal S2x4x256x1 .f32) (s4 : Vec Ideal S4x256x256 .f32) (h : k0_cond2 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare s0 ∗ owns (c : Thread nD τ) arg7 fullShare s1 ∗ owns (c : Thread nD τ) arg8 fullShare s2 ∗ owns (c : Thread nD τ) arg9 fullShare s3 ∗ owns (c : Thread nD τ) arg10 fullShare s4 ∗ (iprop(owns (c : Thread nD τ) arg2 fullShare x0 ∗ owns (c : Thread nD τ) arg3 fullShare x1 ∗ owns (c : Thread nD τ) arg4 fullShare x2 ∗ (∃ (o : Vec Ideal S256x512 .bf16), ⌜(∀ (r : Fin 4) (q : Fin 256) (d : Fin 128), o (ix2 q (⟨128 * r.val + d.val, by have := d.isLt; have := r.isLt; omega⟩ : Fin 512)) = Ideal.div (B1 (i 1).val x2 s0 s1 s2 s3 s4 r.val r.isLt q (⟨d.val, by have := d.isLt; omega⟩ : Fin 256)) (B1 (i 1).val x2 s0 s1 s2 s3 s4 r.val r.isLt q (⟨128 + d.val, by have := d.isLt; omega⟩ : Fin 256)))⌝ ∗ owns (c : Thread nD τ) arg5 fullShare o) ∗ (∃ (t0 : Vec Ideal S2x4x256x2048 .f32) (t1 : Vec Ideal S2x4x256x2048 .bf16) (t2 : Vec Ideal S2x4x256x1 .f32) (t3 : Vec Ideal S2x4x256x1 .f32) (t4 : Vec Ideal S4x256x256 .f32), ⌜Stp (i 1).val x0 x1 x2 s0 s1 s2 s3 s4 t0 t1 t2 t3 t4⌝ ∗ owns (c : Thread nD τ) arg6 fullShare t0 ∗ owns (c : Thread nD τ) arg7 fullShare t1 ∗ owns (c : Thread nD τ) arg8 fullShare t2 ∗ owns (c : Thread nD τ) arg9 fullShare t3 ∗ owns (c : Thread nD τ) arg10 fullShare t4)) -∗ K ⟨⟩))
      ⊢ wp frame (wpE (defs₀ (F := Ideal)) Variants.none c none) E (restBody i arg2 harg2 arg3 harg3 arg4 harg4 arg5 harg5 arg6 harg6 arg7 harg7 arg8 harg8 arg9 harg9 arg10 harg10) K := by
  iintro ⟨H0, H1, H2, Ho, S0, S1, S2, S3, S4, Hk⟩
  iapply ((runC c i arg2 harg2 arg3 harg3 arg4 harg4 arg5 harg5 arg6 harg6 arg7 harg7 arg8 harg8 arg9 harg9 arg10 harg10 h x0 x1 x2 xo s0 s1 s2 s3 s4).2 E K)
  isplitl [H0]; · iexact H0
  isplitl [H1]; · iexact H1
  isplitl [H2]; · iexact H2
  isplitl [Ho]; · iexact Ho
  isplitl [S0]; · iexact S0
  isplitl [S1]; · iexact S1
  isplitl [S2]; · iexact S2
  isplitl [S3]; · iexact S3
  isplitl [S4]; · iexact S4
  iintro ⟨H0, H1, H2, ⟨%f5, Ho⟩, ⟨%f6, S0⟩, ⟨%f7, S1⟩, ⟨%f8, S2⟩, S3, ⟨%f10, S4⟩⟩
  iapply Hk
  isplitl [H0]; · iexact H0
  isplitl [H1]; · iexact H1
  isplitl [H2]; · iexact H2
  isplitl [Ho]
  · iexists (arg5.view.read (Elt Ideal) (arg5.view.writes (Elt Ideal) f5 (runC c i arg2 harg2 arg3 harg3 arg4 harg4 arg5 harg5 arg6 harg6 arg7 harg7 arg8 harg8 arg9 harg9 arg10 harg10 h x0 x1 x2 xo s0 s1 s2 s3 s4).1.1))
    isplitr; · ipureintro; exact outC c i arg2 harg2 arg3 harg3 arg4 harg4 arg5 harg5 arg6 harg6 arg7 harg7 arg8 harg8 arg9 harg9 arg10 harg10 x0 x1 x2 xo s0 s1 s2 s3 s4 h f5
    iapply own_of c arg5; iexact Ho
  iexists (arg6.view.read (Elt Ideal) (arg6.view.writes (Elt Ideal) f6 (runC c i arg2 harg2 arg3 harg3 arg4 harg4 arg5 harg5 arg6 harg6 arg7 harg7 arg8 harg8 arg9 harg9 arg10 harg10 h x0 x1 x2 xo s0 s1 s2 s3 s4).1.2.1)), (arg7.view.read (Elt Ideal) (arg7.view.writes (Elt Ideal) f7 (runC c i arg2 harg2 arg3 harg3 arg4 harg4 arg5 harg5 arg6 harg6 arg7 harg7 arg8 harg8 arg9 harg9 arg10 harg10 h x0 x1 x2 xo s0 s1 s2 s3 s4).1.2.2.1)), (arg8.view.read (Elt Ideal) (arg8.view.writes (Elt Ideal) f8 (runC c i arg2 harg2 arg3 harg3 arg4 harg4 arg5 harg5 arg6 harg6 arg7 harg7 arg8 harg8 arg9 harg9 arg10 harg10 h x0 x1 x2 xo s0 s1 s2 s3 s4).1.2.2.2.1)), (arg9.view.read (Elt Ideal) (arg9.view.writes (Elt Ideal) (harg9.unread s3) (runC c i arg2 harg2 arg3 harg3 arg4 harg4 arg5 harg5 arg6 harg6 arg7 harg7 arg8 harg8 arg9 harg9 arg10 harg10 h x0 x1 x2 xo s0 s1 s2 s3 s4).1.2.2.2.2.1)), (arg10.view.read (Elt Ideal) (arg10.view.writes (Elt Ideal) f10 (runC c i arg2 harg2 arg3 harg3 arg4 harg4 arg5 harg5 arg6 harg6 arg7 harg7 arg8 harg8 arg9 harg9 arg10 harg10 h x0 x1 x2 xo s0 s1 s2 s3 s4).1.2.2.2.2.2))
  isplitr; · ipureintro; exact stepC c i arg2 harg2 arg3 harg3 arg4 harg4 arg5 harg5 arg6 harg6 arg7 harg7 arg8 harg8 arg9 harg9 arg10 harg10 x0 x1 x2 xo s0 s1 s2 s3 s4 h f6 f7 f8 f10
  isplitl [S0]; · iapply own_of c arg6; iexact S0
  isplitl [S1]; · iapply own_of c arg7; iexact S1
  isplitl [S2]; · iapply own_of c arg8; iexact S2
  isplitl [S3]; · iapply own_of c arg9; iexact S3
  iapply own_of c arg10; iexact S4

/-- A step that writes no output. -/
theorem bodyIdle (c : Dev nD) (i : grid0.Coords) (arg2 : Memref sig .tc .vmem S256x512 .bf16) (harg2 : arg2.IsWhole) (arg3 : Memref sig .tc .vmem S4096x128 .bf16) (harg3 : arg3.IsWhole) (arg4 : Memref sig .tc .vmem S4096x256 .bf16) (harg4 : arg4.IsWhole) (arg5 : Memref sig .tc .vmem S256x512 .bf16) (harg5 : arg5.IsWhole) (arg6 : Memref sig .tc .vmem S2x4x256x2048 .f32) (harg6 : arg6.IsWhole) (arg7 : Memref sig .tc .vmem S2x4x256x2048 .bf16) (harg7 : arg7.IsWhole) (arg8 : Memref sig .tc .vmem S2x4x256x1 .f32) (harg8 : arg8.IsWhole) (arg9 : Memref sig .tc .vmem S2x4x256x1 .f32) (harg9 : arg9.IsWhole) (arg10 : Memref sig .tc .vmem S4x256x256 .f32) (harg10 : arg10.IsWhole) (x0 : Vec Ideal S256x512 .bf16) (x1 : Vec Ideal S4096x128 .bf16) (x2 : Vec Ideal S4096x256 .bf16) (xo : Vec Ideal S256x512 .bf16) (h : ¬k0_cond2 i = 1#1) (I : Vec Ideal S2x4x256x2048 .f32 → Vec Ideal S2x4x256x2048 .bf16 → Vec Ideal S2x4x256x1 .f32 → Vec Ideal S2x4x256x1 .f32 → Vec Ideal S4x256x256 .f32 → Prop)
    (hI : ∀ (s0 : Vec Ideal S2x4x256x2048 .f32) (s1 : Vec Ideal S2x4x256x2048 .bf16) (s2 : Vec Ideal S2x4x256x1 .f32) (s3 : Vec Ideal S2x4x256x1 .f32) (s4 : Vec Ideal S4x256x256 .f32), (Scalar.cmpi .ne (Scalar.extui (Scalar.cmpi .eq (BitVec.ofNat 32 (i 1).val) 0#32)) 0#32) = 1#1 → I s0 s1 s2 s3 s4) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ (∃ (s0 : Vec Ideal S2x4x256x2048 .f32) (s1 : Vec Ideal S2x4x256x2048 .bf16) (s2 : Vec Ideal S2x4x256x1 .f32) (s3 : Vec Ideal S2x4x256x1 .f32) (s4 : Vec Ideal S4x256x256 .f32), ⌜I s0 s1 s2 s3 s4⌝ ∗ owns (c : Thread nD τ) arg6 fullShare s0 ∗ owns (c : Thread nD τ) arg7 fullShare s1 ∗ owns (c : Thread nD τ) arg8 fullShare s2 ∗ owns (c : Thread nD τ) arg9 fullShare s3 ∗ owns (c : Thread nD τ) arg10 fullShare s4) ∗ (iprop(owns (c : Thread nD τ) arg2 fullShare x0 ∗ owns (c : Thread nD τ) arg3 fullShare x1 ∗ owns (c : Thread nD τ) arg4 fullShare x2 ∗ owns (c : Thread nD τ) arg5 fullShare xo ∗ (∃ (s0 : Vec Ideal S2x4x256x2048 .f32) (s1 : Vec Ideal S2x4x256x2048 .bf16) (s2 : Vec Ideal S2x4x256x1 .f32) (s3 : Vec Ideal S2x4x256x1 .f32) (s4 : Vec Ideal S4x256x256 .f32) (t0 : Vec Ideal S2x4x256x2048 .f32) (t1 : Vec Ideal S2x4x256x2048 .bf16) (t2 : Vec Ideal S2x4x256x1 .f32) (t3 : Vec Ideal S2x4x256x1 .f32) (t4 : Vec Ideal S4x256x256 .f32), ⌜I s0 s1 s2 s3 s4 ∧ Stp (i 1).val x0 x1 x2 s0 s1 s2 s3 s4 t0 t1 t2 t3 t4⌝ ∗ owns (c : Thread nD τ) arg6 fullShare t0 ∗ owns (c : Thread nD τ) arg7 fullShare t1 ∗ owns (c : Thread nD τ) arg8 fullShare t2 ∗ owns (c : Thread nD τ) arg9 fullShare t3 ∗ owns (c : Thread nD τ) arg10 fullShare t4)) -∗ K ⟨⟩))
      ⊢ wp frame (wpE (defs₀ (F := Ideal)) Variants.none c none) E (cc0_gqa_attention (F := Ideal) i arg2 harg2 arg3 harg3 arg4 harg4 arg5 harg5 arg6 harg6 arg7 harg7 arg8 harg8 arg9 harg9 arg10 harg10) K := by
  iintro ⟨H0, H1, H2, Ho, ⟨%s0, %s1, %s2, %s3, %s4, %hs, S0, S1, S2, S3, S4⟩, Hk⟩
  by_cases hc0 : (Scalar.cmpi .ne (Scalar.extui (Scalar.cmpi .eq (BitVec.ofNat 32 (i 1).val) 0#32)) 0#32) = 1#1
  · rw [body_first i arg2 harg2 arg3 harg3 arg4 harg4 arg5 harg5 arg6 harg6 arg7 harg7 arg8 harg8 arg9 harg9 arg10 harg10 hc0]
    rw [wp_bind]
    iapply (initRun c i arg2 harg2 arg3 harg3 arg4 harg4 arg5 harg5 arg6 harg6 arg7 harg7 arg8 harg8 arg9 harg9 arg10 harg10 E _)
    isplitl [S0 S1 S2 S3 S4]
    · isplitl [S0]; · iexists s0; iexact S0
      isplitl [S1]; · iexists s1; iexact S1
      isplitl [S2]; · iexists s2; iexact S2
      isplitl [S3]; · iexists s3; iexact S3
      iexists s4; iexact S4
    iintro ⟨⟨%u0, S0⟩, ⟨%u1, S1⟩, ⟨%u2, S2⟩, ⟨%u3, S3⟩, ⟨%u4, S4⟩⟩
    iapply (restIdle c i arg2 harg2 arg3 harg3 arg4 harg4 arg5 harg5 arg6 harg6 arg7 harg7 arg8 harg8 arg9 harg9 arg10 harg10 x0 x1 x2 xo u0 u1 u2 u3 u4 h E K)
    isplitl [H0]; · iexact H0
    isplitl [H1]; · iexact H1
    isplitl [H2]; · iexact H2
    isplitl [Ho]; · iexact Ho
    isplitl [S0]; · iexact S0
    isplitl [S1]; · iexact S1
    isplitl [S2]; · iexact S2
    isplitl [S3]; · iexact S3
    isplitl [S4]; · iexact S4
    iintro ⟨H0, H1, H2, Ho, ⟨%t0, %t1, %t2, %t3, %t4, %ht, S0, S1, S2, S3, S4⟩⟩
    iapply Hk
    isplitl [H0]; · iexact H0
    isplitl [H1]; · iexact H1
    isplitl [H2]; · iexact H2
    isplitl [Ho]; · iexact Ho
    iexists u0, u1, u2, u3, u4, t0, t1, t2, t3, t4
    isplitr; · ipureintro; exact ⟨hI u0 u1 u2 u3 u4 hc0, ht⟩
    isplitl [S0]; · iexact S0
    isplitl [S1]; · iexact S1
    isplitl [S2]; · iexact S2
    isplitl [S3]; · iexact S3
    iexact S4
  · rw [body_later i arg2 harg2 arg3 harg3 arg4 harg4 arg5 harg5 arg6 harg6 arg7 harg7 arg8 harg8 arg9 harg9 arg10 harg10 hc0]
    iapply (restIdle c i arg2 harg2 arg3 harg3 arg4 harg4 arg5 harg5 arg6 harg6 arg7 harg7 arg8 harg8 arg9 harg9 arg10 harg10 x0 x1 x2 xo s0 s1 s2 s3 s4 h E K)
    isplitl [H0]; · iexact H0
    isplitl [H1]; · iexact H1
    isplitl [H2]; · iexact H2
    isplitl [Ho]; · iexact Ho
    isplitl [S0]; · iexact S0
    isplitl [S1]; · iexact S1
    isplitl [S2]; · iexact S2
    isplitl [S3]; · iexact S3
    isplitl [S4]; · iexact S4
    iintro ⟨H0, H1, H2, Ho, ⟨%t0, %t1, %t2, %t3, %t4, %ht, S0, S1, S2, S3, S4⟩⟩
    iapply Hk
    isplitl [H0]; · iexact H0
    isplitl [H1]; · iexact H1
    isplitl [H2]; · iexact H2
    isplitl [Ho]; · iexact Ho
    iexists s0, s1, s2, s3, s4, t0, t1, t2, t3, t4
    isplitr; · ipureintro; exact ⟨hs, ht⟩
    isplitl [S0]; · iexact S0
    isplitl [S1]; · iexact S1
    isplitl [S2]; · iexact S2
    isplitl [S3]; · iexact S3
    iexact S4

end Cert.KernelIdeal.Flash

end
-- ==== Proof.KI.Val.lean ====
/- The attention kernel's launch with its values: every execution ends with the blockwise softmax's quotient in the result. -/
module

public import proofs.«01_k».proof.Proof.KI.Vrun
public import Idealize.ShloMosaic.Lib.Pipeline.Value

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The operands as the launch finds them. -/
def Aq (c : Dev nD) : Vec Ideal S16384x1024 .bf16 := V m c main_v6
def Ak (c : Dev nD) : Vec Ideal S16384x256 .bf16 := V m c main_v7
def Av (c : Dev nD) : Vec Ideal S16384x512 .bf16 := V m c main_v12
/-- The same as real numbers, by row and column. -/
def qf (c : Dev nD) (row col : ℕ) : ℝ := if h : row < 16384 ∧ col < 1024 then EReal.toReal (Aq m c (ix2 (⟨row, h.1⟩ : Fin 16384) (⟨col, h.2⟩ : Fin 1024))) else 0
def kf (c : Dev nD) (row col : ℕ) : ℝ := if h : row < 16384 ∧ col < 256 then EReal.toReal (Ak m c (ix2 (⟨row, h.1⟩ : Fin 16384) (⟨col, h.2⟩ : Fin 256))) else 0
def vf (c : Dev nD) (row col : ℕ) : ℝ := if h : row < 16384 ∧ col < 512 then EReal.toReal (Av m c (ix2 (⟨row, h.1⟩ : Fin 16384) (⟨col, h.2⟩ : Fin 512))) else 0
/-- The scores of head `h`, by row, map and key, and its values, by key and column. -/
def sg (c : Dev nD) (h row r key : ℕ) : ℝ := ∑ d : Fin 128, qf m c row (512 * h + 128 * r + d.val) * kf m c key (128 * h + d.val)
def vh (c : Dev nD) (h key j : ℕ) : ℝ := vf m c key (256 * h + j)
/-- The operands hold real numbers. -/
structure Real' (c : Dev nD) : Prop where
  q : ∀ i, ((EReal.toReal (Aq m c i) : ℝ) : EReal) = Aq m c i
  k : ∀ i, ((EReal.toReal (Ak m c i) : ℝ) : EReal) = Ak m c i
  v : ∀ i, ((EReal.toReal (Av m c i) : ℝ) : EReal) = Av m c i

/-- The result: at a row and a column, the weighted values over the sum of the weights. -/
def G0 (c : Dev nD) : Vec Ideal S16384x1024 .bf16 := fun i =>
  Ideal.div ((Acc (sg m c ((i 1).val / 512) (i 0).val ((i 1).val % 512 / 128)) (fun k => vh m c ((i 1).val / 512) k ((i 1).val % 128)) 8 : ℝ) : EReal)
    ((Acc (sg m c ((i 1).val / 512) (i 0).val ((i 1).val % 512 / 128)) (fun k => vh m c ((i 1).val / 512) k (128 + (i 1).val % 128)) 8 : ℝ) : EReal)
def G (c : Dev nD) : Buf (Elt Ideal) ((cfg0.win 3).arr.view.loc (c : Thread nD τ)) := G0 m c
/-- Its block at a point. -/
def oblk (c : Dev nD) (t : Fin cfg0.N) : ((cfg0.win 3).xblock (cfg0.grid.coords t)).Idx → Elt Ideal (cfg0.win 3).elt :=
  ((cfg0.win 3).blk t).view.read (Elt Ideal) (G m c)

/-- The scratch between points. -/
def scrAt (c : Dev nD) (k : ℕ) : sProp 𝕄 :=
  iprop(∃ (s0 : Vec Ideal S2x4x256x2048 .f32) (s1 : Vec Ideal S2x4x256x2048 .bf16) (s2 : Vec Ideal S2x4x256x1 .f32) (s3 : Vec Ideal S2x4x256x1 .f32) (s4 : Vec Ideal S4x256x256 .f32), ⌜k % 257 ≠ 0 → Inv (k % 257 - 1) (sg m c (k / 257)) (vh m c (k / 257)) s0 s1 s2 s3 s4⌝ ∗ owns (c : Thread nD τ) sm0 fullShare s0 ∗ owns (c : Thread nD τ) sm1 fullShare s1 ∗ owns (c : Thread nD τ) sm2 fullShare s2 ∗ owns (c : Thread nD τ) sm3 fullShare s3 ∗ owns (c : Thread nD τ) sm4 fullShare s4)

/-- The proof data. -/
def datv (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => oblk m c t
  Φ t := iprop(scrAt m c t.val ∗ (∃ r, prngReg c r))
  q _ := fullShare
  owed _ := 0

theorem vA_eq (c : Dev nD) (w : Fin cfg0.W) : (datv m 0 c).A w = V m c (Pipeline.arrRef spec0 w) := by
  dsimp only [datv]
theorem vafter0 (c : Dev nD) (t : Fin cfg0.N) : (datv m 0 c).after 0 t = iblk m c 0 t := by dsimp only [datv]
theorem vafter1 (c : Dev nD) (t : Fin cfg0.N) : (datv m 0 c).after 1 t = iblk m c 1 t := by dsimp only [datv]
theorem vafter2 (c : Dev nD) (t : Fin cfg0.N) : (datv m 0 c).after 2 t = iblk m c 2 t := by dsimp only [datv]
theorem vafter3 (c : Dev nD) (t : Fin cfg0.N) : (datv m 0 c).after 3 t = oblk m c t := by dsimp only [datv]
theorem vbefore0 (c : Dev nD) (t : Fin cfg0.N) (d) : (datv m 0 c).before 0 t d = iblk m c 0 t :=
  before0_0_of m (datv m 0 c) (vA_eq m c 0) (vafter0 m c) t d
theorem vbefore1 (c : Dev nD) (t : Fin cfg0.N) (d) : (datv m 0 c).before 1 t d = iblk m c 1 t :=
  before0_1_of m (datv m 0 c) (vA_eq m c 1) (vafter1 m c) t d
theorem vbefore2 (c : Dev nD) (t : Fin cfg0.N) (d) : (datv m 0 c).before 2 t d = iblk m c 2 t :=
  before0_2_of m (datv m 0 c) (vA_eq m c 2) (vafter2 m c) t d

/-- The blocks the body reads, at an element. -/
theorem iblk0 (c : Dev nD) (t : Fin cfg0.N) (q : Fin 256) (e : Fin 512) (R : Fin 16384) (C : Fin 1024) (hR : R.val = 256 * (min 255 (t.val % 257) / 4) + q.val) (hC : C.val = 512 * (t.val / 257) + e.val) :
    iblk m c 0 t (ix2 q e) = Aq m c (ix2 R C) := by
  obtain ⟨h0, h1⟩ := idx0 t
  show Aq m c _ = _
  congr 1; funext a; apply Fin.ext
  match a with
  | ⟨0, _⟩ => show win0_0.index t 0 * 256 + 1 * q.val = R.val; rw [h0, hR]; ring
  | ⟨1, _⟩ => show win0_0.index t 1 * 512 + 1 * e.val = C.val; rw [h1, hC]; ring
theorem iblk1 (c : Dev nD) (t : Fin cfg0.N) (k : Fin 4096) (e : Fin 128) (R : Fin 16384) (C : Fin 256) (hR : R.val = 4096 * (min 255 (t.val % 257) % 4) + k.val) (hC : C.val = 128 * (t.val / 257) + e.val) :
    iblk m c 1 t (ix2 k e) = Ak m c (ix2 R C) := by
  obtain ⟨h0, h1⟩ := idx1 t
  show Ak m c _ = _
  congr 1; funext a; apply Fin.ext
  match a with
  | ⟨0, _⟩ => show win0_1.index t 0 * 4096 + 1 * k.val = R.val; rw [h0, hR]; ring
  | ⟨1, _⟩ => show win0_1.index t 1 * 128 + 1 * e.val = C.val; rw [h1, hC]; ring
theorem iblk2 (c : Dev nD) (t : Fin cfg0.N) (k : Fin 4096) (e : Fin 256) (R : Fin 16384) (C : Fin 512) (hR : R.val = 4096 * ((t.val % 257 - 1) % 4) + k.val) (hC : C.val = 256 * (t.val / 257) + e.val) :
    iblk m c 2 t (ix2 k e) = Av m c (ix2 R C) := by
  obtain ⟨h0, h1⟩ := idx2 t
  show Av m c _ = _
  congr 1; funext a; apply Fin.ext
  match a with
  | ⟨0, _⟩ => show win0_2.index t 0 * 4096 + 1 * k.val = R.val; rw [h0, hR]; ring
  | ⟨1, _⟩ => show win0_2.index t 1 * 256 + 1 * e.val = C.val; rw [h1, hC]; ring
/-- The block it writes, at an element. -/
theorem oblk_at (c : Dev nD) (t : Fin cfg0.N) (q : Fin 256) (r : Fin 4) (d : Fin 128) :
    oblk m c t (ix2 q (⟨128 * r.val + d.val, by have := d.isLt; have := r.isLt; omega⟩ : Fin 512))
      = Ideal.div ((Acc (sg m c (t.val / 257) (256 * ((t.val % 257 - 1) / 4) + q.val) r.val) (fun k => vh m c (t.val / 257) k d.val) 8 : ℝ) : EReal)
        ((Acc (sg m c (t.val / 257) (256 * ((t.val % 257 - 1) / 4) + q.val) r.val) (fun k => vh m c (t.val / 257) k (128 + d.val)) 8 : ℝ) : EReal) := by
  obtain ⟨h0, h1⟩ := idx3 t
  have hd := d.isLt; have hr := r.isLt
  have g : ∀ (X Y : ℕ) (i : S16384x1024.Idx), (i 0).val = X → (i 1).val = Y → Y / 512 = t.val / 257 → Y % 512 / 128 = r.val → Y % 128 = d.val → G0 m c i
      = Ideal.div ((Acc (sg m c (t.val / 257) X r.val) (fun k => vh m c (t.val / 257) k d.val) 8 : ℝ) : EReal)
        ((Acc (sg m c (t.val / 257) X r.val) (fun k => vh m c (t.val / 257) k (128 + d.val)) 8 : ℝ) : EReal) := by
    intro X Y i hX hY e1 e2 e3
    unfold G0; rw [hX, hY, e1, e2, e3]
  refine g _ (512 * (t.val / 257) + (128 * r.val + d.val)) _ ?_ ?_ (by omega) (by omega) (by omega)
  · show win0_3.index t 0 * 256 + 1 * q.val = _; rw [h0]; ring
  · show win0_3.index t 1 * 512 + 1 * (128 * r.val + d.val) = _; rw [h1]; ring

theorem ht (t : Fin cfg0.N) : t.val < 514 := lt_of_lt_of_eq t.isLt N_0

/-- The scores the body computes. -/
theorem scores (c : Dev nD) (hr' : Real' m c) (t : Fin cfg0.N) (hn : t.val % 257 < 256) (a r : ℕ) (ha : a < 2) (hr : r < 4) (q : Fin 256) (j : Fin 2048) :
    Sc (iblk m c 0 t) (iblk m c 1 t) a r ha hr q j = ((sg m c (t.val / 257) (256 * (t.val % 257 / 4) + q.val) r (4096 * (t.val % 257 % 4) + 2048 * a + j.val) : ℝ) : EReal) := by
  have hT := ht t; have hq := q.isLt; have hj := j.isLt
  have hmin : min 255 (t.val % 257) = t.val % 257 := by omega
  unfold Sc sg; rw [← coe_sum]
  refine Finset.sum_congr rfl fun d _ => ?_
  have hd := d.isLt
  rw [EReal.coe_mul]
  congr 1
  · unfold qf
    rw [dif_pos ⟨by omega, by omega⟩, hr'.q]
    exact iblk0 m c t q _ _ _ (by rw [hmin]) (by show 512 * (t.val / 257) + 128 * r + d.val = 512 * (t.val / 257) + (128 * r + d.val); ring)
  · unfold kf
    rw [dif_pos ⟨by omega, by omega⟩, hr'.k]
    exact iblk1 m c t _ d _ _ (by rw [hmin]; show 4096 * (t.val % 257 % 4) + 2048 * a + j.val = 4096 * (t.val % 257 % 4) + (2048 * a + j.val); ring) rfl
/-- The values it reads. -/
theorem values (c : Dev nD) (hr' : Real' m c) (t : Fin cfg0.N) (k : Fin 4096) (j : Fin 256) :
    iblk m c 2 t (ix2 k j) = ((vh m c (t.val / 257) (4096 * ((t.val % 257 - 1) % 4) + k.val) j.val : ℝ) : EReal) := by
  have hT := ht t; have hk := k.isLt; have hj := j.isLt
  unfold vh vf
  rw [dif_pos ⟨by omega, by omega⟩, hr'.v]
  exact iblk2 m c t k j _ _ rfl rfl

/-- The invariant after a point. -/
theorem inv_succ (c : Dev nD) (hr' : Real' m c) (t : Fin cfg0.N) {s0 s1 s2 s3 s4 t0 t1 t2 t3 t4}
    (hs : t.val % 257 ≠ 0 → Inv (t.val % 257 - 1) (sg m c (t.val / 257)) (vh m c (t.val / 257)) s0 s1 s2 s3 s4)
    (hst : Stp (grid0.coords t 1).val (iblk m c 0 t) (iblk m c 1 t) (iblk m c 2 t) s0 s1 s2 s3 s4 t0 t1 t2 t3 t4) :
    (t.val + 1) % 257 ≠ 0 → Inv ((t.val + 1) % 257 - 1) (sg m c ((t.val + 1) / 257)) (vh m c ((t.val + 1) / 257)) t0 t1 t2 t3 t4 := by
  intro h
  have e1 : (t.val + 1) % 257 - 1 = t.val % 257 := by omega
  have e2 : (t.val + 1) / 257 = t.val / 257 := by omega
  have hn : t.val % 257 < 256 := by omega
  rw [e1, e2]
  rw [(coords t).2] at hst
  exact Inv.step hn (scores m c hr' t hn) (values m c hr' t) hs hst

/-- What a live point writes is its block of the result. -/
theorem out_eq (c : Dev nD) (hr' : Real' m c) (t : Fin cfg0.N) (hl : t.val % 257 ≠ 0 ∧ t.val % 257 % 4 = 0) {s0 s1 s2 s3 s4} {o : Vec Ideal S256x512 .bf16}
    (hs : t.val % 257 ≠ 0 → Inv (t.val % 257 - 1) (sg m c (t.val / 257)) (vh m c (t.val / 257)) s0 s1 s2 s3 s4)
    (ho : ∀ (r : Fin 4) (q : Fin 256) (d : Fin 128), o (ix2 q (⟨128 * r.val + d.val, by have := d.isLt; have := r.isLt; omega⟩ : Fin 512)) = Ideal.div (B1 (grid0.coords t 1).val (iblk m c 2 t) s0 s1 s2 s3 s4 r.val r.isLt q (⟨d.val, by have := d.isLt; omega⟩ : Fin 256)) (B1 (grid0.coords t 1).val (iblk m c 2 t) s0 s1 s2 s3 s4 r.val r.isLt q (⟨128 + d.val, by have := d.isLt; omega⟩ : Fin 256))) :
    o = oblk m c t := by
  obtain ⟨e, he⟩ : ∃ e, t.val % 257 = e + 1 := ⟨t.val % 257 - 1, by omega⟩
  have hi : Inv e (sg m c (t.val / 257)) (vh m c (t.val / 257)) s0 s1 s2 s3 s4 := by
    have h := hs hl.1; rw [he] at h; exact h
  have hV := values m c hr' t
  rw [he] at hV
  have e3 : 2 * (e % 4) + 1 + 1 = 8 := by omega
  funext i
  have hi1 : (i 1).val < 512 := (i 1).isLt
  have key : ∀ (r : Fin 4) (q : Fin 256) (d : Fin 128), o (ix2 q (⟨128 * r.val + d.val, by have := d.isLt; have := r.isLt; omega⟩ : Fin 512)) = oblk m c t (ix2 q (⟨128 * r.val + d.val, by have := d.isLt; have := r.isLt; omega⟩ : Fin 512)) := by
    intro r q d
    rw [ho, oblk_at, (coords t).2, he, B1_eq hi _ hV, B1_eq hi _ hV, e3]
    rfl
  have hix : i = ix2 (i 0 : Fin 256) (⟨128 * ((i 1).val / 128) + (i 1).val % 128, by omega⟩ : Fin 512) := by
    funext a; apply Fin.ext
    match a with
    | ⟨0, _⟩ => rfl
    | ⟨1, _⟩ => show (i 1).val = 128 * ((i 1).val / 128) + (i 1).val % 128; omega
  rw [hix]
  exact key ⟨(i 1).val / 128, by omega⟩ (i 0) ⟨(i 1).val % 128, by omega⟩

/-- The output's buffer after a point: its block where it is written, as found elsewhere. -/
def left3 (c : Dev nD) (t : Fin cfg0.N) : sProp 𝕄 := (datv m 0 c).leavesExact 3 t
theorem idle3 (t : Fin cfg0.N) (h : ¬k0_cond2 (grid0.coords t) = 1#1) : cfg0.idle 3 (cfg0.grid.coords t) = true := by
  show (!(k0_cond2 (grid0.coords t) == 1#1)) = true
  simpa using h
theorem live3 (t : Fin cfg0.N) (h : k0_cond2 (grid0.coords t) = 1#1) : cfg0.idle 3 (cfg0.grid.coords t) = false := by
  show (!(k0_cond2 (grid0.coords t) == 1#1)) = false
  simpa using h

/-- What the body is called with at a point, -/
def preV (c : Dev nD) (t : Fin cfg0.N) : sProp 𝕄 :=
  iprop((datv m 0 c).Φ t.castSucc ∗ (datv m 0 c).owesAt () t.castSucc
    ∗ (∃ d, owns (c : Thread nD τ) (ms0 t) fullShare ((datv m 0 c).before 0 t d))
    ∗ (∃ d, owns (c : Thread nD τ) (ms1 t) fullShare ((datv m 0 c).before 1 t d))
    ∗ (∃ d, owns (c : Thread nD τ) (ms2 t) fullShare ((datv m 0 c).before 2 t d))
    ∗ (∃ d, owns (c : Thread nD τ) (ms3 t) fullShare ((datv m 0 c).before 3 t d)))
/-- and what it returns. -/
def postV (c : Dev nD) (t : Fin cfg0.N) : sProp 𝕄 :=
  iprop((datv m 0 c).Φ t.succ ∗ (datv m 0 c).owesAt () t.succ
    ∗ owns (c : Thread nD τ) (ms0 t) fullShare ((datv m 0 c).after 0 t)
    ∗ owns (c : Thread nD τ) (ms1 t) fullShare ((datv m 0 c).after 1 t)
    ∗ owns (c : Thread nD τ) (ms2 t) fullShare ((datv m 0 c).after 2 t)
    ∗ (datv m 0 c).leavesExact 3 t)

theorem phi_eq (c : Dev nD) (t : Fin cfg0.N) : (datv m 0 c).Φ t.castSucc = iprop(scrAt m c t.val ∗ (∃ r, prngReg c r)) := rfl
theorem phi_succ (c : Dev nD) (t : Fin cfg0.N) : (datv m 0 c).Φ t.succ = iprop(scrAt m c (t.val + 1) ∗ (∃ r, prngReg c r)) := rfl

/-- The body at any point. -/
theorem body_at (c : Dev nD) (hr' : Real' m c) (t : Fin cfg0.N) :
    preV m c t ⊢ wp frame (wpE (defs₀ (F := Ideal)) Variants.none c none) Set.univ (bodyAt0 t) (fun _ => postV m c t) := by
  unfold preV postV bodyAt0
  simp only [vbefore0, vbefore1, vbefore2]
  rw [show (datv m 0 c).owesAt () t.succ = (datv m 0 c).owesAt () t.castSucc from rfl, vafter0, vafter1, vafter2, phi_eq, phi_succ]
  by_cases hl : k0_cond2 (grid0.coords t) = 1#1
  · have hlt := (live t).mp hl
    have hnf : ¬(Scalar.cmpi .ne (Scalar.extui (Scalar.cmpi .eq (BitVec.ofNat 32 (grid0.coords t 1).val) 0#32)) 0#32) = 1#1 := fun h => hlt.1 ((first t).mp h)
    rw [show (datv m 0 c).leavesExact 3 t = owns (c : Thread nD τ) (ms3 t) fullShare (oblk m c t) by
      unfold Dat.leavesExact; rw [live3 t hl]; show owns (c : Thread nD τ) (ms3 t) fullShare ((datv m 0 c).after 3 t) = _; rw [vafter3]]
    rw [body_later _ _ _ _ _ _ _ _ _ _ _ _ _ _ _ _ _ _ _ hnf]
    unfold scrAt
    iintro ⟨⟨⟨%s0, %s1, %s2, %s3, %s4, %hs, S0, S1, S2, S3, S4⟩, Hg⟩, Hw, ⟨%d0, H0⟩, ⟨%d1, H1⟩, ⟨%d2, H2⟩, ⟨%d3, Ho⟩⟩
    iapply (restLive c (grid0.coords t) _ _ _ _ _ _ _ _ _ _ _ _ _ _ _ _ _ _ (iblk m c 0 t) (iblk m c 1 t) (iblk m c 2 t) _ s0 s1 s2 s3 s4 hl Set.univ _)
    isplitl [H0]; · iexact H0
    isplitl [H1]; · iexact H1
    isplitl [H2]; · iexact H2
    isplitl [Ho]; · iexact Ho
    isplitl [S0]; · iexact S0
    isplitl [S1]; · iexact S1
    isplitl [S2]; · iexact S2
    isplitl [S3]; · iexact S3
    isplitl [S4]; · iexact S4
    iintro ⟨H0, H1, H2, ⟨%o, %ho, Ho⟩, ⟨%t0, %t1, %t2, %t3, %t4, %hst, S0, S1, S2, S3, S4⟩⟩
    isplitl [S0 S1 S2 S3 S4 Hg]
    · isplitl [S0 S1 S2 S3 S4]
      · iexists t0, t1, t2, t3, t4
        isplitr; · ipureintro; exact inv_succ m c hr' t hs hst
        isplitl [S0]; · iexact S0
        isplitl [S1]; · iexact S1
        isplitl [S2]; · iexact S2
        isplitl [S3]; · iexact S3
        iexact S4
      iexact Hg
    isplitl [Hw]; · iexact Hw
    isplitl [H0]; · iexact H0
    isplitl [H1]; · iexact H1
    isplitl [H2]; · iexact H2
    rw [← out_eq m c hr' t hlt hs ho]
    iexact Ho
  · have hlt : ¬_ := fun h => hl ((live t).mpr h)
    have hf : (cfg0.win 3).flush t = false := by
      rw [← Bool.not_eq_true]; exact fun h => hlt ((flush3 t).mp h)
    rw [(datv m 0 c).leavesExact_idle 3 t (idle3 t hl) hf]
    unfold scrAt
    iintro ⟨⟨H, Hg⟩, Hw, ⟨%d0, H0⟩, ⟨%d1, H1⟩, ⟨%d2, H2⟩, ⟨%d3, Ho⟩⟩
    iapply (bodyIdle c (grid0.coords t) _ _ _ _ _ _ _ _ _ _ _ _ _ _ _ _ _ _ (iblk m c 0 t) (iblk m c 1 t) (iblk m c 2 t) _ hl
      (fun s0 s1 s2 s3 s4 => t.val % 257 ≠ 0 → Inv (t.val % 257 - 1) (sg m c (t.val / 257)) (vh m c (t.val / 257)) s0 s1 s2 s3 s4)
      (fun s0 s1 s2 s3 s4 h h' => absurd ((first t).mp h) h') Set.univ _)
    isplitl [H0]; · iexact H0
    isplitl [H1]; · iexact H1
    isplitl [H2]; · iexact H2
    isplitl [Ho]; · iexact Ho
    isplitl [H]; · iexact H
    iintro ⟨H0, H1, H2, Ho, ⟨%s0, %s1, %s2, %s3, %s4, %t0, %t1, %t2, %t3, %t4, %hst, S0, S1, S2, S3, S4⟩⟩
    isplitl [S0 S1 S2 S3 S4 Hg]
    · isplitl [S0 S1 S2 S3 S4]
      · iexists t0, t1, t2, t3, t4
        isplitr; · ipureintro; exact inv_succ m c hr' t hst.1 hst.2
        isplitl [S0]; · iexact S0
        isplitl [S1]; · iexact S1
        isplitl [S2]; · iexact S2
        isplitl [S3]; · iexact S3
        iexact S4
      iexact Hg
    isplitl [Hw]; · iexact Hw
    isplitl [H0]; · iexact H0
    isplitl [H1]; · iexact H1
    isplitl [H2]; · iexact H2
    iexists d3; iexact Ho

/-- The body obligation at every point. -/
theorem obligationV (c : Dev nD) (hr' : Real' m c) : BodyObligation (datv m 0 c) (defs₀ (F := Ideal)) Variants.none () Set.univ := fun t => by
  rw [bigSep_W0, bigSep_W0, defs₀_row]
  exact triple_restated (body_at m c hr' t) rfl .rfl fun _ => .rfl

theorem hinV (c : Dev nD) : Pipeline.ΦA spec0 c ⊢ (datv m 0 c).Φ 0 := by
  rw [PhiA_eq, show (datv m 0 c).Φ 0 = iprop(scrAt m c 0 ∗ (∃ r, prngReg c r)) from rfl]
  unfold scrAt
  iintro ⟨⟨⟨%s0, S0⟩, ⟨%s1, S1⟩, ⟨%s2, S2⟩, ⟨%s3, S3⟩, ⟨%s4, S4⟩⟩, Hg⟩
  isplitl [S0 S1 S2 S3 S4]
  · iexists s0, s1, s2, s3, s4
    isplitr; · ipureintro; exact fun h => absurd rfl h
    isplitl [S0]; · iexact S0
    isplitl [S1]; · iexact S1
    isplitl [S2]; · iexact S2
    isplitl [S3]; · iexact S3
    iexact S4
  iexact Hg
theorem houtV (c : Dev nD) : (datv m 0 c).Φ (Fin.last cfg0.N) ⊢ Pipeline.ΦA spec0 c := by
  rw [PhiA_eq, show (datv m 0 c).Φ (Fin.last cfg0.N) = iprop(scrAt m c cfg0.N ∗ (∃ r, prngReg c r)) from rfl]
  unfold scrAt
  iintro ⟨⟨%s0, %s1, %s2, %s3, %s4, %hs, S0, S1, S2, S3, S4⟩, Hg⟩
  isplitl [S0 S1 S2 S3 S4]
  · isplitl [S0]; · iexists s0; iexact S0
    isplitl [S1]; · iexists s1; iexact S1
    isplitl [S2]; · iexists s2; iexact S2
    isplitl [S3]; · iexists s3; iexact S3
    iexists s4; iexact S4
  iexact Hg

set_option backward.isDefEq.respectTransparency.types false in
/-- The launch. -/
theorem runV (hr' : ∀ c, Real' m c) : θ_run defs (onTc (τ := τ) (main (F := Ideal))) (s₀ m ρ) (fun r => Pipeline.FramePost cfgs (datv m) 0 (V m) r ∧ r.2.sem = fun _ => 0) :=
  Pipeline.θ_run_frame_track (Q' := _) cfgs (datv m) (0 : Fin 1) launch0 defs₀ Variants.none m ρ main
    (hbody := fun c => (obligationV m c (hr' c)).loose) (hshare := fun c w => by unfold Dat.share; split <;> rfl)
    (howed := fun _ _ => rfl) (V := V m) (hmain := hmain m Variants.none) (hA := vA_eq m) (hin := hinV m) (hout := houtV m)

/-- An index of the result is in a point's block. -/
theorem mem_blk3 (t : Fin cfg0.N) (i : S16384x1024.Idx) (h0 : (i 0).val / 256 = (t.val % 257 - 1) / 4) (h1 : (i 1).val / 512 = t.val / 257) :
    i ∈ ((cfg0.win 3).blk t).view.set := by
  obtain ⟨e0, e1⟩ := idx3 t
  show i ∈ ((View.whole main_v13).slice (win0_3.rect t)).set
  rw [View.set_slice_whole, Rect.mem_set_unit]
  intro a
  match a with
  | ⟨0, _⟩ => show win0_3.index t 0 * 256 ≤ (i 0 : Nat) ∧ (i 0 : Nat) < win0_3.index t 0 * 256 + 256
              rw [e0, ← h0]; clear e0 e1 h0 h1; omega
  | ⟨1, _⟩ => show win0_3.index t 1 * 512 ≤ (i 1 : Nat) ∧ (i 1 : Nat) < win0_3.index t 1 * 512 + 512
              rw [e1, ← h1]; clear e0 e1 h0 h1; omega
theorem cover3 (i : S16384x1024.Idx) : ∃ t : Fin cfg0.N, (cfg0.win 3).flush t = true ∧ i ∈ ((cfg0.win 3).blk t).view.set := by
  have b0 : (i 0).val < 16384 := (i 0).isLt
  have b1 : (i 1).val < 1024 := (i 1).isLt
  have key : ∀ e f : ℕ, e < 2 → f < 64 → 257 * e + 4 * f + 4 < 514 ∧ ((257 * e + 4 * f + 4) % 257 ≠ 0 ∧ (257 * e + 4 * f + 4) % 257 % 4 = 0) ∧ f = ((257 * e + 4 * f + 4) % 257 - 1) / 4 ∧ e = (257 * e + 4 * f + 4) / 257 := by
    intro e f he hf
    have h1 : (257 * e + 4 * f + 4) / 257 = e := by clear b0 b1; omega
    have h2 : (257 * e + 4 * f + 4) % 257 = 4 * f + 4 := by clear b0 b1; omega
    rw [h1, h2]; clear b0 b1 h1 h2; omega
  obtain ⟨k0, k1, k2, k3⟩ := key ((i 1).val / 512) ((i 0).val / 256) (by omega) (by omega)
  exact ⟨⟨_, lt_of_lt_of_eq k0 N_0.symm⟩, (flush3 _).mpr k1, mem_blk3 _ i k2 k3⟩
/-- The result array after the run. -/
theorem final3 (c : Dev nD) : (datv m 0 c).arrAt 3 cfg0.N = G m c :=
  (datv m 0 c).arrAt_eq_of_cover 3 (G m c) (fun t _ => by
    show (cfg0.win 3).cut (grid0.coords t) ((datv m 0 c).after 3 t) = _
    rw [vafter3]; rfl) cover3
/-- Every execution ends with the result in place and the arguments unchanged. -/
theorem value (hr' : ∀ c, Real' m c) : θ_run defs (onTc (τ := τ) (main (F := Ideal))) ⟨m, fun _ => 0, ρ⟩ (fun r => ∀ c : Dev nD,
      r.2.mem ((c.tc : Thread nD τ).loc main_v13) = G0 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final3 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩) (runV m ρ hr')

end Cert.KernelIdeal.Flash

end
-- ==== Proof.RI.Run.lean ====
/-
  The run of the reference program at the exact reals: its lines one after another, its result array, and the arguments
  left as they were.
-/
module

public import proofs.«01_k».proof.Proof.Gen.ReferenceIdeal
public import Idealize.ShloMosaic.Lib.StableHlo.Run
public import Idealize.ShloMosaic.PureOps.Ideal
public import Idealize.ShloMosaic.PureOps.Ideal.Laws
public import Idealize.ShloMosaic.Lib.Quiescent

@[expose] public section

set_option maxRecDepth 16384

noncomputable section

namespace Cert.ReferenceIdeal.Ref

open Cert.ReferenceIdeal Cert.ReferenceIdeal.Gen
open Idealize.ShloMosaic Idealize.ShloMosaic.TcCoe Idealize.ShloMosaic.StableHlo Idealize.SL.Sem

/-- The scores: the products of queries and keys over the root of the width. -/
def score (a0 : FVec Ideal S16384x1024 .f32) (a1 : FVec Ideal S16384x256 .f32) : FVec Ideal S1x2x4x16384x16384 .f32 :=
  Host.divf
    (transpose S1x2x4x16384x16384 [0, 1, 4, 3, 2]
      (Host.dotGeneral dot_S1x16384x2x128_S1x16384x2x4x128_S1x2x16384x16384x4_3_4_1_13_02_02 none
        (shapeCast S1x16384x2x128 a1 shapeCasts_S16384x256_S1x16384x2x128)
        (shapeCast S1x16384x2x4x128 a0 shapeCasts_S16384x1024_S1x16384x2x4x128))
      transposes_S1x2x16384x16384x4_S1x2x4x16384x16384_0_1_4_3_2)
    (broadcastInDim S1x2x4x16384x16384 ![] bcast_S_S1x2x4x16384x16384 (Host.sqrt (constant (F := Ideal) S_ .f32 0x43000000#32)))

/-- The greatest score of a query. -/
def top (s : FVec Ideal S1x2x4x16384x16384 .f32) : FVec Ideal S1x2x4x16384 .f32 :=
  maximumf (broadcastInDim S1x2x4x16384 ![] bcast_S_S1x2x4x16384 (constant (F := Ideal) S_ .f32 0xFF800000#32))
    (Host.reduce FloatOps.maximumf s (constant (F := Ideal) S_ .f32 0xFF800000#32) reducesTo_S1x2x4x16384x16384_S1x2x4x16384_d4 h_S_)

/-- A number of each query beside every key. -/
def wide (x : FVec Ideal S1x2x4x16384 .f32) : FVec Ideal S1x2x4x16384x16384 .f32 :=
  broadcastInDim S1x2x4x16384x16384 ![0, 1, 2, 3, 4] bcast_S1x2x4x16384x1_S1x2x4x16384x16384_0_1_2_3_4
    (broadcastInDim S1x2x4x16384x1 ![0, 1, 2, 3] bcast_S1x2x4x16384_S1x2x4x16384x1_0_1_2_3 x)

/-- The exponentials of the scores less the greatest. -/
def expo (s : FVec Ideal S1x2x4x16384x16384 .f32) : FVec Ideal S1x2x4x16384x16384 .f32 :=
  Host.exp (subf s (wide (top s)))

/-- The weights: the exponentials over their sum. -/
def weight (e : FVec Ideal S1x2x4x16384x16384 .f32) : FVec Ideal S1x2x4x16384x16384 .f32 :=
  Host.divf e (wide (Host.reduceAdd e (constant (F := Ideal) S_ .f32 0x00000000#32) reducesTo_S1x2x4x16384x16384_S1x2x4x16384_d4 h_S_))

/-- The weighted sums of the values, in the result's shape. -/
def mix (w : FVec Ideal S1x2x4x16384x16384 .f32) (a2 : FVec Ideal S16384x256 .f32) : FVec Ideal S16384x1024 .bf16 :=
  truncf .bf16 (shapeCast S16384x1024
    (transpose S1x16384x2x4x128 [0, 4, 1, 3, 2]
      (Host.dotGeneral dot_S1x16384x2x128_S1x2x4x16384x16384_S1x2x128x4x16384_1_4_3_23_02_01 none
        (shapeCast S1x16384x2x128 a2 shapeCasts_S16384x256_S1x16384x2x128) w)
      transposes_S1x2x128x4x16384_S1x16384x2x4x128_0_4_1_3_2)
    shapeCasts_S1x16384x2x4x128_S16384x1024) bitsLt_bf16_f32

/-- The reference's result, of its three arguments. -/
def out (a0 : FVec Ideal S16384x1024 .f32) (a1 a2 : FVec Ideal S16384x256 .f32) : FVec Ideal S16384x1024 .bf16 :=
  mix (weight (expo (score a0 a1))) a2

section
variable {F : FTy → Type} [FloatOps F]

/-- The program's operations, in order. -/
abbrev ops : List (HloOp τ sig (Elt F)) :=
  [ reshape main_arg0 main_v0 (rfl : (.f32 : EltTy) = .f32) shapeCasts_S16384x1024_S1x16384x2x4x128,
    reshape main_arg1 main_v1 (rfl : (.f32 : EltTy) = .f32) shapeCasts_S16384x256_S1x16384x2x128,
    reshape main_arg2 main_v2 (rfl : (.f32 : EltTy) = .f32) shapeCasts_S16384x256_S1x16384x2x128,
    binary main_v1 main_v0 main_v3 ((fun l r => Host.dotGeneral dot_S1x16384x2x128_S1x16384x2x4x128_S1x2x16384x16384x4_3_4_1_13_02_02 none l r) : (⟨S1x16384x2x128, .f32⟩ : BufTy).Contents (Elt F) → (⟨S1x16384x2x4x128, .f32⟩ : BufTy).Contents (Elt F) → (⟨S1x2x16384x16384x4, .f32⟩ : BufTy).Contents (Elt F)),
    unary main_v3 main_v4 ((transpose S1x2x4x16384x16384 [0, 1, 4, 3, 2] · transposes_S1x2x16384x16384x4_S1x2x4x16384x16384_0_1_4_3_2) : (⟨S1x2x16384x16384x4, .f32⟩ : BufTy).Contents (Elt F) → (⟨S1x2x4x16384x16384, .f32⟩ : BufTy).Contents (Elt F)),
    nullary main_cst (constant S_ .f32 0x43000000#32),
    unary main_cst main_v5 (Host.sqrt : (⟨S_, .f32⟩ : BufTy).Contents (Elt F) → (⟨S_, .f32⟩ : BufTy).Contents (Elt F)),
    unary main_v5 main_v6 (broadcastInDim S1x2x4x16384x16384 ![] bcast_S_S1x2x4x16384x16384 : (⟨S_, .f32⟩ : BufTy).Contents (Elt F) → (⟨S1x2x4x16384x16384, .f32⟩ : BufTy).Contents (Elt F)),
    binary main_v4 main_v6 main_v7 (Host.divf : (⟨S1x2x4x16384x16384, .f32⟩ : BufTy).Contents (Elt F) → (⟨S1x2x4x16384x16384, .f32⟩ : BufTy).Contents (Elt F) → (⟨S1x2x4x16384x16384, .f32⟩ : BufTy).Contents (Elt F)),
    nullary main_cst_0 (constant S_ .f32 0xFF800000#32),
    binary main_v7 main_cst_0 main_v8 ((fun x v => Host.reduce FloatOps.maximumf x v reducesTo_S1x2x4x16384x16384_S1x2x4x16384_d4 h_S_) : (⟨S1x2x4x16384x16384, .f32⟩ : BufTy).Contents (Elt F) → (⟨S_, .f32⟩ : BufTy).Contents (Elt F) → (⟨S1x2x4x16384, .f32⟩ : BufTy).Contents (Elt F)),
    nullary main_cst_1 (constant S_ .f32 0xFF800000#32),
    unary main_cst_1 main_v9 (broadcastInDim S1x2x4x16384 ![] bcast_S_S1x2x4x16384 : (⟨S_, .f32⟩ : BufTy).Contents (Elt F) → (⟨S1x2x4x16384, .f32⟩ : BufTy).Contents (Elt F)),
    binary main_v9 main_v8 main_v10 (maximumf : (⟨S1x2x4x16384, .f32⟩ : BufTy).Contents (Elt F) → (⟨S1x2x4x16384, .f32⟩ : BufTy).Contents (Elt F) → (⟨S1x2x4x16384, .f32⟩ : BufTy).Contents (Elt F)),
    unary main_v10 main_v11 (broadcastInDim S1x2x4x16384x1 ![0, 1, 2, 3] bcast_S1x2x4x16384_S1x2x4x16384x1_0_1_2_3 : (⟨S1x2x4x16384, .f32⟩ : BufTy).Contents (Elt F) → (⟨S1x2x4x16384x1, .f32⟩ : BufTy).Contents (Elt F)),
    unary main_v11 main_v12 (broadcastInDim S1x2x4x16384x16384 ![0, 1, 2, 3, 4] bcast_S1x2x4x16384x1_S1x2x4x16384x16384_0_1_2_3_4 : (⟨S1x2x4x16384x1, .f32⟩ : BufTy).Contents (Elt F) → (⟨S1x2x4x16384x16384, .f32⟩ : BufTy).Contents (Elt F)),
    binary main_v7 main_v12 main_v13 (subf : (⟨S1x2x4x16384x16384, .f32⟩ : BufTy).Contents (Elt F) → (⟨S1x2x4x16384x16384, .f32⟩ : BufTy).Contents (Elt F) → (⟨S1x2x4x16384x16384, .f32⟩ : BufTy).Contents (Elt F)),
    unary main_v13 main_v14 (Host.exp : (⟨S1x2x4x16384x16384, .f32⟩ : BufTy).Contents (Elt F) → (⟨S1x2x4x16384x16384, .f32⟩ : BufTy).Contents (Elt F)),
    nullary main_cst_2 (constant S_ .f32 0x00000000#32),
    binary main_v14 main_cst_2 main_v15 ((fun x v => Host.reduceAdd x v reducesTo_S1x2x4x16384x16384_S1x2x4x16384_d4 h_S_) : (⟨S1x2x4x16384x16384, .f32⟩ : BufTy).Contents (Elt F) → (⟨S_, .f32⟩ : BufTy).Contents (Elt F) → (⟨S1x2x4x16384, .f32⟩ : BufTy).Contents (Elt F)),
    unary main_v15 main_v16 (broadcastInDim S1x2x4x16384x1 ![0, 1, 2, 3] bcast_S1x2x4x16384_S1x2x4x16384x1_0_1_2_3 : (⟨S1x2x4x16384, .f32⟩ : BufTy).Contents (Elt F) → (⟨S1x2x4x16384x1, .f32⟩ : BufTy).Contents (Elt F)),
    unary main_v16 main_v17 (broadcastInDim S1x2x4x16384x16384 ![0, 1, 2, 3, 4] bcast_S1x2x4x16384x1_S1x2x4x16384x16384_0_1_2_3_4 : (⟨S1x2x4x16384x1, .f32⟩ : BufTy).Contents (Elt F) → (⟨S1x2x4x16384x16384, .f32⟩ : BufTy).Contents (Elt F)),
    binary main_v14 main_v17 main_v18 (Host.divf : (⟨S1x2x4x16384x16384, .f32⟩ : BufTy).Contents (Elt F) → (⟨S1x2x4x16384x16384, .f32⟩ : BufTy).Contents (Elt F) → (⟨S1x2x4x16384x16384, .f32⟩ : BufTy).Contents (Elt F)),
    binary main_v2 main_v18 main_v19 ((fun l r => Host.dotGeneral dot_S1x16384x2x128_S1x2x4x16384x16384_S1x2x128x4x16384_1_4_3_23_02_01 none l r) : (⟨S1x16384x2x128, .f32⟩ : BufTy).Contents (Elt F) → (⟨S1x2x4x16384x16384, .f32⟩ : BufTy).Contents (Elt F) → (⟨S1x2x128x4x16384, .f32⟩ : BufTy).Contents (Elt F)),
    unary main_v19 main_v20 ((transpose S1x16384x2x4x128 [0, 4, 1, 3, 2] · transposes_S1x2x128x4x16384_S1x16384x2x4x128_0_4_1_3_2) : (⟨S1x2x128x4x16384, .f32⟩ : BufTy).Contents (Elt F) → (⟨S1x16384x2x4x128, .f32⟩ : BufTy).Contents (Elt F)),
    reshape main_v20 main_v21 (rfl : (.f32 : EltTy) = .f32) shapeCasts_S1x16384x2x4x128_S16384x1024,
    unary main_v21 main_v22 ((truncf .bf16 · bitsLt_bf16_f32) : (⟨S16384x1024, .f32⟩ : BufTy).Contents (Elt F) → (⟨S16384x1024, .bf16⟩ : BufTy).Contents (Elt F)) ]

/-- The program is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches the core's own references only. -/
theorem ops_sub : (ops : List (HloOp τ sig (Elt F))).Forall fun op => op.bufs ⊆ tcRefs τ sig :=
  ⟨reshape_bufs_sub .., reshape_bufs_sub .., reshape_bufs_sub .., binary_bufs_sub .., unary_bufs_sub .., nullary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub .., unary_bufs_sub ..⟩

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

end

/-- The last buffer holds the result. -/
theorem out_eq (V : Valuation τ sig (Elt Ideal)) :
    after ops V (main_v22 : DevRef τ sig) =
      out (V (main_arg0 : DevRef τ sig)) (V (main_arg1 : DevRef τ sig)) (V (main_arg2 : DevRef τ sig)) := by
  after_results
  rfl

/-- Every run ends with the result in its buffer and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r =>
      ∀ c : Dev nD,
        r.2.mem ((c.tc : Thread nD τ).loc main_v22) = out (m ((c.tc : Thread nD τ).loc main_arg0)) (m ((c.tc : Thread nD τ).loc main_arg1)) (m ((c.tc : Thread nD τ).loc main_arg2)) ∧
        r.2.mem ((c.tc : Thread nD τ).loc main_arg0) = m ((c.tc : Thread nD τ).loc main_arg0) ∧
        r.2.mem ((c.tc : Thread nD τ).loc main_arg1) = m ((c.tc : Thread nD τ).loc main_arg1) ∧
        r.2.mem ((c.tc : Thread nD τ).loc main_arg2) = m ((c.tc : Thread nD τ).loc main_arg2) := by
  refine (θ_run _ _ _).mono (fun r h c => ⟨?_, ?_, ?_, ?_⟩)
    (run_seq scopedRefs_eq scopedSems_eq defs main (fun _ => ops) main_eq (fun _ => ops_sub) m ρ)
  · exact (h c main_v22).trans (out_eq _)
  · exact (h c main_arg0).trans (arg0_eq _)
  · exact (h c main_arg1).trans (arg1_eq _)
  · exact (h c main_arg2).trans (arg2_eq _)

/-- The semaphores rest at the end and the arguments are as they were. -/
theorem quiet (m : (ℓ : Loc nD τ sig) → Buf (Elt Ideal) ℓ) (ρ : Dev nD → PrngReg) :
    θ_run defs (onTc (τ := τ) (main (F := Ideal))) ⟨m, fun _ => 0, ρ⟩ fun r =>
      (∀ c : Dev nD,
        r.2.mem ((c.tc : Thread nD τ).loc main_arg0) = m ((c.tc : Thread nD τ).loc main_arg0) ∧
        r.2.mem ((c.tc : Thread nD τ).loc main_arg1) = m ((c.tc : Thread nD τ).loc main_arg1) ∧
        r.2.mem ((c.tc : Thread nD τ).loc main_arg2) = m ((c.tc : Thread nD τ).loc main_arg2)) ∧ r.2.sem = fun _ => 0 :=
  (θ_run _ _ _).mono (fun r h => ⟨fun c => (h c).2, Idealize.ShloMosaic.sem_eq_zero_of_no_sems (by decide) r.2⟩) (run m ρ)

end Cert.ReferenceIdeal.Ref
-- ==== Proof.RI.Pre.lean ====
/- What the precondition says of an element: it is a real number. -/
module

public import proofs.«01_k».proof.Defs
public import Idealize.ShloMosaic.PureOps.Ideal.Laws
public import Idealize.ShloMosaic.Lib.Pointwise

@[expose] public section

noncomputable section

namespace Cert.Pre_finite

open Idealize.ShloMosaic Idealize.SL.Sem

instance facts : Facts where
  bcast_S_S16384x1024 := by decide
  bcast_S_S16384x256 := by decide

/-- The pattern the precondition compares with is infinity. -/
theorem inf_bits : FloatOps.ofBits (F := Ideal) .f32 0x7F800000#32 = (⊤ : EReal) := by
  simp [Ideal.ofBits_def, Ideal.ofBits, Ideal.ieee]

/-- An element whose absolute value is below infinity is a real number. -/
theorem real_of_abs (x : Ideal .f32) (h : FloatOps.cmpf (F := Ideal) .olt (FloatOps.hostAbsf x) (FloatOps.ofBits (F := Ideal) .f32 0x7F800000#32) = 1#1) :
    ((EReal.toReal x : ℝ) : EReal) = x := by
  rw [inf_bits, Ideal.hostAbsf_def, Ideal.absf_def] at h
  change Ideal.cmp .olt (max x (-x)) ⊤ = 1#1 at h
  have h1 : max x (-x) < (⊤ : EReal) := by
    by_contra hn
    simp [Ideal.cmp, hn] at h
  refine EReal.coe_toReal (fun e => ?_) (fun e => ?_)
  · subst e
    simp at h1
  · subst e
    simp at h1

theorem real0 (a0 : FVec Ideal S16384x1024 .f32) (a1 a2 : FVec Ideal S16384x256 .f32)
    (h : (fn (F := Ideal) a0 a1 a2).1 = fun _ => 1#1) (i : S16384x1024.Idx) : ((EReal.toReal (a0 i) : ℝ) : EReal) = a0 i := by
  have h2 := congrFun h i
  exact real_of_abs _ h2
theorem real1 (a0 : FVec Ideal S16384x1024 .f32) (a1 a2 : FVec Ideal S16384x256 .f32)
    (h : (fn (F := Ideal) a0 a1 a2).2.1 = fun _ => 1#1) (i : S16384x256.Idx) : ((EReal.toReal (a1 i) : ℝ) : EReal) = a1 i := by
  have h2 := congrFun h i
  exact real_of_abs _ h2
theorem real2 (a0 : FVec Ideal S16384x1024 .f32) (a1 a2 : FVec Ideal S16384x256 .f32)
    (h : (fn (F := Ideal) a0 a1 a2).2.2 = fun _ => 1#1) (i : S16384x256.Idx) : ((EReal.toReal (a2 i) : ℝ) : EReal) = a2 i := by
  have h2 := congrFun h i
  exact real_of_abs _ h2

end Cert.Pre_finite
-- ==== Proof.KI.Host.lean ====
/- The kernel's operands, of the program's arguments. -/
module

public import proofs.«01_k».proof.Proof.KI.Val
public import Idealize.ShloMosaic.Lib.Claim
public import Idealize.ShloMosaic.Lib.Pointwise

@[expose] public section

set_option maxRecDepth 16384

noncomputable section

namespace Cert.KernelIdeal.Flash

open Idealize.ShloMosaic Idealize.ShloMosaic.TcCoe Idealize.ShloMosaic.Tactic Idealize.SL.Sem
open Cert.KernelIdeal.Gen

variable (m : (ℓ : Loc nD τ sig) → Buf (Elt Ideal) ℓ) (c : Dev nD)

/-- The width is 128: its root, and the logarithm of two, give the factor of the queries. -/
def att : ℝ := 1 / (Real.sqrt 128 * Real.log 2)
theorem den_ne : Real.sqrt 128 * Real.log 2 ≠ 0 :=
  mul_ne_zero (Real.sqrt_pos.mpr (by norm_num)).ne' (Real.log_pos (by norm_num)).ne'
theorem att_eq : Ideal.div 1 (Ideal.sqrt (Ideal.ofBits FTy.f32 0x43000000#32) * Ideal.log (Ideal.ofBits FTy.f32 0x40000000#32)) = ((att : ℝ) : EReal) := by
  have h : Ideal.ofBits FTy.f32 0x43000000#32 = ((128 : ℝ) : EReal) := by
    simp [Ideal.ofBits, Ideal.ieee, -EReal.coe_mul]; norm_num
  have h' : Ideal.ofBits FTy.f32 0x40000000#32 = ((2 : ℝ) : EReal) := by
    simp [Ideal.ofBits, Ideal.ieee, -EReal.coe_mul]; norm_num
  rw [h, h', Ideal.sqrt_coe, if_neg (by norm_num), Ideal.log_coe, if_neg (by norm_num), ← EReal.coe_mul, Ideal.div_coe den_ne, one_mul]
  rfl

/-- The program's arguments. -/
def aq : FVec Ideal S16384x1024 .f32 := m ((c : Thread nD τ).loc main_arg0)
def ak : FVec Ideal S16384x256 .f32 := m ((c : Thread nD τ).loc main_arg1)
def av : FVec Ideal S16384x256 .f32 := m ((c : Thread nD τ).loc main_arg2)

theorem Aq_at (i : Fin 16384) (j : Fin 1024) : Aq m c (ix2 i j) = (aq m c (ix2 i j) : EReal) * ((att : ℝ) : EReal) := by
  rw [← att_eq]
  unfold Aq aq
  entry_read
  pointwise

theorem Ak_at (i : Fin 16384) (j : Fin 256) : Ak m c (ix2 i j) = ak m c (ix2 i j) := by
  unfold Ak ak
  entry_read
  pointwise

/-- The values of a head beside ones, head after head. -/
def vv (a : FVec Ideal S16384x256 .f32) : FVec Ideal S16384x512 .bf16 :=
  concatenate S16384x512 1
    [⟨S16384x128, extractStridedSlice S16384x128 ![0, 0] (truncf .bf16 a bitsLt_bf16_f32) slices_S16384x256_S16384x128_0_0⟩,
     ⟨S16384x128, broadcastInDim S16384x128 ![] bcast_S_S16384x128 (constant (F := Ideal) S_ .bf16 0x3F80#16)⟩,
     ⟨S16384x128, extractStridedSlice S16384x128 ![0, 128] (truncf .bf16 a bitsLt_bf16_f32) slices_S16384x256_S16384x128_0_128⟩,
     ⟨S16384x128, broadcastInDim S16384x128 ![] bcast_S_S16384x128 (constant (F := Ideal) S_ .bf16 0x3F80#16)⟩]
    concatenates_S16384x128_S16384x128_S16384x128_S16384x128_S16384x512_d1

set_option maxHeartbeats 4000000 in
theorem Av_eq : Av m c = vv (av m c) := by
  unfold Av V av
  after_results
  rfl

theorem vv_at (a : FVec Ideal S16384x256 .f32) (i : Fin 16384) (j : Fin 512) : vv a (ix2 i j) =
    if h : j.val % 256 < 128 then a (ix2 i (⟨j.val / 256 * 128 + j.val % 256, by omega⟩ : Fin 256)) else 1 := by
  have e : vv a (ix2 i j) = if h : j.val < 128 then a (ix2 i (⟨j.val, by omega⟩ : Fin 256)) else
      if h : j.val - 128 < 128 then 1 else
        if h : j.val - 128 - 128 < 128 then a (ix2 i (⟨128 + (j.val - 128 - 128), by omega⟩ : Fin 256)) else 1 := by
    unfold vv
    pointwise
  rw [e]
  have hc : ∀ (x y : ℕ) (hx : x < 256) (hy : y < 256), x = y → a (ix2 i (⟨x, hx⟩ : Fin 256)) = a (ix2 i (⟨y, hy⟩ : Fin 256)) := by
    intro x y hx hy he; subst he; rfl
  have hj := j.isLt
  split_ifs
  all_goals first
    | rfl
    | (apply hc; omega)
    | (exfalso; omega)

end Cert.KernelIdeal.Flash
-- ==== Proof.RI.At.lean ====
/- The reference's result read at an index: of real arguments, weighted values over the sum of the weights. -/
module

public import proofs.«01_k».proof.Proof.RI.Run
public import proofs.«01_k».proof.Proof.KI.Pure
public import Idealize.ShloMosaic.Lib.Pointwise

@[expose] public section

set_option maxRecDepth 16384

noncomputable section

namespace Cert.ReferenceIdeal.Ref

open Cert.ReferenceIdeal Cert.ReferenceIdeal.Gen
open Idealize.ShloMosaic Idealize.ShloMosaic.TcCoe Idealize.ShloMosaic.StableHlo Idealize.SL.Sem

variable (a0 : FVec Ideal S16384x1024 .f32) (a1 a2 : FVec Ideal S16384x256 .f32)

/-- The square root of the width. -/
theorem root_eq : Ideal.sqrt (Ideal.ofBits FTy.f32 0x43000000#32) = ((Real.sqrt 128 : ℝ) : EReal) := by
  have h : Ideal.ofBits FTy.f32 0x43000000#32 = ((128 : ℝ) : EReal) := by
    simp [Ideal.ofBits, Ideal.ieee, -EReal.coe_mul]; norm_num
  rw [h, Ideal.sqrt_coe, if_neg (by norm_num)]
/-- The maximum starts at minus infinity. -/
theorem low_eq : Ideal.ofBits FTy.f32 0xFF800000#32 = (⊥ : EReal) := by
  simp [Ideal.ofBits, Ideal.ieee]
theorem root_ne : Real.sqrt 128 ≠ 0 := (Real.sqrt_pos.mpr (by norm_num)).ne'

theorem score_at (h : Fin 2) (r : Fin 4) (i k : Fin 16384) :
    score a0 a1 (ix5 (0 : Fin 1) h r i k) = Ideal.div (∑ x : Fin 128, a1 (ix2 k (⟨h.val * 128 + x.val, by omega⟩ : Fin 256)) * a0 (ix2 i (⟨h.val * 512 + r.val * 128 + x.val, by omega⟩ : Fin 1024)))
      ((Real.sqrt 128 : ℝ) : EReal) := by
  rw [← root_eq]
  unfold score
  pointwise

theorem top_at (s : FVec Ideal S1x2x4x16384x16384 .f32) (h : Fin 2) (r : Fin 4) (i : Fin 16384) :
    top s (ix4 (0 : Fin 1) h r i) = max ⊥ (Finset.univ.fold max ⊥ fun k : Fin 16384 => s (ix5 (0 : Fin 1) h r i k)) := by
  unfold top
  rw [maximumf_apply, Host.reduce_eq_fold, Shape.ReducesTo.fold_fiber_r5_a4]
  change max (Ideal.ofBits FTy.f32 0xFF800000#32) (Finset.fold max (Ideal.ofBits FTy.f32 0xFF800000#32) (fun k => s (ix5 (0 : Fin 1) h r i k)) Finset.univ) = _
  rw [low_eq]

theorem expo_at (s : FVec Ideal S1x2x4x16384x16384 .f32) (h : Fin 2) (r : Fin 4) (i k : Fin 16384) :
    expo s (ix5 (0 : Fin 1) h r i k) = Ideal.exp (s (ix5 (0 : Fin 1) h r i k) - top s (ix4 (0 : Fin 1) h r i)) := by
  unfold expo wide
  pointwise

theorem weight_at (s : FVec Ideal S1x2x4x16384x16384 .f32) (h : Fin 2) (r : Fin 4) (i k : Fin 16384) :
    weight s (ix5 (0 : Fin 1) h r i k) = Ideal.div (s (ix5 (0 : Fin 1) h r i k)) (∑ x, s (ix5 (0 : Fin 1) h r i x)) := by
  unfold weight wide
  pointwise

theorem mix_at (w : FVec Ideal S1x2x4x16384x16384 .f32) (i : Fin 16384) (j : Fin 1024) :
    mix w a2 (ix2 i j) = ∑ x, a2 (ix2 x (⟨j.val / 512 * 128 + j.val % 128, by omega⟩ : Fin 256)) *
      w (ix5 (0 : Fin 1) (⟨j.val / 512, by omega⟩ : Fin 2) (⟨j.val / 128 % 4, by omega⟩ : Fin 4) i x) := by
  unfold mix
  pointwise

/-- A score as a real number. -/
def sc (h : Fin 2) (r : Fin 4) (i k : Fin 16384) : ℝ :=
  (∑ x : Fin 128, EReal.toReal (a1 (ix2 k (⟨h.val * 128 + x.val, by omega⟩ : Fin 256))) * EReal.toReal (a0 (ix2 i (⟨h.val * 512 + r.val * 128 + x.val, by omega⟩ : Fin 1024)))) * (1 / Real.sqrt 128)

section
variable (h0 : ∀ i, ((EReal.toReal (a0 i) : ℝ) : EReal) = a0 i) (h1 : ∀ i, ((EReal.toReal (a1 i) : ℝ) : EReal) = a1 i)
  (h2 : ∀ i, ((EReal.toReal (a2 i) : ℝ) : EReal) = a2 i)
include h0 h1

theorem score_real (h : Fin 2) (r : Fin 4) (i k : Fin 16384) :
    score a0 a1 (ix5 (0 : Fin 1) h r i k) = ((sc a0 a1 h r i k : ℝ) : EReal) := by
  rw [score_at, Ideal.div_coe root_ne]
  unfold sc
  rw [EReal.coe_mul, ← Cert.KernelIdeal.Flash.coe_sum]
  refine congrArg (· * _) (Finset.sum_congr rfl fun x _ => ?_)
  rw [EReal.coe_mul, h1, h0]

/-- The greatest score is a real number. -/
theorem top_real (h : Fin 2) (r : Fin 4) (i : Fin 16384) :
    ∃ μ : ℝ, top (score a0 a1) (ix4 (0 : Fin 1) h r i) = (μ : EReal) := by
  rw [top_at]
  rw [show (fun k : Fin 16384 => score a0 a1 (ix5 (0 : Fin 1) h r i k)) = fun k => ((sc a0 a1 h r i k : ℝ) : EReal) from
    funext fun k => score_real a0 a1 h0 h1 h r i k]
  rw [max_eq_right bot_le]
  have ht := Cert.KernelIdeal.Flash.fold_real (Finset.univ : Finset (Fin 16384)) (fun k => sc a0 a1 h r i k)
  have hb := Cert.KernelIdeal.Flash.fold_ge (Finset.univ : Finset (Fin 16384)) (fun k => sc a0 a1 h r i k) 0 (Finset.mem_univ _)
  refine ⟨_, (EReal.coe_toReal ht fun e => ?_).symm⟩
  rw [e] at hb
  exact EReal.coe_ne_bot _ (le_bot_iff.mp hb)

include h2 in
/-- The result of real arguments, at a row and a column. -/
theorem out_real (i : Fin 16384) (j : Fin 1024) :
    ∃ μ : ℝ, out a0 a1 a2 (ix2 i j) =
      ((∑ x : Fin 16384, EReal.toReal (a2 (ix2 x (⟨j.val / 512 * 128 + j.val % 128, by omega⟩ : Fin 256))) *
        (Real.exp (sc a0 a1 (⟨j.val / 512, by omega⟩ : Fin 2) (⟨j.val / 128 % 4, by omega⟩ : Fin 4) i x - μ) *
          (1 / ∑ y : Fin 16384, Real.exp (sc a0 a1 (⟨j.val / 512, by omega⟩ : Fin 2) (⟨j.val / 128 % 4, by omega⟩ : Fin 4) i y - μ))) : ℝ) : EReal) := by
  obtain ⟨μ, hμ⟩ := top_real a0 a1 h0 h1 (⟨j.val / 512, by omega⟩ : Fin 2) (⟨j.val / 128 % 4, by omega⟩ : Fin 4) i
  refine ⟨μ, ?_⟩
  have he : ∀ x : Fin 16384, expo (score a0 a1) (ix5 (0 : Fin 1) (⟨j.val / 512, by omega⟩ : Fin 2) (⟨j.val / 128 % 4, by omega⟩ : Fin 4) i x)
      = ((Real.exp (sc a0 a1 (⟨j.val / 512, by omega⟩ : Fin 2) (⟨j.val / 128 % 4, by omega⟩ : Fin 4) i x - μ) : ℝ) : EReal) := fun x => by
    rw [expo_at, hμ, score_real a0 a1 h0 h1, ← EReal.coe_sub, Ideal.exp_coe]
  unfold out
  rw [mix_at, ← Cert.KernelIdeal.Flash.coe_sum]
  refine Finset.sum_congr rfl fun x _ => ?_
  rw [weight_at, he, Finset.sum_congr rfl (fun y _ => he y), Cert.KernelIdeal.Flash.coe_sum, Ideal.div_coe, EReal.coe_mul, EReal.coe_mul, h2]
  exact (Finset.sum_pos (fun y _ => Real.exp_pos _) ⟨0, Finset.mem_univ _⟩).ne'

end

end Cert.ReferenceIdeal.Ref
-- ==== Proof.Same.lean ====
/- The kernel's quotient and the reference's weighted sum are one number. -/
module

public import proofs.«01_k».proof.Proof.KI.Host
public import proofs.«01_k».proof.Proof.RI.At

@[expose] public section

set_option maxRecDepth 16384

noncomputable section

namespace Cert.KernelIdeal.Flash

open Idealize.ShloMosaic Idealize.ShloMosaic.TcCoe Idealize.SL.Sem
open Cert.KernelIdeal.Gen

/-- An index of an array of two axes is a row and a column. -/
theorem idx_two {a b : ℕ} (i : (⟨2, ![a, b]⟩ : Shape).Idx) : ∃ (r : Fin a) (s : Fin b), i = ix2 r s :=
  ⟨i 0, i 1, by funext k; match k with | 0 => rfl | 1 => rfl⟩

/-- A weighted mean does not depend on the number that every score is lessened by. -/
theorem mean_shift (S W : Fin 16384 → ℝ) (μ ν : ℝ) :
    ∑ x, W x * (Real.exp (S x - μ) * (1 / ∑ y, Real.exp (S y - μ))) = (∑ x, Real.exp (S x - ν) * W x) * (1 / ∑ y, Real.exp (S y - ν)) := by
  have hs : ∀ x, Real.exp (S x - μ) = Real.exp (S x - ν) * Real.exp (ν - μ) := fun x => by
    rw [← Real.exp_add]; congr 1; ring
  have hc : Real.exp (ν - μ) ≠ 0 := (Real.exp_pos _).ne'
  have hd : (∑ y, Real.exp (S y - ν)) ≠ 0 := (Finset.sum_pos (fun y _ => Real.exp_pos _) ⟨0, Finset.mem_univ _⟩).ne'
  have hm : (∑ y, Real.exp (S y - μ)) = (∑ y, Real.exp (S y - ν)) * Real.exp (ν - μ) := by
    rw [Finset.sum_mul]
    exact Finset.sum_congr rfl fun y _ => hs y
  rw [hm]
  generalize (∑ y, Real.exp (S y - ν)) = D at hd
  rw [Finset.sum_mul]
  refine Finset.sum_congr rfl fun x _ => ?_
  rw [hs]
  generalize Real.exp (ν - μ) = C at hc
  field_simp

theorem E_eq (x : ℝ) : E x = Real.exp (Real.log 2 * x) := Real.rpow_def_of_pos (by norm_num) x

/-- A sum over all the keys, of scores whose logarithm-of-two multiples are given. -/
theorem acc_eq (σ v : ℕ → ℝ) (S W : Fin 16384 → ℝ) (hS : ∀ x : Fin 16384, Real.log 2 * σ x.val = S x) (hv : ∀ x : Fin 16384, v x.val = W x) :
    Acc σ v 8 = ∑ x : Fin 16384, Real.exp (S x - Real.log 2 * mr σ 8) * W x := by
  have h : Acc σ v 8 = ∑ x : Fin 16384, E (σ x.val - mr σ 8) * v x.val := by
    unfold Acc
    exact Finset.sum_range (fun i => E (σ i - mr σ 8) * v i)
  rw [h]
  refine Finset.sum_congr rfl fun x _ => ?_
  rw [E_eq, mul_sub, hS, hv]

/-- The kernel's factor and the two bases of exponentials make the reference's. -/
theorem log_att (t : ℝ) : Real.log 2 * (t * att) = t * (1 / Real.sqrt 128) := by
  have h1 : Real.sqrt 128 ≠ 0 := (Real.sqrt_pos.mpr (by norm_num)).ne'
  have h2 : Real.log 2 ≠ 0 := (Real.log_pos (by norm_num)).ne'
  unfold att
  field_simp

variable (m : (ℓ : Loc nD τ sig) → Buf (Elt Ideal) ℓ) (c : Dev nD)

section
variable (h0 : ∀ i, ((EReal.toReal (aq m c i) : ℝ) : EReal) = aq m c i) (h1 : ∀ i, ((EReal.toReal (ak m c i) : ℝ) : EReal) = ak m c i)
  (h2 : ∀ i, ((EReal.toReal (av m c i) : ℝ) : EReal) = av m c i)

include h0 in
theorem Aq_real (i : Fin 16384) (j : Fin 1024) : Aq m c (ix2 i j) = ((EReal.toReal (aq m c (ix2 i j)) * att : ℝ) : EReal) := by
  rw [Aq_at, EReal.coe_mul, h0]

include h0 h1 h2 in
/-- Real arguments give real operands. -/
theorem operands_real : Real' m c where
  q i := by
    obtain ⟨r, s, rfl⟩ := idx_two i
    rw [Aq_real m c h0, EReal.toReal_coe]
  k i := by
    obtain ⟨r, s, rfl⟩ := idx_two i
    rw [Ak_at, h1]
  v i := by
    obtain ⟨r, s, rfl⟩ := idx_two i
    rw [Av_eq, vv_at]
    split_ifs
    · exact h2 _
    · norm_num

include h0 in
theorem qf_eq (row : Fin 16384) (col : ℕ) (hc : col < 1024) : qf m c row.val col = EReal.toReal (aq m c (ix2 row (⟨col, hc⟩ : Fin 1024))) * att := by
  unfold qf
  rw [dif_pos ⟨row.isLt, hc⟩]
  exact (congrArg EReal.toReal (Aq_real m c h0 row ⟨col, hc⟩)).trans (EReal.toReal_coe _)

theorem kf_eq (row : Fin 16384) (col : ℕ) (hc : col < 256) : kf m c row.val col = EReal.toReal (ak m c (ix2 row (⟨col, hc⟩ : Fin 256))) := by
  unfold kf
  rw [dif_pos ⟨row.isLt, hc⟩]
  exact congrArg EReal.toReal (Ak_at m c row ⟨col, hc⟩)

theorem vf_val (row : Fin 16384) (h d : ℕ) (hh : h < 2) (hd : d < 128) :
    vf m c row.val (256 * h + d) = EReal.toReal (av m c (ix2 row (⟨h * 128 + d, by omega⟩ : Fin 256))) := by
  have hc : 256 * h + d < 512 := by omega
  unfold vf
  rw [dif_pos ⟨row.isLt, hc⟩]
  refine congrArg EReal.toReal ?_
  rw [Av_eq]
  refine (vv_at _ row ⟨256 * h + d, hc⟩).trans ?_
  have e1 : (256 * h + d) % 256 = d := by omega
  have e2 : (256 * h + d) / 256 = h := by omega
  rw [dif_pos (show (256 * h + d) % 256 < 128 by omega)]
  have hx : ∀ (x y : ℕ) (hx : x < 256) (hy : y < 256), x = y → av m c (ix2 row (⟨x, hx⟩ : Fin 256)) = av m c (ix2 row (⟨y, hy⟩ : Fin 256)) := by
    intro x y hx hy he; subst he; rfl
  apply hx
  show (256 * h + d) / 256 * 128 + (256 * h + d) % 256 = h * 128 + d
  rw [e1, e2]

theorem vf_one (row : Fin 16384) (h d : ℕ) (hh : h < 2) (hd : d < 128) : vf m c row.val (256 * h + (128 + d)) = 1 := by
  have hc : 256 * h + (128 + d) < 512 := by omega
  unfold vf
  rw [dif_pos ⟨row.isLt, hc⟩, Av_eq]
  have e := vv_at (av m c) row ⟨256 * h + (128 + d), hc⟩
  rw [dif_neg (show ¬ (256 * h + (128 + d)) % 256 < 128 by omega)] at e
  exact (congrArg EReal.toReal e).trans (EReal.toReal_coe 1)

include h0 in
/-- A score times the logarithm of two is the reference's score. -/
theorem sg_eq (h : Fin 2) (r : Fin 4) (i k : Fin 16384) :
    Real.log 2 * sg m c h.val i.val r.val k.val = Cert.ReferenceIdeal.Ref.sc (aq m c) (ak m c) h r i k := by
  unfold sg Cert.ReferenceIdeal.Ref.sc
  have e : (∑ d : Fin 128, qf m c i.val (512 * h.val + 128 * r.val + d.val) * kf m c k.val (128 * h.val + d.val)) =
      (∑ x : Fin 128, EReal.toReal (ak m c (ix2 k (⟨h.val * 128 + x.val, by omega⟩ : Fin 256))) * EReal.toReal (aq m c (ix2 i (⟨h.val * 512 + r.val * 128 + x.val, by omega⟩ : Fin 1024)))) * att := by
    rw [Finset.sum_mul]
    refine Finset.sum_congr rfl fun d _ => ?_
    have e1 : 512 * h.val + 128 * r.val + d.val = h.val * 512 + r.val * 128 + d.val := by ring
    have e2 : 128 * h.val + d.val = h.val * 128 + d.val := by ring
    rw [e1, e2, qf_eq m c h0 i _ (by omega), kf_eq m c k _ (by omega)]
    ring
  rw [e, log_att]

include h0 h1 h2 in
/-- The kernel's result is the reference's. -/
theorem same : G0 m c = Cert.ReferenceIdeal.Ref.out (aq m c) (ak m c) (av m c) := by
  funext i
  obtain ⟨row, col, rfl⟩ := idx_two i
  obtain ⟨μ, hμ⟩ := Cert.ReferenceIdeal.Ref.out_real (aq m c) (ak m c) (av m c) h0 h1 h2 row col
  refine Eq.trans ?_ hμ.symm
  have hcol := col.isLt
  have hh : col.val / 512 < 2 := by omega
  have hr : col.val / 128 % 4 < 4 := by omega
  have er : col.val % 512 / 128 = col.val / 128 % 4 := by omega
  have hS : ∀ x : Fin 16384, Real.log 2 * sg m c (col.val / 512) row.val (col.val % 512 / 128) x.val =
      Cert.ReferenceIdeal.Ref.sc (aq m c) (ak m c) (⟨col.val / 512, hh⟩ : Fin 2) (⟨col.val / 128 % 4, hr⟩ : Fin 4) row x := fun x => by
    rw [er]
    exact sg_eq m c h0 ⟨col.val / 512, hh⟩ ⟨col.val / 128 % 4, hr⟩ row x
  have hn := acc_eq (sg m c (col.val / 512) row.val (col.val % 512 / 128)) (fun k => vh m c (col.val / 512) k (col.val % 128)) _ _ hS
    (fun x => vf_val m c x (col.val / 512) (col.val % 128) hh (by omega))
  have hd := acc_eq (sg m c (col.val / 512) row.val (col.val % 512 / 128)) (fun k => vh m c (col.val / 512) k (128 + col.val % 128)) _ (fun _ => 1) hS
    (fun x => vf_one m c x (col.val / 512) (col.val % 128) hh (by omega))
  rw [mean_shift _ _ μ (Real.log 2 * mr (sg m c (col.val / 512) row.val (col.val % 512 / 128)) 8)]
  show Ideal.div ((Acc (sg m c (col.val / 512) row.val (col.val % 512 / 128)) (fun k => vh m c (col.val / 512) k (col.val % 128)) 8 : ℝ) : EReal)
    ((Acc (sg m c (col.val / 512) row.val (col.val % 512 / 128)) (fun k => vh m c (col.val / 512) k (128 + col.val % 128)) 8 : ℝ) : EReal) = _
  simp only [mul_one] at hd
  rw [hn, hd, Ideal.div_coe, EReal.coe_mul]
  exact (Finset.sum_pos (fun y _ => Real.exp_pos _) ⟨0, Finset.mem_univ _⟩).ne'

end

end Cert.KernelIdeal.Flash
-- ==== Proof.FI.Run.lean ====
/- The feed-forward launch: every execution ends at rest, with the second call's array in the result. -/
module

public import proofs.«01_k».proof.Proof.Gen.FeedIdeal.Frame

@[expose] public section

set_option maxRecDepth 16384

noncomputable section

namespace Cert.FeedIdeal.Feed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FeedIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result, the arguments unchanged and the semaphores at rest. -/
theorem run_end : θ_run defs (onTc (τ := τ) (main (F := F))) ⟨m, fun _ => 0, ρ⟩ (fun r => (∀ c : Dev nD,
      r.2.mem ((c.tc : Thread nD τ).loc main_v7) = W4 m ρ c (Proc.devRef .tc main_v7) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v7 (by decide)), (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩), funext fun g => hz g (.inr (no_unscoped g.2))⟩)

end Cert.FeedIdeal.Feed

end
-- ==== Proof.FI.Val.lean ====
/- What the two calls of the feed-forward leave in their result arrays, from the arrays they read. -/
module

public import proofs.«01_k».proof.Proof.FI.Run
public import Idealize.ShloMosaic.Lib.Claim
public import Idealize.ShloMosaic.Lib.Pointwise
public import Idealize.ShloMosaic.Lib.Pipeline.Value
public import Idealize.ShloMosaic.Lib.Pipeline.ValueKit

@[expose] public section

set_option maxRecDepth 16384

noncomputable section

namespace Cert.FeedIdeal.Feed

open Idealize.ShloMosaic Idealize.ShloMosaic.TcCoe Idealize.ShloMosaic.Tactic Idealize.SL.Sem
open Cert.FeedIdeal.Gen

variable (V : (c : Dev nD) → (b : Ref sig .tc) → Buf (Elt Ideal) ((c : Thread nD τ).loc b)) (c : Dev nD)

/-- The product of two arrays, the second the first layer of a stack, at a row and a column. -/
def prod (a : Vec Ideal S16384x4096 .bf16) (w : Vec Ideal S4x4096x4096 .bf16) (i : Fin 16384) (j : Fin 4096) : EReal :=
  ∑ k : Fin 4096, (a (ix2 i k) : EReal) * w (ix3 (0 : Fin 4) k j)

/-- The first call's result. -/
def up (h : Vec Ideal S16384x4096 .bf16) (w1 w3 : Vec Ideal S4x4096x4096 .bf16) : Vec Ideal S16384x4096 .bf16 := fun i =>
  prod h w1 (i 0) (i 1) * Ideal.logistic (prod h w1 (i 0) (i 1)) * prod h w3 (i 0) (i 1)
/-- The second call's result. -/
def down (u : Vec Ideal S16384x4096 .bf16) (w2 : Vec Ideal S4x4096x4096 .bf16) (s : Vec Ideal S1x4096 .f32) : Vec Ideal S16384x4096 .bf16 := fun i =>
  prod u w2 (i 0) (i 1) * s (ix2 (0 : Fin 1) (i 1))

theorem hidx0 : ∀ t : Fin grid0.N, win0_0.index t 0 = t.val % 16 ∧ win0_0.index t 1 = 0
    ∧ win0_1.index t 0 = 0 ∧ win0_1.index t 1 = 0 ∧ win0_1.index t 2 = t.val / 16
    ∧ win0_2.index t 0 = 0 ∧ win0_2.index t 1 = 0 ∧ win0_2.index t 2 = t.val / 16
    ∧ win0_3.index t 0 = t.val % 16 ∧ win0_3.index t 1 = t.val / 16 := by decide +kernel
theorem hidx1 : ∀ t : Fin grid1.N, win1_0.index t 0 = t.val % 16 ∧ win1_0.index t 1 = 0
    ∧ win1_1.index t 0 = 0 ∧ win1_1.index t 1 = 0 ∧ win1_1.index t 2 = t.val / 16
    ∧ win1_2.index t 0 = 0 ∧ win1_2.index t 1 = t.val / 16
    ∧ win1_3.index t 0 = t.val % 16 ∧ win1_3.index t 1 = t.val / 16 := by decide +kernel

theorem idx_two {n k : ℕ} (y : (⟨2, ![n, k]⟩ : Shape).Idx) : y = ix2 (y 0 : Fin n) (y 1 : Fin k) := by
  funext a
  match a with
  | ⟨0, _⟩ => rfl
  | ⟨1, _⟩ => rfl

/-- The first call's block, at an element. -/
theorem pay0 (x0 : Vec Ideal S1024x4096 .bf16) (x1 x2 : Vec Ideal S1x4096x512 .bf16) (p : Fin 1024) (q : Fin 512) :
    k0_pay1 x0 x1 x2 (ix2 p q) = (∑ k : Fin 4096, (x0 (ix2 p k) : EReal) * x1 (ix3 (0 : Fin 1) k q)) * Ideal.logistic (∑ k : Fin 4096, (x0 (ix2 p k) : EReal) * x1 (ix3 (0 : Fin 1) k q))
      * ∑ k : Fin 4096, (x0 (ix2 p k) : EReal) * x2 (ix3 (0 : Fin 1) k q) := by
  unfold k0_pay1
  pointwise
/-- The same, the elements it reads given. -/
theorem pay0_of (x0 : Vec Ideal S1024x4096 .bf16) (x1 x2 : Vec Ideal S1x4096x512 .bf16) (p : Fin 1024) (q : Fin 512) (a b d : Fin 4096 → EReal)
    (h0 : ∀ k, x0 (ix2 p k) = a k) (h1 : ∀ k, x1 (ix3 (0 : Fin 1) k q) = b k) (h2 : ∀ k, x2 (ix3 (0 : Fin 1) k q) = d k) :
    k0_pay1 x0 x1 x2 (ix2 p q) = (∑ k, a k * b k) * Ideal.logistic (∑ k, a k * b k) * ∑ k, a k * d k := by
  rw [pay0]
  simp only [h0, h1, h2]
/-- The second call's block, at an element. -/
theorem pay1 (x0 : Vec Ideal S1024x4096 .bf16) (x1 : Vec Ideal S1x4096x1024 .bf16) (x2 : Vec Ideal S1x1024 .f32) (p q : Fin 1024) :
    k1_pay1 x0 x1 x2 (ix2 p q) = (∑ k : Fin 4096, (x0 (ix2 p k) : EReal) * x1 (ix3 (0 : Fin 1) k q)) * x2 (ix2 (0 : Fin 1) q) := by
  unfold k1_pay1
  pointwise

theorem mul_of {a b c d : EReal} (h : a = b) (h' : c = d) : a * c = b * d := by rw [h, h']

/-- The blocks the calls read, at an element. -/
theorem h_at (t : Fin grid0.N) (p : Fin 1024) (k : Fin 4096) (R : Fin 16384) (hR : R.val = t.val % 16 * 1024 + p.val) :
    iblk0 V c 0 t (ix2 p k) = V c main_v0 (ix2 R k) := by
  have e := hidx0 t
  show V c main_v0 _ = _
  congr 1; funext a; apply Fin.ext
  match a with
  | ⟨0, _⟩ => show win0_0.index t 0 * 1024 + 1 * p.val = R.val; rw [e.1, hR]; ring
  | ⟨1, _⟩ => show win0_0.index t 1 * 4096 + 1 * k.val = k.val; rw [e.2.1]; ring
theorem w1_at (t : Fin grid0.N) (k : Fin 4096) (q : Fin 512) (C : Fin 4096) (hC : C.val = t.val / 16 * 512 + q.val) :
    iblk0 V c 1 t (ix3 (0 : Fin 1) k q) = V c main_v1 (ix3 (0 : Fin 4) k C) := by
  obtain ⟨_, _, e0, e1, e2, _⟩ := hidx0 t
  show V c main_v1 _ = _
  congr 1; funext a; apply Fin.ext
  match a with
  | ⟨0, _⟩ => show win0_1.index t 0 * 1 + 1 * 0 = 0; rw [e0]
  | ⟨1, _⟩ => show win0_1.index t 1 * 4096 + 1 * k.val = k.val; rw [e1]; ring
  | ⟨2, _⟩ => show win0_1.index t 2 * 512 + 1 * q.val = C.val; rw [e2, hC]; ring
theorem w3_at (t : Fin grid0.N) (k : Fin 4096) (q : Fin 512) (C : Fin 4096) (hC : C.val = t.val / 16 * 512 + q.val) :
    iblk0 V c 2 t (ix3 (0 : Fin 1) k q) = V c main_v2 (ix3 (0 : Fin 4) k C) := by
  obtain ⟨_, _, _, _, _, e0, e1, e2, _⟩ := hidx0 t
  show V c main_v2 _ = _
  congr 1; funext a; apply Fin.ext
  match a with
  | ⟨0, _⟩ => show win0_2.index t 0 * 1 + 1 * 0 = 0; rw [e0]
  | ⟨1, _⟩ => show win0_2.index t 1 * 4096 + 1 * k.val = k.val; rw [e1]; ring
  | ⟨2, _⟩ => show win0_2.index t 2 * 512 + 1 * q.val = C.val; rw [e2, hC]; ring
theorem u_at (t : Fin grid1.N) (p : Fin 1024) (k : Fin 4096) (R : Fin 16384) (hR : R.val = t.val % 16 * 1024 + p.val) :
    iblk1 V c 0 t (ix2 p k) = V c main_v3 (ix2 R k) := by
  have e := hidx1 t
  show V c main_v3 _ = _
  congr 1; funext a; apply Fin.ext
  match a with
  | ⟨0, _⟩ => show win1_0.index t 0 * 1024 + 1 * p.val = R.val; rw [e.1, hR]; ring
  | ⟨1, _⟩ => show win1_0.index t 1 * 4096 + 1 * k.val = k.val; rw [e.2.1]; ring
theorem w2_at (t : Fin grid1.N) (k : Fin 4096) (q : Fin 1024) (C : Fin 4096) (hC : C.val = t.val / 16 * 1024 + q.val) :
    iblk1 V c 1 t (ix3 (0 : Fin 1) k q) = V c main_v4 (ix3 (0 : Fin 4) k C) := by
  obtain ⟨_, _, e0, e1, e2, _⟩ := hidx1 t
  show V c main_v4 _ = _
  congr 1; funext a; apply Fin.ext
  match a with
  | ⟨0, _⟩ => show win1_1.index t 0 * 1 + 1 * 0 = 0; rw [e0]
  | ⟨1, _⟩ => show win1_1.index t 1 * 4096 + 1 * k.val = k.val; rw [e1]; ring
  | ⟨2, _⟩ => show win1_1.index t 2 * 1024 + 1 * q.val = C.val; rw [e2, hC]; ring
theorem s_at (t : Fin grid1.N) (q : Fin 1024) (C : Fin 4096) (hC : C.val = t.val / 16 * 1024 + q.val) :
    iblk1 V c 2 t (ix2 (0 : Fin 1) q) = V c main_v6 (ix2 (0 : Fin 1) C) := by
  obtain ⟨_, _, _, _, _, e0, e1, _⟩ := hidx1 t
  show V c main_v6 _ = _
  congr 1; funext a; apply Fin.ext
  match a with
  | ⟨0, _⟩ => show win1_2.index t 0 * 1 + 1 * 0 = 0; rw [e0]
  | ⟨1, _⟩ => show win1_2.index t 1 * 1024 + 1 * q.val = C.val; rw [e1, hC]; ring

/-- The first call's result array. -/
theorem up_eq : (dat0 V c).arrAt 3 cfg0.N = up (V c main_v0) (V c main_v1) (V c main_v2) := by
  refine (dat0 V c).arrAt_eq_of_covers 3 _ (by decide +kernel) fun t hf y => ?_
  blk_simp
  rw [after0_3]
  frame_out
  obtain ⟨p, q, rfl⟩ : ∃ (p : Fin 1024) (q : Fin 512), y = ix2 p q := ⟨y 0, y 1, idx_two y⟩
  obtain ⟨_, _, _, _, _, _, _, _, e0, e1⟩ := hidx0 t
  have ht : t.val < 128 := lt_of_lt_of_eq t.isLt N_0
  have hp := p.isLt; have hq := q.isLt
  have hi : ((View.whole main_v3).slice (win0_3.rect t)).emb (ix2 p q)
      = ix2 (⟨t.val % 16 * 1024 + p.val, by omega⟩ : Fin 16384) (⟨t.val / 16 * 512 + q.val, by omega⟩ : Fin 4096) := by
    funext a; apply Fin.ext
    match a with
    | ⟨0, _⟩ => show win0_3.index t 0 * 1024 + 1 * p.val = t.val % 16 * 1024 + p.val; rw [e0]; ring
    | ⟨1, _⟩ => show win0_3.index t 1 * 512 + 1 * q.val = t.val / 16 * 512 + q.val; rw [e1]; ring
  rw [hi]
  exact pay0_of _ _ _ p q _ _ _ (fun k => h_at V c t p k _ rfl) (fun k => w1_at V c t k q _ rfl) (fun k => w3_at V c t k q _ rfl)

/-- The second call's result array. -/
theorem down_eq : (dat1 V c).arrAt 3 cfg1.N = down (V c main_v3) (V c main_v4) (V c main_v6) := by
  refine (dat1 V c).arrAt_eq_of_covers 3 _ (by decide +kernel) fun t hf y => ?_
  blk_simp
  rw [after1_3]
  frame_out
  obtain ⟨p, q, rfl⟩ : ∃ (p : Fin 1024) (q : Fin 1024), y = ix2 p q := ⟨y 0, y 1, idx_two y⟩
  obtain ⟨_, _, _, _, _, _, _, e0, e1⟩ := hidx1 t
  have ht : t.val < 64 := lt_of_lt_of_eq t.isLt N_1
  have hp := p.isLt; have hq := q.isLt
  have hi : ((View.whole main_v7).slice (win1_3.rect t)).emb (ix2 p q)
      = ix2 (⟨t.val % 16 * 1024 + p.val, by omega⟩ : Fin 16384) (⟨t.val / 16 * 1024 + q.val, by omega⟩ : Fin 4096) := by
    funext a; apply Fin.ext
    match a with
    | ⟨0, _⟩ => show win1_3.index t 0 * 1024 + 1 * p.val = t.val % 16 * 1024 + p.val; rw [e0]; ring
    | ⟨1, _⟩ => show win1_3.index t 1 * 1024 + 1 * q.val = t.val / 16 * 1024 + q.val; rw [e1]; ring
  rw [hi]
  refine (pay1 _ _ _ p q).trans ?_
  exact mul_of (Finset.sum_congr rfl fun k _ => mul_of (u_at V c t p k _ rfl) (w2_at V c t k q _ rfl)) (s_at V c t q _ rfl)

/-! ## The launch -/

section
variable (m : (ℓ : Loc nD τ sig) → Buf (Elt Ideal) ℓ) (ρ : Dev nD → PrngReg)

/-- The program's arguments. -/
def ah : FVec Ideal S16384x4096 .f32 := m ((c : Thread nD τ).loc main_arg0)
def a1 : FVec Ideal S4x4096x4096 .f32 := m ((c : Thread nD τ).loc main_arg1)
def a3 : FVec Ideal S4x4096x4096 .f32 := m ((c : Thread nD τ).loc main_arg2)
def a2 : FVec Ideal S4x4096x4096 .f32 := m ((c : Thread nD τ).loc main_arg3)

/-- The result, of the arguments: the products with the second weight, of the gated products with the other two. -/
def G (c : Dev nD) : Vec Ideal S16384x4096 .bf16 := fun i =>
  prod (up (truncf .bf16 (ah c m) bitsLt_bf16_f32) (truncf .bf16 (a1 c m) bitsLt_bf16_f32) (truncf .bf16 (a3 c m) bitsLt_bf16_f32))
    (truncf .bf16 (a2 c m) bitsLt_bf16_f32) (i 0) (i 1)

theorem v0_eq : V1 m ρ c main_v0 = (truncf .bf16 (ah c m) bitsLt_bf16_f32 : FVec Ideal S16384x4096 .bf16) := by
  show StableHlo.after hostOps0 (W0 m ρ c) (Proc.devRef .tc main_v0) = _
  after_results; rfl
theorem v1_eq : V1 m ρ c main_v1 = (truncf .bf16 (a1 c m) bitsLt_bf16_f32 : FVec Ideal S4x4096x4096 .bf16) := by
  show StableHlo.after hostOps0 (W0 m ρ c) (Proc.devRef .tc main_v1) = _
  after_results; rfl
theorem v2_eq : V1 m ρ c main_v2 = (truncf .bf16 (a3 c m) bitsLt_bf16_f32 : FVec Ideal S4x4096x4096 .bf16) := by
  show StableHlo.after hostOps0 (W0 m ρ c) (Proc.devRef .tc main_v2) = _
  after_results; rfl
theorem v3_eq : V3 m ρ c main_v3 = up (V1 m ρ c main_v0) (V1 m ρ c main_v1) (V1 m ρ c main_v2) :=
  (W3_of m ρ c main_v3 (by decide)).trans ((W2_arr m ρ c 3).trans (up_eq (V1 m ρ) c))
theorem v4_eq : V3 m ρ c main_v4 = (truncf .bf16 (a2 c m) bitsLt_bf16_f32 : FVec Ideal S4x4096x4096 .bf16) := by
  have h : V3 m ρ c main_v4 = (truncf .bf16 (W2 m ρ c (Proc.devRef .tc main_arg3) : FVec Ideal S4x4096x4096 .f32) bitsLt_bf16_f32 : FVec Ideal S4x4096x4096 .bf16) := by
    show StableHlo.after hostOps1 (W2 m ρ c) (Proc.devRef .tc main_v4) = _
    after_results; try rfl
  rw [h, W2_args m ρ c main_arg3 (by decide)]; rfl
theorem v6_eq (q : Fin 4096) : (V3 m ρ c main_v6 : Vec Ideal S1x4096 .f32) (ix2 (0 : Fin 1) q) = (1 : EReal) := by
  have h : V3 m ρ c main_v6 = (shapeCast S1x4096 (broadcastInDim S4096 ![] bcast_S_S4096 (constant (F := Ideal) S_ .f32 0x3F800000#32)) shapeCasts_S4096_S1x4096 : FVec Ideal S1x4096 .f32) := by
    show StableHlo.after hostOps1 (W2 m ρ c) (Proc.devRef .tc main_v6) = _
    after_results; try rfl
  have h1 : Ideal.ofBits FTy.f32 0x3F800000#32 = (1 : EReal) := by
    simp [Ideal.ofBits, Ideal.ieee, -EReal.coe_mul]; try norm_num
  rw [h]
  refine Eq.trans ?_ h1
  pointwise

/-- The result array after both calls. -/
theorem out_eq : W4 m ρ c (Proc.devRef .tc main_v7) = G m c := by
  refine (W4_arr m ρ c 3).trans ((down_eq (V3 m ρ) c).trans ?_)
  rw [v3_eq, v4_eq, v0_eq, v1_eq, v2_eq]
  funext i
  exact (congrArg (fun x : EReal => prod _ _ (i 0) (i 1) * x) (v6_eq c m ρ (i 1))).trans (mul_one _)

/-- Every execution ends with the result in place and the arguments unchanged. -/
theorem value : θ_run defs (onTc (τ := τ) (main (F := Ideal))) ⟨m, fun _ => 0, ρ⟩ (fun r => ∀ c : Dev nD,
      r.2.mem ((c.tc : Thread nD τ).loc main_v7) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1.trans (out_eq c m ρ), (h.1 c).2⟩) (run_end m ρ)

end

end Cert.FeedIdeal.Feed

end
-- ==== Proof.FR.Run.lean ====
/- The run of the feed-forward's reference at the exact reals, and its result read at an index. -/
module

public import proofs.«01_k».proof.Proof.Gen.FeedReferenceIdeal
public import Idealize.ShloMosaic.Lib.Pointwise
public import Idealize.ShloMosaic.Lib.StableHlo.Run
public import Idealize.ShloMosaic.PureOps.Ideal
public import Idealize.ShloMosaic.PureOps.Ideal.Laws
public import Idealize.ShloMosaic.Lib.Quiescent

@[expose] public section

set_option maxRecDepth 16384

noncomputable section

namespace Cert.FeedReferenceIdeal.Ref

open Cert.FeedReferenceIdeal Cert.FeedReferenceIdeal.Gen
open Idealize.ShloMosaic Idealize.ShloMosaic.TcCoe Idealize.ShloMosaic.StableHlo Idealize.SL.Sem

/-- The first layer of a stack. -/
def layer (w : FVec Ideal S4x4096x4096 .f32) : FVec Ideal S4096x4096 .f32 :=
  shapeCast S4096x4096 (extractStridedSlice S1x4096x4096 ![0, 0, 0] w slices_S4x4096x4096_S1x4096x4096_0_0_0) shapeCasts_S1x4096x4096_S4096x4096
/-- The product with it. -/
def times (a : FVec Ideal S16384x4096 .f32) (w : FVec Ideal S4x4096x4096 .f32) : FVec Ideal S16384x4096 .f32 :=
  Host.dotGeneral dot_S16384x4096_S4096x4096_S16384x4096_1_0_0_1_n_n none a (layer w)
/-- A number times its logistic. -/
def silu (a : FVec Ideal S16384x4096 .f32) : FVec Ideal S16384x4096 .f32 :=
  mulf a (Host.divf (broadcastInDim S16384x4096 ![] bcast_S_S16384x4096 (constant (F := Ideal) S_ .f32 0x3F800000#32))
    (addf (broadcastInDim S16384x4096 ![] bcast_S_S16384x4096 (constant (F := Ideal) S_ .f32 0x3F800000#32)) (Host.exp (Host.negf a))))
/-- The reference's result, of its four arguments. -/
def out (h : FVec Ideal S16384x4096 .f32) (w1 w3 w2 : FVec Ideal S4x4096x4096 .f32) : FVec Ideal S16384x4096 .bf16 :=
  truncf .bf16 (times (mulf (silu (times h w1)) (times h w3)) w2) bitsLt_bf16_f32

section
variable {F : FTy → Type} [FloatOps F]

/-- The program's operations, in order. -/
abbrev ops : List (HloOp τ sig (Elt F)) :=
  [ unary main_arg1 main_v0 ((extractStridedSlice S1x4096x4096 ![0, 0, 0] · slices_S4x4096x4096_S1x4096x4096_0_0_0) : (⟨S4x4096x4096, .f32⟩ : BufTy).Contents (Elt F) → (⟨S1x4096x4096, .f32⟩ : BufTy).Contents (Elt F)),
    reshape main_v0 main_v1 (rfl : (.f32 : EltTy) = .f32) shapeCasts_S1x4096x4096_S4096x4096,
    binary main_arg0 main_v1 main_v2 ((fun l r => Host.dotGeneral dot_S16384x4096_S4096x4096_S16384x4096_1_0_0_1_n_n none l r) : (⟨S16384x4096, .f32⟩ : BufTy).Contents (Elt F) → (⟨S4096x4096, .f32⟩ : BufTy).Contents (Elt F) → (⟨S16384x4096, .f32⟩ : BufTy).Contents (Elt F)),
    TRef.unary (.of main_v2) main_call0.v0 Host.negf,
    TRef.unary main_call0.v0 main_call0.v1 Host.exp,
    TRef.nullary main_call0.cst (constant S_ .f32 0x3F800000#32),
    TRef.unary main_call0.cst main_call0.v2 (broadcastInDim S16384x4096 ![] bcast_S_S16384x4096),
    TRef.binary main_call0.v2 main_call0.v1 main_call0.v3 addf,
    TRef.nullary main_call0.cst_0 (constant S_ .f32 0x3F800000#32),
    TRef.unary main_call0.cst_0 main_call0.v4 (broadcastInDim S16384x4096 ![] bcast_S_S16384x4096),
    TRef.binary main_call0.v4 main_call0.v3 main_call0.v5 Host.divf,
    TRef.binary (.of main_v2) main_call0.v5 main_call0.v6 mulf,
    unary main_arg2 main_v4 ((extractStridedSlice S1x4096x4096 ![0, 0, 0] · slices_S4x4096x4096_S1x4096x4096_0_0_0) : (⟨S4x4096x4096, .f32⟩ : BufTy).Contents (Elt F) → (⟨S1x4096x4096, .f32⟩ : BufTy).Contents (Elt F)),
    reshape main_v4 main_v5 (rfl : (.f32 : EltTy) = .f32) shapeCasts_S1x4096x4096_S4096x4096,
    binary main_arg0 main_v5 main_v6 ((fun l r => Host.dotGeneral dot_S16384x4096_S4096x4096_S16384x4096_1_0_0_1_n_n none l r) : (⟨S16384x4096, .f32⟩ : BufTy).Contents (Elt F) → (⟨S4096x4096, .f32⟩ : BufTy).Contents (Elt F) → (⟨S16384x4096, .f32⟩ : BufTy).Contents (Elt F)),
    binary main_v3 main_v6 main_v7 (mulf : (⟨S16384x4096, .f32⟩ : BufTy).Contents (Elt F) → (⟨S16384x4096, .f32⟩ : BufTy).Contents (Elt F) → (⟨S16384x4096, .f32⟩ : BufTy).Contents (Elt F)),
    unary main_arg3 main_v8 ((extractStridedSlice S1x4096x4096 ![0, 0, 0] · slices_S4x4096x4096_S1x4096x4096_0_0_0) : (⟨S4x4096x4096, .f32⟩ : BufTy).Contents (Elt F) → (⟨S1x4096x4096, .f32⟩ : BufTy).Contents (Elt F)),
    reshape main_v8 main_v9 (rfl : (.f32 : EltTy) = .f32) shapeCasts_S1x4096x4096_S4096x4096,
    binary main_v7 main_v9 main_v10 ((fun l r => Host.dotGeneral dot_S16384x4096_S4096x4096_S16384x4096_1_0_0_1_n_n none l r) : (⟨S16384x4096, .f32⟩ : BufTy).Contents (Elt F) → (⟨S4096x4096, .f32⟩ : BufTy).Contents (Elt F) → (⟨S16384x4096, .f32⟩ : BufTy).Contents (Elt F)),
    unary main_v10 main_v11 ((truncf .bf16 · bitsLt_bf16_f32) : (⟨S16384x4096, .f32⟩ : BufTy).Contents (Elt F) → (⟨S16384x4096, .bf16⟩ : BufTy).Contents (Elt F)) ]

/-- The program is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches the core's own references only. -/
theorem ops_sub : (ops : List (HloOp τ sig (Elt F))).Forall fun op => op.bufs ⊆ tcRefs τ sig :=
  ⟨unary_bufs_sub .., reshape_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., binary_bufs_sub .., unary_bufs_sub .., reshape_bufs_sub .., binary_bufs_sub .., unary_bufs_sub ..⟩

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results

end

/-- The last buffer holds the result. -/
theorem out_eq (V : Valuation τ sig (Elt Ideal)) :
    after ops V (main_v11 : DevRef τ sig) =
      out (V (main_arg0 : DevRef τ sig)) (V (main_arg1 : DevRef τ sig)) (V (main_arg2 : DevRef τ sig)) (V (main_arg3 : DevRef τ sig)) := by
  after_results
  rfl

/-- Every run ends with the result in its buffer and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r =>
      ∀ c : Dev nD,
        r.2.mem ((c.tc : Thread nD τ).loc main_v11) = out (m ((c.tc : Thread nD τ).loc main_arg0)) (m ((c.tc : Thread nD τ).loc main_arg1)) (m ((c.tc : Thread nD τ).loc main_arg2)) (m ((c.tc : Thread nD τ).loc main_arg3)) ∧
        r.2.mem ((c.tc : Thread nD τ).loc main_arg0) = m ((c.tc : Thread nD τ).loc main_arg0) ∧
        r.2.mem ((c.tc : Thread nD τ).loc main_arg1) = m ((c.tc : Thread nD τ).loc main_arg1) ∧
        r.2.mem ((c.tc : Thread nD τ).loc main_arg2) = m ((c.tc : Thread nD τ).loc main_arg2) ∧
        r.2.mem ((c.tc : Thread nD τ).loc main_arg3) = m ((c.tc : Thread nD τ).loc main_arg3) := by
  refine (θ_run _ _ _).mono (fun r h c => ⟨?_, ?_, ?_, ?_, ?_⟩)
    (run_seq scopedRefs_eq scopedSems_eq defs main (fun _ => ops) main_eq (fun _ => ops_sub) m ρ)
  · exact (h c main_v11).trans (out_eq _)
  · exact (h c main_arg0).trans (arg0_eq _)
  · exact (h c main_arg1).trans (arg1_eq _)
  · exact (h c main_arg2).trans (arg2_eq _)
  · exact (h c main_arg3).trans (arg3_eq _)

/-- The semaphores rest at the end and the arguments are as they were. -/
theorem quiet (m : (ℓ : Loc nD τ sig) → Buf (Elt Ideal) ℓ) (ρ : Dev nD → PrngReg) :
    θ_run defs (onTc (τ := τ) (main (F := Ideal))) ⟨m, fun _ => 0, ρ⟩ fun r =>
      (∀ c : Dev nD,
        r.2.mem ((c.tc : Thread nD τ).loc main_arg0) = m ((c.tc : Thread nD τ).loc main_arg0) ∧
        r.2.mem ((c.tc : Thread nD τ).loc main_arg1) = m ((c.tc : Thread nD τ).loc main_arg1) ∧
        r.2.mem ((c.tc : Thread nD τ).loc main_arg2) = m ((c.tc : Thread nD τ).loc main_arg2) ∧
        r.2.mem ((c.tc : Thread nD τ).loc main_arg3) = m ((c.tc : Thread nD τ).loc main_arg3)) ∧ r.2.sem = fun _ => 0 :=
  (θ_run _ _ _).mono (fun r h => ⟨fun c => (h c).2, Idealize.ShloMosaic.sem_eq_zero_of_no_sems (by decide) r.2⟩) (run m ρ)

theorem one_eq : Ideal.ofBits FTy.f32 0x3F800000#32 = (1 : EReal) := by
  simp [Ideal.ofBits, Ideal.ieee, -EReal.coe_mul]; try norm_num

theorem times_at (a : FVec Ideal S16384x4096 .f32) (w : FVec Ideal S4x4096x4096 .f32) (i : Fin 16384) (j : Fin 4096) :
    times a w (ix2 i j) = ∑ k : Fin 4096, (a (ix2 i k) : EReal) * w (ix3 (0 : Fin 4) k j) := by
  unfold times layer
  pointwise

theorem silu_at (a : FVec Ideal S16384x4096 .f32) (i : Fin 16384) (j : Fin 4096) :
    silu a (ix2 i j) = (a (ix2 i j) : EReal) * Ideal.logistic (a (ix2 i j)) := by
  have h : silu a (ix2 i j) = (a (ix2 i j) : EReal) * Ideal.div (Ideal.ofBits FTy.f32 0x3F800000#32) (Ideal.ofBits FTy.f32 0x3F800000#32 + Ideal.exp (-(a (ix2 i j) : EReal))) := by
    unfold silu
    pointwise
  rw [h, one_eq]
  rfl

end Cert.FeedReferenceIdeal.Ref

end
-- ==== Proof.FSame.lean ====
/- The feed-forward's result is its reference's. -/
module

public import proofs.«01_k».proof.Proof.FI.Val
public import proofs.«01_k».proof.Proof.FR.Run

@[expose] public section

set_option maxRecDepth 16384

noncomputable section

namespace Cert.FeedIdeal.Feed

open Idealize.ShloMosaic Idealize.ShloMosaic.TcCoe Idealize.SL.Sem
open Cert.FeedIdeal.Gen

variable (m : (ℓ : Loc nD τ sig) → Buf (Elt Ideal) ℓ) (c : Dev nD)

theorem same : G m c = Cert.FeedReferenceIdeal.Ref.out (ah c m) (a1 c m) (a3 c m) (a2 c m) := by
  funext i
  obtain ⟨r, s, rfl⟩ : ∃ (r : Fin 16384) (s : Fin 4096), i = ix2 r s := ⟨i 0, i 1, idx_two i⟩
  refine Eq.trans ?_ (Cert.FeedReferenceIdeal.Ref.times_at _ (a2 c m) r s).symm
  change prod (up (truncf .bf16 (ah c m) bitsLt_bf16_f32) (truncf .bf16 (a1 c m) bitsLt_bf16_f32) (truncf .bf16 (a3 c m) bitsLt_bf16_f32)) (truncf .bf16 (a2 c m) bitsLt_bf16_f32) r s = _
  unfold prod
  refine Finset.sum_congr rfl fun k _ => mul_of (c := a2 c m (ix3 (0 : Fin 4) k s)) (d := a2 c m (ix3 (0 : Fin 4) k s)) ?_ rfl
  change (∑ x : Fin 4096, (ah c m (ix2 r x) : EReal) * a1 c m (ix3 (0 : Fin 4) x k)) * Ideal.logistic (∑ x : Fin 4096, (ah c m (ix2 r x) : EReal) * a1 c m (ix3 (0 : Fin 4) x k))
      * (∑ x : Fin 4096, (ah c m (ix2 r x) : EReal) * a3 c m (ix3 (0 : Fin 4) x k))
    = (Cert.FeedReferenceIdeal.Ref.silu (Cert.FeedReferenceIdeal.Ref.times (ah c m) (a1 c m)) (ix2 r k) : EReal) * Cert.FeedReferenceIdeal.Ref.times (ah c m) (a3 c m) (ix2 r k)
  have h1 := Cert.FeedReferenceIdeal.Ref.times_at (ah c m) (a1 c m) r k
  have h3 := Cert.FeedReferenceIdeal.Ref.times_at (ah c m) (a3 c m) r k
  rw [Cert.FeedReferenceIdeal.Ref.silu_at, h1, h3]

end Cert.FeedIdeal.Feed

end
-- ==== Proof.MI.Run.lean ====
/- The merge and the output product: every execution ends at rest, with the second call's array in the result. -/
module

public import proofs.«01_k».proof.Proof.Gen.MixIdeal.Frame

@[expose] public section

set_option maxRecDepth 16384

noncomputable section

namespace Cert.MixIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result, the arguments unchanged and the semaphores at rest. -/
theorem run_end : θ_run defs (onTc (τ := τ) (main (F := F))) ⟨m, fun _ => 0, ρ⟩ (fun r => (∀ c : Dev nD,
      r.2.mem ((c.tc : Thread nD τ).loc main_v14) = W4 m ρ c (Proc.devRef .tc main_v14) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v14 (by decide)), (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩), funext fun g => hz g (.inr (no_unscoped g.2))⟩)

end Cert.MixIdeal.Mix

end
-- ==== Proof.MI.Val.lean ====
/- What the merge and the output product leave in their result arrays, from the arrays they read. -/
module

public import proofs.«01_k».proof.Proof.MI.Run
public import Idealize.ShloMosaic.Lib.Claim
public import Idealize.ShloMosaic.Lib.Pointwise
public import Idealize.ShloMosaic.Lib.Pipeline.Value
public import Idealize.ShloMosaic.Lib.Pipeline.ValueKit

@[expose] public section

set_option maxRecDepth 16384

noncomputable section

namespace Cert.MixIdeal.Mix

open Idealize.ShloMosaic Idealize.ShloMosaic.TcCoe Idealize.ShloMosaic.Tactic Idealize.SL.Sem
open Cert.MixIdeal.Gen

variable (V : (c : Dev nD) → (b : Ref sig .tc) → Buf (Elt Ideal) ((c : Thread nD τ).loc b)) (c : Dev nD)

/-- A branch's term at an element: the sigmoid of a product and a bias, times a product. -/
def gated (g w : Fin 512 → EReal) (b : EReal) (o v : Fin 1024 → EReal) : EReal :=
  Ideal.logistic ((∑ k, g k * w k) + b) * ∑ k, o k * v k

theorem gated_of {g g' w w' : Fin 512 → EReal} {b b' : EReal} {o o' v v' : Fin 1024 → EReal} (h1 : ∀ k, g k = g' k) (h2 : ∀ k, w k = w' k) (h3 : b = b')
    (h4 : ∀ k, o k = o' k) (h5 : ∀ k, v k = v' k) : gated g w b o v = gated g' w' b' o' v' := by
  rw [funext h1, funext h2, h3, funext h4, funext h5]

theorem sum_of {a b c d a' b' c' d' : EReal} (h1 : a = a') (h2 : b = b') (h3 : c = c') (h4 : d = d') : a + b + c + d = a' + b' + c' + d' := by
  rw [h1, h2, h3, h4]

theorem mul_of {a b c d : EReal} (h : a = b) (h' : c = d) : a * c = b * d := by rw [h, h']

/-- The first call's result. -/
def merged (p : Vec Ideal S16384x8192 .bf16) (oa ob oc od : Vec Ideal S16384x1024 .bf16) (wg : Vec Ideal S4x4x512x4096 .bf16) (wb : Vec Ideal S4x4x1024x4096 .bf16) (bg : Vec Ideal S4x1x4096 .f32) : Vec Ideal S16384x4096 .bf16 := fun i =>
  gated (fun k => p (ix2 (i 0) ⟨1024 + k.val, by omega⟩)) (fun k => wg (ix4 (0 : Fin 4) (0 : Fin 4) k (i 1))) (bg (ix3 (0 : Fin 4) (0 : Fin 1) (i 1))) (fun k => oa (ix2 (i 0) k)) (fun k => wb (ix4 (0 : Fin 4) (0 : Fin 4) k (i 1)))
    + gated (fun k => p (ix2 (i 0) ⟨1024 + k.val, by omega⟩)) (fun k => wg (ix4 (0 : Fin 4) (1 : Fin 4) k (i 1))) (bg (ix3 (1 : Fin 4) (0 : Fin 1) (i 1))) (fun k => ob (ix2 (i 0) k)) (fun k => wb (ix4 (0 : Fin 4) (1 : Fin 4) k (i 1)))
    + gated (fun k => p (ix2 (i 0) ⟨1024 + k.val, by omega⟩)) (fun k => wg (ix4 (0 : Fin 4) (2 : Fin 4) k (i 1))) (bg (ix3 (2 : Fin 4) (0 : Fin 1) (i 1))) (fun k => oc (ix2 (i 0) k)) (fun k => wb (ix4 (0 : Fin 4) (2 : Fin 4) k (i 1)))
    + gated (fun k => p (ix2 (i 0) ⟨1024 + k.val, by omega⟩)) (fun k => wg (ix4 (0 : Fin 4) (3 : Fin 4) k (i 1))) (bg (ix3 (3 : Fin 4) (0 : Fin 1) (i 1))) (fun k => od (ix2 (i 0) k)) (fun k => wb (ix4 (0 : Fin 4) (3 : Fin 4) k (i 1)))
/-- The second call's result. -/
def outer (a : Vec Ideal S16384x4096 .bf16) (w : Vec Ideal S4x4096x4096 .bf16) (s : Vec Ideal S1x4096 .f32) : Vec Ideal S16384x4096 .bf16 := fun i =>
  (∑ k : Fin 4096, (a (ix2 (i 0) k) : EReal) * w (ix3 (0 : Fin 4) k (i 1))) * s (ix2 (0 : Fin 1) (i 1))

theorem hidxg : ∀ t : Fin grid0.N, win0_0.index t 0 = t.val % 32 ∧ win0_0.index t 1 = 2 := by decide +kernel
theorem hidxo1 : ∀ t : Fin grid0.N, win0_1.index t 0 = t.val % 32 ∧ win0_1.index t 1 = 0 := by decide +kernel
theorem hidxo2 : ∀ t : Fin grid0.N, win0_2.index t 0 = t.val % 32 ∧ win0_2.index t 1 = 0 := by decide +kernel
theorem hidxo3 : ∀ t : Fin grid0.N, win0_3.index t 0 = t.val % 32 ∧ win0_3.index t 1 = 0 := by decide +kernel
theorem hidxo4 : ∀ t : Fin grid0.N, win0_4.index t 0 = t.val % 32 ∧ win0_4.index t 1 = 0 := by decide +kernel
theorem hidxw5 : ∀ t : Fin grid0.N, win0_5.index t 0 = 0 ∧ win0_5.index t 1 = 0 ∧ win0_5.index t 2 = 0 ∧ win0_5.index t 3 = t.val / 32 := by decide +kernel
theorem hidxw6 : ∀ t : Fin grid0.N, win0_6.index t 0 = 0 ∧ win0_6.index t 1 = 0 ∧ win0_6.index t 2 = 0 ∧ win0_6.index t 3 = t.val / 32 := by decide +kernel
theorem hidxb : ∀ t : Fin grid0.N, win0_7.index t 0 = 0 ∧ win0_7.index t 1 = 0 ∧ win0_7.index t 2 = t.val / 32 := by decide +kernel
theorem hidxm : ∀ t : Fin grid0.N, win0_8.index t 0 = t.val % 32 ∧ win0_8.index t 1 = t.val / 32 := by decide +kernel
theorem hidx1 : ∀ t : Fin grid1.N, win1_0.index t 0 = t.val % 16 ∧ win1_0.index t 1 = 0
    ∧ win1_1.index t 0 = 0 ∧ win1_1.index t 1 = 0 ∧ win1_1.index t 2 = t.val / 16
    ∧ win1_2.index t 0 = 0 ∧ win1_2.index t 1 = t.val / 16
    ∧ win1_3.index t 0 = t.val % 16 ∧ win1_3.index t 1 = t.val / 16 := by decide +kernel

theorem idx_two {n k : ℕ} (y : (⟨2, ![n, k]⟩ : Shape).Idx) : y = ix2 (y 0 : Fin n) (y 1 : Fin k) := by
  funext a
  match a with
  | ⟨0, _⟩ => rfl
  | ⟨1, _⟩ => rfl

/-- The first call's pieces, at an element. -/
theorem piece3 (g : Vec Ideal S512x512 .bf16) (w0 : Vec Ideal S1x1x512x1024 .bf16) (b0 : Vec Ideal S1x1x1024 .f32) (o0 : Vec Ideal S512x1024 .bf16) (v0 : Vec Ideal S1x1x1024x1024 .bf16) (p : Fin 512) (q : Fin 1024) :
    k0_pay3 g w0 b0 o0 v0 (ix2 p q) = gated (fun k => g (ix2 p k)) (fun k => w0 (ix4 (0 : Fin 1) (0 : Fin 1) k q)) (b0 (ix3 (0 : Fin 1) (0 : Fin 1) q)) (fun k => o0 (ix2 p k)) (fun k => v0 (ix4 (0 : Fin 1) (0 : Fin 1) k q)) := by
  unfold k0_pay3 k0_pay2 gated
  pointwise
theorem piece4 (g : Vec Ideal S512x512 .bf16) (w : Vec Ideal S1x1x512x1024 .bf16) (b : Vec Ideal S1x1x1024 .f32) (p : Fin 512) (q : Fin 1024) :
    k0_pay4 g w b (ix2 p q) = Ideal.logistic ((∑ k : Fin 512, (g (ix2 p k) : EReal) * w (ix4 (0 : Fin 1) (0 : Fin 1) k q)) + b (ix3 (0 : Fin 1) (0 : Fin 1) q)) := by
  unfold k0_pay4 k0_pay2
  pointwise
theorem piece7 (g : Vec Ideal S512x512 .bf16) (w : Vec Ideal S1x1x512x1024 .bf16) (b : Vec Ideal S1x1x1024 .f32) (p : Fin 512) (q : Fin 1024) :
    k0_pay7 (k0_pay2 g) w b (ix2 p q) = Ideal.logistic ((∑ k : Fin 512, (g (ix2 p k) : EReal) * w (ix4 (0 : Fin 1) (0 : Fin 1) k q)) + b (ix3 (0 : Fin 1) (0 : Fin 1) q)) := by
  unfold k0_pay7 k0_pay2
  pointwise
theorem piece6 (g : Vec Ideal S512x512 .bf16) (t0 t1 : FVec Ideal S512x1024 .f32) (o1 : Vec Ideal S512x1024 .bf16) (v1 : Vec Ideal S1x1x1024x1024 .bf16)
    (w2 : Vec Ideal S1x1x512x1024 .bf16) (b2 : Vec Ideal S1x1x1024 .f32) (o2 : Vec Ideal S512x1024 .bf16) (v2 : Vec Ideal S1x1x1024x1024 .bf16) (p : Fin 512) (q : Fin 1024) :
    k0_pay6 (k0_pay2 g) t0 t1 (k0_pay5 o1) v1 w2 b2 o2 v2 (ix2 p q)
      = (t0 (ix2 p q) : EReal) + t1 (ix2 p q) * (∑ k : Fin 1024, (o1 (ix2 p k) : EReal) * v1 (ix4 (0 : Fin 1) (0 : Fin 1) k q)) + gated (fun k => g (ix2 p k)) (fun k => w2 (ix4 (0 : Fin 1) (0 : Fin 1) k q)) (b2 (ix3 (0 : Fin 1) (0 : Fin 1) q)) (fun k => o2 (ix2 p k)) (fun k => v2 (ix4 (0 : Fin 1) (0 : Fin 1) k q)) := by
  unfold k0_pay6 k0_pay5 k0_pay2 gated
  pointwise
theorem piece1 (t0 t1 : FVec Ideal S512x1024 .f32) (o3 : Vec Ideal S512x1024 .bf16) (v3 : Vec Ideal S1x1x1024x1024 .bf16) (p : Fin 512) (q : Fin 1024) :
    k0_pay1 t0 t1 (k0_pay8 o3) v3 (ix2 p q)
      = (t0 (ix2 p q) : EReal) + t1 (ix2 p q) * (∑ k : Fin 1024, (o3 (ix2 p k) : EReal) * v3 (ix4 (0 : Fin 1) (0 : Fin 1) k q)) := by
  unfold k0_pay1 k0_pay8
  pointwise
/-- The first call's block, at an element. -/
theorem pay0 (g : Vec Ideal S512x512 .bf16) (o0 o1 o2 o3 : Vec Ideal S512x1024 .bf16) (w0 w1 w2 w3 : Vec Ideal S1x1x512x1024 .bf16) (v0 v1 v2 v3 : Vec Ideal S1x1x1024x1024 .bf16)
    (b0 b1 b2 b3 : Vec Ideal S1x1x1024 .f32) (p : Fin 512) (q : Fin 1024) :
    k0_pay1 (k0_pay6 (k0_pay2 g) (k0_pay3 g w0 b0 o0 v0) (k0_pay4 g w1 b1) (k0_pay5 o1) v1 w2 b2 o2 v2) (k0_pay7 (k0_pay2 g) w3 b3) (k0_pay8 o3) v3 (ix2 p q)
      = gated (fun k => g (ix2 p k)) (fun k => w0 (ix4 (0 : Fin 1) (0 : Fin 1) k q)) (b0 (ix3 (0 : Fin 1) (0 : Fin 1) q)) (fun k => o0 (ix2 p k)) (fun k => v0 (ix4 (0 : Fin 1) (0 : Fin 1) k q))
        + gated (fun k => g (ix2 p k)) (fun k => w1 (ix4 (0 : Fin 1) (0 : Fin 1) k q)) (b1 (ix3 (0 : Fin 1) (0 : Fin 1) q)) (fun k => o1 (ix2 p k)) (fun k => v1 (ix4 (0 : Fin 1) (0 : Fin 1) k q))
        + gated (fun k => g (ix2 p k)) (fun k => w2 (ix4 (0 : Fin 1) (0 : Fin 1) k q)) (b2 (ix3 (0 : Fin 1) (0 : Fin 1) q)) (fun k => o2 (ix2 p k)) (fun k => v2 (ix4 (0 : Fin 1) (0 : Fin 1) k q))
        + gated (fun k => g (ix2 p k)) (fun k => w3 (ix4 (0 : Fin 1) (0 : Fin 1) k q)) (b3 (ix3 (0 : Fin 1) (0 : Fin 1) q)) (fun k => o3 (ix2 p k)) (fun k => v3 (ix4 (0 : Fin 1) (0 : Fin 1) k q)) := by
  rw [piece1, piece6, piece3, piece4, piece7]
  rfl
/-- The second call's block, at an element. -/
theorem pay1 (x0 : Vec Ideal S1024x4096 .bf16) (x1 : Vec Ideal S1x4096x1024 .bf16) (x2 : Vec Ideal S1x1024 .f32) (p q : Fin 1024) :
    k1_pay1 x0 x1 x2 (ix2 p q) = (∑ k : Fin 4096, (x0 (ix2 p k) : EReal) * x1 (ix3 (0 : Fin 1) k q)) * x2 (ix2 (0 : Fin 1) q) := by
  unfold k1_pay1
  pointwise

/-- The blocks the calls read, at an element. -/
theorem g_at (t : Fin grid0.N) (p : Fin 512) (k : Fin 512) (R : Fin 16384) (C : Fin 8192) (hR : R.val = t.val % 32 * 512 + p.val) (hC : C.val = 1024 + k.val) :
    iblk0 V c 0 t (ix2 p k) = V c main_v0 (ix2 R C) := by
  have e := hidxg t
  show V c main_v0 _ = _
  congr 1; funext a; apply Fin.ext
  match a with
  | ⟨0, _⟩ => show win0_0.index t 0 * 512 + 1 * p.val = R.val; rw [e.1, hR]; ring
  | ⟨1, _⟩ => show win0_0.index t 1 * 512 + 1 * k.val = C.val; rw [e.2, hC]; ring
theorem o1_at (t : Fin grid0.N) (p : Fin 512) (k : Fin 1024) (R : Fin 16384) (hR : R.val = t.val % 32 * 512 + p.val) :
    iblk0 V c 1 t (ix2 p k) = V c main_v1 (ix2 R k) := by
  have e := hidxo1 t
  show V c main_v1 _ = _
  congr 1; funext a; apply Fin.ext
  match a with
  | ⟨0, _⟩ => show win0_1.index t 0 * 512 + 1 * p.val = R.val; rw [e.1, hR]; ring
  | ⟨1, _⟩ => show win0_1.index t 1 * 1024 + 1 * k.val = k.val; rw [e.2]; ring
theorem o2_at (t : Fin grid0.N) (p : Fin 512) (k : Fin 1024) (R : Fin 16384) (hR : R.val = t.val % 32 * 512 + p.val) :
    iblk0 V c 2 t (ix2 p k) = V c main_v2 (ix2 R k) := by
  have e := hidxo2 t
  show V c main_v2 _ = _
  congr 1; funext a; apply Fin.ext
  match a with
  | ⟨0, _⟩ => show win0_2.index t 0 * 512 + 1 * p.val = R.val; rw [e.1, hR]; ring
  | ⟨1, _⟩ => show win0_2.index t 1 * 1024 + 1 * k.val = k.val; rw [e.2]; ring
theorem o3_at (t : Fin grid0.N) (p : Fin 512) (k : Fin 1024) (R : Fin 16384) (hR : R.val = t.val % 32 * 512 + p.val) :
    iblk0 V c 3 t (ix2 p k) = V c main_v3 (ix2 R k) := by
  have e := hidxo3 t
  show V c main_v3 _ = _
  congr 1; funext a; apply Fin.ext
  match a with
  | ⟨0, _⟩ => show win0_3.index t 0 * 512 + 1 * p.val = R.val; rw [e.1, hR]; ring
  | ⟨1, _⟩ => show win0_3.index t 1 * 1024 + 1 * k.val = k.val; rw [e.2]; ring
theorem o4_at (t : Fin grid0.N) (p : Fin 512) (k : Fin 1024) (R : Fin 16384) (hR : R.val = t.val % 32 * 512 + p.val) :
    iblk0 V c 4 t (ix2 p k) = V c main_v4 (ix2 R k) := by
  have e := hidxo4 t
  show V c main_v4 _ = _
  congr 1; funext a; apply Fin.ext
  match a with
  | ⟨0, _⟩ => show win0_4.index t 0 * 512 + 1 * p.val = R.val; rw [e.1, hR]; ring
  | ⟨1, _⟩ => show win0_4.index t 1 * 1024 + 1 * k.val = k.val; rw [e.2]; ring
theorem w0_at (t : Fin grid0.N) (k : Fin 512) (q : Fin 1024) (C : Fin 4096) (hC : C.val = t.val / 32 * 1024 + q.val) :
    View.ld (iblk0 V c 5 t) r0_1 (ix4 (0 : Fin 1) (0 : Fin 1) k q) = V c main_v5 (ix4 (0 : Fin 4) (0 : Fin 4) k C) := by
  obtain ⟨e0, e1, e2, e3⟩ := hidxw5 t
  show V c main_v5 _ = _
  congr 1; funext a; apply Fin.ext
  match a with
  | ⟨0, _⟩ => show win0_5.index t 0 * 1 + 1 * (0 + 1 * 0) = 0; rw [e0]
  | ⟨1, _⟩ => show win0_5.index t 1 * 4 + 1 * (0 + 1 * 0) = 0; rw [e1]
  | ⟨2, _⟩ => show win0_5.index t 2 * 512 + 1 * (0 + 1 * k.val) = k.val; rw [e2]; ring
  | ⟨3, _⟩ => show win0_5.index t 3 * 1024 + 1 * (0 + 1 * q.val) = C.val; rw [e3, hC]; ring
theorem v0_at (t : Fin grid0.N) (k : Fin 1024) (q : Fin 1024) (C : Fin 4096) (hC : C.val = t.val / 32 * 1024 + q.val) :
    View.ld (iblk0 V c 6 t) r0_4 (ix4 (0 : Fin 1) (0 : Fin 1) k q) = V c main_v8 (ix4 (0 : Fin 4) (0 : Fin 4) k C) := by
  obtain ⟨e0, e1, e2, e3⟩ := hidxw6 t
  show V c main_v8 _ = _
  congr 1; funext a; apply Fin.ext
  match a with
  | ⟨0, _⟩ => show win0_6.index t 0 * 1 + 1 * (0 + 1 * 0) = 0; rw [e0]
  | ⟨1, _⟩ => show win0_6.index t 1 * 4 + 1 * (0 + 1 * 0) = 0; rw [e1]
  | ⟨2, _⟩ => show win0_6.index t 2 * 1024 + 1 * (0 + 1 * k.val) = k.val; rw [e2]; ring
  | ⟨3, _⟩ => show win0_6.index t 3 * 1024 + 1 * (0 + 1 * q.val) = C.val; rw [e3, hC]; ring
theorem b0_at (t : Fin grid0.N) (q : Fin 1024) (C : Fin 4096) (hC : C.val = t.val / 32 * 1024 + q.val) :
    View.ld (iblk0 V c 7 t) r0_2 (ix3 (0 : Fin 1) (0 : Fin 1) q) = V c main_v9 (ix3 (0 : Fin 4) (0 : Fin 1) C) := by
  obtain ⟨e0, e1, e2⟩ := hidxb t
  show V c main_v9 _ = _
  congr 1; funext a; apply Fin.ext
  match a with
  | ⟨0, _⟩ => show win0_7.index t 0 * 4 + 1 * (0 + 1 * 0) = 0; rw [e0]
  | ⟨1, _⟩ => show win0_7.index t 1 * 1 + 1 * (0 + 1 * 0) = 0; rw [e1]
  | ⟨2, _⟩ => show win0_7.index t 2 * 1024 + 1 * (0 + 1 * q.val) = C.val; rw [e2, hC]; ring
theorem w1_at (t : Fin grid0.N) (k : Fin 512) (q : Fin 1024) (C : Fin 4096) (hC : C.val = t.val / 32 * 1024 + q.val) :
    View.ld (iblk0 V c 5 t) r0_5 (ix4 (0 : Fin 1) (0 : Fin 1) k q) = V c main_v5 (ix4 (0 : Fin 4) (1 : Fin 4) k C) := by
  obtain ⟨e0, e1, e2, e3⟩ := hidxw5 t
  show V c main_v5 _ = _
  congr 1; funext a; apply Fin.ext
  match a with
  | ⟨0, _⟩ => show win0_5.index t 0 * 1 + 1 * (0 + 1 * 0) = 0; rw [e0]
  | ⟨1, _⟩ => show win0_5.index t 1 * 4 + 1 * (1 + 1 * 0) = 1; rw [e1]
  | ⟨2, _⟩ => show win0_5.index t 2 * 512 + 1 * (0 + 1 * k.val) = k.val; rw [e2]; ring
  | ⟨3, _⟩ => show win0_5.index t 3 * 1024 + 1 * (0 + 1 * q.val) = C.val; rw [e3, hC]; ring
theorem v1_at (t : Fin grid0.N) (k : Fin 1024) (q : Fin 1024) (C : Fin 4096) (hC : C.val = t.val / 32 * 1024 + q.val) :
    View.ld (iblk0 V c 6 t) r0_7 (ix4 (0 : Fin 1) (0 : Fin 1) k q) = V c main_v8 (ix4 (0 : Fin 4) (1 : Fin 4) k C) := by
  obtain ⟨e0, e1, e2, e3⟩ := hidxw6 t
  show V c main_v8 _ = _
  congr 1; funext a; apply Fin.ext
  match a with
  | ⟨0, _⟩ => show win0_6.index t 0 * 1 + 1 * (0 + 1 * 0) = 0; rw [e0]
  | ⟨1, _⟩ => show win0_6.index t 1 * 4 + 1 * (1 + 1 * 0) = 1; rw [e1]
  | ⟨2, _⟩ => show win0_6.index t 2 * 1024 + 1 * (0 + 1 * k.val) = k.val; rw [e2]; ring
  | ⟨3, _⟩ => show win0_6.index t 3 * 1024 + 1 * (0 + 1 * q.val) = C.val; rw [e3, hC]; ring
theorem b1_at (t : Fin grid0.N) (q : Fin 1024) (C : Fin 4096) (hC : C.val = t.val / 32 * 1024 + q.val) :
    View.ld (iblk0 V c 7 t) r0_6 (ix3 (0 : Fin 1) (0 : Fin 1) q) = V c main_v9 (ix3 (1 : Fin 4) (0 : Fin 1) C) := by
  obtain ⟨e0, e1, e2⟩ := hidxb t
  show V c main_v9 _ = _
  congr 1; funext a; apply Fin.ext
  match a with
  | ⟨0, _⟩ => show win0_7.index t 0 * 4 + 1 * (1 + 1 * 0) = 1; rw [e0]
  | ⟨1, _⟩ => show win0_7.index t 1 * 1 + 1 * (0 + 1 * 0) = 0; rw [e1]
  | ⟨2, _⟩ => show win0_7.index t 2 * 1024 + 1 * (0 + 1 * q.val) = C.val; rw [e2, hC]; ring
theorem w2_at (t : Fin grid0.N) (k : Fin 512) (q : Fin 1024) (C : Fin 4096) (hC : C.val = t.val / 32 * 1024 + q.val) :
    View.ld (iblk0 V c 5 t) r0_8 (ix4 (0 : Fin 1) (0 : Fin 1) k q) = V c main_v5 (ix4 (0 : Fin 4) (2 : Fin 4) k C) := by
  obtain ⟨e0, e1, e2, e3⟩ := hidxw5 t
  show V c main_v5 _ = _
  congr 1; funext a; apply Fin.ext
  match a with
  | ⟨0, _⟩ => show win0_5.index t 0 * 1 + 1 * (0 + 1 * 0) = 0; rw [e0]
  | ⟨1, _⟩ => show win0_5.index t 1 * 4 + 1 * (2 + 1 * 0) = 2; rw [e1]
  | ⟨2, _⟩ => show win0_5.index t 2 * 512 + 1 * (0 + 1 * k.val) = k.val; rw [e2]; ring
  | ⟨3, _⟩ => show win0_5.index t 3 * 1024 + 1 * (0 + 1 * q.val) = C.val; rw [e3, hC]; ring
theorem v2_at (t : Fin grid0.N) (k : Fin 1024) (q : Fin 1024) (C : Fin 4096) (hC : C.val = t.val / 32 * 1024 + q.val) :
    View.ld (iblk0 V c 6 t) r0_10 (ix4 (0 : Fin 1) (0 : Fin 1) k q) = V c main_v8 (ix4 (0 : Fin 4) (2 : Fin 4) k C) := by
  obtain ⟨e0, e1, e2, e3⟩ := hidxw6 t
  show V c main_v8 _ = _
  congr 1; funext a; apply Fin.ext
  match a with
  | ⟨0, _⟩ => show win0_6.index t 0 * 1 + 1 * (0 + 1 * 0) = 0; rw [e0]
  | ⟨1, _⟩ => show win0_6.index t 1 * 4 + 1 * (2 + 1 * 0) = 2; rw [e1]
  | ⟨2, _⟩ => show win0_6.index t 2 * 1024 + 1 * (0 + 1 * k.val) = k.val; rw [e2]; ring
  | ⟨3, _⟩ => show win0_6.index t 3 * 1024 + 1 * (0 + 1 * q.val) = C.val; rw [e3, hC]; ring
theorem b2_at (t : Fin grid0.N) (q : Fin 1024) (C : Fin 4096) (hC : C.val = t.val / 32 * 1024 + q.val) :
    View.ld (iblk0 V c 7 t) r0_9 (ix3 (0 : Fin 1) (0 : Fin 1) q) = V c main_v9 (ix3 (2 : Fin 4) (0 : Fin 1) C) := by
  obtain ⟨e0, e1, e2⟩ := hidxb t
  show V c main_v9 _ = _
  congr 1; funext a; apply Fin.ext
  match a with
  | ⟨0, _⟩ => show win0_7.index t 0 * 4 + 1 * (2 + 1 * 0) = 2; rw [e0]
  | ⟨1, _⟩ => show win0_7.index t 1 * 1 + 1 * (0 + 1 * 0) = 0; rw [e1]
  | ⟨2, _⟩ => show win0_7.index t 2 * 1024 + 1 * (0 + 1 * q.val) = C.val; rw [e2, hC]; ring
theorem w3_at (t : Fin grid0.N) (k : Fin 512) (q : Fin 1024) (C : Fin 4096) (hC : C.val = t.val / 32 * 1024 + q.val) :
    View.ld (iblk0 V c 5 t) r0_11 (ix4 (0 : Fin 1) (0 : Fin 1) k q) = V c main_v5 (ix4 (0 : Fin 4) (3 : Fin 4) k C) := by
  obtain ⟨e0, e1, e2, e3⟩ := hidxw5 t
  show V c main_v5 _ = _
  congr 1; funext a; apply Fin.ext
  match a with
  | ⟨0, _⟩ => show win0_5.index t 0 * 1 + 1 * (0 + 1 * 0) = 0; rw [e0]
  | ⟨1, _⟩ => show win0_5.index t 1 * 4 + 1 * (3 + 1 * 0) = 3; rw [e1]
  | ⟨2, _⟩ => show win0_5.index t 2 * 512 + 1 * (0 + 1 * k.val) = k.val; rw [e2]; ring
  | ⟨3, _⟩ => show win0_5.index t 3 * 1024 + 1 * (0 + 1 * q.val) = C.val; rw [e3, hC]; ring
theorem v3_at (t : Fin grid0.N) (k : Fin 1024) (q : Fin 1024) (C : Fin 4096) (hC : C.val = t.val / 32 * 1024 + q.val) :
    View.ld (iblk0 V c 6 t) r0_13 (ix4 (0 : Fin 1) (0 : Fin 1) k q) = V c main_v8 (ix4 (0 : Fin 4) (3 : Fin 4) k C) := by
  obtain ⟨e0, e1, e2, e3⟩ := hidxw6 t
  show V c main_v8 _ = _
  congr 1; funext a; apply Fin.ext
  match a with
  | ⟨0, _⟩ => show win0_6.index t 0 * 1 + 1 * (0 + 1 * 0) = 0; rw [e0]
  | ⟨1, _⟩ => show win0_6.index t 1 * 4 + 1 * (3 + 1 * 0) = 3; rw [e1]
  | ⟨2, _⟩ => show win0_6.index t 2 * 1024 + 1 * (0 + 1 * k.val) = k.val; rw [e2]; ring
  | ⟨3, _⟩ => show win0_6.index t 3 * 1024 + 1 * (0 + 1 * q.val) = C.val; rw [e3, hC]; ring
theorem b3_at (t : Fin grid0.N) (q : Fin 1024) (C : Fin 4096) (hC : C.val = t.val / 32 * 1024 + q.val) :
    View.ld (iblk0 V c 7 t) r0_12 (ix3 (0 : Fin 1) (0 : Fin 1) q) = V c main_v9 (ix3 (3 : Fin 4) (0 : Fin 1) C) := by
  obtain ⟨e0, e1, e2⟩ := hidxb t
  show V c main_v9 _ = _
  congr 1; funext a; apply Fin.ext
  match a with
  | ⟨0, _⟩ => show win0_7.index t 0 * 4 + 1 * (3 + 1 * 0) = 3; rw [e0]
  | ⟨1, _⟩ => show win0_7.index t 1 * 1 + 1 * (0 + 1 * 0) = 0; rw [e1]
  | ⟨2, _⟩ => show win0_7.index t 2 * 1024 + 1 * (0 + 1 * q.val) = C.val; rw [e2, hC]; ring
theorem m_at (t : Fin grid1.N) (p : Fin 1024) (k : Fin 4096) (R : Fin 16384) (hR : R.val = t.val % 16 * 1024 + p.val) :
    iblk1 V c 0 t (ix2 p k) = V c main_v10 (ix2 R k) := by
  have e := hidx1 t
  show V c main_v10 _ = _
  congr 1; funext a; apply Fin.ext
  match a with
  | ⟨0, _⟩ => show win1_0.index t 0 * 1024 + 1 * p.val = R.val; rw [e.1, hR]; ring
  | ⟨1, _⟩ => show win1_0.index t 1 * 4096 + 1 * k.val = k.val; rw [e.2.1]; ring
theorem wo_at (t : Fin grid1.N) (k : Fin 4096) (q : Fin 1024) (C : Fin 4096) (hC : C.val = t.val / 16 * 1024 + q.val) :
    iblk1 V c 1 t (ix3 (0 : Fin 1) k q) = V c main_v11 (ix3 (0 : Fin 4) k C) := by
  obtain ⟨_, _, e0, e1, e2, _⟩ := hidx1 t
  show V c main_v11 _ = _
  congr 1; funext a; apply Fin.ext
  match a with
  | ⟨0, _⟩ => show win1_1.index t 0 * 1 + 1 * 0 = 0; rw [e0]
  | ⟨1, _⟩ => show win1_1.index t 1 * 4096 + 1 * k.val = k.val; rw [e1]; ring
  | ⟨2, _⟩ => show win1_1.index t 2 * 1024 + 1 * q.val = C.val; rw [e2, hC]; ring
theorem s_at (t : Fin grid1.N) (q : Fin 1024) (C : Fin 4096) (hC : C.val = t.val / 16 * 1024 + q.val) :
    iblk1 V c 2 t (ix2 (0 : Fin 1) q) = V c main_v13 (ix2 (0 : Fin 1) C) := by
  obtain ⟨_, _, _, _, _, e0, e1, _⟩ := hidx1 t
  show V c main_v13 _ = _
  congr 1; funext a; apply Fin.ext
  match a with
  | ⟨0, _⟩ => show win1_2.index t 0 * 1 + 1 * 0 = 0; rw [e0]
  | ⟨1, _⟩ => show win1_2.index t 1 * 1024 + 1 * q.val = C.val; rw [e1, hC]; ring

/-- The first call's result array. -/
theorem merged_eq : (dat0 V c).arrAt 8 cfg0.N = merged (V c main_v0) (V c main_v1) (V c main_v2) (V c main_v3) (V c main_v4) (V c main_v5) (V c main_v8) (V c main_v9) := by
  refine (dat0 V c).arrAt_eq_of_covers 8 _ (by decide +kernel) fun t hf y => ?_
  blk_simp
  rw [after0_8]
  unfold_out out0_8
  frame_out
  obtain ⟨p, q, rfl⟩ : ∃ (p : Fin 512) (q : Fin 1024), y = ix2 p q := ⟨y 0, y 1, idx_two y⟩
  obtain ⟨e0, e1⟩ := hidxm t
  have ht : t.val < 128 := lt_of_lt_of_eq t.isLt N_0
  have hp := p.isLt; have hq := q.isLt
  have hi : ((View.whole main_v10).slice (win0_8.rect t)).emb (ix2 p q)
      = ix2 (⟨t.val % 32 * 512 + p.val, by omega⟩ : Fin 16384) (⟨t.val / 32 * 1024 + q.val, by omega⟩ : Fin 4096) := by
    funext a; apply Fin.ext
    match a with
    | ⟨0, _⟩ => show win0_8.index t 0 * 512 + 1 * p.val = t.val % 32 * 512 + p.val; rw [e0]; ring
    | ⟨1, _⟩ => show win0_8.index t 1 * 1024 + 1 * q.val = t.val / 32 * 1024 + q.val; rw [e1]; ring
  rw [hi]
  refine (pay0 _ _ _ _ _ _ _ _ _ _ _ _ _ _ _ _ _ p q).trans ?_
  exact sum_of
    (gated_of (fun k => g_at V c t p k _ _ rfl rfl) (fun k => w0_at V c t k q _ rfl) (b0_at V c t q _ rfl) (fun k => o1_at V c t p k _ rfl) (fun k => v0_at V c t k q _ rfl))
    (gated_of (fun k => g_at V c t p k _ _ rfl rfl) (fun k => w1_at V c t k q _ rfl) (b1_at V c t q _ rfl) (fun k => o2_at V c t p k _ rfl) (fun k => v1_at V c t k q _ rfl))
    (gated_of (fun k => g_at V c t p k _ _ rfl rfl) (fun k => w2_at V c t k q _ rfl) (b2_at V c t q _ rfl) (fun k => o3_at V c t p k _ rfl) (fun k => v2_at V c t k q _ rfl))
    (gated_of (fun k => g_at V c t p k _ _ rfl rfl) (fun k => w3_at V c t k q _ rfl) (b3_at V c t q _ rfl) (fun k => o4_at V c t p k _ rfl) (fun k => v3_at V c t k q _ rfl))

/-- The second call's result array. -/
theorem outer_eq : (dat1 V c).arrAt 3 cfg1.N = outer (V c main_v10) (V c main_v11) (V c main_v13) := by
  refine (dat1 V c).arrAt_eq_of_covers 3 _ (by decide +kernel) fun t hf y => ?_
  blk_simp
  rw [after1_3]
  frame_out
  obtain ⟨p, q, rfl⟩ : ∃ (p : Fin 1024) (q : Fin 1024), y = ix2 p q := ⟨y 0, y 1, idx_two y⟩
  obtain ⟨_, _, _, _, _, _, _, e0, e1⟩ := hidx1 t
  have ht : t.val < 64 := lt_of_lt_of_eq t.isLt N_1
  have hp := p.isLt; have hq := q.isLt
  have hi : ((View.whole main_v14).slice (win1_3.rect t)).emb (ix2 p q)
      = ix2 (⟨t.val % 16 * 1024 + p.val, by omega⟩ : Fin 16384) (⟨t.val / 16 * 1024 + q.val, by omega⟩ : Fin 4096) := by
    funext a; apply Fin.ext
    match a with
    | ⟨0, _⟩ => show win1_3.index t 0 * 1024 + 1 * p.val = t.val % 16 * 1024 + p.val; rw [e0]; ring
    | ⟨1, _⟩ => show win1_3.index t 1 * 1024 + 1 * q.val = t.val / 16 * 1024 + q.val; rw [e1]; ring
  rw [hi]
  refine (pay1 _ _ _ p q).trans ?_
  exact mul_of (Finset.sum_congr rfl fun k _ => mul_of (m_at V c t p k _ rfl) (wo_at V c t k q _ rfl)) (s_at V c t q _ rfl)

/-! ## The launch -/

section
variable (m : (ℓ : Loc nD τ sig) → Buf (Elt Ideal) ℓ) (ρ : Dev nD → PrngReg)

/-- The program's arguments. -/
def ap : FVec Ideal S16384x8192 .f32 := m ((c.tc : Thread nD τ).loc main_arg0)
def aa : FVec Ideal S16384x1024 .f32 := m ((c.tc : Thread nD τ).loc main_arg1)
def ab : FVec Ideal S16384x1024 .f32 := m ((c.tc : Thread nD τ).loc main_arg2)
def ac : FVec Ideal S16384x1024 .f32 := m ((c.tc : Thread nD τ).loc main_arg3)
def ad : FVec Ideal S16384x1024 .f32 := m ((c.tc : Thread nD τ).loc main_arg4)
def ag : FVec Ideal S4x4x512x4096 .f32 := m ((c.tc : Thread nD τ).loc main_arg5)
def ah : FVec Ideal S4x4x4096 .f32 := m ((c.tc : Thread nD τ).loc main_arg6)
def aw : FVec Ideal S4x4x1024x4096 .f32 := m ((c.tc : Thread nD τ).loc main_arg7)
def ao : FVec Ideal S4x4096x4096 .f32 := m ((c.tc : Thread nD τ).loc main_arg8)
/-- The first layer's biases, as the first call reads them. -/
def bias (c : Dev nD) : FVec Ideal S4x1x4096 .f32 :=
  shapeCast S4x1x4096 (shapeCast S4x4096 (extractStridedSlice S1x4x4096 ![0, 0, 0] (ah c m) slices_S4x4x4096_S1x4x4096_0_0_0) shapeCasts_S1x4x4096_S4x4096) shapeCasts_S4x4096_S4x1x4096
theorem bias_at (n : Fin 4) (j : Fin 4096) : bias m c (ix3 n (0 : Fin 1) j) = ah c m (ix3 (0 : Fin 4) n j) := by
  unfold bias
  pointwise

/-- The merged branches, of the arguments. -/
def M (c : Dev nD) : Vec Ideal S16384x4096 .bf16 :=
  merged (truncf .bf16 (ap c m) bitsLt_bf16_f32) (truncf .bf16 (aa c m) bitsLt_bf16_f32) (truncf .bf16 (ab c m) bitsLt_bf16_f32) (truncf .bf16 (ac c m) bitsLt_bf16_f32) (truncf .bf16 (ad c m) bitsLt_bf16_f32)
    (truncf .bf16 (ag c m) bitsLt_bf16_f32) (truncf .bf16 (aw c m) bitsLt_bf16_f32) (bias m c)
/-- The result, of the arguments. -/
def G (c : Dev nD) : Vec Ideal S16384x4096 .bf16 := fun i =>
  ∑ k : Fin 4096, (M m c (ix2 (i 0) k) : EReal) * ao c m (ix3 (0 : Fin 4) k (i 1))

theorem v0_eq : V1 m ρ c main_v0 = (truncf .bf16 (ap c m) bitsLt_bf16_f32 : FVec Ideal S16384x8192 .bf16) := by
  show StableHlo.after hostOps0 (W0 m ρ c) (Proc.devRef .tc main_v0) = _
  after_results; rfl
theorem v1_eq : V1 m ρ c main_v1 = (truncf .bf16 (aa c m) bitsLt_bf16_f32 : FVec Ideal S16384x1024 .bf16) := by
  show StableHlo.after hostOps0 (W0 m ρ c) (Proc.devRef .tc main_v1) = _
  after_results; rfl
theorem v2_eq : V1 m ρ c main_v2 = (truncf .bf16 (ab c m) bitsLt_bf16_f32 : FVec Ideal S16384x1024 .bf16) := by
  show StableHlo.after hostOps0 (W0 m ρ c) (Proc.devRef .tc main_v2) = _
  after_results; rfl
theorem v3_eq : V1 m ρ c main_v3 = (truncf .bf16 (ac c m) bitsLt_bf16_f32 : FVec Ideal S16384x1024 .bf16) := by
  show StableHlo.after hostOps0 (W0 m ρ c) (Proc.devRef .tc main_v3) = _
  after_results; rfl
theorem v4_eq : V1 m ρ c main_v4 = (truncf .bf16 (ad c m) bitsLt_bf16_f32 : FVec Ideal S16384x1024 .bf16) := by
  show StableHlo.after hostOps0 (W0 m ρ c) (Proc.devRef .tc main_v4) = _
  after_results; rfl
theorem v5_eq : V1 m ρ c main_v5 = (truncf .bf16 (ag c m) bitsLt_bf16_f32 : FVec Ideal S4x4x512x4096 .bf16) := by
  show StableHlo.after hostOps0 (W0 m ρ c) (Proc.devRef .tc main_v5) = _
  after_results; rfl
theorem v8_eq : V1 m ρ c main_v8 = (truncf .bf16 (aw c m) bitsLt_bf16_f32 : FVec Ideal S4x4x1024x4096 .bf16) := by
  show StableHlo.after hostOps0 (W0 m ρ c) (Proc.devRef .tc main_v8) = _
  after_results; rfl
theorem v9_eq : V1 m ρ c main_v9 = bias m c := by
  show StableHlo.after hostOps0 (W0 m ρ c) (Proc.devRef .tc main_v9) = _
  after_results; rfl
theorem v10_eq : V3 m ρ c main_v10 = merged (V1 m ρ c main_v0) (V1 m ρ c main_v1) (V1 m ρ c main_v2) (V1 m ρ c main_v3) (V1 m ρ c main_v4) (V1 m ρ c main_v5) (V1 m ρ c main_v8) (V1 m ρ c main_v9) :=
  (W3_of m ρ c main_v10 (by decide)).trans ((W2_arr m ρ c 8).trans (merged_eq (V1 m ρ) c))
theorem v11_eq : V3 m ρ c main_v11 = (truncf .bf16 (ao c m) bitsLt_bf16_f32 : FVec Ideal S4x4096x4096 .bf16) := by
  have h : V3 m ρ c main_v11 = (truncf .bf16 (W2 m ρ c (Proc.devRef .tc main_arg8) : FVec Ideal S4x4096x4096 .f32) bitsLt_bf16_f32 : FVec Ideal S4x4096x4096 .bf16) := by
    show StableHlo.after hostOps1 (W2 m ρ c) (Proc.devRef .tc main_v11) = _
    after_results; try rfl
  rw [h, W2_args m ρ c main_arg8 (by decide)]; rfl
theorem v13_eq (q : Fin 4096) : (V3 m ρ c main_v13 : Vec Ideal S1x4096 .f32) (ix2 (0 : Fin 1) q) = (1 : EReal) := by
  have h : V3 m ρ c main_v13 = (shapeCast S1x4096 (broadcastInDim S4096 ![] bcast_S_S4096 (constant (F := Ideal) S_ .f32 0x3F800000#32)) shapeCasts_S4096_S1x4096 : FVec Ideal S1x4096 .f32) := by
    show StableHlo.after hostOps1 (W2 m ρ c) (Proc.devRef .tc main_v13) = _
    after_results; try rfl
  have h1 : Ideal.ofBits FTy.f32 0x3F800000#32 = (1 : EReal) := by
    simp [Ideal.ofBits, Ideal.ieee, -EReal.coe_mul]; try norm_num
  rw [h]
  refine Eq.trans ?_ h1
  pointwise

/-- The result array after both calls. -/
theorem out_eq : W4 m ρ c (Proc.devRef .tc main_v14) = G m c := by
  refine (W4_arr m ρ c 3).trans ((outer_eq (V3 m ρ) c).trans ?_)
  rw [v10_eq, v11_eq, v0_eq, v1_eq, v2_eq, v3_eq, v4_eq, v5_eq, v8_eq, v9_eq]
  funext i
  exact (congrArg (fun x : EReal => (∑ k : Fin 4096, (M m c (ix2 (i 0) k) : EReal) * ao c m (ix3 (0 : Fin 4) k (i 1))) * x) (v13_eq c m ρ (i 1))).trans (mul_one _)

/-- Every execution ends with the result in place and the arguments unchanged. -/
theorem value : θ_run defs (onTc (τ := τ) (main (F := Ideal))) ⟨m, fun _ => 0, ρ⟩ (fun r => ∀ c : Dev nD,
      r.2.mem ((c.tc : Thread nD τ).loc main_v14) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h.1 c).1.trans (out_eq c m ρ), (h.1 c).2⟩) (run_end m ρ)

end

end Cert.MixIdeal.Mix

end
-- ==== Proof.MR.Run.lean ====
/- The run of the merge's reference at the exact reals, and its result read at an index. -/
module

public import proofs.«01_k».proof.Proof.Gen.MixReferenceIdeal
public import Idealize.ShloMosaic.Lib.Pointwise
public import Idealize.ShloMosaic.Lib.StableHlo.Run
public import Idealize.ShloMosaic.PureOps.Ideal
public import Idealize.ShloMosaic.PureOps.Ideal.Laws
public import Idealize.ShloMosaic.Lib.Quiescent

@[expose] public section

set_option maxRecDepth 16384

noncomputable section

namespace Cert.MixReferenceIdeal.Ref

open Cert.MixReferenceIdeal Cert.MixReferenceIdeal.Gen
open Idealize.ShloMosaic Idealize.ShloMosaic.TcCoe Idealize.ShloMosaic.StableHlo Idealize.SL.Sem

/-- The gates' input: its columns of the projection. -/
def low (p : FVec Ideal S16384x8192 .f32) : FVec Ideal S16384x512 .f32 :=
  extractStridedSlice S16384x512 ![0, 1024] p slices_S16384x8192_S16384x512_0_1024
/-- The first layer's gate weights, biases, branch weights and output weights. -/
def gates (w : FVec Ideal S4x4x512x4096 .f32) : FVec Ideal S4x512x4096 .f32 :=
  shapeCast S4x512x4096 (extractStridedSlice S1x4x512x4096 ![0, 0, 0, 0] w slices_S4x4x512x4096_S1x4x512x4096_0_0_0_0) shapeCasts_S1x4x512x4096_S4x512x4096
def biases (b : FVec Ideal S4x4x4096 .f32) : FVec Ideal S4x4096 .f32 :=
  shapeCast S4x4096 (extractStridedSlice S1x4x4096 ![0, 0, 0] b slices_S4x4x4096_S1x4x4096_0_0_0) shapeCasts_S1x4x4096_S4x4096
def weights (w : FVec Ideal S4x4x1024x4096 .f32) : FVec Ideal S4x1024x4096 .f32 :=
  shapeCast S4x1024x4096 (extractStridedSlice S1x4x1024x4096 ![0, 0, 0, 0] w slices_S4x4x1024x4096_S1x4x1024x4096_0_0_0_0) shapeCasts_S1x4x1024x4096_S4x1024x4096
def outer (w : FVec Ideal S4x4096x4096 .f32) : FVec Ideal S4096x4096 .f32 :=
  shapeCast S4096x4096 (extractStridedSlice S1x4096x4096 ![0, 0, 0] w slices_S4x4096x4096_S1x4096x4096_0_0_0) shapeCasts_S1x4096x4096_S4096x4096
/-- A gate before its sigmoid. -/
def pre (p : FVec Ideal S16384x8192 .f32) (w : FVec Ideal S1x512x4096 .f32) (b : FVec Ideal S1x4096 .f32) : FVec Ideal S16384x4096 .f32 :=
  addf (Host.dotGeneral dot_S16384x512_S512x4096_S16384x4096_1_0_0_1_n_n none (low p) (shapeCast S512x4096 w shapeCasts_S1x512x4096_S512x4096))
    (broadcastInDim S16384x4096 ![0, 1] bcast_S1x4096_S16384x4096_0_1 (broadcastInDim S1x4096 ![1] bcast_S4096_S1x4096_1 (shapeCast S4096 b shapeCasts_S1x4096_S4096)))
/-- The sigmoid. -/
def sigmoid (a : FVec Ideal S16384x4096 .f32) : FVec Ideal S16384x4096 .f32 :=
  Host.divf (broadcastInDim S16384x4096 ![] bcast_S_S16384x4096 (constant (F := Ideal) S_ .f32 0x3F800000#32))
    (addf (broadcastInDim S16384x4096 ![] bcast_S_S16384x4096 (constant (F := Ideal) S_ .f32 0x3F800000#32)) (Host.exp (Host.negf a)))
/-- A branch's projection. -/
def branch (o : FVec Ideal S16384x1024 .f32) (w : FVec Ideal S1x1024x4096 .f32) : FVec Ideal S16384x4096 .f32 :=
  Host.dotGeneral dot_S16384x1024_S1024x4096_S16384x4096_1_0_0_1_n_n none o (shapeCast S1024x4096 w shapeCasts_S1x1024x4096_S1024x4096)
/-- The term of branch 0. -/
def term0 (p : FVec Ideal S16384x8192 .f32) (o : FVec Ideal S16384x1024 .f32) (wg : FVec Ideal S4x4x512x4096 .f32) (bg : FVec Ideal S4x4x4096 .f32)
    (wb : FVec Ideal S4x4x1024x4096 .f32) : FVec Ideal S16384x4096 .f32 :=
  mulf (sigmoid (pre p (extractStridedSlice S1x512x4096 ![0, 0, 0] (gates wg) slices_S4x512x4096_S1x512x4096_0_0_0) (extractStridedSlice S1x4096 ![0, 0] (biases bg) slices_S4x4096_S1x4096_0_0)))
    (branch o (extractStridedSlice S1x1024x4096 ![0, 0, 0] (weights wb) slices_S4x1024x4096_S1x1024x4096_0_0_0))
/-- The term of branch 1. -/
def term1 (p : FVec Ideal S16384x8192 .f32) (o : FVec Ideal S16384x1024 .f32) (wg : FVec Ideal S4x4x512x4096 .f32) (bg : FVec Ideal S4x4x4096 .f32)
    (wb : FVec Ideal S4x4x1024x4096 .f32) : FVec Ideal S16384x4096 .f32 :=
  mulf (sigmoid (pre p (extractStridedSlice S1x512x4096 ![1, 0, 0] (gates wg) slices_S4x512x4096_S1x512x4096_1_0_0) (extractStridedSlice S1x4096 ![1, 0] (biases bg) slices_S4x4096_S1x4096_1_0)))
    (branch o (extractStridedSlice S1x1024x4096 ![1, 0, 0] (weights wb) slices_S4x1024x4096_S1x1024x4096_1_0_0))
/-- The term of branch 2. -/
def term2 (p : FVec Ideal S16384x8192 .f32) (o : FVec Ideal S16384x1024 .f32) (wg : FVec Ideal S4x4x512x4096 .f32) (bg : FVec Ideal S4x4x4096 .f32)
    (wb : FVec Ideal S4x4x1024x4096 .f32) : FVec Ideal S16384x4096 .f32 :=
  mulf (sigmoid (pre p (extractStridedSlice S1x512x4096 ![2, 0, 0] (gates wg) slices_S4x512x4096_S1x512x4096_2_0_0) (extractStridedSlice S1x4096 ![2, 0] (biases bg) slices_S4x4096_S1x4096_2_0)))
    (branch o (extractStridedSlice S1x1024x4096 ![2, 0, 0] (weights wb) slices_S4x1024x4096_S1x1024x4096_2_0_0))
/-- The term of branch 3. -/
def term3 (p : FVec Ideal S16384x8192 .f32) (o : FVec Ideal S16384x1024 .f32) (wg : FVec Ideal S4x4x512x4096 .f32) (bg : FVec Ideal S4x4x4096 .f32)
    (wb : FVec Ideal S4x4x1024x4096 .f32) : FVec Ideal S16384x4096 .f32 :=
  mulf (sigmoid (pre p (extractStridedSlice S1x512x4096 ![3, 0, 0] (gates wg) slices_S4x512x4096_S1x512x4096_3_0_0) (extractStridedSlice S1x4096 ![3, 0] (biases bg) slices_S4x4096_S1x4096_3_0)))
    (branch o (extractStridedSlice S1x1024x4096 ![3, 0, 0] (weights wb) slices_S4x1024x4096_S1x1024x4096_3_0_0))
/-- The four terms' sum. -/
def merged (p : FVec Ideal S16384x8192 .f32) (oa ob oc od : FVec Ideal S16384x1024 .f32) (wg : FVec Ideal S4x4x512x4096 .f32) (bg : FVec Ideal S4x4x4096 .f32)
    (wb : FVec Ideal S4x4x1024x4096 .f32) : FVec Ideal S16384x4096 .f32 :=
  addf (addf (addf (term0 p oa wg bg wb) (term1 p ob wg bg wb)) (term2 p oc wg bg wb)) (term3 p od wg bg wb)
/-- The reference's result, of its nine arguments. -/
def out (p : FVec Ideal S16384x8192 .f32) (oa ob oc od : FVec Ideal S16384x1024 .f32) (wg : FVec Ideal S4x4x512x4096 .f32) (bg : FVec Ideal S4x4x4096 .f32)
    (wb : FVec Ideal S4x4x1024x4096 .f32) (wo : FVec Ideal S4x4096x4096 .f32) : FVec Ideal S16384x4096 .bf16 :=
  truncf .bf16 (Host.dotGeneral dot_S16384x4096_S4096x4096_S16384x4096_1_0_0_1_n_n none (merged p oa ob oc od wg bg wb) (outer wo)) bitsLt_bf16_f32

section
variable {F : FTy → Type} [FloatOps F]

/-- The program's operations, in order. -/
abbrev ops : List (HloOp τ sig (Elt F)) :=
  [ unary main_arg0 main_v0 ((extractStridedSlice S16384x512 ![0, 1024] · slices_S16384x8192_S16384x512_0_1024) : (⟨S16384x8192, .f32⟩ : BufTy).Contents (Elt F) → (⟨S16384x512, .f32⟩ : BufTy).Contents (Elt F)),
    unary main_arg5 main_v1 ((extractStridedSlice S1x4x512x4096 ![0, 0, 0, 0] · slices_S4x4x512x4096_S1x4x512x4096_0_0_0_0) : (⟨S4x4x512x4096, .f32⟩ : BufTy).Contents (Elt F) → (⟨S1x4x512x4096, .f32⟩ : BufTy).Contents (Elt F)),
    reshape main_v1 main_v2 (rfl : (.f32 : EltTy) = .f32) shapeCasts_S1x4x512x4096_S4x512x4096,
    unary main_arg6 main_v3 ((extractStridedSlice S1x4x4096 ![0, 0, 0] · slices_S4x4x4096_S1x4x4096_0_0_0) : (⟨S4x4x4096, .f32⟩ : BufTy).Contents (Elt F) → (⟨S1x4x4096, .f32⟩ : BufTy).Contents (Elt F)),
    reshape main_v3 main_v4 (rfl : (.f32 : EltTy) = .f32) shapeCasts_S1x4x4096_S4x4096,
    unary main_arg7 main_v5 ((extractStridedSlice S1x4x1024x4096 ![0, 0, 0, 0] · slices_S4x4x1024x4096_S1x4x1024x4096_0_0_0_0) : (⟨S4x4x1024x4096, .f32⟩ : BufTy).Contents (Elt F) → (⟨S1x4x1024x4096, .f32⟩ : BufTy).Contents (Elt F)),
    reshape main_v5 main_v6 (rfl : (.f32 : EltTy) = .f32) shapeCasts_S1x4x1024x4096_S4x1024x4096,
    unary main_arg8 main_v7 ((extractStridedSlice S1x4096x4096 ![0, 0, 0] · slices_S4x4096x4096_S1x4096x4096_0_0_0) : (⟨S4x4096x4096, .f32⟩ : BufTy).Contents (Elt F) → (⟨S1x4096x4096, .f32⟩ : BufTy).Contents (Elt F)),
    reshape main_v7 main_v8 (rfl : (.f32 : EltTy) = .f32) shapeCasts_S1x4096x4096_S4096x4096,
    unary main_v2 main_v9 ((extractStridedSlice S1x512x4096 ![0, 0, 0] · slices_S4x512x4096_S1x512x4096_0_0_0) : (⟨S4x512x4096, .f32⟩ : BufTy).Contents (Elt F) → (⟨S1x512x4096, .f32⟩ : BufTy).Contents (Elt F)),
    reshape main_v9 main_v10 (rfl : (.f32 : EltTy) = .f32) shapeCasts_S1x512x4096_S512x4096,
    binary main_v0 main_v10 main_v11 ((fun l r => Host.dotGeneral dot_S16384x512_S512x4096_S16384x4096_1_0_0_1_n_n none l r) : (⟨S16384x512, .f32⟩ : BufTy).Contents (Elt F) → (⟨S512x4096, .f32⟩ : BufTy).Contents (Elt F) → (⟨S16384x4096, .f32⟩ : BufTy).Contents (Elt F)),
    unary main_v4 main_v12 ((extractStridedSlice S1x4096 ![0, 0] · slices_S4x4096_S1x4096_0_0) : (⟨S4x4096, .f32⟩ : BufTy).Contents (Elt F) → (⟨S1x4096, .f32⟩ : BufTy).Contents (Elt F)),
    reshape main_v12 main_v13 (rfl : (.f32 : EltTy) = .f32) shapeCasts_S1x4096_S4096,
    unary main_v13 main_v14 (broadcastInDim S1x4096 ![1] bcast_S4096_S1x4096_1 : (⟨S4096, .f32⟩ : BufTy).Contents (Elt F) → (⟨S1x4096, .f32⟩ : BufTy).Contents (Elt F)),
    unary main_v14 main_v15 (broadcastInDim S16384x4096 ![0, 1] bcast_S1x4096_S16384x4096_0_1 : (⟨S1x4096, .f32⟩ : BufTy).Contents (Elt F) → (⟨S16384x4096, .f32⟩ : BufTy).Contents (Elt F)),
    binary main_v11 main_v15 main_v16 (addf : (⟨S16384x4096, .f32⟩ : BufTy).Contents (Elt F) → (⟨S16384x4096, .f32⟩ : BufTy).Contents (Elt F) → (⟨S16384x4096, .f32⟩ : BufTy).Contents (Elt F)),
    unary main_v16 main_v17 (Host.negf : (⟨S16384x4096, .f32⟩ : BufTy).Contents (Elt F) → (⟨S16384x4096, .f32⟩ : BufTy).Contents (Elt F)),
    unary main_v17 main_v18 (Host.exp : (⟨S16384x4096, .f32⟩ : BufTy).Contents (Elt F) → (⟨S16384x4096, .f32⟩ : BufTy).Contents (Elt F)),
    nullary main_cst (constant S_ .f32 0x3F800000#32),
    unary main_cst main_v19 (broadcastInDim S16384x4096 ![] bcast_S_S16384x4096 : (⟨S_, .f32⟩ : BufTy).Contents (Elt F) → (⟨S16384x4096, .f32⟩ : BufTy).Contents (Elt F)),
    binary main_v19 main_v18 main_v20 (addf : (⟨S16384x4096, .f32⟩ : BufTy).Contents (Elt F) → (⟨S16384x4096, .f32⟩ : BufTy).Contents (Elt F) → (⟨S16384x4096, .f32⟩ : BufTy).Contents (Elt F)),
    nullary main_cst_0 (constant S_ .f32 0x3F800000#32),
    unary main_cst_0 main_v21 (broadcastInDim S16384x4096 ![] bcast_S_S16384x4096 : (⟨S_, .f32⟩ : BufTy).Contents (Elt F) → (⟨S16384x4096, .f32⟩ : BufTy).Contents (Elt F)),
    binary main_v21 main_v20 main_v22 (Host.divf : (⟨S16384x4096, .f32⟩ : BufTy).Contents (Elt F) → (⟨S16384x4096, .f32⟩ : BufTy).Contents (Elt F) → (⟨S16384x4096, .f32⟩ : BufTy).Contents (Elt F)),
    unary main_v6 main_v23 ((extractStridedSlice S1x1024x4096 ![0, 0, 0] · slices_S4x1024x4096_S1x1024x4096_0_0_0) : (⟨S4x1024x4096, .f32⟩ : BufTy).Contents (Elt F) → (⟨S1x1024x4096, .f32⟩ : BufTy).Contents (Elt F)),
    reshape main_v23 main_v24 (rfl : (.f32 : EltTy) = .f32) shapeCasts_S1x1024x4096_S1024x4096,
    binary main_arg1 main_v24 main_v25 ((fun l r => Host.dotGeneral dot_S16384x1024_S1024x4096_S16384x4096_1_0_0_1_n_n none l r) : (⟨S16384x1024, .f32⟩ : BufTy).Contents (Elt F) → (⟨S1024x4096, .f32⟩ : BufTy).Contents (Elt F) → (⟨S16384x4096, .f32⟩ : BufTy).Contents (Elt F)),
    binary main_v22 main_v25 main_v26 (mulf : (⟨S16384x4096, .f32⟩ : BufTy).Contents (Elt F) → (⟨S16384x4096, .f32⟩ : BufTy).Contents (Elt F) → (⟨S16384x4096, .f32⟩ : BufTy).Contents (Elt F)),
    unary main_v2 main_v27 ((extractStridedSlice S1x512x4096 ![1, 0, 0] · slices_S4x512x4096_S1x512x4096_1_0_0) : (⟨S4x512x4096, .f32⟩ : BufTy).Contents (Elt F) → (⟨S1x512x4096, .f32⟩ : BufTy).Contents (Elt F)),
    reshape main_v27 main_v28 (rfl : (.f32 : EltTy) = .f32) shapeCasts_S1x512x4096_S512x4096,
    binary main_v0 main_v28 main_v29 ((fun l r => Host.dotGeneral dot_S16384x512_S512x4096_S16384x4096_1_0_0_1_n_n none l r) : (⟨S16384x512, .f32⟩ : BufTy).Contents (Elt F) → (⟨S512x4096, .f32⟩ : BufTy).Contents (Elt F) → (⟨S16384x4096, .f32⟩ : BufTy).Contents (Elt F)),
    unary main_v4 main_v30 ((extractStridedSlice S1x4096 ![1, 0] · slices_S4x4096_S1x4096_1_0) : (⟨S4x4096, .f32⟩ : BufTy).Contents (Elt F) → (⟨S1x4096, .f32⟩ : BufTy).Contents (Elt F)),
    reshape main_v30 main_v31 (rfl : (.f32 : EltTy) = .f32) shapeCasts_S1x4096_S4096,
    unary main_v31 main_v32 (broadcastInDim S1x4096 ![1] bcast_S4096_S1x4096_1 : (⟨S4096, .f32⟩ : BufTy).Contents (Elt F) → (⟨S1x4096, .f32⟩ : BufTy).Contents (Elt F)),
    unary main_v32 main_v33 (broadcastInDim S16384x4096 ![0, 1] bcast_S1x4096_S16384x4096_0_1 : (⟨S1x4096, .f32⟩ : BufTy).Contents (Elt F) → (⟨S16384x4096, .f32⟩ : BufTy).Contents (Elt F)),
    binary main_v29 main_v33 main_v34 (addf : (⟨S16384x4096, .f32⟩ : BufTy).Contents (Elt F) → (⟨S16384x4096, .f32⟩ : BufTy).Contents (Elt F) → (⟨S16384x4096, .f32⟩ : BufTy).Contents (Elt F)),
    unary main_v34 main_v35 (Host.negf : (⟨S16384x4096, .f32⟩ : BufTy).Contents (Elt F) → (⟨S16384x4096, .f32⟩ : BufTy).Contents (Elt F)),
    unary main_v35 main_v36 (Host.exp : (⟨S16384x4096, .f32⟩ : BufTy).Contents (Elt F) → (⟨S16384x4096, .f32⟩ : BufTy).Contents (Elt F)),
    nullary main_cst_1 (constant S_ .f32 0x3F800000#32),
    unary main_cst_1 main_v37 (broadcastInDim S16384x4096 ![] bcast_S_S16384x4096 : (⟨S_, .f32⟩ : BufTy).Contents (Elt F) → (⟨S16384x4096, .f32⟩ : BufTy).Contents (Elt F)),
    binary main_v37 main_v36 main_v38 (addf : (⟨S16384x4096, .f32⟩ : BufTy).Contents (Elt F) → (⟨S16384x4096, .f32⟩ : BufTy).Contents (Elt F) → (⟨S16384x4096, .f32⟩ : BufTy).Contents (Elt F)),
    nullary main_cst_2 (constant S_ .f32 0x3F800000#32),
    unary main_cst_2 main_v39 (broadcastInDim S16384x4096 ![] bcast_S_S16384x4096 : (⟨S_, .f32⟩ : BufTy).Contents (Elt F) → (⟨S16384x4096, .f32⟩ : BufTy).Contents (Elt F)),
    binary main_v39 main_v38 main_v40 (Host.divf : (⟨S16384x4096, .f32⟩ : BufTy).Contents (Elt F) → (⟨S16384x4096, .f32⟩ : BufTy).Contents (Elt F) → (⟨S16384x4096, .f32⟩ : BufTy).Contents (Elt F)),
    unary main_v6 main_v41 ((extractStridedSlice S1x1024x4096 ![1, 0, 0] · slices_S4x1024x4096_S1x1024x4096_1_0_0) : (⟨S4x1024x4096, .f32⟩ : BufTy).Contents (Elt F) → (⟨S1x1024x4096, .f32⟩ : BufTy).Contents (Elt F)),
    reshape main_v41 main_v42 (rfl : (.f32 : EltTy) = .f32) shapeCasts_S1x1024x4096_S1024x4096,
    binary main_arg2 main_v42 main_v43 ((fun l r => Host.dotGeneral dot_S16384x1024_S1024x4096_S16384x4096_1_0_0_1_n_n none l r) : (⟨S16384x1024, .f32⟩ : BufTy).Contents (Elt F) → (⟨S1024x4096, .f32⟩ : BufTy).Contents (Elt F) → (⟨S16384x4096, .f32⟩ : BufTy).Contents (Elt F)),
    binary main_v40 main_v43 main_v44 (mulf : (⟨S16384x4096, .f32⟩ : BufTy).Contents (Elt F) → (⟨S16384x4096, .f32⟩ : BufTy).Contents (Elt F) → (⟨S16384x4096, .f32⟩ : BufTy).Contents (Elt F)),
    binary main_v26 main_v44 main_v45 (addf : (⟨S16384x4096, .f32⟩ : BufTy).Contents (Elt F) → (⟨S16384x4096, .f32⟩ : BufTy).Contents (Elt F) → (⟨S16384x4096, .f32⟩ : BufTy).Contents (Elt F)),
    unary main_v2 main_v46 ((extractStridedSlice S1x512x4096 ![2, 0, 0] · slices_S4x512x4096_S1x512x4096_2_0_0) : (⟨S4x512x4096, .f32⟩ : BufTy).Contents (Elt F) → (⟨S1x512x4096, .f32⟩ : BufTy).Contents (Elt F)),
    reshape main_v46 main_v47 (rfl : (.f32 : EltTy) = .f32) shapeCasts_S1x512x4096_S512x4096,
    binary main_v0 main_v47 main_v48 ((fun l r => Host.dotGeneral dot_S16384x512_S512x4096_S16384x4096_1_0_0_1_n_n none l r) : (⟨S16384x512, .f32⟩ : BufTy).Contents (Elt F) → (⟨S512x4096, .f32⟩ : BufTy).Contents (Elt F) → (⟨S16384x4096, .f32⟩ : BufTy).Contents (Elt F)),
    unary main_v4 main_v49 ((extractStridedSlice S1x4096 ![2, 0] · slices_S4x4096_S1x4096_2_0) : (⟨S4x4096, .f32⟩ : BufTy).Contents (Elt F) → (⟨S1x4096, .f32⟩ : BufTy).Contents (Elt F)),
    reshape main_v49 main_v50 (rfl : (.f32 : EltTy) = .f32) shapeCasts_S1x4096_S4096,
    unary main_v50 main_v51 (broadcastInDim S1x4096 ![1] bcast_S4096_S1x4096_1 : (⟨S4096, .f32⟩ : BufTy).Contents (Elt F) → (⟨S1x4096, .f32⟩ : BufTy).Contents (Elt F)),
    unary main_v51 main_v52 (broadcastInDim S16384x4096 ![0, 1] bcast_S1x4096_S16384x4096_0_1 : (⟨S1x4096, .f32⟩ : BufTy).Contents (Elt F) → (⟨S16384x4096, .f32⟩ : BufTy).Contents (Elt F)),
    binary main_v48 main_v52 main_v53 (addf : (⟨S16384x4096, .f32⟩ : BufTy).Contents (Elt F) → (⟨S16384x4096, .f32⟩ : BufTy).Contents (Elt F) → (⟨S16384x4096, .f32⟩ : BufTy).Contents (Elt F)),
    unary main_v53 main_v54 (Host.negf : (⟨S16384x4096, .f32⟩ : BufTy).Contents (Elt F) → (⟨S16384x4096, .f32⟩ : BufTy).Contents (Elt F)),
    unary main_v54 main_v55 (Host.exp : (⟨S16384x4096, .f32⟩ : BufTy).Contents (Elt F) → (⟨S16384x4096, .f32⟩ : BufTy).Contents (Elt F)),
    nullary main_cst_3 (constant S_ .f32 0x3F800000#32),
    unary main_cst_3 main_v56 (broadcastInDim S16384x4096 ![] bcast_S_S16384x4096 : (⟨S_, .f32⟩ : BufTy).Contents (Elt F) → (⟨S16384x4096, .f32⟩ : BufTy).Contents (Elt F)),
    binary main_v56 main_v55 main_v57 (addf : (⟨S16384x4096, .f32⟩ : BufTy).Contents (Elt F) → (⟨S16384x4096, .f32⟩ : BufTy).Contents (Elt F) → (⟨S16384x4096, .f32⟩ : BufTy).Contents (Elt F)),
    nullary main_cst_4 (constant S_ .f32 0x3F800000#32),
    unary main_cst_4 main_v58 (broadcastInDim S16384x4096 ![] bcast_S_S16384x4096 : (⟨S_, .f32⟩ : BufTy).Contents (Elt F) → (⟨S16384x4096, .f32⟩ : BufTy).Contents (Elt F)),
    binary main_v58 main_v57 main_v59 (Host.divf : (⟨S16384x4096, .f32⟩ : BufTy).Contents (Elt F) → (⟨S16384x4096, .f32⟩ : BufTy).Contents (Elt F) → (⟨S16384x4096, .f32⟩ : BufTy).Contents (Elt F)),
    unary main_v6 main_v60 ((extractStridedSlice S1x1024x4096 ![2, 0, 0] · slices_S4x1024x4096_S1x1024x4096_2_0_0) : (⟨S4x1024x4096, .f32⟩ : BufTy).Contents (Elt F) → (⟨S1x1024x4096, .f32⟩ : BufTy).Contents (Elt F)),
    reshape main_v60 main_v61 (rfl : (.f32 : EltTy) = .f32) shapeCasts_S1x1024x4096_S1024x4096,
    binary main_arg3 main_v61 main_v62 ((fun l r => Host.dotGeneral dot_S16384x1024_S1024x4096_S16384x4096_1_0_0_1_n_n none l r) : (⟨S16384x1024, .f32⟩ : BufTy).Contents (Elt F) → (⟨S1024x4096, .f32⟩ : BufTy).Contents (Elt F) → (⟨S16384x4096, .f32⟩ : BufTy).Contents (Elt F)),
    binary main_v59 main_v62 main_v63 (mulf : (⟨S16384x4096, .f32⟩ : BufTy).Contents (Elt F) → (⟨S16384x4096, .f32⟩ : BufTy).Contents (Elt F) → (⟨S16384x4096, .f32⟩ : BufTy).Contents (Elt F)),
    binary main_v45 main_v63 main_v64 (addf : (⟨S16384x4096, .f32⟩ : BufTy).Contents (Elt F) → (⟨S16384x4096, .f32⟩ : BufTy).Contents (Elt F) → (⟨S16384x4096, .f32⟩ : BufTy).Contents (Elt F)),
    unary main_v2 main_v65 ((extractStridedSlice S1x512x4096 ![3, 0, 0] · slices_S4x512x4096_S1x512x4096_3_0_0) : (⟨S4x512x4096, .f32⟩ : BufTy).Contents (Elt F) → (⟨S1x512x4096, .f32⟩ : BufTy).Contents (Elt F)),
    reshape main_v65 main_v66 (rfl : (.f32 : EltTy) = .f32) shapeCasts_S1x512x4096_S512x4096,
    binary main_v0 main_v66 main_v67 ((fun l r => Host.dotGeneral dot_S16384x512_S512x4096_S16384x4096_1_0_0_1_n_n none l r) : (⟨S16384x512, .f32⟩ : BufTy).Contents (Elt F) → (⟨S512x4096, .f32⟩ : BufTy).Contents (Elt F) → (⟨S16384x4096, .f32⟩ : BufTy).Contents (Elt F)),
    unary main_v4 main_v68 ((extractStridedSlice S1x4096 ![3, 0] · slices_S4x4096_S1x4096_3_0) : (⟨S4x4096, .f32⟩ : BufTy).Contents (Elt F) → (⟨S1x4096, .f32⟩ : BufTy).Contents (Elt F)),
    reshape main_v68 main_v69 (rfl : (.f32 : EltTy) = .f32) shapeCasts_S1x4096_S4096,
    unary main_v69 main_v70 (broadcastInDim S1x4096 ![1] bcast_S4096_S1x4096_1 : (⟨S4096, .f32⟩ : BufTy).Contents (Elt F) → (⟨S1x4096, .f32⟩ : BufTy).Contents (Elt F)),
    unary main_v70 main_v71 (broadcastInDim S16384x4096 ![0, 1] bcast_S1x4096_S16384x4096_0_1 : (⟨S1x4096, .f32⟩ : BufTy).Contents (Elt F) → (⟨S16384x4096, .f32⟩ : BufTy).Contents (Elt F)),
    binary main_v67 main_v71 main_v72 (addf : (⟨S16384x4096, .f32⟩ : BufTy).Contents (Elt F) → (⟨S16384x4096, .f32⟩ : BufTy).Contents (Elt F) → (⟨S16384x4096, .f32⟩ : BufTy).Contents (Elt F)),
    unary main_v72 main_v73 (Host.negf : (⟨S16384x4096, .f32⟩ : BufTy).Contents (Elt F) → (⟨S16384x4096, .f32⟩ : BufTy).Contents (Elt F)),
    unary main_v73 main_v74 (Host.exp : (⟨S16384x4096, .f32⟩ : BufTy).Contents (Elt F) → (⟨S16384x4096, .f32⟩ : BufTy).Contents (Elt F)),
    nullary main_cst_5 (constant S_ .f32 0x3F800000#32),
    unary main_cst_5 main_v75 (broadcastInDim S16384x4096 ![] bcast_S_S16384x4096 : (⟨S_, .f32⟩ : BufTy).Contents (Elt F) → (⟨S16384x4096, .f32⟩ : BufTy).Contents (Elt F)),
    binary main_v75 main_v74 main_v76 (addf : (⟨S16384x4096, .f32⟩ : BufTy).Contents (Elt F) → (⟨S16384x4096, .f32⟩ : BufTy).Contents (Elt F) → (⟨S16384x4096, .f32⟩ : BufTy).Contents (Elt F)),
    nullary main_cst_6 (constant S_ .f32 0x3F800000#32),
    unary main_cst_6 main_v77 (broadcastInDim S16384x4096 ![] bcast_S_S16384x4096 : (⟨S_, .f32⟩ : BufTy).Contents (Elt F) → (⟨S16384x4096, .f32⟩ : BufTy).Contents (Elt F)),
    binary main_v77 main_v76 main_v78 (Host.divf : (⟨S16384x4096, .f32⟩ : BufTy).Contents (Elt F) → (⟨S16384x4096, .f32⟩ : BufTy).Contents (Elt F) → (⟨S16384x4096, .f32⟩ : BufTy).Contents (Elt F)),
    unary main_v6 main_v79 ((extractStridedSlice S1x1024x4096 ![3, 0, 0] · slices_S4x1024x4096_S1x1024x4096_3_0_0) : (⟨S4x1024x4096, .f32⟩ : BufTy).Contents (Elt F) → (⟨S1x1024x4096, .f32⟩ : BufTy).Contents (Elt F)),
    reshape main_v79 main_v80 (rfl : (.f32 : EltTy) = .f32) shapeCasts_S1x1024x4096_S1024x4096,
    binary main_arg4 main_v80 main_v81 ((fun l r => Host.dotGeneral dot_S16384x1024_S1024x4096_S16384x4096_1_0_0_1_n_n none l r) : (⟨S16384x1024, .f32⟩ : BufTy).Contents (Elt F) → (⟨S1024x4096, .f32⟩ : BufTy).Contents (Elt F) → (⟨S16384x4096, .f32⟩ : BufTy).Contents (Elt F)),
    binary main_v78 main_v81 main_v82 (mulf : (⟨S16384x4096, .f32⟩ : BufTy).Contents (Elt F) → (⟨S16384x4096, .f32⟩ : BufTy).Contents (Elt F) → (⟨S16384x4096, .f32⟩ : BufTy).Contents (Elt F)),
    binary main_v64 main_v82 main_v83 (addf : (⟨S16384x4096, .f32⟩ : BufTy).Contents (Elt F) → (⟨S16384x4096, .f32⟩ : BufTy).Contents (Elt F) → (⟨S16384x4096, .f32⟩ : BufTy).Contents (Elt F)),
    binary main_v83 main_v8 main_v84 ((fun l r => Host.dotGeneral dot_S16384x4096_S4096x4096_S16384x4096_1_0_0_1_n_n none l r) : (⟨S16384x4096, .f32⟩ : BufTy).Contents (Elt F) → (⟨S4096x4096, .f32⟩ : BufTy).Contents (Elt F) → (⟨S16384x4096, .f32⟩ : BufTy).Contents (Elt F)),
    unary main_v84 main_v85 ((truncf .bf16 · bitsLt_bf16_f32) : (⟨S16384x4096, .f32⟩ : BufTy).Contents (Elt F) → (⟨S16384x4096, .bf16⟩ : BufTy).Contents (Elt F)) ]

set_option maxHeartbeats 4000000 in
/-- The program is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches the core's own references only. -/
theorem ops_sub : (ops : List (HloOp τ sig (Elt F))).Forall fun op => op.bufs ⊆ tcRefs τ sig :=
  ⟨unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub .., binary_bufs_sub .., binary_bufs_sub .., binary_bufs_sub .., binary_bufs_sub .., unary_bufs_sub ..⟩

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results
theorem arg4_eq (V : Valuation τ sig (Elt F)) : after ops V (main_arg4 : DevRef τ sig) = V (main_arg4 : DevRef τ sig) := by
  after_results
theorem arg5_eq (V : Valuation τ sig (Elt F)) : after ops V (main_arg5 : DevRef τ sig) = V (main_arg5 : DevRef τ sig) := by
  after_results
theorem arg6_eq (V : Valuation τ sig (Elt F)) : after ops V (main_arg6 : DevRef τ sig) = V (main_arg6 : DevRef τ sig) := by
  after_results
theorem arg7_eq (V : Valuation τ sig (Elt F)) : after ops V (main_arg7 : DevRef τ sig) = V (main_arg7 : DevRef τ sig) := by
  after_results
theorem arg8_eq (V : Valuation τ sig (Elt F)) : after ops V (main_arg8 : DevRef τ sig) = V (main_arg8 : DevRef τ sig) := by
  after_results

end

set_option maxHeartbeats 4000000 in
/-- The last buffer holds the result. -/
theorem out_eq (V : Valuation τ sig (Elt Ideal)) :
    after ops V (main_v85 : DevRef τ sig) = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  after_results
  rfl

/-- Every run ends with the result in its buffer and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r =>
      ∀ c : Dev nD,
        r.2.mem ((c.tc : Thread nD τ).loc main_v85) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) ∧
        r.2.mem ((c.tc : Thread nD τ).loc main_arg0) = m ((c.tc : Thread nD τ).loc main_arg0) ∧
        r.2.mem ((c.tc : Thread nD τ).loc main_arg1) = m ((c.tc : Thread nD τ).loc main_arg1) ∧
        r.2.mem ((c.tc : Thread nD τ).loc main_arg2) = m ((c.tc : Thread nD τ).loc main_arg2) ∧
        r.2.mem ((c.tc : Thread nD τ).loc main_arg3) = m ((c.tc : Thread nD τ).loc main_arg3) ∧
        r.2.mem ((c.tc : Thread nD τ).loc main_arg4) = m ((c.tc : Thread nD τ).loc main_arg4) ∧
        r.2.mem ((c.tc : Thread nD τ).loc main_arg5) = m ((c.tc : Thread nD τ).loc main_arg5) ∧
        r.2.mem ((c.tc : Thread nD τ).loc main_arg6) = m ((c.tc : Thread nD τ).loc main_arg6) ∧
        r.2.mem ((c.tc : Thread nD τ).loc main_arg7) = m ((c.tc : Thread nD τ).loc main_arg7) ∧
        r.2.mem ((c.tc : Thread nD τ).loc main_arg8) = m ((c.tc : Thread nD τ).loc main_arg8) := by
  refine (θ_run _ _ _).mono (fun r h c => ⟨?_, ?_, ?_, ?_, ?_, ?_, ?_, ?_, ?_, ?_⟩)
    (run_seq scopedRefs_eq scopedSems_eq defs main (fun _ => ops) main_eq (fun _ => ops_sub) m ρ)
  · exact (h c main_v85).trans (out_eq _)
  · exact (h c main_arg0).trans (arg0_eq _)
  · exact (h c main_arg1).trans (arg1_eq _)
  · exact (h c main_arg2).trans (arg2_eq _)
  · exact (h c main_arg3).trans (arg3_eq _)
  · exact (h c main_arg4).trans (arg4_eq _)
  · exact (h c main_arg5).trans (arg5_eq _)
  · exact (h c main_arg6).trans (arg6_eq _)
  · exact (h c main_arg7).trans (arg7_eq _)
  · exact (h c main_arg8).trans (arg8_eq _)

/-- The semaphores rest at the end and the arguments are as they were. -/
theorem quiet (m : (ℓ : Loc nD τ sig) → Buf (Elt Ideal) ℓ) (ρ : Dev nD → PrngReg) :
    θ_run defs (onTc (τ := τ) (main (F := Ideal))) ⟨m, fun _ => 0, ρ⟩ fun r =>
      (∀ c : Dev nD,
        r.2.mem ((c.tc : Thread nD τ).loc main_arg0) = m ((c.tc : Thread nD τ).loc main_arg0) ∧
        r.2.mem ((c.tc : Thread nD τ).loc main_arg1) = m ((c.tc : Thread nD τ).loc main_arg1) ∧
        r.2.mem ((c.tc : Thread nD τ).loc main_arg2) = m ((c.tc : Thread nD τ).loc main_arg2) ∧
        r.2.mem ((c.tc : Thread nD τ).loc main_arg3) = m ((c.tc : Thread nD τ).loc main_arg3) ∧
        r.2.mem ((c.tc : Thread nD τ).loc main_arg4) = m ((c.tc : Thread nD τ).loc main_arg4) ∧
        r.2.mem ((c.tc : Thread nD τ).loc main_arg5) = m ((c.tc : Thread nD τ).loc main_arg5) ∧
        r.2.mem ((c.tc : Thread nD τ).loc main_arg6) = m ((c.tc : Thread nD τ).loc main_arg6) ∧
        r.2.mem ((c.tc : Thread nD τ).loc main_arg7) = m ((c.tc : Thread nD τ).loc main_arg7) ∧
        r.2.mem ((c.tc : Thread nD τ).loc main_arg8) = m ((c.tc : Thread nD τ).loc main_arg8)) ∧ r.2.sem = fun _ => 0 :=
  (θ_run _ _ _).mono (fun r h => ⟨fun c => (h c).2, Idealize.ShloMosaic.sem_eq_zero_of_no_sems (by decide) r.2⟩) (run m ρ)

theorem one_eq : Ideal.ofBits FTy.f32 0x3F800000#32 = (1 : EReal) := by
  simp [Ideal.ofBits, Ideal.ieee, -EReal.coe_mul]; try norm_num

theorem sigmoid_at (a : FVec Ideal S16384x4096 .f32) (i : Fin 16384) (j : Fin 4096) :
    sigmoid a (ix2 i j) = Ideal.logistic (a (ix2 i j)) := by
  have h : sigmoid a (ix2 i j) = Ideal.div (Ideal.ofBits FTy.f32 0x3F800000#32) (Ideal.ofBits FTy.f32 0x3F800000#32 + Ideal.exp (-(a (ix2 i j) : EReal))) := by
    unfold sigmoid
    pointwise
  rw [h, one_eq]
  rfl

theorem term0_at (p : FVec Ideal S16384x8192 .f32) (o : FVec Ideal S16384x1024 .f32) (wg : FVec Ideal S4x4x512x4096 .f32) (bg : FVec Ideal S4x4x4096 .f32)
    (wb : FVec Ideal S4x4x1024x4096 .f32) (i : Fin 16384) (j : Fin 4096) :
    term0 p o wg bg wb (ix2 i j)
      = Ideal.logistic ((∑ k : Fin 512, (p (ix2 i ⟨1024 + k.val, by omega⟩) : EReal) * wg (ix4 (0 : Fin 4) (0 : Fin 4) k j)) + bg (ix3 (0 : Fin 4) (0 : Fin 4) j))
        * ∑ k : Fin 1024, (o (ix2 i k) : EReal) * wb (ix4 (0 : Fin 4) (0 : Fin 4) k j) := by
  have h : term0 p o wg bg wb (ix2 i j)
      = (sigmoid (pre p (extractStridedSlice S1x512x4096 ![0, 0, 0] (gates wg) slices_S4x512x4096_S1x512x4096_0_0_0) (extractStridedSlice S1x4096 ![0, 0] (biases bg) slices_S4x4096_S1x4096_0_0)) (ix2 i j) : EReal)
        * branch o (extractStridedSlice S1x1024x4096 ![0, 0, 0] (weights wb) slices_S4x1024x4096_S1x1024x4096_0_0_0) (ix2 i j) := rfl
  have h1 : pre p (extractStridedSlice S1x512x4096 ![0, 0, 0] (gates wg) slices_S4x512x4096_S1x512x4096_0_0_0) (extractStridedSlice S1x4096 ![0, 0] (biases bg) slices_S4x4096_S1x4096_0_0) (ix2 i j)
      = (∑ k : Fin 512, (p (ix2 i ⟨1024 + k.val, by omega⟩) : EReal) * wg (ix4 (0 : Fin 4) (0 : Fin 4) k j)) + bg (ix3 (0 : Fin 4) (0 : Fin 4) j) := by
    unfold pre low gates biases
    pointwise
  have h2 : branch o (extractStridedSlice S1x1024x4096 ![0, 0, 0] (weights wb) slices_S4x1024x4096_S1x1024x4096_0_0_0) (ix2 i j)
      = ∑ k : Fin 1024, (o (ix2 i k) : EReal) * wb (ix4 (0 : Fin 4) (0 : Fin 4) k j) := by
    unfold branch weights
    pointwise
  rw [h, sigmoid_at, h1, h2]

theorem term1_at (p : FVec Ideal S16384x8192 .f32) (o : FVec Ideal S16384x1024 .f32) (wg : FVec Ideal S4x4x512x4096 .f32) (bg : FVec Ideal S4x4x4096 .f32)
    (wb : FVec Ideal S4x4x1024x4096 .f32) (i : Fin 16384) (j : Fin 4096) :
    term1 p o wg bg wb (ix2 i j)
      = Ideal.logistic ((∑ k : Fin 512, (p (ix2 i ⟨1024 + k.val, by omega⟩) : EReal) * wg (ix4 (0 : Fin 4) (1 : Fin 4) k j)) + bg (ix3 (0 : Fin 4) (1 : Fin 4) j))
        * ∑ k : Fin 1024, (o (ix2 i k) : EReal) * wb (ix4 (0 : Fin 4) (1 : Fin 4) k j) := by
  have h : term1 p o wg bg wb (ix2 i j)
      = (sigmoid (pre p (extractStridedSlice S1x512x4096 ![1, 0, 0] (gates wg) slices_S4x512x4096_S1x512x4096_1_0_0) (extractStridedSlice S1x4096 ![1, 0] (biases bg) slices_S4x4096_S1x4096_1_0)) (ix2 i j) : EReal)
        * branch o (extractStridedSlice S1x1024x4096 ![1, 0, 0] (weights wb) slices_S4x1024x4096_S1x1024x4096_1_0_0) (ix2 i j) := rfl
  have h1 : pre p (extractStridedSlice S1x512x4096 ![1, 0, 0] (gates wg) slices_S4x512x4096_S1x512x4096_1_0_0) (extractStridedSlice S1x4096 ![1, 0] (biases bg) slices_S4x4096_S1x4096_1_0) (ix2 i j)
      = (∑ k : Fin 512, (p (ix2 i ⟨1024 + k.val, by omega⟩) : EReal) * wg (ix4 (0 : Fin 4) (1 : Fin 4) k j)) + bg (ix3 (0 : Fin 4) (1 : Fin 4) j) := by
    unfold pre low gates biases
    pointwise
  have h2 : branch o (extractStridedSlice S1x1024x4096 ![1, 0, 0] (weights wb) slices_S4x1024x4096_S1x1024x4096_1_0_0) (ix2 i j)
      = ∑ k : Fin 1024, (o (ix2 i k) : EReal) * wb (ix4 (0 : Fin 4) (1 : Fin 4) k j) := by
    unfold branch weights
    pointwise
  rw [h, sigmoid_at, h1, h2]

theorem term2_at (p : FVec Ideal S16384x8192 .f32) (o : FVec Ideal S16384x1024 .f32) (wg : FVec Ideal S4x4x512x4096 .f32) (bg : FVec Ideal S4x4x4096 .f32)
    (wb : FVec Ideal S4x4x1024x4096 .f32) (i : Fin 16384) (j : Fin 4096) :
    term2 p o wg bg wb (ix2 i j)
      = Ideal.logistic ((∑ k : Fin 512, (p (ix2 i ⟨1024 + k.val, by omega⟩) : EReal) * wg (ix4 (0 : Fin 4) (2 : Fin 4) k j)) + bg (ix3 (0 : Fin 4) (2 : Fin 4) j))
        * ∑ k : Fin 1024, (o (ix2 i k) : EReal) * wb (ix4 (0 : Fin 4) (2 : Fin 4) k j) := by
  have h : term2 p o wg bg wb (ix2 i j)
      = (sigmoid (pre p (extractStridedSlice S1x512x4096 ![2, 0, 0] (gates wg) slices_S4x512x4096_S1x512x4096_2_0_0) (extractStridedSlice S1x4096 ![2, 0] (biases bg) slices_S4x4096_S1x4096_2_0)) (ix2 i j) : EReal)
        * branch o (extractStridedSlice S1x1024x4096 ![2, 0, 0] (weights wb) slices_S4x1024x4096_S1x1024x4096_2_0_0) (ix2 i j) := rfl
  have h1 : pre p (extractStridedSlice S1x512x4096 ![2, 0, 0] (gates wg) slices_S4x512x4096_S1x512x4096_2_0_0) (extractStridedSlice S1x4096 ![2, 0] (biases bg) slices_S4x4096_S1x4096_2_0) (ix2 i j)
      = (∑ k : Fin 512, (p (ix2 i ⟨1024 + k.val, by omega⟩) : EReal) * wg (ix4 (0 : Fin 4) (2 : Fin 4) k j)) + bg (ix3 (0 : Fin 4) (2 : Fin 4) j) := by
    unfold pre low gates biases
    pointwise
  have h2 : branch o (extractStridedSlice S1x1024x4096 ![2, 0, 0] (weights wb) slices_S4x1024x4096_S1x1024x4096_2_0_0) (ix2 i j)
      = ∑ k : Fin 1024, (o (ix2 i k) : EReal) * wb (ix4 (0 : Fin 4) (2 : Fin 4) k j) := by
    unfold branch weights
    pointwise
  rw [h, sigmoid_at, h1, h2]

theorem term3_at (p : FVec Ideal S16384x8192 .f32) (o : FVec Ideal S16384x1024 .f32) (wg : FVec Ideal S4x4x512x4096 .f32) (bg : FVec Ideal S4x4x4096 .f32)
    (wb : FVec Ideal S4x4x1024x4096 .f32) (i : Fin 16384) (j : Fin 4096) :
    term3 p o wg bg wb (ix2 i j)
      = Ideal.logistic ((∑ k : Fin 512, (p (ix2 i ⟨1024 + k.val, by omega⟩) : EReal) * wg (ix4 (0 : Fin 4) (3 : Fin 4) k j)) + bg (ix3 (0 : Fin 4) (3 : Fin 4) j))
        * ∑ k : Fin 1024, (o (ix2 i k) : EReal) * wb (ix4 (0 : Fin 4) (3 : Fin 4) k j) := by
  have h : term3 p o wg bg wb (ix2 i j)
      = (sigmoid (pre p (extractStridedSlice S1x512x4096 ![3, 0, 0] (gates wg) slices_S4x512x4096_S1x512x4096_3_0_0) (extractStridedSlice S1x4096 ![3, 0] (biases bg) slices_S4x4096_S1x4096_3_0)) (ix2 i j) : EReal)
        * branch o (extractStridedSlice S1x1024x4096 ![3, 0, 0] (weights wb) slices_S4x1024x4096_S1x1024x4096_3_0_0) (ix2 i j) := rfl
  have h1 : pre p (extractStridedSlice S1x512x4096 ![3, 0, 0] (gates wg) slices_S4x512x4096_S1x512x4096_3_0_0) (extractStridedSlice S1x4096 ![3, 0] (biases bg) slices_S4x4096_S1x4096_3_0) (ix2 i j)
      = (∑ k : Fin 512, (p (ix2 i ⟨1024 + k.val, by omega⟩) : EReal) * wg (ix4 (0 : Fin 4) (3 : Fin 4) k j)) + bg (ix3 (0 : Fin 4) (3 : Fin 4) j) := by
    unfold pre low gates biases
    pointwise
  have h2 : branch o (extractStridedSlice S1x1024x4096 ![3, 0, 0] (weights wb) slices_S4x1024x4096_S1x1024x4096_3_0_0) (ix2 i j)
      = ∑ k : Fin 1024, (o (ix2 i k) : EReal) * wb (ix4 (0 : Fin 4) (3 : Fin 4) k j) := by
    unfold branch weights
    pointwise
  rw [h, sigmoid_at, h1, h2]

/-- The output product, at an element. -/
theorem out_at (p : FVec Ideal S16384x8192 .f32) (oa ob oc od : FVec Ideal S16384x1024 .f32) (wg : FVec Ideal S4x4x512x4096 .f32) (bg : FVec Ideal S4x4x4096 .f32)
    (wb : FVec Ideal S4x4x1024x4096 .f32) (wo : FVec Ideal S4x4096x4096 .f32) (i : Fin 16384) (j : Fin 4096) :
    out p oa ob oc od wg bg wb wo (ix2 i j) = ∑ k : Fin 4096, (merged p oa ob oc od wg bg wb (ix2 i k) : EReal) * wo (ix3 (0 : Fin 4) k j) := by
  unfold out outer
  pointwise

end Cert.MixReferenceIdeal.Ref

end
-- ==== Proof.MSame.lean ====
/- The merge's result is its reference's. -/
module

public import proofs.«01_k».proof.Proof.MI.Val
public import proofs.«01_k».proof.Proof.MR.Run

@[expose] public section

set_option maxRecDepth 16384

noncomputable section

namespace Cert.MixIdeal.Mix

open Idealize.ShloMosaic Idealize.ShloMosaic.TcCoe Idealize.SL.Sem
open Cert.MixIdeal.Gen

variable (m : (ℓ : Loc nD τ sig) → Buf (Elt Ideal) ℓ) (c : Dev nD)

/-- The merged branches are the reference's. -/
theorem merged_same (r : Fin 16384) (s : Fin 4096) : (M m c (ix2 r s) : EReal) = Cert.MixReferenceIdeal.Ref.merged (ap c m) (aa c m) (ab c m) (ac c m) (ad c m) (ag c m) (ah c m) (aw c m) (ix2 r s) := by
  refine Eq.trans ?_ (sum_of (Cert.MixReferenceIdeal.Ref.term0_at (ap c m) (aa c m) (ag c m) (ah c m) (aw c m) r s) (Cert.MixReferenceIdeal.Ref.term1_at (ap c m) (ab c m) (ag c m) (ah c m) (aw c m) r s)
    (Cert.MixReferenceIdeal.Ref.term2_at (ap c m) (ac c m) (ag c m) (ah c m) (aw c m) r s) (Cert.MixReferenceIdeal.Ref.term3_at (ap c m) (ad c m) (ag c m) (ah c m) (aw c m) r s)).symm
  exact sum_of (gated_of (fun _ => rfl) (fun _ => rfl) (bias_at c m 0 s) (fun _ => rfl) (fun _ => rfl)) (gated_of (fun _ => rfl) (fun _ => rfl) (bias_at c m 1 s) (fun _ => rfl) (fun _ => rfl))
    (gated_of (fun _ => rfl) (fun _ => rfl) (bias_at c m 2 s) (fun _ => rfl) (fun _ => rfl)) (gated_of (fun _ => rfl) (fun _ => rfl) (bias_at c m 3 s) (fun _ => rfl) (fun _ => rfl))

theorem same : G m c = Cert.MixReferenceIdeal.Ref.out (ap c m) (aa c m) (ab c m) (ac c m) (ad c m) (ag c m) (ah c m) (aw c m) (ao c m) := by
  funext i
  obtain ⟨r, s, rfl⟩ : ∃ (r : Fin 16384) (s : Fin 4096), i = ix2 r s := ⟨i 0, i 1, idx_two i⟩
  refine Eq.trans ?_ (Cert.MixReferenceIdeal.Ref.out_at (ap c m) (aa c m) (ab c m) (ac c m) (ad c m) (ag c m) (ah c m) (aw c m) (ao c m) r s).symm
  exact Finset.sum_congr rfl fun k _ => mul_of (c := ao c m (ix3 (0 : Fin 4) k s)) (d := ao c m (ix3 (0 : Fin 4) k s)) (merged_same m c r k) rfl

end Cert.MixIdeal.Mix

end
-- ==== Proof.PI.Run.lean ====
/- The input products: every execution ends at rest, with the calls' arrays in the results. -/
module

public import proofs.«01_k».proof.Proof.Gen.ProjIdeal.Frame

@[expose] public section

set_option maxRecDepth 16384

noncomputable section

namespace Cert.ProjIdeal.Prod

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the results, the arguments unchanged and the semaphores at rest. -/
theorem run_end : θ_run defs (onTc (τ := τ) (main (F := F))) ⟨m, fun _ => 0, ρ⟩ (fun r => (∀ c : Dev nD,
      r.2.mem ((c.tc : Thread nD τ).loc main_v17) = W4 m ρ c (Proc.devRef .tc main_v17)
      ∧ r.2.mem ((c.tc : Thread nD τ).loc main_v22) = W4 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v17 (by decide)), h c _ (mem_uc main_v22 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩), funext fun g => hz g (.inr (no_unscoped g.2))⟩)

end Cert.ProjIdeal.Prod

end
-- ==== Proof.PI.Val.lean ====
/- What the input products leave in their result arrays, from the arrays they read. -/
module

public import proofs.«01_k».proof.Proof.PI.Run
public import Idealize.ShloMosaic.Lib.Claim
public import Idealize.ShloMosaic.Lib.Pointwise
public import Idealize.ShloMosaic.Lib.Pipeline.Value
public import Idealize.ShloMosaic.Lib.Pipeline.ValueKit

@[expose] public section

set_option maxRecDepth 16384

noncomputable section

namespace Cert.ProjIdeal.Prod

open Idealize.ShloMosaic Idealize.ShloMosaic.TcCoe Idealize.ShloMosaic.Tactic Idealize.SL.Sem
open Cert.ProjIdeal.Gen

variable (V : (c : Dev nD) → (b : Ref sig .tc) → Buf (Elt Ideal) ((c : Thread nD τ).loc b)) (c : Dev nD)

/-- The first call's result. -/
def wide (a : Vec Ideal S16384x4096 .bf16) (w : Vec Ideal S4096x8192 .bf16) (s : Vec Ideal S1x8192 .f32) : Vec Ideal S16384x8192 .bf16 := fun i =>
  (∑ k : Fin 4096, (a (ix2 (i 0) k) : EReal) * w (ix2 k (i 1))) * s (ix2 (0 : Fin 1) (i 1))
/-- The second call's result. -/
def narrow (a : Vec Ideal S16384x4096 .bf16) (w : Vec Ideal S4096x3072 .bf16) (s : Vec Ideal S1x3072 .f32) : Vec Ideal S16384x3072 .f32 := fun i =>
  (∑ k : Fin 4096, (a (ix2 (i 0) k) : EReal) * w (ix2 k (i 1))) * s (ix2 (0 : Fin 1) (i 1))

theorem mul_of {a b c d : EReal} (h : a = b) (h' : c = d) : a * c = b * d := by rw [h, h']

theorem idx_two {n k : ℕ} (y : (⟨2, ![n, k]⟩ : Shape).Idx) : y = ix2 (y 0 : Fin n) (y 1 : Fin k) := by
  funext a
  match a with
  | ⟨0, _⟩ => rfl
  | ⟨1, _⟩ => rfl

theorem hidx0 : ∀ t : Fin grid0.N, win0_0.index t 0 = t.val % 16 ∧ win0_0.index t 1 = 0
    ∧ win0_1.index t 0 = 0 ∧ win0_1.index t 1 = t.val / 16
    ∧ win0_2.index t 0 = 0 ∧ win0_2.index t 1 = t.val / 16
    ∧ win0_3.index t 0 = t.val % 16 ∧ win0_3.index t 1 = t.val / 16 := by decide +kernel
/-- The first call's block, at an element. -/
theorem pay0 (x0 : Vec Ideal S1024x4096 .bf16) (x1 : Vec Ideal S4096x1024 .bf16) (x2 : Vec Ideal S1x1024 .f32) (p q : Fin 1024) :
    k0_pay1 x0 x1 x2 (ix2 p q) = (∑ k : Fin 4096, (x0 (ix2 p k) : EReal) * x1 (ix2 k q)) * x2 (ix2 (0 : Fin 1) q) := by
  unfold k0_pay1
  pointwise
theorem hidx1 : ∀ t : Fin grid1.N, win1_0.index t 0 = t.val % 16 ∧ win1_0.index t 1 = 0
    ∧ win1_1.index t 0 = 0 ∧ win1_1.index t 1 = t.val / 16
    ∧ win1_2.index t 0 = 0 ∧ win1_2.index t 1 = t.val / 16
    ∧ win1_3.index t 0 = t.val % 16 ∧ win1_3.index t 1 = t.val / 16 := by decide +kernel
/-- The second call's block, at an element. -/
theorem pay1 (x0 : Vec Ideal S1024x4096 .bf16) (x1 : Vec Ideal S4096x1024 .bf16) (x2 : Vec Ideal S1x1024 .f32) (p q : Fin 1024) :
    k1_pay1 x0 x1 x2 (ix2 p q) = (∑ k : Fin 4096, (x0 (ix2 p k) : EReal) * x1 (ix2 k q)) * x2 (ix2 (0 : Fin 1) q) := by
  unfold k1_pay1
  pointwise
theorem h0_at (t : Fin grid0.N) (p : Fin 1024) (k : Fin 4096) (R : Fin 16384) (hR : R.val = t.val % 16 * 1024 + p.val) :
    iblk0 V c 0 t (ix2 p k) = V c main_v0 (ix2 R k) := by
  have e := hidx0 t
  show V c main_v0 _ = _
  congr 1; funext a; apply Fin.ext
  match a with
  | ⟨0, _⟩ => show win0_0.index t 0 * 1024 + 1 * p.val = R.val; rw [e.1, hR]; ring
  | ⟨1, _⟩ => show win0_0.index t 1 * 4096 + 1 * k.val = k.val; rw [e.2.1]; ring
theorem w0_at (t : Fin grid0.N) (k : Fin 4096) (q : Fin 1024) (C : Fin 8192) (hC : C.val = t.val / 16 * 1024 + q.val) :
    iblk0 V c 1 t (ix2 k q) = V c main_v15 (ix2 k C) := by
  obtain ⟨_, _, e0, e1, _⟩ := hidx0 t
  show V c main_v15 _ = _
  congr 1; funext a; apply Fin.ext
  match a with
  | ⟨0, _⟩ => show win0_1.index t 0 * 4096 + 1 * k.val = k.val; rw [e0]; ring
  | ⟨1, _⟩ => show win0_1.index t 1 * 1024 + 1 * q.val = C.val; rw [e1, hC]; ring
theorem s0_at (t : Fin grid0.N) (q : Fin 1024) (C : Fin 8192) (hC : C.val = t.val / 16 * 1024 + q.val) :
    iblk0 V c 2 t (ix2 (0 : Fin 1) q) = V c main_v16 (ix2 (0 : Fin 1) C) := by
  obtain ⟨_, _, _, _, e0, e1, _⟩ := hidx0 t
  show V c main_v16 _ = _
  congr 1; funext a; apply Fin.ext
  match a with
  | ⟨0, _⟩ => show win0_2.index t 0 * 1 + 1 * 0 = 0; rw [e0]
  | ⟨1, _⟩ => show win0_2.index t 1 * 1024 + 1 * q.val = C.val; rw [e1, hC]; ring
/-- The first call's result array. -/
theorem wide_eq : (dat0 V c).arrAt 3 cfg0.N = wide (V c main_v0) (V c main_v15) (V c main_v16) := by
  refine (dat0 V c).arrAt_eq_of_covers 3 _ (by decide +kernel) fun t hf y => ?_
  blk_simp
  rw [after0_3]
  frame_out
  obtain ⟨p, q, rfl⟩ : ∃ (p : Fin 1024) (q : Fin 1024), y = ix2 p q := ⟨y 0, y 1, idx_two y⟩
  obtain ⟨_, _, _, _, _, _, e0, e1⟩ := hidx0 t
  have ht : t.val < 128 := lt_of_lt_of_eq t.isLt N_0
  have hp := p.isLt; have hq := q.isLt
  have hi : ((View.whole main_v17).slice (win0_3.rect t)).emb (ix2 p q)
      = ix2 (⟨t.val % 16 * 1024 + p.val, by omega⟩ : Fin 16384) (⟨t.val / 16 * 1024 + q.val, by omega⟩ : Fin 8192) := by
    funext a; apply Fin.ext
    match a with
    | ⟨0, _⟩ => show win0_3.index t 0 * 1024 + 1 * p.val = t.val % 16 * 1024 + p.val; rw [e0]; ring
    | ⟨1, _⟩ => show win0_3.index t 1 * 1024 + 1 * q.val = t.val / 16 * 1024 + q.val; rw [e1]; ring
  rw [hi]
  refine (pay0 _ _ _ p q).trans ?_
  exact mul_of (Finset.sum_congr rfl fun k _ => mul_of (h0_at V c t p k _ rfl) (w0_at V c t k q _ rfl)) (s0_at V c t q _ rfl)

theorem h1_at (t : Fin grid1.N) (p : Fin 1024) (k : Fin 4096) (R : Fin 16384) (hR : R.val = t.val % 16 * 1024 + p.val) :
    iblk1 V c 0 t (ix2 p k) = V c main_v0 (ix2 R k) := by
  have e := hidx1 t
  show V c main_v0 _ = _
  congr 1; funext a; apply Fin.ext
  match a with
  | ⟨0, _⟩ => show win1_0.index t 0 * 1024 + 1 * p.val = R.val; rw [e.1, hR]; ring
  | ⟨1, _⟩ => show win1_0.index t 1 * 4096 + 1 * k.val = k.val; rw [e.2.1]; ring
theorem w1_at (t : Fin grid1.N) (k : Fin 4096) (q : Fin 1024) (C : Fin 3072) (hC : C.val = t.val / 16 * 1024 + q.val) :
    iblk1 V c 1 t (ix2 k q) = V c main_v19 (ix2 k C) := by
  obtain ⟨_, _, e0, e1, _⟩ := hidx1 t
  show V c main_v19 _ = _
  congr 1; funext a; apply Fin.ext
  match a with
  | ⟨0, _⟩ => show win1_1.index t 0 * 4096 + 1 * k.val = k.val; rw [e0]; ring
  | ⟨1, _⟩ => show win1_1.index t 1 * 1024 + 1 * q.val = C.val; rw [e1, hC]; ring
theorem s1_at (t : Fin grid1.N) (q : Fin 1024) (C : Fin 3072) (hC : C.val = t.val / 16 * 1024 + q.val) :
    iblk1 V c 2 t (ix2 (0 : Fin 1) q) = V c main_v21 (ix2 (0 : Fin 1) C) := by
  obtain ⟨_, _, _, _, e0, e1, _⟩ := hidx1 t
  show V c main_v21 _ = _
  congr 1; funext a; apply Fin.ext
  match a with
  | ⟨0, _⟩ => show win1_2.index t 0 * 1 + 1 * 0 = 0; rw [e0]
  | ⟨1, _⟩ => show win1_2.index t 1 * 1024 + 1 * q.val = C.val; rw [e1, hC]; ring
/-- The second call's result array. -/
theorem narrow_eq : (dat1 V c).arrAt 3 cfg1.N = narrow (V c main_v0) (V c main_v19) (V c main_v21) := by
  refine (dat1 V c).arrAt_eq_of_covers 3 _ (by decide +kernel) fun t hf y => ?_
  blk_simp
  rw [after1_3]
  frame_out
  obtain ⟨p, q, rfl⟩ : ∃ (p : Fin 1024) (q : Fin 1024), y = ix2 p q := ⟨y 0, y 1, idx_two y⟩
  obtain ⟨_, _, _, _, _, _, e0, e1⟩ := hidx1 t
  have ht : t.val < 48 := lt_of_lt_of_eq t.isLt N_1
  have hp := p.isLt; have hq := q.isLt
  have hi : ((View.whole main_v22).slice (win1_3.rect t)).emb (ix2 p q)
      = ix2 (⟨t.val % 16 * 1024 + p.val, by omega⟩ : Fin 16384) (⟨t.val / 16 * 1024 + q.val, by omega⟩ : Fin 3072) := by
    funext a; apply Fin.ext
    match a with
    | ⟨0, _⟩ => show win1_3.index t 0 * 1024 + 1 * p.val = t.val % 16 * 1024 + p.val; rw [e0]; ring
    | ⟨1, _⟩ => show win1_3.index t 1 * 1024 + 1 * q.val = t.val / 16 * 1024 + q.val; rw [e1]; ring
  rw [hi]
  refine (pay1 _ _ _ p q).trans ?_
  exact mul_of (Finset.sum_congr rfl fun k _ => mul_of (h1_at V c t p k _ rfl) (w1_at V c t k q _ rfl)) (s1_at V c t q _ rfl)

/-! ## The launch -/

/-- The columns' order. -/
def col (j : Fin 8192) : Fin 11264 :=
  ⟨if j.val < 1024 then 3072 + j.val else if j.val < 1536 then 10752 + (j.val - 1024) else if j.val < 4608 then j.val - 1536 else
    if j.val < 5120 then j.val - 512 else if j.val < 7168 then j.val + 512 else j.val - 2560, by split_ifs <;> omega⟩

/-- The columns in that order. -/
def cat (x : FVec Ideal S4096x11264 .f32) : FVec Ideal S4096x8192 .f32 :=
  concatenate S4096x8192 1
    [⟨S4096x1024, extractStridedSlice S4096x1024 ![0, 3072] x slices_S4096x11264_S4096x1024_0_3072⟩,
     ⟨S4096x512, extractStridedSlice S4096x512 ![0, 10752] x slices_S4096x11264_S4096x512_0_10752⟩,
     ⟨S4096x1024, extractStridedSlice S4096x1024 ![0, 0] x slices_S4096x11264_S4096x1024_0_0⟩,
     ⟨S4096x1024, extractStridedSlice S4096x1024 ![0, 1024] x slices_S4096x11264_S4096x1024_0_1024⟩,
     ⟨S4096x1024, extractStridedSlice S4096x1024 ![0, 2048] x slices_S4096x11264_S4096x1024_0_2048⟩,
     ⟨S4096x256, extractStridedSlice S4096x256 ![0, 4096] x slices_S4096x11264_S4096x256_0_4096⟩,
     ⟨S4096x256, extractStridedSlice S4096x256 ![0, 4352] x slices_S4096x11264_S4096x256_0_4352⟩,
     ⟨S4096x1024, extractStridedSlice S4096x1024 ![0, 5632] x slices_S4096x11264_S4096x1024_0_5632⟩,
     ⟨S4096x1024, extractStridedSlice S4096x1024 ![0, 6656] x slices_S4096x11264_S4096x1024_0_6656⟩,
     ⟨S4096x512, extractStridedSlice S4096x512 ![0, 4608] x slices_S4096x11264_S4096x512_0_4608⟩,
     ⟨S4096x512, extractStridedSlice S4096x512 ![0, 5120] x slices_S4096x11264_S4096x512_0_5120⟩]
    concatenates_S4096x1024_S4096x512_S4096x1024_S4096x1024_S4096x1024_S4096x256_S4096x256_S4096x1024_S4096x1024_S4096x512_S4096x512_S4096x8192_d1

set_option maxHeartbeats 4000000 in
theorem cat_at (x : FVec Ideal S4096x11264 .f32) (i : Fin 4096) (j : Fin 8192) : cat x (ix2 i j) = x (ix2 i (col j)) := by
  have e : cat x (ix2 i j) = if h : j.val < 1024 then x (ix2 i (⟨3072 + j.val, by omega⟩ : Fin 11264)) else
      if h : j.val - 1024 < 512 then x (ix2 i (⟨10752 + (j.val - 1024), by omega⟩ : Fin 11264)) else
      if h : j.val - 1024 - 512 < 1024 then x (ix2 i (⟨j.val - 1024 - 512, by omega⟩ : Fin 11264)) else
      if h : j.val - 1024 - 512 - 1024 < 1024 then x (ix2 i (⟨1024 + (j.val - 1024 - 512 - 1024), by omega⟩ : Fin 11264)) else
      if h : j.val - 1024 - 512 - 1024 - 1024 < 1024 then x (ix2 i (⟨2048 + (j.val - 1024 - 512 - 1024 - 1024), by omega⟩ : Fin 11264)) else
      if h : j.val - 1024 - 512 - 1024 - 1024 - 1024 < 256 then x (ix2 i (⟨4096 + (j.val - 1024 - 512 - 1024 - 1024 - 1024), by omega⟩ : Fin 11264)) else
      if h : j.val - 1024 - 512 - 1024 - 1024 - 1024 - 256 < 256 then x (ix2 i (⟨4352 + (j.val - 1024 - 512 - 1024 - 1024 - 1024 - 256), by omega⟩ : Fin 11264)) else
      if h : j.val - 1024 - 512 - 1024 - 1024 - 1024 - 256 - 256 < 1024 then x (ix2 i (⟨5632 + (j.val - 1024 - 512 - 1024 - 1024 - 1024 - 256 - 256), by omega⟩ : Fin 11264)) else
      if h : j.val - 1024 - 512 - 1024 - 1024 - 1024 - 256 - 256 - 1024 < 1024 then x (ix2 i (⟨6656 + (j.val - 1024 - 512 - 1024 - 1024 - 1024 - 256 - 256 - 1024), by omega⟩ : Fin 11264)) else
      if h : j.val - 1024 - 512 - 1024 - 1024 - 1024 - 256 - 256 - 1024 - 1024 < 512 then x (ix2 i (⟨4608 + (j.val - 1024 - 512 - 1024 - 1024 - 1024 - 256 - 256 - 1024 - 1024), by omega⟩ : Fin 11264)) else
      x (ix2 i (⟨5120 + (j.val - 1024 - 512 - 1024 - 1024 - 1024 - 256 - 256 - 1024 - 1024 - 512), by omega⟩ : Fin 11264)) := by
    unfold cat
    pointwise
  rw [e]
  have hc : ∀ (u : ℕ) (hu : u < 11264), u = (col j).val → x (ix2 i (⟨u, hu⟩ : Fin 11264)) = x (ix2 i (col j)) := by
    intro u hu he; subst he; rfl
  have hj := j.isLt
  have hv : (col j).val = if j.val < 1024 then 3072 + j.val else if j.val < 1536 then 10752 + (j.val - 1024) else if j.val < 4608 then j.val - 1536 else
    if j.val < 5120 then j.val - 512 else if j.val < 7168 then j.val + 512 else j.val - 2560 := rfl
  by_cases h0 : j.val < 1024
  · rw [dif_pos h0]; apply hc; rw [hv]; split_ifs <;> omega
  rw [dif_neg h0]
  by_cases h1 : j.val - 1024 < 512
  · rw [dif_pos h1]; apply hc; rw [hv]; split_ifs <;> omega
  rw [dif_neg h1]
  by_cases h2 : j.val - 1024 - 512 < 1024
  · rw [dif_pos h2]; apply hc; rw [hv]; split_ifs <;> omega
  rw [dif_neg h2]
  by_cases h3 : j.val - 1024 - 512 - 1024 < 1024
  · rw [dif_pos h3]; apply hc; rw [hv]; split_ifs <;> omega
  rw [dif_neg h3]
  by_cases h4 : j.val - 1024 - 512 - 1024 - 1024 < 1024
  · rw [dif_pos h4]; apply hc; rw [hv]; split_ifs <;> omega
  rw [dif_neg h4]
  by_cases h5 : j.val - 1024 - 512 - 1024 - 1024 - 1024 < 256
  · rw [dif_pos h5]; apply hc; rw [hv]; split_ifs <;> omega
  rw [dif_neg h5]
  by_cases h6 : j.val - 1024 - 512 - 1024 - 1024 - 1024 - 256 < 256
  · rw [dif_pos h6]; apply hc; rw [hv]; split_ifs <;> omega
  rw [dif_neg h6]
  by_cases h7 : j.val - 1024 - 512 - 1024 - 1024 - 1024 - 256 - 256 < 1024
  · rw [dif_pos h7]; apply hc; rw [hv]; split_ifs <;> omega
  rw [dif_neg h7]
  by_cases h8 : j.val - 1024 - 512 - 1024 - 1024 - 1024 - 256 - 256 - 1024 < 1024
  · rw [dif_pos h8]; apply hc; rw [hv]; split_ifs <;> omega
  rw [dif_neg h8]
  by_cases h9 : j.val - 1024 - 512 - 1024 - 1024 - 1024 - 256 - 256 - 1024 - 1024 < 512
  · rw [dif_pos h9]; apply hc; rw [hv]; split_ifs <;> omega
  rw [dif_neg h9]
  apply hc; rw [hv]; split_ifs <;> omega

section
variable (m : (ℓ : Loc nD τ sig) → Buf (Elt Ideal) ℓ) (ρ : Dev nD → PrngReg)

/-- The program's arguments. -/
def ah : FVec Ideal S16384x4096 .f32 := m ((c.tc : Thread nD τ).loc main_arg0)
def aw : FVec Ideal S4x4096x11264 .f32 := m ((c.tc : Thread nD τ).loc main_arg1)
def ac : FVec Ideal S8192 .f32 := m ((c.tc : Thread nD τ).loc main_arg2)
/-- The first layer's weights. -/
def wl : FVec Ideal S4096x11264 .f32 :=
  shapeCast S4096x11264 (extractStridedSlice S1x4096x11264 ![0, 0, 0] (aw c m) slices_S4x4096x11264_S1x4096x11264_0_0_0) shapeCasts_S1x4096x11264_S4096x11264
theorem wl_at (k : Fin 4096) (j : Fin 11264) : wl c m (ix2 k j) = aw c m (ix3 (0 : Fin 4) k j) := by
  unfold wl
  pointwise
/-- The scale as a row. -/
def row : FVec Ideal S1x8192 .f32 := shapeCast S1x8192 (ac c m) shapeCasts_S8192_S1x8192
theorem row_at (j : Fin 8192) : row c m (ix2 (0 : Fin 1) j) = ac c m (ix1 j) := by
  unfold row
  pointwise
/-- The weights of the second call. -/
def wh : FVec Ideal S4096x3072 .f32 := extractStridedSlice S4096x3072 ![0, 7680] (wl c m) slices_S4096x11264_S4096x3072_0_7680
theorem wh_at (k : Fin 4096) (j : Fin 3072) : wh c m (ix2 k j) = aw c m (ix3 (0 : Fin 4) k (⟨7680 + j.val, by omega⟩ : Fin 11264)) := by
  have e : wh c m (ix2 k j) = wl c m (ix2 k (⟨7680 + j.val, by omega⟩ : Fin 11264)) := by
    unfold wh
    pointwise
  rw [e, wl_at]

/-- The results, of the arguments. -/
def G0 (c : Dev nD) : Vec Ideal S16384x8192 .bf16 := fun i =>
  (∑ k : Fin 4096, (ah c m (ix2 (i 0) k) : EReal) * aw c m (ix3 (0 : Fin 4) k (col (i 1)))) * ac c m (ix1 (i 1 : Fin 8192))
def G1 (c : Dev nD) : Vec Ideal S16384x3072 .f32 := fun i =>
  ∑ k : Fin 4096, (ah c m (ix2 (i 0) k) : EReal) * wh c m (ix2 k (i 1))

theorem v0_eq : V1 m ρ c main_v0 = (truncf .bf16 (ah c m) bitsLt_bf16_f32 : FVec Ideal S16384x4096 .bf16) := by
  show StableHlo.after hostOps0 (W0 m ρ c) (Proc.devRef .tc main_v0) = _
  after_results; rfl
theorem v2_eq : V1 m ρ c main_v2 = wl c m := by
  show StableHlo.after hostOps0 (W0 m ρ c) (Proc.devRef .tc main_v2) = _
  after_results; rfl
set_option maxHeartbeats 4000000 in
theorem v15_eq : V1 m ρ c main_v15 = (truncf .bf16 (cat (wl c m)) bitsLt_bf16_f32 : FVec Ideal S4096x8192 .bf16) := by
  show StableHlo.after hostOps0 (W0 m ρ c) (Proc.devRef .tc main_v15) = _
  after_results; rfl
theorem v16_eq : V1 m ρ c main_v16 = row c m := by
  show StableHlo.after hostOps0 (W0 m ρ c) (Proc.devRef .tc main_v16) = _
  after_results; rfl
theorem u0_eq : V3 m ρ c main_v0 = (truncf .bf16 (ah c m) bitsLt_bf16_f32 : FVec Ideal S16384x4096 .bf16) :=
  (W3_of m ρ c main_v0 (by decide)).trans ((W2_of m ρ c main_v0 (by decide)).trans (v0_eq c m ρ))
theorem v19_eq : V3 m ρ c main_v19 = (truncf .bf16 (wh c m) bitsLt_bf16_f32 : FVec Ideal S4096x3072 .bf16) := by
  have h : V3 m ρ c main_v19 = (truncf .bf16 (extractStridedSlice S4096x3072 ![0, 7680] (W2 m ρ c (Proc.devRef .tc main_v2) : FVec Ideal S4096x11264 .f32) slices_S4096x11264_S4096x3072_0_7680) bitsLt_bf16_f32 : FVec Ideal S4096x3072 .bf16) := by
    show StableHlo.after hostOps1 (W2 m ρ c) (Proc.devRef .tc main_v19) = _
    after_results; try rfl
  rw [h, (W2_of m ρ c main_v2 (by decide)).trans (v2_eq c m ρ)]; rfl
theorem v21_eq (q : Fin 3072) : (V3 m ρ c main_v21 : Vec Ideal S1x3072 .f32) (ix2 (0 : Fin 1) q) = (1 : EReal) := by
  have h : V3 m ρ c main_v21 = (shapeCast S1x3072 (broadcastInDim S3072 ![] bcast_S_S3072 (constant (F := Ideal) S_ .f32 0x3F800000#32)) shapeCasts_S3072_S1x3072 : FVec Ideal S1x3072 .f32) := by
    show StableHlo.after hostOps1 (W2 m ρ c) (Proc.devRef .tc main_v21) = _
    after_results; try rfl
  have h1 : Ideal.ofBits FTy.f32 0x3F800000#32 = (1 : EReal) := by
    simp [Ideal.ofBits, Ideal.ieee, -EReal.coe_mul]; try norm_num
  rw [h]
  refine Eq.trans ?_ h1
  pointwise

/-- The result arrays after both calls. -/
theorem out0_eq : W4 m ρ c (Proc.devRef .tc main_v17) = G0 m c := by
  refine (W4_of m ρ c main_v17 (by decide)).trans ((W3_of m ρ c main_v17 (by decide)).trans ((W2_arr m ρ c 3).trans ((wide_eq (V1 m ρ) c).trans ?_)))
  rw [v0_eq, v15_eq, v16_eq]
  funext i
  exact mul_of (Finset.sum_congr rfl fun k _ => mul_of (b := ah c m (ix2 (i 0) k)) rfl ((cat_at (wl c m) k (i 1)).trans (wl_at c m k (col (i 1))))) (row_at c m (i 1))
theorem out1_eq : W4 m ρ c (Proc.devRef .tc main_v22) = G1 m c := by
  refine (W4_arr m ρ c 3).trans ((narrow_eq (V3 m ρ) c).trans ?_)
  rw [u0_eq, v19_eq]
  funext i
  exact (congrArg (fun x : EReal => (∑ k : Fin 4096, (ah c m (ix2 (i 0) k) : EReal) * wh c m (ix2 k (i 1))) * x) (v21_eq c m ρ (i 1))).trans (mul_one _)

/-- Every execution ends with the results in place and the arguments unchanged. -/
theorem value : θ_run defs (onTc (τ := τ) (main (F := Ideal))) ⟨m, fun _ => 0, ρ⟩ (fun r => ∀ c : Dev nD,
      r.2.mem ((c.tc : Thread nD τ).loc main_v17) = G0 m c
      ∧ r.2.mem ((c.tc : Thread nD τ).loc main_v22) = G1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1.trans (out0_eq c m ρ), (h.1 c).2.1.trans (out1_eq c m ρ), (h.1 c).2.2⟩) (run_end m ρ)

end

end Cert.ProjIdeal.Prod

end
-- ==== Proof.PR.Run.lean ====
/- The run of the input products' reference at the exact reals, and its results read at an index. -/
module

public import proofs.«01_k».proof.Proof.Gen.ProjReferenceIdeal
public import Idealize.ShloMosaic.Lib.Pointwise
public import Idealize.ShloMosaic.Lib.StableHlo.Run
public import Idealize.ShloMosaic.PureOps.Ideal
public import Idealize.ShloMosaic.PureOps.Ideal.Laws
public import Idealize.ShloMosaic.Lib.Quiescent

@[expose] public section

set_option maxRecDepth 16384

noncomputable section

namespace Cert.ProjReferenceIdeal.Ref

open Cert.ProjReferenceIdeal Cert.ProjReferenceIdeal.Gen
open Idealize.ShloMosaic Idealize.ShloMosaic.TcCoe Idealize.ShloMosaic.StableHlo Idealize.SL.Sem

/-- The product with the first layer's weights. -/
def full (h : FVec Ideal S16384x4096 .f32) (w : FVec Ideal S4x4096x11264 .f32) : FVec Ideal S16384x11264 .f32 :=
  Host.dotGeneral dot_S16384x4096_S4096x11264_S16384x11264_1_0_0_1_n_n none h
    (shapeCast S4096x11264 (extractStridedSlice S1x4096x11264 ![0, 0, 0] w slices_S4x4096x11264_S1x4096x11264_0_0_0) shapeCasts_S1x4096x11264_S4096x11264)
/-- The columns' order. -/
def col (j : Fin 8192) : Fin 11264 :=
  ⟨if j.val < 1024 then 3072 + j.val else if j.val < 1536 then 10752 + (j.val - 1024) else if j.val < 4608 then j.val - 1536 else
    if j.val < 5120 then j.val - 512 else if j.val < 7168 then j.val + 512 else j.val - 2560, by split_ifs <;> omega⟩

/-- The columns in that order. -/
def cat (x : FVec Ideal S16384x11264 .f32) : FVec Ideal S16384x8192 .f32 :=
  concatenate S16384x8192 1
    [⟨S16384x1024, extractStridedSlice S16384x1024 ![0, 3072] x slices_S16384x11264_S16384x1024_0_3072⟩,
     ⟨S16384x512, extractStridedSlice S16384x512 ![0, 10752] x slices_S16384x11264_S16384x512_0_10752⟩,
     ⟨S16384x1024, extractStridedSlice S16384x1024 ![0, 0] x slices_S16384x11264_S16384x1024_0_0⟩,
     ⟨S16384x1024, extractStridedSlice S16384x1024 ![0, 1024] x slices_S16384x11264_S16384x1024_0_1024⟩,
     ⟨S16384x1024, extractStridedSlice S16384x1024 ![0, 2048] x slices_S16384x11264_S16384x1024_0_2048⟩,
     ⟨S16384x256, extractStridedSlice S16384x256 ![0, 4096] x slices_S16384x11264_S16384x256_0_4096⟩,
     ⟨S16384x256, extractStridedSlice S16384x256 ![0, 4352] x slices_S16384x11264_S16384x256_0_4352⟩,
     ⟨S16384x1024, extractStridedSlice S16384x1024 ![0, 5632] x slices_S16384x11264_S16384x1024_0_5632⟩,
     ⟨S16384x1024, extractStridedSlice S16384x1024 ![0, 6656] x slices_S16384x11264_S16384x1024_0_6656⟩,
     ⟨S16384x512, extractStridedSlice S16384x512 ![0, 4608] x slices_S16384x11264_S16384x512_0_4608⟩,
     ⟨S16384x512, extractStridedSlice S16384x512 ![0, 5120] x slices_S16384x11264_S16384x512_0_5120⟩]
    concatenates_S16384x1024_S16384x512_S16384x1024_S16384x1024_S16384x1024_S16384x256_S16384x256_S16384x1024_S16384x1024_S16384x512_S16384x512_S16384x8192_d1

set_option maxHeartbeats 4000000 in
theorem cat_at (x : FVec Ideal S16384x11264 .f32) (i : Fin 16384) (j : Fin 8192) : cat x (ix2 i j) = x (ix2 i (col j)) := by
  have e : cat x (ix2 i j) = if h : j.val < 1024 then x (ix2 i (⟨3072 + j.val, by omega⟩ : Fin 11264)) else
      if h : j.val - 1024 < 512 then x (ix2 i (⟨10752 + (j.val - 1024), by omega⟩ : Fin 11264)) else
      if h : j.val - 1024 - 512 < 1024 then x (ix2 i (⟨j.val - 1024 - 512, by omega⟩ : Fin 11264)) else
      if h : j.val - 1024 - 512 - 1024 < 1024 then x (ix2 i (⟨1024 + (j.val - 1024 - 512 - 1024), by omega⟩ : Fin 11264)) else
      if h : j.val - 1024 - 512 - 1024 - 1024 < 1024 then x (ix2 i (⟨2048 + (j.val - 1024 - 512 - 1024 - 1024), by omega⟩ : Fin 11264)) else
      if h : j.val - 1024 - 512 - 1024 - 1024 - 1024 < 256 then x (ix2 i (⟨4096 + (j.val - 1024 - 512 - 1024 - 1024 - 1024), by omega⟩ : Fin 11264)) else
      if h : j.val - 1024 - 512 - 1024 - 1024 - 1024 - 256 < 256 then x (ix2 i (⟨4352 + (j.val - 1024 - 512 - 1024 - 1024 - 1024 - 256), by omega⟩ : Fin 11264)) else
      if h : j.val - 1024 - 512 - 1024 - 1024 - 1024 - 256 - 256 < 1024 then x (ix2 i (⟨5632 + (j.val - 1024 - 512 - 1024 - 1024 - 1024 - 256 - 256), by omega⟩ : Fin 11264)) else
      if h : j.val - 1024 - 512 - 1024 - 1024 - 1024 - 256 - 256 - 1024 < 1024 then x (ix2 i (⟨6656 + (j.val - 1024 - 512 - 1024 - 1024 - 1024 - 256 - 256 - 1024), by omega⟩ : Fin 11264)) else
      if h : j.val - 1024 - 512 - 1024 - 1024 - 1024 - 256 - 256 - 1024 - 1024 < 512 then x (ix2 i (⟨4608 + (j.val - 1024 - 512 - 1024 - 1024 - 1024 - 256 - 256 - 1024 - 1024), by omega⟩ : Fin 11264)) else
      x (ix2 i (⟨5120 + (j.val - 1024 - 512 - 1024 - 1024 - 1024 - 256 - 256 - 1024 - 1024 - 512), by omega⟩ : Fin 11264)) := by
    unfold cat
    pointwise
  rw [e]
  have hc : ∀ (u : ℕ) (hu : u < 11264), u = (col j).val → x (ix2 i (⟨u, hu⟩ : Fin 11264)) = x (ix2 i (col j)) := by
    intro u hu he; subst he; rfl
  have hj := j.isLt
  have hv : (col j).val = if j.val < 1024 then 3072 + j.val else if j.val < 1536 then 10752 + (j.val - 1024) else if j.val < 4608 then j.val - 1536 else
    if j.val < 5120 then j.val - 512 else if j.val < 7168 then j.val + 512 else j.val - 2560 := rfl
  by_cases h0 : j.val < 1024
  · rw [dif_pos h0]; apply hc; rw [hv]; split_ifs <;> omega
  rw [dif_neg h0]
  by_cases h1 : j.val - 1024 < 512
  · rw [dif_pos h1]; apply hc; rw [hv]; split_ifs <;> omega
  rw [dif_neg h1]
  by_cases h2 : j.val - 1024 - 512 < 1024
  · rw [dif_pos h2]; apply hc; rw [hv]; split_ifs <;> omega
  rw [dif_neg h2]
  by_cases h3 : j.val - 1024 - 512 - 1024 < 1024
  · rw [dif_pos h3]; apply hc; rw [hv]; split_ifs <;> omega
  rw [dif_neg h3]
  by_cases h4 : j.val - 1024 - 512 - 1024 - 1024 < 1024
  · rw [dif_pos h4]; apply hc; rw [hv]; split_ifs <;> omega
  rw [dif_neg h4]
  by_cases h5 : j.val - 1024 - 512 - 1024 - 1024 - 1024 < 256
  · rw [dif_pos h5]; apply hc; rw [hv]; split_ifs <;> omega
  rw [dif_neg h5]
  by_cases h6 : j.val - 1024 - 512 - 1024 - 1024 - 1024 - 256 < 256
  · rw [dif_pos h6]; apply hc; rw [hv]; split_ifs <;> omega
  rw [dif_neg h6]
  by_cases h7 : j.val - 1024 - 512 - 1024 - 1024 - 1024 - 256 - 256 < 1024
  · rw [dif_pos h7]; apply hc; rw [hv]; split_ifs <;> omega
  rw [dif_neg h7]
  by_cases h8 : j.val - 1024 - 512 - 1024 - 1024 - 1024 - 256 - 256 - 1024 < 1024
  · rw [dif_pos h8]; apply hc; rw [hv]; split_ifs <;> omega
  rw [dif_neg h8]
  by_cases h9 : j.val - 1024 - 512 - 1024 - 1024 - 1024 - 256 - 256 - 1024 - 1024 < 512
  · rw [dif_pos h9]; apply hc; rw [hv]; split_ifs <;> omega
  rw [dif_neg h9]
  apply hc; rw [hv]; split_ifs <;> omega

/-- The first result. -/
def out (h : FVec Ideal S16384x4096 .f32) (w : FVec Ideal S4x4096x11264 .f32) (s : FVec Ideal S8192 .f32) : FVec Ideal S16384x8192 .bf16 :=
  truncf .bf16 (mulf (cat (full h w)) (broadcastInDim S16384x8192 ![0, 1] bcast_S1x8192_S16384x8192_0_1 (broadcastInDim S1x8192 ![1] bcast_S8192_S1x8192_1 s))) bitsLt_bf16_f32
/-- The second result. -/
def hyena (h : FVec Ideal S16384x4096 .f32) (w : FVec Ideal S4x4096x11264 .f32) : FVec Ideal S16384x3072 .f32 :=
  extractStridedSlice S16384x3072 ![0, 7680] (full h w) slices_S16384x11264_S16384x3072_0_7680

section
variable {F : FTy → Type} [FloatOps F]

/-- The program's operations, in order. -/
abbrev ops : List (HloOp τ sig (Elt F)) :=
  [ unary main_arg1 main_v0 ((extractStridedSlice S1x4096x11264 ![0, 0, 0] · slices_S4x4096x11264_S1x4096x11264_0_0_0) : (⟨S4x4096x11264, .f32⟩ : BufTy).Contents (Elt F) → (⟨S1x4096x11264, .f32⟩ : BufTy).Contents (Elt F)),
    reshape main_v0 main_v1 (rfl : (.f32 : EltTy) = .f32) shapeCasts_S1x4096x11264_S4096x11264,
    binary main_arg0 main_v1 main_v2 ((fun l r => Host.dotGeneral dot_S16384x4096_S4096x11264_S16384x11264_1_0_0_1_n_n none l r) : (⟨S16384x4096, .f32⟩ : BufTy).Contents (Elt F) → (⟨S4096x11264, .f32⟩ : BufTy).Contents (Elt F) → (⟨S16384x11264, .f32⟩ : BufTy).Contents (Elt F)),
    unary main_v2 main_v3 ((extractStridedSlice S16384x1024 ![0, 0] · slices_S16384x11264_S16384x1024_0_0) : (⟨S16384x11264, .f32⟩ : BufTy).Contents (Elt F) → (⟨S16384x1024, .f32⟩ : BufTy).Contents (Elt F)),
    unary main_v2 main_v4 ((extractStridedSlice S16384x1024 ![0, 1024] · slices_S16384x11264_S16384x1024_0_1024) : (⟨S16384x11264, .f32⟩ : BufTy).Contents (Elt F) → (⟨S16384x1024, .f32⟩ : BufTy).Contents (Elt F)),
    unary main_v2 main_v5 ((extractStridedSlice S16384x1024 ![0, 2048] · slices_S16384x11264_S16384x1024_0_2048) : (⟨S16384x11264, .f32⟩ : BufTy).Contents (Elt F) → (⟨S16384x1024, .f32⟩ : BufTy).Contents (Elt F)),
    unary main_v2 main_v6 ((extractStridedSlice S16384x1024 ![0, 3072] · slices_S16384x11264_S16384x1024_0_3072) : (⟨S16384x11264, .f32⟩ : BufTy).Contents (Elt F) → (⟨S16384x1024, .f32⟩ : BufTy).Contents (Elt F)),
    unary main_v2 main_v7 ((extractStridedSlice S16384x256 ![0, 4096] · slices_S16384x11264_S16384x256_0_4096) : (⟨S16384x11264, .f32⟩ : BufTy).Contents (Elt F) → (⟨S16384x256, .f32⟩ : BufTy).Contents (Elt F)),
    unary main_v2 main_v8 ((extractStridedSlice S16384x256 ![0, 4352] · slices_S16384x11264_S16384x256_0_4352) : (⟨S16384x11264, .f32⟩ : BufTy).Contents (Elt F) → (⟨S16384x256, .f32⟩ : BufTy).Contents (Elt F)),
    unary main_v2 main_v9 ((extractStridedSlice S16384x512 ![0, 4608] · slices_S16384x11264_S16384x512_0_4608) : (⟨S16384x11264, .f32⟩ : BufTy).Contents (Elt F) → (⟨S16384x512, .f32⟩ : BufTy).Contents (Elt F)),
    unary main_v2 main_v10 ((extractStridedSlice S16384x512 ![0, 5120] · slices_S16384x11264_S16384x512_0_5120) : (⟨S16384x11264, .f32⟩ : BufTy).Contents (Elt F) → (⟨S16384x512, .f32⟩ : BufTy).Contents (Elt F)),
    unary main_v2 main_v11 ((extractStridedSlice S16384x1024 ![0, 5632] · slices_S16384x11264_S16384x1024_0_5632) : (⟨S16384x11264, .f32⟩ : BufTy).Contents (Elt F) → (⟨S16384x1024, .f32⟩ : BufTy).Contents (Elt F)),
    unary main_v2 main_v12 ((extractStridedSlice S16384x1024 ![0, 6656] · slices_S16384x11264_S16384x1024_0_6656) : (⟨S16384x11264, .f32⟩ : BufTy).Contents (Elt F) → (⟨S16384x1024, .f32⟩ : BufTy).Contents (Elt F)),
    unary main_v2 main_v13 ((extractStridedSlice S16384x3072 ![0, 7680] · slices_S16384x11264_S16384x3072_0_7680) : (⟨S16384x11264, .f32⟩ : BufTy).Contents (Elt F) → (⟨S16384x3072, .f32⟩ : BufTy).Contents (Elt F)),
    unary main_v2 main_v14 ((extractStridedSlice S16384x512 ![0, 10752] · slices_S16384x11264_S16384x512_0_10752) : (⟨S16384x11264, .f32⟩ : BufTy).Contents (Elt F) → (⟨S16384x512, .f32⟩ : BufTy).Contents (Elt F)),
    nary ![main_v6, main_v14, main_v3, main_v4, main_v5, main_v7, main_v8, main_v11, main_v12, main_v9, main_v10] main_v15 (fun u => (concatenate S16384x8192 1 [⟨S16384x1024, (u 0 : (⟨S16384x1024, .f32⟩ : BufTy).Contents (Elt F))⟩, ⟨S16384x512, (u 1 : (⟨S16384x512, .f32⟩ : BufTy).Contents (Elt F))⟩, ⟨S16384x1024, (u 2 : (⟨S16384x1024, .f32⟩ : BufTy).Contents (Elt F))⟩, ⟨S16384x1024, (u 3 : (⟨S16384x1024, .f32⟩ : BufTy).Contents (Elt F))⟩, ⟨S16384x1024, (u 4 : (⟨S16384x1024, .f32⟩ : BufTy).Contents (Elt F))⟩, ⟨S16384x256, (u 5 : (⟨S16384x256, .f32⟩ : BufTy).Contents (Elt F))⟩, ⟨S16384x256, (u 6 : (⟨S16384x256, .f32⟩ : BufTy).Contents (Elt F))⟩, ⟨S16384x1024, (u 7 : (⟨S16384x1024, .f32⟩ : BufTy).Contents (Elt F))⟩, ⟨S16384x1024, (u 8 : (⟨S16384x1024, .f32⟩ : BufTy).Contents (Elt F))⟩, ⟨S16384x512, (u 9 : (⟨S16384x512, .f32⟩ : BufTy).Contents (Elt F))⟩, ⟨S16384x512, (u 10 : (⟨S16384x512, .f32⟩ : BufTy).Contents (Elt F))⟩] concatenates_S16384x1024_S16384x512_S16384x1024_S16384x1024_S16384x1024_S16384x256_S16384x256_S16384x1024_S16384x1024_S16384x512_S16384x512_S16384x8192_d1 : (⟨S16384x8192, .f32⟩ : BufTy).Contents (Elt F))),
    unary main_arg2 main_v16 (broadcastInDim S1x8192 ![1] bcast_S8192_S1x8192_1 : (⟨S8192, .f32⟩ : BufTy).Contents (Elt F) → (⟨S1x8192, .f32⟩ : BufTy).Contents (Elt F)),
    unary main_v16 main_v17 (broadcastInDim S16384x8192 ![0, 1] bcast_S1x8192_S16384x8192_0_1 : (⟨S1x8192, .f32⟩ : BufTy).Contents (Elt F) → (⟨S16384x8192, .f32⟩ : BufTy).Contents (Elt F)),
    binary main_v15 main_v17 main_v18 (mulf : (⟨S16384x8192, .f32⟩ : BufTy).Contents (Elt F) → (⟨S16384x8192, .f32⟩ : BufTy).Contents (Elt F) → (⟨S16384x8192, .f32⟩ : BufTy).Contents (Elt F)),
    unary main_v18 main_v19 ((truncf .bf16 · bitsLt_bf16_f32) : (⟨S16384x8192, .f32⟩ : BufTy).Contents (Elt F) → (⟨S16384x8192, .bf16⟩ : BufTy).Contents (Elt F)) ]

/-- The program is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches the core's own references only. -/
theorem ops_sub : (ops : List (HloOp τ sig (Elt F))).Forall fun op => op.bufs ⊆ tcRefs τ sig :=
  ⟨unary_bufs_sub .., reshape_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., binary_bufs_sub .., unary_bufs_sub ..⟩

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

end

set_option maxHeartbeats 4000000 in
/-- The results. -/
theorem out_eq (V : Valuation τ sig (Elt Ideal)) :
    after ops V (main_v19 : DevRef τ sig) = out (V (main_arg0 : DevRef τ sig)) (V (main_arg1 : DevRef τ sig)) (V (main_arg2 : DevRef τ sig)) := by
  after_results
  rfl
theorem hyena_eq (V : Valuation τ sig (Elt Ideal)) :
    after ops V (main_v13 : DevRef τ sig) = hyena (V (main_arg0 : DevRef τ sig)) (V (main_arg1 : DevRef τ sig)) := by
  after_results
  rfl

/-- Every run ends with the results in their buffers and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r =>
      ∀ c : Dev nD,
        r.2.mem ((c.tc : Thread nD τ).loc main_v19) = out (m ((c.tc : Thread nD τ).loc main_arg0)) (m ((c.tc : Thread nD τ).loc main_arg1)) (m ((c.tc : Thread nD τ).loc main_arg2)) ∧
        r.2.mem ((c.tc : Thread nD τ).loc main_v13) = hyena (m ((c.tc : Thread nD τ).loc main_arg0)) (m ((c.tc : Thread nD τ).loc main_arg1)) ∧
        r.2.mem ((c.tc : Thread nD τ).loc main_arg0) = m ((c.tc : Thread nD τ).loc main_arg0) ∧
        r.2.mem ((c.tc : Thread nD τ).loc main_arg1) = m ((c.tc : Thread nD τ).loc main_arg1) ∧
        r.2.mem ((c.tc : Thread nD τ).loc main_arg2) = m ((c.tc : Thread nD τ).loc main_arg2) := by
  refine (θ_run _ _ _).mono (fun r h c => ⟨?_, ?_, ?_, ?_, ?_⟩)
    (run_seq scopedRefs_eq scopedSems_eq defs main (fun _ => ops) main_eq (fun _ => ops_sub) m ρ)
  · exact (h c main_v19).trans (out_eq _)
  · exact (h c main_v13).trans (hyena_eq _)
  · exact (h c main_arg0).trans (arg0_eq _)
  · exact (h c main_arg1).trans (arg1_eq _)
  · exact (h c main_arg2).trans (arg2_eq _)

/-- The semaphores rest at the end and the arguments are as they were. -/
theorem quiet (m : (ℓ : Loc nD τ sig) → Buf (Elt Ideal) ℓ) (ρ : Dev nD → PrngReg) :
    θ_run defs (onTc (τ := τ) (main (F := Ideal))) ⟨m, fun _ => 0, ρ⟩ fun r =>
      (∀ c : Dev nD,
        r.2.mem ((c.tc : Thread nD τ).loc main_arg0) = m ((c.tc : Thread nD τ).loc main_arg0) ∧
        r.2.mem ((c.tc : Thread nD τ).loc main_arg1) = m ((c.tc : Thread nD τ).loc main_arg1) ∧
        r.2.mem ((c.tc : Thread nD τ).loc main_arg2) = m ((c.tc : Thread nD τ).loc main_arg2)) ∧ r.2.sem = fun _ => 0 :=
  (θ_run _ _ _).mono (fun r h => ⟨fun c => (h c).2.2, Idealize.ShloMosaic.sem_eq_zero_of_no_sems (by decide) r.2⟩) (run m ρ)

theorem full_at (h : FVec Ideal S16384x4096 .f32) (w : FVec Ideal S4x4096x11264 .f32) (i : Fin 16384) (j : Fin 11264) :
    full h w (ix2 i j) = ∑ k : Fin 4096, (h (ix2 i k) : EReal) * w (ix3 (0 : Fin 4) k j) := by
  unfold full
  pointwise
theorem out_at (h : FVec Ideal S16384x4096 .f32) (w : FVec Ideal S4x4096x11264 .f32) (s : FVec Ideal S8192 .f32) (i : Fin 16384) (j : Fin 8192) :
    out h w s (ix2 i j) = (∑ k : Fin 4096, (h (ix2 i k) : EReal) * w (ix3 (0 : Fin 4) k (col j))) * s (ix1 j) := by
  have e : out h w s (ix2 i j) = (cat (full h w) (ix2 i j) : EReal) * s (ix1 j) := by
    unfold out
    pointwise
  rw [e, cat_at, full_at]
theorem hyena_at (h : FVec Ideal S16384x4096 .f32) (w : FVec Ideal S4x4096x11264 .f32) (i : Fin 16384) (j : Fin 3072) :
    hyena h w (ix2 i j) = ∑ k : Fin 4096, (h (ix2 i k) : EReal) * w (ix3 (0 : Fin 4) k (⟨7680 + j.val, by omega⟩ : Fin 11264)) := by
  have e : hyena h w (ix2 i j) = full h w (ix2 i (⟨7680 + j.val, by omega⟩ : Fin 11264)) := by
    unfold hyena
    pointwise
  rw [e, full_at]

end Cert.ProjReferenceIdeal.Ref

end
-- ==== Proof.PSame.lean ====
/- The input products' results are their reference's. -/
module

public import proofs.«01_k».proof.Proof.PI.Val
public import proofs.«01_k».proof.Proof.PR.Run

@[expose] public section

set_option maxRecDepth 16384

noncomputable section

namespace Cert.ProjIdeal.Prod

open Idealize.ShloMosaic Idealize.ShloMosaic.TcCoe Idealize.SL.Sem
open Cert.ProjIdeal.Gen

variable (m : (ℓ : Loc nD τ sig) → Buf (Elt Ideal) ℓ) (c : Dev nD)

theorem same0 : G0 m c = Cert.ProjReferenceIdeal.Ref.out (ah c m) (aw c m) (ac c m) := by
  funext i
  obtain ⟨r, s, rfl⟩ : ∃ (r : Fin 16384) (s : Fin 8192), i = ix2 r s := ⟨i 0, i 1, idx_two i⟩
  exact (Cert.ProjReferenceIdeal.Ref.out_at (ah c m) (aw c m) (ac c m) r s).symm

theorem same1 : G1 m c = Cert.ProjReferenceIdeal.Ref.hyena (ah c m) (aw c m) := by
  funext i
  obtain ⟨r, s, rfl⟩ : ∃ (r : Fin 16384) (s : Fin 3072), i = ix2 r s := ⟨i 0, i 1, idx_two i⟩
  refine Eq.trans ?_ (Cert.ProjReferenceIdeal.Ref.hyena_at (ah c m) (aw c m) r s).symm
  exact Finset.sum_congr rfl fun k _ => mul_of (a := ah c m (ix2 r k)) rfl (wh_at c m k s)

end Cert.ProjIdeal.Prod

end
-- ==== Proof.lean ====
/- The certificate's claims, from the modules under `Proof/`. Of the attention, the feed-forward, the merge and the input products: the
   programs end at rest with their arguments unchanged, the idealization is sound, and the kernel's results are the
   reference's, for the attention of finite arguments. -/
module

public import proofs.«01_k».proof.Defs
public import proofs.«01_k».proof.Proof.K.Any
public import proofs.«01_k».proof.Proof.KI.Any
public import proofs.«01_k».proof.Proof.KI.Val
public import proofs.«01_k».proof.Proof.RI.Run
public import proofs.«01_k».proof.Proof.RI.Pre
public import proofs.«01_k».proof.Proof.Same
public import proofs.«01_k».proof.Proof.Gen.Feed.Frame
public import proofs.«01_k».proof.Proof.FSame
public import proofs.«01_k».proof.Proof.Gen.Mix.Frame
public import proofs.«01_k».proof.Proof.MSame
public import proofs.«01_k».proof.Proof.Gen.Proj.Frame
public import proofs.«01_k».proof.Proof.PSame

@[expose] public section

set_option maxRecDepth 16384

noncomputable section

namespace Cert.Proof

open Idealize.ShloMosaic Idealize.ShloMosaic.TcCoe Idealize.SL.Sem

theorem kernel_quiet : Cert.quiescent_Kernel := fun m g _ => Cert.Kernel.Flash.quiet m g
theorem ideal_quiet : Cert.quiescent_KernelIdeal := fun m g _ => Cert.KernelIdeal.Flash.quiet m g
theorem ideal_quiet_finite : Cert.quiescent_KernelIdeal_pre_finite := fun m g _ => Cert.KernelIdeal.Flash.quiet m g
theorem ref_quiet : Cert.quiescent_ReferenceIdeal := fun m g _ => Cert.ReferenceIdeal.Ref.quiet m g
theorem ref_quiet_finite : Cert.quiescent_ReferenceIdeal_pre_finite := fun m g _ => Cert.ReferenceIdeal.Ref.quiet m g

theorem mask : Cert.preserves_Kernel_KernelIdeal :=
  IdealRules.named_const.statement Cert.KernelIdeal.κ "mask" .f32 0xF149F2CA#32 ⊥ rfl

theorem equal : Cert.algebraic_KernelIdeal_ReferenceIdeal_pre_finite := by
  intro m g m' g' hp ha
  have h0 : ∀ c i, ((EReal.toReal (Cert.KernelIdeal.Flash.aq m c i) : ℝ) : EReal) = Cert.KernelIdeal.Flash.aq m c i :=
    fun c => Cert.Pre_finite.real0 _ _ _ (hp c).1
  have h1 : ∀ c i, ((EReal.toReal (Cert.KernelIdeal.Flash.ak m c i) : ℝ) : EReal) = Cert.KernelIdeal.Flash.ak m c i :=
    fun c => Cert.Pre_finite.real1 _ _ _ (hp c).2.1
  have h2 : ∀ c i, ((EReal.toReal (Cert.KernelIdeal.Flash.av m c i) : ℝ) : EReal) = Cert.KernelIdeal.Flash.av m c i :=
    fun c => Cert.Pre_finite.real2 _ _ _ (hp c).2.2
  refine ⟨fun c => Cert.KernelIdeal.Flash.G0 m c,
    Cert.KernelIdeal.Flash.value m g (fun c => Cert.KernelIdeal.Flash.operands_real m c (h0 c) (h1 c) (h2 c)), ?_⟩
  refine (θ_run Cert.ReferenceIdeal.defs _ _).mono (fun r h c => ⟨?_, (h c).2⟩) (Cert.ReferenceIdeal.Ref.run m' g')
  refine (h c).1.trans ?_
  show _ = Cert.KernelIdeal.Flash.G0 m c
  rw [Cert.KernelIdeal.Flash.same m c (h0 c) (h1 c) (h2 c)]
  obtain ⟨e0, e1, e2⟩ := ha c
  unfold Cert.KernelIdeal.Flash.aq Cert.KernelIdeal.Flash.ak Cert.KernelIdeal.Flash.av
  exact (congr (congr (congrArg Cert.ReferenceIdeal.Ref.out e0) e1) e2)

theorem feed_quiet : Cert.quiescent_Feed := fun m g _ => Cert.Feed.Gen.frame m g
theorem feed_ideal_quiet : Cert.quiescent_FeedIdeal := fun m g _ => Cert.FeedIdeal.Gen.frame m g
theorem feed_ref_quiet : Cert.quiescent_FeedReferenceIdeal := fun m g _ => Cert.FeedReferenceIdeal.Ref.quiet m g

theorem feed_equal : Cert.algebraic_FeedIdeal_FeedReferenceIdeal := by
  intro m g m' g' _ ha
  refine ⟨fun c => Cert.FeedIdeal.Feed.G m c, Cert.FeedIdeal.Feed.value m g, ?_⟩
  refine (θ_run Cert.FeedReferenceIdeal.defs _ _).mono (fun r h c => ⟨?_, (h c).2⟩) (Cert.FeedReferenceIdeal.Ref.run m' g')
  refine (h c).1.trans ?_
  show _ = Cert.FeedIdeal.Feed.G m c
  rw [Cert.FeedIdeal.Feed.same m c]
  obtain ⟨e0, e1, e2, e3⟩ := ha c
  unfold Cert.FeedIdeal.Feed.ah Cert.FeedIdeal.Feed.a1 Cert.FeedIdeal.Feed.a3 Cert.FeedIdeal.Feed.a2
  exact congr (congr (congr (congrArg Cert.FeedReferenceIdeal.Ref.out e0) e1) e2) e3

theorem mix_quiet : Cert.quiescent_Mix := fun m g _ => Cert.Mix.Gen.frame m g
theorem mix_ideal_quiet : Cert.quiescent_MixIdeal := fun m g _ => Cert.MixIdeal.Gen.frame m g
theorem mix_ref_quiet : Cert.quiescent_MixReferenceIdeal := fun m g _ => Cert.MixReferenceIdeal.Ref.quiet m g

theorem mix_equal : Cert.algebraic_MixIdeal_MixReferenceIdeal := by
  intro m g m' g' _ ha
  refine ⟨fun c => Cert.MixIdeal.Mix.G m c, Cert.MixIdeal.Mix.value m g, ?_⟩
  refine (θ_run Cert.MixReferenceIdeal.defs _ _).mono (fun r h c => ⟨?_, (h c).2⟩) (Cert.MixReferenceIdeal.Ref.run m' g')
  refine (h c).1.trans ?_
  show _ = Cert.MixIdeal.Mix.G m c
  rw [Cert.MixIdeal.Mix.same m c]
  obtain ⟨e0, e1, e2, e3, e4, e5, e6, e7, e8⟩ := ha c
  unfold Cert.MixIdeal.Mix.ap Cert.MixIdeal.Mix.aa Cert.MixIdeal.Mix.ab Cert.MixIdeal.Mix.ac Cert.MixIdeal.Mix.ad Cert.MixIdeal.Mix.ag Cert.MixIdeal.Mix.ah Cert.MixIdeal.Mix.aw Cert.MixIdeal.Mix.ao
  exact congr (congr (congr (congr (congr (congr (congr (congr (congrArg Cert.MixReferenceIdeal.Ref.out e0) e1) e2) e3) e4) e5) e6) e7) e8

theorem proj_quiet : Cert.quiescent_Proj := fun m g _ => Cert.Proj.Gen.frame m g
theorem proj_ideal_quiet : Cert.quiescent_ProjIdeal := fun m g _ => Cert.ProjIdeal.Gen.frame m g
theorem proj_ref_quiet : Cert.quiescent_ProjReferenceIdeal := fun m g _ => Cert.ProjReferenceIdeal.Ref.quiet m g

theorem proj_equal : Cert.algebraic_ProjIdeal_ProjReferenceIdeal := by
  intro m g m' g' _ ha
  refine ⟨fun c => Cert.ProjIdeal.Prod.G0 m c, fun c => Cert.ProjIdeal.Prod.G1 m c, Cert.ProjIdeal.Prod.value m g, ?_⟩
  refine (θ_run Cert.ProjReferenceIdeal.defs _ _).mono (fun r h c => ⟨?_, ?_, (h c).2.2⟩) (Cert.ProjReferenceIdeal.Ref.run m' g')
  · refine (h c).1.trans ?_
    show _ = Cert.ProjIdeal.Prod.G0 m c
    rw [Cert.ProjIdeal.Prod.same0 m c]
    obtain ⟨e0, e1, e2⟩ := ha c
    unfold Cert.ProjIdeal.Prod.ah Cert.ProjIdeal.Prod.aw Cert.ProjIdeal.Prod.ac
    exact congr (congr (congrArg Cert.ProjReferenceIdeal.Ref.out e0) e1) e2
  · refine (h c).2.1.trans ?_
    show _ = Cert.ProjIdeal.Prod.G1 m c
    rw [Cert.ProjIdeal.Prod.same1 m c]
    obtain ⟨e0, e1, _⟩ := ha c
    unfold Cert.ProjIdeal.Prod.ah Cert.ProjIdeal.Prod.aw
    exact congr (congrArg Cert.ProjReferenceIdeal.Ref.hyena e0) e1

theorem claim : Cert.Claim :=
  ⟨Cert.Kernel.Gen.facts, Cert.KernelIdeal.Gen.facts, Cert.ReferenceIdeal.Gen.facts, Cert.Feed.Gen.facts,
    Cert.FeedIdeal.Gen.facts, Cert.FeedReferenceIdeal.Gen.facts,
    Cert.Mix.Gen.facts, Cert.MixIdeal.Gen.facts, Cert.MixReferenceIdeal.Gen.facts,
    Cert.Proj.Gen.facts, Cert.ProjIdeal.Gen.facts, Cert.ProjReferenceIdeal.Gen.facts, Cert.Pre_finite.facts,
    kernel_quiet, ideal_quiet, ideal_quiet_finite, ref_quiet, ref_quiet_finite, feed_quiet, feed_ideal_quiet, feed_ref_quiet,
    mix_quiet, mix_ideal_quiet, mix_ref_quiet, proj_quiet, proj_ideal_quiet, proj_ref_quiet, mask, equal, trivial, feed_equal,
    trivial, mix_equal, trivial, proj_equal⟩

end Cert.Proof

end
